-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "ln2" .f32 0x3F317218#32 ((Real.log 2 : ℝ) : EReal)

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v56_0)) (v1 : (c : Dev Cert.Kernel2Ideal.nD) → Buf (Elt Ideal) ((c.tc : Thread Cert.Kernel2Ideal.nD Cert.Kernel2Ideal.τ).loc Cert.Kernel2Ideal.main_v56_1)) (v2 : (c : Dev Cert.Kernel2Ideal.nD) → Buf (Elt Ideal) ((c.tc : Thread Cert.Kernel2Ideal.nD Cert.Kernel2Ideal.τ).loc Cert.Kernel2Ideal.main_v56_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v56_0) = v0 c
          ∧ r.2.mem ((c.tc : Thread Cert.Kernel2Ideal.nD Cert.Kernel2Ideal.τ).loc Cert.Kernel2Ideal.main_v56_1) = v1 c
          ∧ r.2.mem ((c.tc : Thread Cert.Kernel2Ideal.nD Cert.Kernel2Ideal.τ).loc Cert.Kernel2Ideal.main_v56_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v75) = v0 c
          ∧ r.2.mem ((c.tc : Thread Cert.Reference2Ideal.nD Cert.Reference2Ideal.τ).loc Cert.Reference2Ideal.main_v78) = v1 c
          ∧ r.2.mem ((c.tc : Thread Cert.Reference2Ideal.nD Cert.Reference2Ideal.τ).loc Cert.Reference2Ideal.main_v79) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v23)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v23) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v25_0)) (v1 : (c : Dev Cert.Kernel7Ideal.nD) → Buf (Elt Ideal) ((c.tc : Thread Cert.Kernel7Ideal.nD Cert.Kernel7Ideal.τ).loc Cert.Kernel7Ideal.main_v25_1)) (v2 : (c : Dev Cert.Kernel7Ideal.nD) → Buf (Elt Ideal) ((c.tc : Thread Cert.Kernel7Ideal.nD Cert.Kernel7Ideal.τ).loc Cert.Kernel7Ideal.main_v25_2)) (v3 : (c : Dev Cert.Kernel7Ideal.nD) → Buf (Elt Ideal) ((c.tc : Thread Cert.Kernel7Ideal.nD Cert.Kernel7Ideal.τ).loc Cert.Kernel7Ideal.main_v25_3)) (v4 : (c : Dev Cert.Kernel7Ideal.nD) → Buf (Elt Ideal) ((c.tc : Thread Cert.Kernel7Ideal.nD Cert.Kernel7Ideal.τ).loc Cert.Kernel7Ideal.main_v25_4)) (v5 : (c : Dev Cert.Kernel7Ideal.nD) → Buf (Elt Ideal) ((c.tc : Thread Cert.Kernel7Ideal.nD Cert.Kernel7Ideal.τ).loc Cert.Kernel7Ideal.main_v25_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v25_0) = v0 c
          ∧ r.2.mem ((c.tc : Thread Cert.Kernel7Ideal.nD Cert.Kernel7Ideal.τ).loc Cert.Kernel7Ideal.main_v25_1) = v1 c
          ∧ r.2.mem ((c.tc : Thread Cert.Kernel7Ideal.nD Cert.Kernel7Ideal.τ).loc Cert.Kernel7Ideal.main_v25_2) = v2 c
          ∧ r.2.mem ((c.tc : Thread Cert.Kernel7Ideal.nD Cert.Kernel7Ideal.τ).loc Cert.Kernel7Ideal.main_v25_3) = v3 c
          ∧ r.2.mem ((c.tc : Thread Cert.Kernel7Ideal.nD Cert.Kernel7Ideal.τ).loc Cert.Kernel7Ideal.main_v25_4) = v4 c
          ∧ r.2.mem ((c.tc : Thread Cert.Kernel7Ideal.nD Cert.Kernel7Ideal.τ).loc Cert.Kernel7Ideal.main_v25_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v52) = v0 c
          ∧ r.2.mem ((c.tc : Thread Cert.Reference7Ideal.nD Cert.Reference7Ideal.τ).loc Cert.Reference7Ideal.main_v53) = v1 c
          ∧ r.2.mem ((c.tc : Thread Cert.Reference7Ideal.nD Cert.Reference7Ideal.τ).loc Cert.Reference7Ideal.main_v54) = v2 c
          ∧ r.2.mem ((c.tc : Thread Cert.Reference7Ideal.nD Cert.Reference7Ideal.τ).loc Cert.Reference7Ideal.main_v69) = v3 c
          ∧ r.2.mem ((c.tc : Thread Cert.Reference7Ideal.nD Cert.Reference7Ideal.τ).loc Cert.Reference7Ideal.main_v71) = v4 c
          ∧ r.2.mem ((c.tc : Thread Cert.Reference7Ideal.nD Cert.Reference7Ideal.τ).loc Cert.Reference7Ideal.main_v72) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v46_0)) (v1 : (c : Dev Cert.Kernel4Ideal.nD) → Buf (Elt Ideal) ((c.tc : Thread Cert.Kernel4Ideal.nD Cert.Kernel4Ideal.τ).loc Cert.Kernel4Ideal.main_v46_1)) (v2 : (c : Dev Cert.Kernel4Ideal.nD) → Buf (Elt Ideal) ((c.tc : Thread Cert.Kernel4Ideal.nD Cert.Kernel4Ideal.τ).loc Cert.Kernel4Ideal.main_v56)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v46_0) = v0 c
          ∧ r.2.mem ((c.tc : Thread Cert.Kernel4Ideal.nD Cert.Kernel4Ideal.τ).loc Cert.Kernel4Ideal.main_v46_1) = v1 c
          ∧ r.2.mem ((c.tc : Thread Cert.Kernel4Ideal.nD Cert.Kernel4Ideal.τ).loc Cert.Kernel4Ideal.main_v56) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v93) = v0 c
          ∧ r.2.mem ((c.tc : Thread Cert.Reference4Ideal.nD Cert.Reference4Ideal.τ).loc Cert.Reference4Ideal.main_v94) = v1 c
          ∧ r.2.mem ((c.tc : Thread Cert.Reference4Ideal.nD Cert.Reference4Ideal.τ).loc Cert.Reference4Ideal.main_v72) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel4 : Cert.Kernel4.Facts) (hKernel4Ideal : Cert.Kernel4Ideal.Facts) (hReference4Ideal : Cert.Reference4Ideal.Facts) (hPre_finite : Cert.Pre_finite.Facts) (hPre_finite7 : Cert.Pre_finite7.Facts) (hPre_finite4 : Cert.Pre_finite4.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S16384x16x128 : Shape := ⟨3, ![16384, 16, 128]⟩
abbrev S16384x16x64 : Shape := ⟨3, ![16384, 16, 64]⟩
abbrev S16384x64 : Shape := ⟨2, ![16384, 64]⟩
abbrev S_ : Shape := ⟨0, ![]⟩

class Facts : Prop where
  bcast_S_S16384x16x128 : S_.BroadcastsInDim S16384x16x128 (![] : Fin 0 → Fin S16384x16x128.rank)
  bcast_S_S16384x16x64 : S_.BroadcastsInDim S16384x16x64 (![] : Fin 0 → Fin S16384x16x64.rank)
  bcast_S_S16384x64 : S_.BroadcastsInDim S16384x64 (![] : Fin 0 → Fin S16384x64.rank)

variable [Facts]

def fn {F : FTy → Type} [FloatOps F] (main_arg0 : FVec F S16384x16x128 .f32) (main_arg1 : FVec F S16384x16x64 .f32) (main_arg2 : FVec F S16384x16x128 .f32) (main_arg3 : FVec F S16384x64 .f32) (main_arg4 : FVec F S16384x16x128 .f32) (main_arg5 : FVec F S16384x16x128 .f32) : IVec S16384x16x128 1 × IVec S16384x16x64 1 × IVec S16384x16x128 1 × IVec S16384x64 1 × IVec S16384x16x128 1 × IVec S16384x16x128 1 :=
  let main_v0 : FVec F S16384x16x128 .f32 := Host.absf main_arg0
  let main_cst : FVec F S_ .f32 := constant S_ .f32 0x7F800000#32
  let main_v1 : FVec F S16384x16x128 .f32 := broadcastInDim S16384x16x128 ![] bcast_S_S16384x16x128 main_cst
  let main_v2 : IVec S16384x16x128 1 := cmpf .olt main_v0 main_v1
  let main_v3 : FVec F S16384x16x64 .f32 := Host.absf main_arg1
  let main_cst_0 : FVec F S_ .f32 := constant S_ .f32 0x7F800000#32
  let main_v4 : FVec F S16384x16x64 .f32 := broadcastInDim S16384x16x64 ![] bcast_S_S16384x16x64 main_cst_0
  let main_v5 : IVec S16384x16x64 1 := cmpf .olt main_v3 main_v4
  let main_v6 : FVec F S16384x16x128 .f32 := Host.absf main_arg2
  let main_cst_1 : FVec F S_ .f32 := constant S_ .f32 0x7F800000#32
  let main_v7 : FVec F S16384x16x128 .f32 := broadcastInDim S16384x16x128 ![] bcast_S_S16384x16x128 main_cst_1
  let main_v8 : IVec S16384x16x128 1 := cmpf .olt main_v6 main_v7
  let main_v9 : FVec F S16384x64 .f32 := Host.absf main_arg3
  let main_cst_2 : FVec F S_ .f32 := constant S_ .f32 0x7F800000#32
  let main_v10 : FVec F S16384x64 .f32 := broadcastInDim S16384x64 ![] bcast_S_S16384x64 main_cst_2
  let main_v11 : IVec S16384x64 1 := cmpf .olt main_v9 main_v10
  let main_v12 : FVec F S16384x16x128 .f32 := Host.absf main_arg4
  let main_cst_3 : FVec F S_ .f32 := constant S_ .f32 0x7F800000#32
  let main_v13 : FVec F S16384x16x128 .f32 := broadcastInDim S16384x16x128 ![] bcast_S_S16384x16x128 main_cst_3
  let main_v14 : IVec S16384x16x128 1 := cmpf .olt main_v12 main_v13
  let main_v15 : FVec F S16384x16x128 .f32 := Host.absf main_arg5
  let main_cst_4 : FVec F S_ .f32 := constant S_ .f32 0x7F800000#32
  let main_v16 : FVec F S16384x16x128 .f32 := broadcastInDim S16384x16x128 ![] bcast_S_S16384x16x128 main_cst_4
  let main_v17 : IVec S16384x16x128 1 := cmpf .olt main_v15 main_v16
  (main_v2, main_v5, main_v8, main_v11, main_v14, main_v17)
-- ==== Pre_finite4.lean ====
abbrev S16384x256 : Shape := ⟨2, ![16384, 256]⟩
abbrev S256 : Shape := ⟨1, ![256]⟩
abbrev S256x16x192 : Shape := ⟨3, ![256, 16, 192]⟩
abbrev S16384x16x128 : Shape := ⟨3, ![16384, 16, 128]⟩
abbrev S16384x16x64 : Shape := ⟨3, ![16384, 16, 64]⟩
abbrev S_ : Shape := ⟨0, ![]⟩

class Facts : Prop where
  bcast_S_S256 : S_.BroadcastsInDim S256 (![] : Fin 0 → Fin S256.rank)
  bcast_S_S256x16x192 : S_.BroadcastsInDim S256x16x192 (![] : Fin 0 → Fin S256x16x192.rank)
  bcast_S_S16384x16x64 : S_.BroadcastsInDim S16384x16x64 (![] : Fin 0 → Fin S16384x16x64.rank)

variable [Facts]

def fn {F : FTy → Type} [FloatOps F] (main_arg0 : FVec F S16384x256 .f32) (main_arg1 : FVec F S256 .f32) (main_arg2 : FVec F S256x16x192 .f32) (main_arg3 : FVec F S16384x16x128 .f32) (main_arg4 : FVec F S16384x16x64 .f32) : IVec S256 1 × IVec S256x16x192 1 × IVec S16384x16x64 1 :=
  let main_v0 : FVec F S256 .f32 := Host.absf main_arg1
  let main_cst : FVec F S_ .f32 := constant S_ .f32 0x7F800000#32
  let main_v1 : FVec F S256 .f32 := broadcastInDim S256 ![] bcast_S_S256 main_cst
  let main_v2 : IVec S256 1 := cmpf .olt main_v0 main_v1
  let main_v3 : FVec F S256x16x192 .f32 := Host.absf main_arg2
  let main_cst_0 : FVec F S_ .f32 := constant S_ .f32 0x7F800000#32
  let main_v4 : FVec F S256x16x192 .f32 := broadcastInDim S256x16x192 ![] bcast_S_S256x16x192 main_cst_0
  let main_v5 : IVec S256x16x192 1 := cmpf .olt main_v3 main_v4
  let main_v6 : FVec F S16384x16x64 .f32 := Host.absf main_arg4
  let main_cst_1 : FVec F S_ .f32 := constant S_ .f32 0x7F800000#32
  let main_v7 : FVec F S16384x16x64 .f32 := broadcastInDim S16384x16x64 ![] bcast_S_S16384x16x64 main_cst_1
  let main_v8 : IVec S16384x16x64 1 := cmpf .olt main_v6 main_v7
  (main_v2, main_v5, main_v8)
-- ==== Pre_finite7.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S16384x1024 : S_.BroadcastsInDim S16384x1024 (![] : Fin 0 → Fin S16384x1024.rank)

variable [Facts]

def fn {F : FTy → Type} [FloatOps F] (main_arg0 : FVec F S16384x1024 .f32) (main_arg1 : FVec F S1024 .f32) (main_arg2 : FVec F S1024x2816 .f32) (main_arg3 : FVec F S1024x2816 .f32) (main_arg4 : FVec F S2816x1024 .f32) (main_arg5 : FVec F S16384x1024 .f32) : IVec S1024 1 × IVec S1024x2816 1 × IVec S2816x1024 1 × IVec S16384x1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2816 .f32 := Host.absf main_arg3
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S2816x1024 .f32 := Host.absf main_arg4
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S16384x1024 .f32 := Host.absf main_arg5
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  (main_v2, main_v5, main_v8, main_v11)
-- ==== Kernel.lean ====
abbrev S16384x1024 : Shape := ⟨2, ![16384, 1024]⟩
abbrev S1024 : Shape := ⟨1, ![1024]⟩
abbrev S1x16384x1024 : Shape := ⟨3, ![1, 16384, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x16384x1024, .f32⟩
  | .hbm, ⟨3, _⟩ => ⟨S1x1024, .f32⟩
  | .hbm, ⟨4, _⟩ => ⟨S16384x1024, .f32⟩
  | .hbm, ⟨5, _⟩ => ⟨S16384x1024, .f32⟩
  | .hbm, ⟨6, _⟩ => ⟨S1x128, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x128, .f32⟩
  | .local _ .vmem, ⟨8, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S16384x1024 : Shape := ⟨2, ![16384, 1024]⟩
abbrev S1024 : Shape := ⟨1, ![1024]⟩
abbrev S1x16384x1024 : Shape := ⟨3, ![1, 16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S16384, .f32⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S1024, .f32⟩
  | .hbm, ⟨55, _⟩ => ⟨S16384x1024, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S16384x1024, .f32⟩
  | .hbm, ⟨60, _⟩ => ⟨S16384x1024, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S_, .f32⟩
  | .hbm, ⟨66, _⟩ => ⟨S16384, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S1x128, .f32⟩
  | .hbm, ⟨73, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel2.lean ====
abbrev S16384x16x128 : Shape := ⟨3, ![16384, 16, 128]⟩
abbrev S16384x16x64 : Shape := ⟨3, ![16384, 16, 64]⟩
abbrev S16384x64 : Shape := ⟨2, ![16384, 64]⟩
abbrev S16384x1x64 : Shape := ⟨3, ![16384, 1, 64]⟩
abbrev S16x16384x16384 : Shape := ⟨3, ![16, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S16x16384 : Shape := ⟨2, ![16, 16384]⟩
abbrev S16x16384x1 : Shape := ⟨3, ![16, 16384, 1]⟩
abbrev S16x128x16384 : Shape := ⟨3, ![16, 128, 16384]⟩
abbrev S16384x16 : Shape := ⟨2, ![16384, 16]⟩
abbrev S16384x16x256 : Shape := ⟨3, ![16384, 16, 256]⟩
abbrev S16384x4096 : Shape := ⟨2, ![16384, 4096]⟩
abbrev S16384x2048 : Shape := ⟨2, ![16384, 2048]⟩
abbrev S16x32x1x512 : Shape := ⟨4, ![16, 32, 1, 512]⟩
abbrev S4096x16384 : Shape := ⟨2, ![4096, 16384]⟩
abbrev S1024x256 : Shape := ⟨2, ![1024, 256]⟩
abbrev S1024x128 : Shape := ⟨2, ![1024, 128]⟩
abbrev S16384x256 : Shape := ⟨2, ![16384, 256]⟩
abbrev S16384x128 : Shape := ⟨2, ![16384, 128]⟩
abbrev S1x32x1x512 : Shape := ⟨4, ![1, 32, 1, 512]⟩
abbrev S256x1024 : Shape := ⟨2, ![256, 1024]⟩
abbrev S32x256x512 : Shape := ⟨3, ![32, 256, 512]⟩
abbrev S1024x512 : Shape := ⟨2, ![1024, 512]⟩
abbrev S512x256 : Shape := ⟨2, ![512, 256]⟩
abbrev S512x128 : Shape := ⟨2, ![512, 128]⟩
abbrev S1x1x1x512 : Shape := ⟨4, ![1, 1, 1, 512]⟩
abbrev S1x512 : Shape := ⟨2, ![1, 512]⟩
abbrev S1x256x512 : Shape := ⟨3, ![1, 256, 512]⟩
abbrev S256x512 : Shape := ⟨2, ![256, 512]⟩

abbrev nBuf : Space → Nat
  | .hbm => 78
  | .vmem => 28
  | .smem => 0
  | _ => 0

abbrev bufTy : (tb : Table) → Fin (tcTables nBuf tb) → BufTy
  | .hbm, ⟨0, _⟩ => ⟨S16384x16x128, .f32⟩
  | .hbm, ⟨1, _⟩ => ⟨S16384x16x64, .f32⟩
  | .hbm, ⟨2, _⟩ => ⟨S16384x16x128, .f32⟩
  | .hbm, ⟨3, _⟩ => ⟨S16384x64, .f32⟩
  | .hbm, ⟨4, _⟩ => ⟨S16384x16x128, .f32⟩
  | .hbm, ⟨5, _⟩ => ⟨S16384x16x128, .f32⟩
  | .hbm, ⟨6, _⟩ => ⟨S16384x1x64, .f32⟩
  | .hbm, ⟨7, _⟩ => ⟨S16384x16x64, .f32⟩
  | .hbm, ⟨8, _⟩ => ⟨S16x16384x16384, .f32⟩
  | .hbm, ⟨9, _⟩ => ⟨S16x16384x16384, .f32⟩
  | .hbm, ⟨10, _⟩ => ⟨S16x16384x16384, .f32⟩
  | .hbm, ⟨11, _⟩ => ⟨S_, .f32⟩
  | .hbm, ⟨12, _⟩ => ⟨S16x16384x16384, .f32⟩
  | .hbm, ⟨13, _⟩ => ⟨S16x16384x16384, .f32⟩
  | .hbm, ⟨14, _⟩ => ⟨S16384, .i32⟩
  | .hbm, ⟨15, _⟩ => ⟨S1x16384, .i32⟩
  | .hbm, ⟨16, _⟩ => ⟨S16384x1, .i32⟩
  | .hbm, ⟨17, _⟩ => ⟨S16384x16384, .i32⟩
  | .hbm, ⟨18, _⟩ => ⟨S16384x16384, .i32⟩
  | .hbm, ⟨19, _⟩ => ⟨S16384x16384, .i1⟩
  | .hbm, ⟨20, _⟩ => ⟨S1x16384x16384, .i1⟩
  | .hbm, ⟨21, _⟩ => ⟨S_, .f32⟩
  | .hbm, ⟨22, _⟩ => ⟨S_, .f32⟩
  | .hbm, ⟨23, _⟩ => ⟨S16x16384x16384, .i1⟩
  | .hbm, ⟨24, _⟩ => ⟨S16x16384x16384, .f32⟩
  | .hbm, ⟨25, _⟩ => ⟨S16x16384x16384, .f32⟩
  | .hbm, ⟨26, _⟩ => ⟨S_, .f32⟩
  | .hbm, ⟨27, _⟩ => ⟨S16x16384, .f32⟩
  | .hbm, ⟨28, _⟩ => ⟨S16x16384x1, .f32⟩
  | .hbm, ⟨29, _⟩ => ⟨S16x16384x16384, .f32⟩
  | .hbm, ⟨30, _⟩ => ⟨S16x16384x16384, .f32⟩
  | .hbm, ⟨31, _⟩ => ⟨S16x16384x16384, .f32⟩
  | .hbm, ⟨32, _⟩ => ⟨S_, .f32⟩
  | .hbm, ⟨33, _⟩ => ⟨S16x16384, .f32⟩
  | .hbm, ⟨34, _⟩ => ⟨S16x16384x1, .f32⟩
  | .hbm, ⟨35, _⟩ => ⟨S_, .f32⟩
  | .hbm, ⟨36, _⟩ => ⟨S_, .f32⟩
  | .hbm, ⟨37, _⟩ => ⟨S16x16384x1, .f32⟩
  | .hbm, ⟨38, _⟩ => ⟨S16x16384x1, .f32⟩
  | .hbm, ⟨39, _⟩ => ⟨S16x16384x1, .f32⟩
  | .hbm, ⟨40, _⟩ => ⟨S16x16384x1, .f32⟩
  | .hbm, ⟨41, _⟩ => ⟨S16x16384x16384, .f32⟩
  | .hbm, ⟨42, _⟩ => ⟨S16x16384x16384, .f32⟩
  | .hbm, ⟨43, _⟩ => ⟨S16x128x16384, .f32⟩
  | .hbm, ⟨44, _⟩ => ⟨S16384x16x128, .f32⟩
  | .hbm, ⟨45, _⟩ => ⟨S16384x16x128, .f32⟩
  | .hbm, ⟨46, _⟩ => ⟨S_, .f32⟩
  | .hbm, ⟨47, _⟩ => ⟨S16384x16, .f32⟩
  | .hbm, ⟨48, _⟩ => ⟨S_, .f32⟩
  | .hbm, ⟨49, _⟩ => ⟨S_, .f32⟩
  | .hbm, ⟨50, _⟩ => ⟨S16384x16x128, .f32⟩
  | .hbm, ⟨51, _⟩ => ⟨S16384x16x128, .f32⟩
  | .hbm, ⟨52, _⟩ => ⟨S_, .f32⟩
  | .hbm, ⟨53, _⟩ => ⟨S_, .f32⟩
  | .hbm, ⟨54, _⟩ => ⟨S16384x16x64, .f32⟩
  | .hbm, ⟨55, _⟩ => ⟨S16384x16x64, .f32⟩
  | .hbm, ⟨56, _⟩ => ⟨S_, .f32⟩
  | .hbm, ⟨57, _⟩ => ⟨S16384x16x64, .f32⟩
  | .hbm, ⟨58, _⟩ => ⟨S16384x16x256, .f32⟩
  | .hbm, ⟨59, _⟩ => ⟨S16384x4096, .f32⟩
  | .hbm, ⟨60, _⟩ => ⟨S16384x1x64, .f32⟩
  | .hbm, ⟨61, _⟩ => ⟨S16384x16x64, .f32⟩
  | .hbm, ⟨62, _⟩ => ⟨S_, .f32⟩
  | .hbm, ⟨63, _⟩ => ⟨S16384x16x64, .f32⟩
  | .hbm, ⟨64, _⟩ => ⟨S16384x16x256, .f32⟩
  | .hbm, ⟨65, _⟩ => ⟨S16384x4096, .f32⟩
  | .hbm, ⟨66, _⟩ => ⟨S16384x4096, .bf16⟩
  | .hbm, ⟨67, _⟩ => ⟨S16384x4096, .bf16⟩
  | .hbm, ⟨68, _⟩ => ⟨S16384x2048, .f32⟩
  | .hbm, ⟨69, _⟩ => ⟨S16384x2048, .bf16⟩
  | .hbm, ⟨70, _⟩ => ⟨S16384x2048, .f32⟩
  | .hbm, ⟨71, _⟩ => ⟨S16384x2048, .bf16⟩
  | .hbm, ⟨72, _⟩ => ⟨S16x32x1x512, .f32⟩
  | .hbm, ⟨73, _⟩ => ⟨S16x16384, .f32⟩
  | .hbm, ⟨74, _⟩ => ⟨S16x32x1x512, .f32⟩
  | .hbm, ⟨75, _⟩ => ⟨S4096x16384, .f32⟩
  | .hbm, ⟨76, _⟩ => ⟨S16384x4096, .f32⟩
  | .hbm, ⟨77, _⟩ => ⟨S16384x2048, .f32⟩
  | .local _ .vmem, ⟨0, _⟩ => ⟨S1024x256, .bf16⟩
  | .local _ .vmem, ⟨1, _⟩ => ⟨S1024x256, .bf16⟩
  | .local _ .vmem, ⟨2, _⟩ => ⟨S1024x128, .bf16⟩
  | .local _ .vmem, ⟨3, _⟩ => ⟨S1024x128, .bf16⟩
  | .local _ .vmem, ⟨4, _⟩ => ⟨S16384x256, .bf16⟩
  | .local _ .vmem, ⟨5, _⟩ => ⟨S16384x256, .bf16⟩
  | .local _ .vmem, ⟨6, _⟩ => ⟨S16384x128, .bf16⟩
  | .local _ .vmem, ⟨7, _⟩ => ⟨S16384x128, .bf16⟩
  | .local _ .vmem, ⟨8, _⟩ => ⟨S1x32x1x512, .f32⟩
  | .local _ .vmem, ⟨9, _⟩ => ⟨S1x32x1x512, .f32⟩
  | .local _ .vmem, ⟨10, _⟩ => ⟨S1x32x1x512, .f32⟩
  | .local _ .vmem, ⟨11, _⟩ => ⟨S1x32x1x512, .f32⟩
  | .local _ .vmem, ⟨12, _⟩ => ⟨S256x1024, .f32⟩
  | .local _ .vmem, ⟨13, _⟩ => ⟨S256x1024, .f32⟩
  | .local _ .vmem, ⟨14, _⟩ => ⟨S1024x256, .f32⟩
  | .local _ .vmem, ⟨15, _⟩ => ⟨S1024x256, .f32⟩
  | .local _ .vmem, ⟨16, _⟩ => ⟨S1024x128, .f32⟩
  | .local _ .vmem, ⟨17, _⟩ => ⟨S1024x128, .f32⟩
  | .local _ .vmem, ⟨18, _⟩ => ⟨S32x256x512, .f32⟩
  | .local _ .vmem, ⟨19, _⟩ => ⟨S256x1024, .bf16⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | .local _ .vmem, ⟨24, _⟩ => ⟨S1024x512, .bf16⟩
  | .local _ .vmem, ⟨25, _⟩ => ⟨S1024x512, .bf16⟩
  | .local _ .vmem, ⟨26, _⟩ => ⟨S1024x512, .bf16⟩
  | .local _ .vmem, ⟨27, _⟩ => ⟨S1024x512, .bf16⟩
  | _, _ => ⟨S16384x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56_0 : Ref sig .tc := ⟨.hbm, 75, rfl⟩
abbrev main_v56_1 : Ref sig .tc := ⟨.hbm, 76, rfl⟩
abbrev main_v56_2 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let c2_i32 : BitVec 32 := 2#32
  let arg1 : BitVec 32 := BitVec.ofNat 32 (i 1).val
  let v0 : BitVec 32 := Scalar.muli c2_i32 arg1
  let c0_i32_11 : BitVec 32 := 0#32
  let v19 : BitVec 32 := Scalar.addi v0 c0_i32_11
  let c512_i32 : BitVec 32 := 512#32
  let v20 : BitVec 32 := Scalar.muli v19 c512_i32
  v20
def k0_off1 (i : grid0.Coords) : Fin 2 → Nat :=
  let c2_i32 : BitVec 32 := 2#32
  let arg1 : BitVec 32 := BitVec.ofNat 32 (i 1).val
  let v0 : BitVec 32 := Scalar.muli c2_i32 arg1
  let c0_i32_11 : BitVec 32 := 0#32
  let v19 : BitVec 32 := Scalar.addi v0 c0_i32_11
  let c512_i32 : BitVec 32 := 512#32
  let v20 : BitVec 32 := Scalar.muli v19 c512_i32
  let v21 : BitVec 32 := v20
  let v22 : Index := Scalar.indexCast v21
  let c0_12 : Index := 0#32
  ![v22.toNat, 0]
def k0_mult2 (i : grid0.Coords) : BitVec 32 :=
  let c2_i32 : BitVec 32 := 2#32
  let arg1 : BitVec 32 := BitVec.ofNat 32 (i 1).val
  let v0 : BitVec 32 := Scalar.muli c2_i32 arg1
  let c0_i32_18 : BitVec 32 := 0#32
  let v31 : BitVec 32 := Scalar.addi v0 c0_i32_18
  let c512_i32_19 : BitVec 32 := 512#32
  let v32 : BitVec 32 := Scalar.muli v31 c512_i32_19
  v32
def k0_off2 (i : grid0.Coords) : Fin 2 → Nat :=
  let c2_i32 : BitVec 32 := 2#32
  let arg1 : BitVec 32 := BitVec.ofNat 32 (i 1).val
  let v0 : BitVec 32 := Scalar.muli c2_i32 arg1
  let c0_i32_18 : BitVec 32 := 0#32
  let v31 : BitVec 32 := Scalar.addi v0 c0_i32_18
  let c512_i32_19 : BitVec 32 := 512#32
  let v32 : BitVec 32 := Scalar.muli v31 c512_i32_19
  let v33 : BitVec 32 := v32
  let v34 : Index := Scalar.indexCast v33
  let c0_20 : Index := 0#32
  ![v34.toNat, 0]
def k0_cond2 (i : grid0.Coords) : BitVec 1 :=
  let c32_i32 : BitVec 32 := 32#32
  let c2_i32 : BitVec 32 := 2#32
  let arg1 : BitVec 32 := BitVec.ofNat 32 (i 1).val
  let v0 : BitVec 32 := Scalar.muli c2_i32 arg1
  let v1 : BitVec 32 := Scalar.subi c32_i32 v0
  let c2_i32_24 : BitVec 32 := 2#32
  let v41 : BitVec 1 := Scalar.cmpi .eq v1 c2_i32_24
  let v42 : BitVec 32 := Scalar.extui v41
  let c0_i32_25 : BitVec 32 := 0#32
  let v43 : BitVec 1 := Scalar.cmpi .ne v42 c0_i32_25
  v43

def k0_mult3 (i : grid0.Coords) : BitVec 32 :=
  let c2_i32 : BitVec 32 := 2#32
  let arg1 : BitVec 32 := BitVec.ofNat 32 (i 1).val
  let v0 : BitVec 32 := Scalar.muli c2_i32 arg1
  let c1_i32_44 : BitVec 32 := 1#32
  let v67 : BitVec 32 := Scalar.addi v0 c1_i32_44
  let c512_i32_45 : BitVec 32 := 512#32
  let v68 : BitVec 32 := Scalar.muli v67 c512_i32_45
  v68
def k0_off3 (i : grid0.Coords) (c1_i32_44 : BitVec 32) : Fin 2 → Nat :=
  let c2_i32 : BitVec 32 := 2#32
  let arg1 : BitVec 32 := BitVec.ofNat 32 (i 1).val
  let v0 : BitVec 32 := Scalar.muli c2_i32 arg1
  let v67 : BitVec 32 := Scalar.addi v0 c1_i32_44
  let c512_i32_45 : BitVec 32 := 512#32
  let v68 : BitVec 32 := Scalar.muli v67 c512_i32_45
  let v69 : BitVec 32 := v68
  let v70 : Index := Scalar.indexCast v69
  let c0_46 : Index := 0#32
  ![v70.toNat, 0]
def k0_mult4 (i : grid0.Coords) : BitVec 32 :=
  let c2_i32 : BitVec 32 := 2#32
  let arg1 : BitVec 32 := BitVec.ofNat 32 (i 1).val
  let v0 : BitVec 32 := Scalar.muli c2_i32 arg1
  let c1_i32_52 : BitVec 32 := 1#32
  let v79 : BitVec 32 := Scalar.addi v0 c1_i32_52
  let c512_i32_53 : BitVec 32 := 512#32
  let v80 : BitVec 32 := Scalar.muli v79 c512_i32_53
  v80
def k0_off4 (i : grid0.Coords) (c1_i32_52 : BitVec 32) : Fin 2 → Nat :=
  let c2_i32 : BitVec 32 := 2#32
  let arg1 : BitVec 32 := BitVec.ofNat 32 (i 1).val
  let v0 : BitVec 32 := Scalar.muli c2_i32 arg1
  let v79 : BitVec 32 := Scalar.addi v0 c1_i32_52
  let c512_i32_53 : BitVec 32 := 512#32
  let v80 : BitVec 32 := Scalar.muli v79 c512_i32_53
  let v81 : BitVec 32 := v80
  let v82 : Index := Scalar.indexCast v81
  let c0_54 : Index := 0#32
  ![v82.toNat, 0]
def k0_off5 (i : grid0.Coords) (c0_i32_60 : BitVec 32) : Fin 4 → Nat :=
  let c0_61 : Index := 0#32
  let c2_i32 : BitVec 32 := 2#32
  let arg1 : BitVec 32 := BitVec.ofNat 32 (i 1).val
  let v0 : BitVec 32 := Scalar.muli c2_i32 arg1
  let v90 : BitVec 32 := Scalar.addi v0 c0_i32_60
  let v91 : Index := Scalar.indexCast v90
  let c0_62 : Index := 0#32
  let c0_63 : Index := 0#32
  ![0, v91.toNat, 0, 0]
def k0_mult5 (i : grid0.Coords) : BitVec 32 :=
  let c2_i32 : BitVec 32 := 2#32
  let arg1 : BitVec 32 := BitVec.ofNat 32 (i 1).val
  let v0 : BitVec 32 := Scalar.muli c2_i32 arg1
  let c0_i32_80 : BitVec 32 := 0#32
  let v123 : BitVec 32 := Scalar.addi v0 c0_i32_80
  let c512_i32_81 : BitVec 32 := 512#32
  let v124 : BitVec 32 := Scalar.muli v123 c512_i32_81
  v124
def k0_mult6 (i : grid0.Coords) : BitVec 32 :=
  let c2_i32 : BitVec 32 := 2#32
  let arg1 : BitVec 32 := BitVec.ofNat 32 (i 1).val
  let v0 : BitVec 32 := Scalar.muli c2_i32 arg1
  let c0_i32_90 : BitVec 32 := 0#32
  let v135 : BitVec 32 := Scalar.addi v0 c0_i32_90
  let c512_i32_91 : BitVec 32 := 512#32
  let v136 : BitVec 32 := Scalar.muli v135 c512_i32_91
  v136
def k0_off6 (i : grid0.Coords) (c0_i32_96 : BitVec 32) : Fin 3 → Nat :=
  let c2_i32 : BitVec 32 := 2#32
  let arg1 : BitVec 32 := BitVec.ofNat 32 (i 1).val
  let v0 : BitVec 32 := Scalar.muli c2_i32 arg1
  let v144 : BitVec 32 := Scalar.addi v0 c0_i32_96
  let v145 : Index := Scalar.indexCast v144
  let c0_97 : Index := 0#32
  let c0_98 : Index := 0#32
  ![v145.toNat, 0, 0]
def k0_mult7 (i : grid0.Coords) : BitVec 32 :=
  let c2_i32 : BitVec 32 := 2#32
  let arg1 : BitVec 32 := BitVec.ofNat 32 (i 1).val
  let v0 : BitVec 32 := Scalar.muli c2_i32 arg1
  let c1_i32_126 : BitVec 32 := 1#32
  let v189 : BitVec 32 := Scalar.addi v0 c1_i32_126
  let c512_i32_127 : BitVec 32 := 512#32
  let v190 : BitVec 32 := Scalar.muli v189 c512_i32_127
  v190
def k0_mult8 (i : grid0.Coords) : BitVec 32 :=
  let c2_i32 : BitVec 32 := 2#32
  let arg1 : BitVec 32 := BitVec.ofNat 32 (i 1).val
  let v0 : BitVec 32 := Scalar.muli c2_i32 arg1
  let c1_i32_136 : BitVec 32 := 1#32
  let v201 : BitVec 32 := Scalar.addi v0 c1_i32_136
  let c512_i32_137 : BitVec 32 := 512#32
  let v202 : BitVec 32 := Scalar.muli v201 c512_i32_137
  v202
def k0_cond3 (i : grid0.Coords) : BitVec 1 :=
  let c32_i32 : BitVec 32 := 32#32
  let c2_i32 : BitVec 32 := 2#32
  let arg1 : BitVec 32 := BitVec.ofNat 32 (i 1).val
  let v0 : BitVec 32 := Scalar.muli c2_i32 arg1
  let v1 : BitVec 32 := Scalar.subi c32_i32 v0
  let c2_i32_26 : BitVec 32 := 2#32
  let v44 : BitVec 1 := Scalar.cmpi .sgt v1 c2_i32_26
  let v45 : BitVec 32 := Scalar.extui v44
  let c0_i32_27 : BitVec 32 := 0#32
  let v46 : BitVec 1 := Scalar.cmpi .ne v45 c0_i32_27
  v46

def k0_mult9 (i : grid0.Coords) : BitVec 32 :=
  let c2_i32 : BitVec 32 := 2#32
  let arg1 : BitVec 32 := BitVec.ofNat 32 (i 1).val
  let v0 : BitVec 32 := Scalar.muli c2_i32 arg1
  let c1_i32_44 : BitVec 32 := 1#32
  let v67 : BitVec 32 := Scalar.addi v0 c1_i32_44
  let c512_i32_45 : BitVec 32 := 512#32
  let v68 : BitVec 32 := Scalar.muli v67 c512_i32_45
  v68
def k0_off7 (i : grid0.Coords) (c1_i32_44 : BitVec 32) : Fin 2 → Nat :=
  let c2_i32 : BitVec 32 := 2#32
  let arg1 : BitVec 32 := BitVec.ofNat 32 (i 1).val
  let v0 : BitVec 32 := Scalar.muli c2_i32 arg1
  let v67 : BitVec 32 := Scalar.addi v0 c1_i32_44
  let c512_i32_45 : BitVec 32 := 512#32
  let v68 : BitVec 32 := Scalar.muli v67 c512_i32_45
  let v69 : BitVec 32 := v68
  let v70 : Index := Scalar.indexCast v69
  let c0_46 : Index := 0#32
  ![v70.toNat, 0]
def k0_mult10 (i : grid0.Coords) : BitVec 32 :=
  let c2_i32 : BitVec 32 := 2#32
  let arg1 : BitVec 32 := BitVec.ofNat 32 (i 1).val
  let v0 : BitVec 32 := Scalar.muli c2_i32 arg1
  let c1_i32_52 : BitVec 32 := 1#32
  let v79 : BitVec 32 := Scalar.addi v0 c1_i32_52
  let c512_i32_53 : BitVec 32 := 512#32
  let v80 : BitVec 32 := Scalar.muli v79 c512_i32_53
  v80
def k0_off8 (i : grid0.Coords) (c1_i32_52 : BitVec 32) : Fin 2 → Nat :=
  let c2_i32 : BitVec 32 := 2#32
  let arg1 : BitVec 32 := BitVec.ofNat 32 (i 1).val
  let v0 : BitVec 32 := Scalar.muli c2_i32 arg1
  let v79 : BitVec 32 := Scalar.addi v0 c1_i32_52
  let c512_i32_53 : BitVec 32 := 512#32
  let v80 : BitVec 32 := Scalar.muli v79 c512_i32_53
  let v81 : BitVec 32 := v80
  let v82 : Index := Scalar.indexCast v81
  let c0_54 : Index := 0#32
  ![v82.toNat, 0]
def k0_off9 (i : grid0.Coords) (c0_i32_60 : BitVec 32) : Fin 4 → Nat :=
  let c0_61 : Index := 0#32
  let c2_i32 : BitVec 32 := 2#32
  let arg1 : BitVec 32 := BitVec.ofNat 32 (i 1).val
  let v0 : BitVec 32 := Scalar.muli c2_i32 arg1
  let v90 : BitVec 32 := Scalar.addi v0 c0_i32_60
  let v91 : Index := Scalar.indexCast v90
  let c0_62 : Index := 0#32
  let c0_63 : Index := 0#32
  ![0, v91.toNat, 0, 0]
def k0_mult11 (i : grid0.Coords) : BitVec 32 :=
  let c2_i32 : BitVec 32 := 2#32
  let arg1 : BitVec 32 := BitVec.ofNat 32 (i 1).val
  let v0 : BitVec 32 := Scalar.muli c2_i32 arg1
  let c0_i32_80 : BitVec 32 := 0#32
  let v123 : BitVec 32 := Scalar.addi v0 c0_i32_80
  let c512_i32_81 : BitVec 32 := 512#32
  let v124 : BitVec 32 := Scalar.muli v123 c512_i32_81
  v124
def k0_mult12 (i : grid0.Coords) : BitVec 32 :=
  let c2_i32 : BitVec 32 := 2#32
  let arg1 : BitVec 32 := BitVec.ofNat 32 (i 1).val
  let v0 : BitVec 32 := Scalar.muli c2_i32 arg1
  let c0_i32_90 : BitVec 32 := 0#32
  let v135 : BitVec 32 := Scalar.addi v0 c0_i32_90
  let c512_i32_91 : BitVec 32 := 512#32
  let v136 : BitVec 32 := Scalar.muli v135 c512_i32_91
  v136
def k0_off10 (i : grid0.Coords) : Fin 3 → Nat :=
  let c2_i32 : BitVec 32 := 2#32
  let arg1 : BitVec 32 := BitVec.ofNat 32 (i 1).val
  let v0 : BitVec 32 := Scalar.muli c2_i32 arg1
  let c0_i32_96 : BitVec 32 := 0#32
  let v144 : BitVec 32 := Scalar.addi v0 c0_i32_96
  let v145 : Index := Scalar.indexCast v144
  let c0_97 : Index := 0#32
  let c0_98 : Index := 0#32
  ![v145.toNat, 0, 0]
def k0_mult13 (i : grid0.Coords) : BitVec 32 :=
  let c2_i32 : BitVec 32 := 2#32
  let arg1 : BitVec 32 := BitVec.ofNat 32 (i 1).val
  let v0 : BitVec 32 := Scalar.muli c2_i32 arg1
  let c2_i32_106 : BitVec 32 := 2#32
  let v157 : BitVec 32 := Scalar.addi v0 c2_i32_106
  let c512_i32_107 : BitVec 32 := 512#32
  let v158 : BitVec 32 := Scalar.muli v157 c512_i32_107
  v158
def k0_mult14 (i : grid0.Coords) : BitVec 32 :=
  let c2_i32 : BitVec 32 := 2#32
  let arg1 : BitVec 32 := BitVec.ofNat 32 (i 1).val
  let v0 : BitVec 32 := Scalar.muli c2_i32 arg1
  let c2_i32_114 : BitVec 32 := 2#32
  let v169 : BitVec 32 := Scalar.addi v0 c2_i32_114
  let c512_i32_115 : BitVec 32 := 512#32
  let v170 : BitVec 32 := Scalar.muli v169 c512_i32_115
  v170
@[reducible] def k0_t1_loop (i : grid0.Coords) : Scf.Loop 32 :=
  let c0_i32_146 : BitVec 32 := 0#32
  let c32_i32 : BitVec 32 := 32#32
  let c2_i32 : BitVec 32 := 2#32
  let arg1 : BitVec 32 := BitVec.ofNat 32 (i 1).val
  let v0 : BitVec 32 := Scalar.muli c2_i32 arg1
  let v1 : BitVec 32 := Scalar.subi c32_i32 v0
  let c4_i32 : BitVec 32 := 4#32
  let v210 : BitVec 32 := Scalar.subi v1 c4_i32
  let c0_i32_139 : BitVec 32 := 0#32
  let v212 : BitVec 1 := Scalar.cmpi .sgt v210 c0_i32_139
  let v213 : BitVec 32 := Scalar.extui v212
  let c0_i32_140 : BitVec 32 := 0#32
  let v214 : BitVec 1 := Scalar.cmpi .slt v210 c0_i32_140
  let v215 : BitVec 32 := Scalar.extui v214
  let v216 : BitVec 32 := Scalar.subi v213 v215
  let c2_i32_138 : BitVec 32 := 2#32
  let c0_i32_141 : BitVec 32 := 0#32
  let v217 : BitVec 1 := Scalar.cmpi .sgt c2_i32_138 c0_i32_141
  let v218 : BitVec 32 := Scalar.extui v217
  let c0_i32_142 : BitVec 32 := 0#32
  let v219 : BitVec 1 := Scalar.cmpi .slt c2_i32_138 c0_i32_142
  let v220 : BitVec 32 := Scalar.extui v219
  let v221 : BitVec 32 := Scalar.subi v218 v220
  let v222 : BitVec 1 := Scalar.cmpi .ne v216 v221
  let v223 : BitVec 32 := Scalar.remsi v210 c2_i32_138
  let c0_i32_143 : BitVec 32 := 0#32
  let v224 : BitVec 1 := Scalar.cmpi .ne v223 c0_i32_143
  let v225 : BitVec 1 := Scalar.andi v222 v224
  let v211 : BitVec 32 := Scalar.divsi v210 c2_i32_138
  let c1_i32_144 : BitVec 32 := 1#32
  let v226 : BitVec 32 := Scalar.subi v211 c1_i32_144
  let v227 : BitVec 32 := Scalar.select v225 v226 v211
  let v228 : BitVec 32 := Scalar.subi v227 c0_i32_146
  let c1_i32_147 : BitVec 32 := 1#32
  let v230 : BitVec 32 := Scalar.divsi v228 c1_i32_147
  let v231 : BitVec 32 := Scalar.muli v230 c1_i32_147
  let v232 : BitVec 32 := Scalar.addi c0_i32_146 v231
  let c1_i32_148 : BitVec 32 := 1#32
  ⟨c0_i32_146, v232, c1_i32_148⟩
def k0_mult15 (i : grid0.Coords) (k0_t1 : Fin (k0_t1_loop i).trips) : BitVec 32 :=
  let c2_i32 : BitVec 32 := 2#32
  let arg1 : BitVec 32 := BitVec.ofNat 32 (i 1).val
  let v0 : BitVec 32 := Scalar.muli c2_i32 arg1
  let c2_i32_274 : BitVec 32 := 2#32
  let c2_i32_273 : BitVec 32 := 2#32
  let c0_i32_146 : BitVec 32 := 0#32
  let c1_i32_148 : BitVec 32 := 1#32
  let arg21 : BitVec 32 := Scf.iv c0_i32_146 c1_i32_148 k0_t1
  let v416 : BitVec 32 := Scalar.muli c2_i32_273 arg21
  let v417 : BitVec 32 := Scalar.addi c2_i32_274 v416
  let c1_i32_275 : BitVec 32 := 1#32
  let v418 : BitVec 32 := Scalar.subi v417 c1_i32_275
  let v422 : BitVec 32 := Scalar.addi v0 v418
  let c512_i32_280 : BitVec 32 := 512#32
  let v423 : BitVec 32 := Scalar.muli v422 c512_i32_280
  v423
def k0_off11 (i : grid0.Coords) (k0_t1 : Fin (k0_t1_loop i).trips) (c2_i32_274 : BitVec 32) : Fin 2 → Nat :=
  let c2_i32 : BitVec 32 := 2#32
  let arg1 : BitVec 32 := BitVec.ofNat 32 (i 1).val
  let v0 : BitVec 32 := Scalar.muli c2_i32 arg1
  let c2_i32_273 : BitVec 32 := 2#32
  let c0_i32_146 : BitVec 32 := 0#32
  let c1_i32_148 : BitVec 32 := 1#32
  let arg21 : BitVec 32 := Scf.iv c0_i32_146 c1_i32_148 k0_t1
  let v416 : BitVec 32 := Scalar.muli c2_i32_273 arg21
  let v417 : BitVec 32 := Scalar.addi c2_i32_274 v416
  let c1_i32_275 : BitVec 32 := 1#32
  let v418 : BitVec 32 := Scalar.subi v417 c1_i32_275
  let v422 : BitVec 32 := Scalar.addi v0 v418
  let c512_i32_280 : BitVec 32 := 512#32
  let v423 : BitVec 32 := Scalar.muli v422 c512_i32_280
  let v424 : BitVec 32 := v423
  let v425 : Index := Scalar.indexCast v424
  let c0_281 : Index := 0#32
  ![v425.toNat, 0]
def k0_mult16 (i : grid0.Coords) (k0_t1 : Fin (k0_t1_loop i).trips) : BitVec 32 :=
  let c2_i32 : BitVec 32 := 2#32
  let arg1 : BitVec 32 := BitVec.ofNat 32 (i 1).val
  let v0 : BitVec 32 := Scalar.muli c2_i32 arg1
  let c2_i32_274 : BitVec 32 := 2#32
  let c2_i32_273 : BitVec 32 := 2#32
  let c0_i32_146 : BitVec 32 := 0#32
  let c1_i32_148 : BitVec 32 := 1#32
  let arg21 : BitVec 32 := Scf.iv c0_i32_146 c1_i32_148 k0_t1
  let v416 : BitVec 32 := Scalar.muli c2_i32_273 arg21
  let v417 : BitVec 32 := Scalar.addi c2_i32_274 v416
  let c1_i32_275 : BitVec 32 := 1#32
  let v418 : BitVec 32 := Scalar.subi v417 c1_i32_275
  let v434 : BitVec 32 := Scalar.addi v0 v418
  let c512_i32_289 : BitVec 32 := 512#32
  let v435 : BitVec 32 := Scalar.muli v434 c512_i32_289
  v435
def k0_off12 (i : grid0.Coords) (k0_t1 : Fin (k0_t1_loop i).trips) (c2_i32_274 : BitVec 32) : Fin 2 → Nat :=
  let c2_i32 : BitVec 32 := 2#32
  let arg1 : BitVec 32 := BitVec.ofNat 32 (i 1).val
  let v0 : BitVec 32 := Scalar.muli c2_i32 arg1
  let c2_i32_273 : BitVec 32 := 2#32
  let c0_i32_146 : BitVec 32 := 0#32
  let c1_i32_148 : BitVec 32 := 1#32
  let arg21 : BitVec 32 := Scf.iv c0_i32_146 c1_i32_148 k0_t1
  let v416 : BitVec 32 := Scalar.muli c2_i32_273 arg21
  let v417 : BitVec 32 := Scalar.addi c2_i32_274 v416
  let c1_i32_275 : BitVec 32 := 1#32
  let v418 : BitVec 32 := Scalar.subi v417 c1_i32_275
  let v434 : BitVec 32 := Scalar.addi v0 v418
  let c512_i32_289 : BitVec 32 := 512#32
  let v435 : BitVec 32 := Scalar.muli v434 c512_i32_289
  let v436 : BitVec 32 := v435
  let v437 : Index := Scalar.indexCast v436
  let c0_290 : Index := 0#32
  ![v437.toNat, 0]
def k0_off13 (i : grid0.Coords) (k0_t1 : Fin (k0_t1_loop i).trips) (c2_i32_274 : BitVec 32) : Fin 3 → Nat :=
  let c2_i32 : BitVec 32 := 2#32
  let arg1 : BitVec 32 := BitVec.ofNat 32 (i 1).val
  let v0 : BitVec 32 := Scalar.muli c2_i32 arg1
  let c2_i32_273 : BitVec 32 := 2#32
  let c0_i32_146 : BitVec 32 := 0#32
  let c1_i32_148 : BitVec 32 := 1#32
  let arg21 : BitVec 32 := Scf.iv c0_i32_146 c1_i32_148 k0_t1
  let v416 : BitVec 32 := Scalar.muli c2_i32_273 arg21
  let v417 : BitVec 32 := Scalar.addi c2_i32_274 v416
  let c1_i32_275 : BitVec 32 := 1#32
  let v418 : BitVec 32 := Scalar.subi v417 c1_i32_275
  let v443 : BitVec 32 := Scalar.addi v0 v418
  let v444 : Index := Scalar.indexCast v443
  let c0_294 : Index := 0#32
  let c0_295 : Index := 0#32
  ![v444.toNat, 0, 0]
def k0_mult17 (i : grid0.Coords) (k0_t1 : Fin (k0_t1_loop i).trips) : BitVec 32 :=
  let c2_i32 : BitVec 32 := 2#32
  let arg1 : BitVec 32 := BitVec.ofNat 32 (i 1).val
  let v0 : BitVec 32 := Scalar.muli c2_i32 arg1
  let c2_i32_274 : BitVec 32 := 2#32
  let c2_i32_273 : BitVec 32 := 2#32
  let c0_i32_146 : BitVec 32 := 0#32
  let c1_i32_148 : BitVec 32 := 1#32
  let arg21 : BitVec 32 := Scf.iv c0_i32_146 c1_i32_148 k0_t1
  let v416 : BitVec 32 := Scalar.muli c2_i32_273 arg21
  let v417 : BitVec 32 := Scalar.addi c2_i32_274 v416
  let c1_i32_301 : BitVec 32 := 1#32
  let v454 : BitVec 32 := Scalar.addi v417 c1_i32_301
  let v457 : BitVec 32 := Scalar.addi v0 v454
  let c512_i32_304 : BitVec 32 := 512#32
  let v458 : BitVec 32 := Scalar.muli v457 c512_i32_304
  v458
def k0_off14 (i : grid0.Coords) (k0_t1 : Fin (k0_t1_loop i).trips) (c2_i32_274 : BitVec 32) : Fin 2 → Nat :=
  let c2_i32 : BitVec 32 := 2#32
  let arg1 : BitVec 32 := BitVec.ofNat 32 (i 1).val
  let v0 : BitVec 32 := Scalar.muli c2_i32 arg1
  let c2_i32_273 : BitVec 32 := 2#32
  let c0_i32_146 : BitVec 32 := 0#32
  let c1_i32_148 : BitVec 32 := 1#32
  let arg21 : BitVec 32 := Scf.iv c0_i32_146 c1_i32_148 k0_t1
  let v416 : BitVec 32 := Scalar.muli c2_i32_273 arg21
  let v417 : BitVec 32 := Scalar.addi c2_i32_274 v416
  let c1_i32_301 : BitVec 32 := 1#32
  let v454 : BitVec 32 := Scalar.addi v417 c1_i32_301
  let v457 : BitVec 32 := Scalar.addi v0 v454
  let c512_i32_304 : BitVec 32 := 512#32
  let v458 : BitVec 32 := Scalar.muli v457 c512_i32_304
  let v459 : BitVec 32 := v458
  let v460 : Index := Scalar.indexCast v459
  let c0_305 : Index := 0#32
  ![v460.toNat, 0]
def k0_mult18 (i : grid0.Coords) (k0_t1 : Fin (k0_t1_loop i).trips) : BitVec 32 :=
  let c2_i32 : BitVec 32 := 2#32
  let arg1 : BitVec 32 := BitVec.ofNat 32 (i 1).val
  let v0 : BitVec 32 := Scalar.muli c2_i32 arg1
  let c2_i32_274 : BitVec 32 := 2#32
  let c2_i32_273 : BitVec 32 := 2#32
  let c0_i32_146 : BitVec 32 := 0#32
  let c1_i32_148 : BitVec 32 := 1#32
  let arg21 : BitVec 32 := Scf.iv c0_i32_146 c1_i32_148 k0_t1
  let v416 : BitVec 32 := Scalar.muli c2_i32_273 arg21
  let v417 : BitVec 32 := Scalar.addi c2_i32_274 v416
  let c1_i32_301 : BitVec 32 := 1#32
  let v454 : BitVec 32 := Scalar.addi v417 c1_i32_301
  let v469 : BitVec 32 := Scalar.addi v0 v454
  let c512_i32_311 : BitVec 32 := 512#32
  let v470 : BitVec 32 := Scalar.muli v469 c512_i32_311
  v470
def k0_off15 (i : grid0.Coords) (k0_t1 : Fin (k0_t1_loop i).trips) (c2_i32_274 : BitVec 32) : Fin 2 → Nat :=
  let c2_i32 : BitVec 32 := 2#32
  let arg1 : BitVec 32 := BitVec.ofNat 32 (i 1).val
  let v0 : BitVec 32 := Scalar.muli c2_i32 arg1
  let c2_i32_273 : BitVec 32 := 2#32
  let c0_i32_146 : BitVec 32 := 0#32
  let c1_i32_148 : BitVec 32 := 1#32
  let arg21 : BitVec 32 := Scf.iv c0_i32_146 c1_i32_148 k0_t1
  let v416 : BitVec 32 := Scalar.muli c2_i32_273 arg21
  let v417 : BitVec 32 := Scalar.addi c2_i32_274 v416
  let c1_i32_301 : BitVec 32 := 1#32
  let v454 : BitVec 32 := Scalar.addi v417 c1_i32_301
  let v469 : BitVec 32 := Scalar.addi v0 v454
  let c512_i32_311 : BitVec 32 := 512#32
  let v470 : BitVec 32 := Scalar.muli v469 c512_i32_311
  let v471 : BitVec 32 := v470
  let v472 : Index := Scalar.indexCast v471
  let c0_312 : Index := 0#32
  ![v472.toNat, 0]
def k0_off16 (i : grid0.Coords) (k0_t1 : Fin (k0_t1_loop i).trips) (c2_i32_274 : BitVec 32) : Fin 4 → Nat :=
  let c0_318 : Index := 0#32
  let c2_i32 : BitVec 32 := 2#32
  let arg1 : BitVec 32 := BitVec.ofNat 32 (i 1).val
  let v0 : BitVec 32 := Scalar.muli c2_i32 arg1
  let c2_i32_273 : BitVec 32 := 2#32
  let c0_i32_146 : BitVec 32 := 0#32
  let c1_i32_148 : BitVec 32 := 1#32
  let arg21 : BitVec 32 := Scf.iv c0_i32_146 c1_i32_148 k0_t1
  let v416 : BitVec 32 := Scalar.muli c2_i32_273 arg21
  let v417 : BitVec 32 := Scalar.addi c2_i32_274 v416
  let v480 : BitVec 32 := Scalar.addi v0 v417
  let v481 : Index := Scalar.indexCast v480
  let c0_319 : Index := 0#32
  let c0_320 : Index := 0#32
  ![0, v481.toNat, 0, 0]
def k0_mult19 (i : grid0.Coords) (k0_t1 : Fin (k0_t1_loop i).trips) : BitVec 32 :=
  let c2_i32 : BitVec 32 := 2#32
  let arg1 : BitVec 32 := BitVec.ofNat 32 (i 1).val
  let v0 : BitVec 32 := Scalar.muli c2_i32 arg1
  let c3_i32 : BitVec 32 := 3#32
  let c2_i32_330 : BitVec 32 := 2#32
  let c0_i32_146 : BitVec 32 := 0#32
  let c1_i32_148 : BitVec 32 := 1#32
  let arg21 : BitVec 32 := Scf.iv c0_i32_146 c1_i32_148 k0_t1
  let v503 : BitVec 32 := Scalar.muli c2_i32_330 arg21
  let v504 : BitVec 32 := Scalar.addi c3_i32 v503
  let c1_i32_331 : BitVec 32 := 1#32
  let v505 : BitVec 32 := Scalar.subi v504 c1_i32_331
  let v509 : BitVec 32 := Scalar.addi v0 v505
  let c512_i32_336 : BitVec 32 := 512#32
  let v510 : BitVec 32 := Scalar.muli v509 c512_i32_336
  v510
def k0_mult20 (i : grid0.Coords) (k0_t1 : Fin (k0_t1_loop i).trips) : BitVec 32 :=
  let c2_i32 : BitVec 32 := 2#32
  let arg1 : BitVec 32 := BitVec.ofNat 32 (i 1).val
  let v0 : BitVec 32 := Scalar.muli c2_i32 arg1
  let c3_i32 : BitVec 32 := 3#32
  let c2_i32_330 : BitVec 32 := 2#32
  let c0_i32_146 : BitVec 32 := 0#32
  let c1_i32_148 : BitVec 32 := 1#32
  let arg21 : BitVec 32 := Scf.iv c0_i32_146 c1_i32_148 k0_t1
  let v503 : BitVec 32 := Scalar.muli c2_i32_330 arg21
  let v504 : BitVec 32 := Scalar.addi c3_i32 v503
  let c1_i32_331 : BitVec 32 := 1#32
  let v505 : BitVec 32 := Scalar.subi v504 c1_i32_331
  let v521 : BitVec 32 := Scalar.addi v0 v505
  let c512_i32_345 : BitVec 32 := 512#32
  let v522 : BitVec 32 := Scalar.muli v521 c512_i32_345
  v522
def k0_mult21 (i : grid0.Coords) (k0_t1 : Fin (k0_t1_loop i).trips) : BitVec 32 :=
  let c2_i32 : BitVec 32 := 2#32
  let arg1 : BitVec 32 := BitVec.ofNat 32 (i 1).val
  let v0 : BitVec 32 := Scalar.muli c2_i32 arg1
  let c3_i32 : BitVec 32 := 3#32
  let c2_i32_330 : BitVec 32 := 2#32
  let c0_i32_146 : BitVec 32 := 0#32
  let c1_i32_148 : BitVec 32 := 1#32
  let arg21 : BitVec 32 := Scf.iv c0_i32_146 c1_i32_148 k0_t1
  let v503 : BitVec 32 := Scalar.muli c2_i32_330 arg21
  let v504 : BitVec 32 := Scalar.addi c3_i32 v503
  let c1_i32_357 : BitVec 32 := 1#32
  let v541 : BitVec 32 := Scalar.addi v504 c1_i32_357
  let v544 : BitVec 32 := Scalar.addi v0 v541
  let c512_i32_360 : BitVec 32 := 512#32
  let v545 : BitVec 32 := Scalar.muli v544 c512_i32_360
  v545
def k0_mult22 (i : grid0.Coords) (k0_t1 : Fin (k0_t1_loop i).trips) : BitVec 32 :=
  let c2_i32 : BitVec 32 := 2#32
  let arg1 : BitVec 32 := BitVec.ofNat 32 (i 1).val
  let v0 : BitVec 32 := Scalar.muli c2_i32 arg1
  let c3_i32 : BitVec 32 := 3#32
  let c2_i32_330 : BitVec 32 := 2#32
  let c0_i32_146 : BitVec 32 := 0#32
  let c1_i32_148 : BitVec 32 := 1#32
  let arg21 : BitVec 32 := Scf.iv c0_i32_146 c1_i32_148 k0_t1
  let v503 : BitVec 32 := Scalar.muli c2_i32_330 arg21
  let v504 : BitVec 32 := Scalar.addi c3_i32 v503
  let c1_i32_357 : BitVec 32 := 1#32
  let v541 : BitVec 32 := Scalar.addi v504 c1_i32_357
  let v556 : BitVec 32 := Scalar.addi v0 v541
  let c512_i32_367 : BitVec 32 := 512#32
  let v557 : BitVec 32 := Scalar.muli v556 c512_i32_367
  v557
@[reducible] def k0_t2_loop (i : grid0.Coords) : Scf.Loop 32 :=
  let c0_i32_146 : BitVec 32 := 0#32
  let c32_i32 : BitVec 32 := 32#32
  let c2_i32 : BitVec 32 := 2#32
  let arg1 : BitVec 32 := BitVec.ofNat 32 (i 1).val
  let v0 : BitVec 32 := Scalar.muli c2_i32 arg1
  let v1 : BitVec 32 := Scalar.subi c32_i32 v0
  let c4_i32 : BitVec 32 := 4#32
  let v210 : BitVec 32 := Scalar.subi v1 c4_i32
  let c0_i32_139 : BitVec 32 := 0#32
  let v212 : BitVec 1 := Scalar.cmpi .sgt v210 c0_i32_139
  let v213 : BitVec 32 := Scalar.extui v212
  let c0_i32_140 : BitVec 32 := 0#32
  let v214 : BitVec 1 := Scalar.cmpi .slt v210 c0_i32_140
  let v215 : BitVec 32 := Scalar.extui v214
  let v216 : BitVec 32 := Scalar.subi v213 v215
  let c2_i32_138 : BitVec 32 := 2#32
  let c0_i32_141 : BitVec 32 := 0#32
  let v217 : BitVec 1 := Scalar.cmpi .sgt c2_i32_138 c0_i32_141
  let v218 : BitVec 32 := Scalar.extui v217
  let c0_i32_142 : BitVec 32 := 0#32
  let v219 : BitVec 1 := Scalar.cmpi .slt c2_i32_138 c0_i32_142
  let v220 : BitVec 32 := Scalar.extui v219
  let v221 : BitVec 32 := Scalar.subi v218 v220
  let v222 : BitVec 1 := Scalar.cmpi .ne v216 v221
  let v223 : BitVec 32 := Scalar.remsi v210 c2_i32_138
  let c0_i32_143 : BitVec 32 := 0#32
  let v224 : BitVec 1 := Scalar.cmpi .ne v223 c0_i32_143
  let v225 : BitVec 1 := Scalar.andi v222 v224
  let v211 : BitVec 32 := Scalar.divsi v210 c2_i32_138
  let c1_i32_144 : BitVec 32 := 1#32
  let v226 : BitVec 32 := Scalar.subi v211 c1_i32_144
  let v227 : BitVec 32 := Scalar.select v225 v226 v211
  let v228 : BitVec 32 := Scalar.subi v227 c0_i32_146
  let c1_i32_147 : BitVec 32 := 1#32
  let v230 : BitVec 32 := Scalar.divsi v228 c1_i32_147
  let v231 : BitVec 32 := Scalar.muli v230 c1_i32_147
  let v232 : BitVec 32 := Scalar.addi c0_i32_146 v231
  let v229 : BitVec 32 := Scalar.addi c0_i32_146 v228
  let c1_i32_149 : BitVec 32 := 1#32
  ⟨v232, v229, c1_i32_149⟩
def k0_mult23 (i : grid0.Coords) (k0_t2 : Fin (k0_t2_loop i).trips) : BitVec 32 :=
  let c2_i32 : BitVec 32 := 2#32
  let arg1 : BitVec 32 := BitVec.ofNat 32 (i 1).val
  let v0 : BitVec 32 := Scalar.muli c2_i32 arg1
  let c2_i32_274 : BitVec 32 := 2#32
  let c2_i32_273 : BitVec 32 := 2#32
  let c0_i32_146 : BitVec 32 := 0#32
  let c32_i32 : BitVec 32 := 32#32
  let v1 : BitVec 32 := Scalar.subi c32_i32 v0
  let c4_i32 : BitVec 32 := 4#32
  let v210 : BitVec 32 := Scalar.subi v1 c4_i32
  let c0_i32_139 : BitVec 32 := 0#32
  let v212 : BitVec 1 := Scalar.cmpi .sgt v210 c0_i32_139
  let v213 : BitVec 32 := Scalar.extui v212
  let c0_i32_140 : BitVec 32 := 0#32
  let v214 : BitVec 1 := Scalar.cmpi .slt v210 c0_i32_140
  let v215 : BitVec 32 := Scalar.extui v214
  let v216 : BitVec 32 := Scalar.subi v213 v215
  let c2_i32_138 : BitVec 32 := 2#32
  let c0_i32_141 : BitVec 32 := 0#32
  let v217 : BitVec 1 := Scalar.cmpi .sgt c2_i32_138 c0_i32_141
  let v218 : BitVec 32 := Scalar.extui v217
  let c0_i32_142 : BitVec 32 := 0#32
  let v219 : BitVec 1 := Scalar.cmpi .slt c2_i32_138 c0_i32_142
  let v220 : BitVec 32 := Scalar.extui v219
  let v221 : BitVec 32 := Scalar.subi v218 v220
  let v222 : BitVec 1 := Scalar.cmpi .ne v216 v221
  let v223 : BitVec 32 := Scalar.remsi v210 c2_i32_138
  let c0_i32_143 : BitVec 32 := 0#32
  let v224 : BitVec 1 := Scalar.cmpi .ne v223 c0_i32_143
  let v225 : BitVec 1 := Scalar.andi v222 v224
  let v211 : BitVec 32 := Scalar.divsi v210 c2_i32_138
  let c1_i32_144 : BitVec 32 := 1#32
  let v226 : BitVec 32 := Scalar.subi v211 c1_i32_144
  let v227 : BitVec 32 := Scalar.select v225 v226 v211
  let v228 : BitVec 32 := Scalar.subi v227 c0_i32_146
  let c1_i32_147 : BitVec 32 := 1#32
  let v230 : BitVec 32 := Scalar.divsi v228 c1_i32_147
  let v231 : BitVec 32 := Scalar.muli v230 c1_i32_147
  let v232 : BitVec 32 := Scalar.addi c0_i32_146 v231
  let c1_i32_149 : BitVec 32 := 1#32
  let arg21 : BitVec 32 := Scf.iv v232 c1_i32_149 k0_t2
  let v416 : BitVec 32 := Scalar.muli c2_i32_273 arg21
  let v417 : BitVec 32 := Scalar.addi c2_i32_274 v416
  let c1_i32_275 : BitVec 32 := 1#32
  let v418 : BitVec 32 := Scalar.subi v417 c1_i32_275
  let v422 : BitVec 32 := Scalar.addi v0 v418
  let c512_i32_280 : BitVec 32 := 512#32
  let v423 : BitVec 32 := Scalar.muli v422 c512_i32_280
  v423
def k0_off17 (i : grid0.Coords) (k0_t2 : Fin (k0_t2_loop i).trips) (c2_i32_274 : BitVec 32) : Fin 2 → Nat :=
  let c2_i32 : BitVec 32 := 2#32
  let arg1 : BitVec 32 := BitVec.ofNat 32 (i 1).val
  let v0 : BitVec 32 := Scalar.muli c2_i32 arg1
  let c2_i32_273 : BitVec 32 := 2#32
  let c0_i32_146 : BitVec 32 := 0#32
  let c32_i32 : BitVec 32 := 32#32
  let v1 : BitVec 32 := Scalar.subi c32_i32 v0
  let c4_i32 : BitVec 32 := 4#32
  let v210 : BitVec 32 := Scalar.subi v1 c4_i32
  let c0_i32_139 : BitVec 32 := 0#32
  let v212 : BitVec 1 := Scalar.cmpi .sgt v210 c0_i32_139
  let v213 : BitVec 32 := Scalar.extui v212
  let c0_i32_140 : BitVec 32 := 0#32
  let v214 : BitVec 1 := Scalar.cmpi .slt v210 c0_i32_140
  let v215 : BitVec 32 := Scalar.extui v214
  let v216 : BitVec 32 := Scalar.subi v213 v215
  let c2_i32_138 : BitVec 32 := 2#32
  let c0_i32_141 : BitVec 32 := 0#32
  let v217 : BitVec 1 := Scalar.cmpi .sgt c2_i32_138 c0_i32_141
  let v218 : BitVec 32 := Scalar.extui v217
  let c0_i32_142 : BitVec 32 := 0#32
  let v219 : BitVec 1 := Scalar.cmpi .slt c2_i32_138 c0_i32_142
  let v220 : BitVec 32 := Scalar.extui v219
  let v221 : BitVec 32 := Scalar.subi v218 v220
  let v222 : BitVec 1 := Scalar.cmpi .ne v216 v221
  let v223 : BitVec 32 := Scalar.remsi v210 c2_i32_138
  let c0_i32_143 : BitVec 32 := 0#32
  let v224 : BitVec 1 := Scalar.cmpi .ne v223 c0_i32_143
  let v225 : BitVec 1 := Scalar.andi v222 v224
  let v211 : BitVec 32 := Scalar.divsi v210 c2_i32_138
  let c1_i32_144 : BitVec 32 := 1#32
  let v226 : BitVec 32 := Scalar.subi v211 c1_i32_144
  let v227 : BitVec 32 := Scalar.select v225 v226 v211
  let v228 : BitVec 32 := Scalar.subi v227 c0_i32_146
  let c1_i32_147 : BitVec 32 := 1#32
  let v230 : BitVec 32 := Scalar.divsi v228 c1_i32_147
  let v231 : BitVec 32 := Scalar.muli v230 c1_i32_147
  let v232 : BitVec 32 := Scalar.addi c0_i32_146 v231
  let c1_i32_149 : BitVec 32 := 1#32
  let arg21 : BitVec 32 := Scf.iv v232 c1_i32_149 k0_t2
  let v416 : BitVec 32 := Scalar.muli c2_i32_273 arg21
  let v417 : BitVec 32 := Scalar.addi c2_i32_274 v416
  let c1_i32_275 : BitVec 32 := 1#32
  let v418 : BitVec 32 := Scalar.subi v417 c1_i32_275
  let v422 : BitVec 32 := Scalar.addi v0 v418
  let c512_i32_280 : BitVec 32 := 512#32
  let v423 : BitVec 32 := Scalar.muli v422 c512_i32_280
  let v424 : BitVec 32 := v423
  let v425 : Index := Scalar.indexCast v424
  let c0_281 : Index := 0#32
  ![v425.toNat, 0]
def k0_mult24 (i : grid0.Coords) (k0_t2 : Fin (k0_t2_loop i).trips) : BitVec 32 :=
  let c2_i32 : BitVec 32 := 2#32
  let arg1 : BitVec 32 := BitVec.ofNat 32 (i 1).val
  let v0 : BitVec 32 := Scalar.muli c2_i32 arg1
  let c2_i32_274 : BitVec 32 := 2#32
  let c2_i32_273 : BitVec 32 := 2#32
  let c0_i32_146 : BitVec 32 := 0#32
  let c32_i32 : BitVec 32 := 32#32
  let v1 : BitVec 32 := Scalar.subi c32_i32 v0
  let c4_i32 : BitVec 32 := 4#32
  let v210 : BitVec 32 := Scalar.subi v1 c4_i32
  let c0_i32_139 : BitVec 32 := 0#32
  let v212 : BitVec 1 := Scalar.cmpi .sgt v210 c0_i32_139
  let v213 : BitVec 32 := Scalar.extui v212
  let c0_i32_140 : BitVec 32 := 0#32
  let v214 : BitVec 1 := Scalar.cmpi .slt v210 c0_i32_140
  let v215 : BitVec 32 := Scalar.extui v214
  let v216 : BitVec 32 := Scalar.subi v213 v215
  let c2_i32_138 : BitVec 32 := 2#32
  let c0_i32_141 : BitVec 32 := 0#32
  let v217 : BitVec 1 := Scalar.cmpi .sgt c2_i32_138 c0_i32_141
  let v218 : BitVec 32 := Scalar.extui v217
  let c0_i32_142 : BitVec 32 := 0#32
  let v219 : BitVec 1 := Scalar.cmpi .slt c2_i32_138 c0_i32_142
  let v220 : BitVec 32 := Scalar.extui v219
  let v221 : BitVec 32 := Scalar.subi v218 v220
  let v222 : BitVec 1 := Scalar.cmpi .ne v216 v221
  let v223 : BitVec 32 := Scalar.remsi v210 c2_i32_138
  let c0_i32_143 : BitVec 32 := 0#32
  let v224 : BitVec 1 := Scalar.cmpi .ne v223 c0_i32_143
  let v225 : BitVec 1 := Scalar.andi v222 v224
  let v211 : BitVec 32 := Scalar.divsi v210 c2_i32_138
  let c1_i32_144 : BitVec 32 := 1#32
  let v226 : BitVec 32 := Scalar.subi v211 c1_i32_144
  let v227 : BitVec 32 := Scalar.select v225 v226 v211
  let v228 : BitVec 32 := Scalar.subi v227 c0_i32_146
  let c1_i32_147 : BitVec 32 := 1#32
  let v230 : BitVec 32 := Scalar.divsi v228 c1_i32_147
  let v231 : BitVec 32 := Scalar.muli v230 c1_i32_147
  let v232 : BitVec 32 := Scalar.addi c0_i32_146 v231
  let c1_i32_149 : BitVec 32 := 1#32
  let arg21 : BitVec 32 := Scf.iv v232 c1_i32_149 k0_t2
  let v416 : BitVec 32 := Scalar.muli c2_i32_273 arg21
  let v417 : BitVec 32 := Scalar.addi c2_i32_274 v416
  let c1_i32_275 : BitVec 32 := 1#32
  let v418 : BitVec 32 := Scalar.subi v417 c1_i32_275
  let v434 : BitVec 32 := Scalar.addi v0 v418
  let c512_i32_289 : BitVec 32 := 512#32
  let v435 : BitVec 32 := Scalar.muli v434 c512_i32_289
  v435
def k0_off18 (i : grid0.Coords) (k0_t2 : Fin (k0_t2_loop i).trips) (c2_i32_274 : BitVec 32) : Fin 2 → Nat :=
  let c2_i32 : BitVec 32 := 2#32
  let arg1 : BitVec 32 := BitVec.ofNat 32 (i 1).val
  let v0 : BitVec 32 := Scalar.muli c2_i32 arg1
  let c2_i32_273 : BitVec 32 := 2#32
  let c0_i32_146 : BitVec 32 := 0#32
  let c32_i32 : BitVec 32 := 32#32
  let v1 : BitVec 32 := Scalar.subi c32_i32 v0
  let c4_i32 : BitVec 32 := 4#32
  let v210 : BitVec 32 := Scalar.subi v1 c4_i32
  let c0_i32_139 : BitVec 32 := 0#32
  let v212 : BitVec 1 := Scalar.cmpi .sgt v210 c0_i32_139
  let v213 : BitVec 32 := Scalar.extui v212
  let c0_i32_140 : BitVec 32 := 0#32
  let v214 : BitVec 1 := Scalar.cmpi .slt v210 c0_i32_140
  let v215 : BitVec 32 := Scalar.extui v214
  let v216 : BitVec 32 := Scalar.subi v213 v215
  let c2_i32_138 : BitVec 32 := 2#32
  let c0_i32_141 : BitVec 32 := 0#32
  let v217 : BitVec 1 := Scalar.cmpi .sgt c2_i32_138 c0_i32_141
  let v218 : BitVec 32 := Scalar.extui v217
  let c0_i32_142 : BitVec 32 := 0#32
  let v219 : BitVec 1 := Scalar.cmpi .slt c2_i32_138 c0_i32_142
  let v220 : BitVec 32 := Scalar.extui v219
  let v221 : BitVec 32 := Scalar.subi v218 v220
  let v222 : BitVec 1 := Scalar.cmpi .ne v216 v221
  let v223 : BitVec 32 := Scalar.remsi v210 c2_i32_138
  let c0_i32_143 : BitVec 32 := 0#32
  let v224 : BitVec 1 := Scalar.cmpi .ne v223 c0_i32_143
  let v225 : BitVec 1 := Scalar.andi v222 v224
  let v211 : BitVec 32 := Scalar.divsi v210 c2_i32_138
  let c1_i32_144 : BitVec 32 := 1#32
  let v226 : BitVec 32 := Scalar.subi v211 c1_i32_144
  let v227 : BitVec 32 := Scalar.select v225 v226 v211
  let v228 : BitVec 32 := Scalar.subi v227 c0_i32_146
  let c1_i32_147 : BitVec 32 := 1#32
  let v230 : BitVec 32 := Scalar.divsi v228 c1_i32_147
  let v231 : BitVec 32 := Scalar.muli v230 c1_i32_147
  let v232 : BitVec 32 := Scalar.addi c0_i32_146 v231
  let c1_i32_149 : BitVec 32 := 1#32
  let arg21 : BitVec 32 := Scf.iv v232 c1_i32_149 k0_t2
  let v416 : BitVec 32 := Scalar.muli c2_i32_273 arg21
  let v417 : BitVec 32 := Scalar.addi c2_i32_274 v416
  let c1_i32_275 : BitVec 32 := 1#32
  let v418 : BitVec 32 := Scalar.subi v417 c1_i32_275
  let v434 : BitVec 32 := Scalar.addi v0 v418
  let c512_i32_289 : BitVec 32 := 512#32
  let v435 : BitVec 32 := Scalar.muli v434 c512_i32_289
  let v436 : BitVec 32 := v435
  let v437 : Index := Scalar.indexCast v436
  let c0_290 : Index := 0#32
  ![v437.toNat, 0]
def k0_off19 (i : grid0.Coords) (k0_t2 : Fin (k0_t2_loop i).trips) (c2_i32_274 : BitVec 32) : Fin 3 → Nat :=
  let c2_i32 : BitVec 32 := 2#32
  let arg1 : BitVec 32 := BitVec.ofNat 32 (i 1).val
  let v0 : BitVec 32 := Scalar.muli c2_i32 arg1
  let c2_i32_273 : BitVec 32 := 2#32
  let c0_i32_146 : BitVec 32 := 0#32
  let c32_i32 : BitVec 32 := 32#32
  let v1 : BitVec 32 := Scalar.subi c32_i32 v0
  let c4_i32 : BitVec 32 := 4#32
  let v210 : BitVec 32 := Scalar.subi v1 c4_i32
  let c0_i32_139 : BitVec 32 := 0#32
  let v212 : BitVec 1 := Scalar.cmpi .sgt v210 c0_i32_139
  let v213 : BitVec 32 := Scalar.extui v212
  let c0_i32_140 : BitVec 32 := 0#32
  let v214 : BitVec 1 := Scalar.cmpi .slt v210 c0_i32_140
  let v215 : BitVec 32 := Scalar.extui v214
  let v216 : BitVec 32 := Scalar.subi v213 v215
  let c2_i32_138 : BitVec 32 := 2#32
  let c0_i32_141 : BitVec 32 := 0#32
  let v217 : BitVec 1 := Scalar.cmpi .sgt c2_i32_138 c0_i32_141
  let v218 : BitVec 32 := Scalar.extui v217
  let c0_i32_142 : BitVec 32 := 0#32
  let v219 : BitVec 1 := Scalar.cmpi .slt c2_i32_138 c0_i32_142
  let v220 : BitVec 32 := Scalar.extui v219
  let v221 : BitVec 32 := Scalar.subi v218 v220
  let v222 : BitVec 1 := Scalar.cmpi .ne v216 v221
  let v223 : BitVec 32 := Scalar.remsi v210 c2_i32_138
  let c0_i32_143 : BitVec 32 := 0#32
  let v224 : BitVec 1 := Scalar.cmpi .ne v223 c0_i32_143
  let v225 : BitVec 1 := Scalar.andi v222 v224
  let v211 : BitVec 32 := Scalar.divsi v210 c2_i32_138
  let c1_i32_144 : BitVec 32 := 1#32
  let v226 : BitVec 32 := Scalar.subi v211 c1_i32_144
  let v227 : BitVec 32 := Scalar.select v225 v226 v211
  let v228 : BitVec 32 := Scalar.subi v227 c0_i32_146
  let c1_i32_147 : BitVec 32 := 1#32
  let v230 : BitVec 32 := Scalar.divsi v228 c1_i32_147
  let v231 : BitVec 32 := Scalar.muli v230 c1_i32_147
  let v232 : BitVec 32 := Scalar.addi c0_i32_146 v231
  let c1_i32_149 : BitVec 32 := 1#32
  let arg21 : BitVec 32 := Scf.iv v232 c1_i32_149 k0_t2
  let v416 : BitVec 32 := Scalar.muli c2_i32_273 arg21
  let v417 : BitVec 32 := Scalar.addi c2_i32_274 v416
  let c1_i32_275 : BitVec 32 := 1#32
  let v418 : BitVec 32 := Scalar.subi v417 c1_i32_275
  let v443 : BitVec 32 := Scalar.addi v0 v418
  let v444 : Index := Scalar.indexCast v443
  let c0_294 : Index := 0#32
  let c0_295 : Index := 0#32
  ![v444.toNat, 0, 0]
def k0_mult25 (i : grid0.Coords) (k0_t2 : Fin (k0_t2_loop i).trips) : BitVec 32 :=
  let c2_i32 : BitVec 32 := 2#32
  let arg1 : BitVec 32 := BitVec.ofNat 32 (i 1).val
  let v0 : BitVec 32 := Scalar.muli c2_i32 arg1
  let c2_i32_274 : BitVec 32 := 2#32
  let c2_i32_273 : BitVec 32 := 2#32
  let c0_i32_146 : BitVec 32 := 0#32
  let c32_i32 : BitVec 32 := 32#32
  let v1 : BitVec 32 := Scalar.subi c32_i32 v0
  let c4_i32 : BitVec 32 := 4#32
  let v210 : BitVec 32 := Scalar.subi v1 c4_i32
  let c0_i32_139 : BitVec 32 := 0#32
  let v212 : BitVec 1 := Scalar.cmpi .sgt v210 c0_i32_139
  let v213 : BitVec 32 := Scalar.extui v212
  let c0_i32_140 : BitVec 32 := 0#32
  let v214 : BitVec 1 := Scalar.cmpi .slt v210 c0_i32_140
  let v215 : BitVec 32 := Scalar.extui v214
  let v216 : BitVec 32 := Scalar.subi v213 v215
  let c2_i32_138 : BitVec 32 := 2#32
  let c0_i32_141 : BitVec 32 := 0#32
  let v217 : BitVec 1 := Scalar.cmpi .sgt c2_i32_138 c0_i32_141
  let v218 : BitVec 32 := Scalar.extui v217
  let c0_i32_142 : BitVec 32 := 0#32
  let v219 : BitVec 1 := Scalar.cmpi .slt c2_i32_138 c0_i32_142
  let v220 : BitVec 32 := Scalar.extui v219
  let v221 : BitVec 32 := Scalar.subi v218 v220
  let v222 : BitVec 1 := Scalar.cmpi .ne v216 v221
  let v223 : BitVec 32 := Scalar.remsi v210 c2_i32_138
  let c0_i32_143 : BitVec 32 := 0#32
  let v224 : BitVec 1 := Scalar.cmpi .ne v223 c0_i32_143
  let v225 : BitVec 1 := Scalar.andi v222 v224
  let v211 : BitVec 32 := Scalar.divsi v210 c2_i32_138
  let c1_i32_144 : BitVec 32 := 1#32
  let v226 : BitVec 32 := Scalar.subi v211 c1_i32_144
  let v227 : BitVec 32 := Scalar.select v225 v226 v211
  let v228 : BitVec 32 := Scalar.subi v227 c0_i32_146
  let c1_i32_147 : BitVec 32 := 1#32
  let v230 : BitVec 32 := Scalar.divsi v228 c1_i32_147
  let v231 : BitVec 32 := Scalar.muli v230 c1_i32_147
  let v232 : BitVec 32 := Scalar.addi c0_i32_146 v231
  let c1_i32_149 : BitVec 32 := 1#32
  let arg21 : BitVec 32 := Scf.iv v232 c1_i32_149 k0_t2
  let v416 : BitVec 32 := Scalar.muli c2_i32_273 arg21
  let v417 : BitVec 32 := Scalar.addi c2_i32_274 v416
  let c1_i32_301 : BitVec 32 := 1#32
  let v454 : BitVec 32 := Scalar.addi v417 c1_i32_301
  let v457 : BitVec 32 := Scalar.addi v0 v454
  let c512_i32_304 : BitVec 32 := 512#32
  let v458 : BitVec 32 := Scalar.muli v457 c512_i32_304
  v458
def k0_off20 (i : grid0.Coords) (k0_t2 : Fin (k0_t2_loop i).trips) (c2_i32_274 : BitVec 32) : Fin 2 → Nat :=
  let c2_i32 : BitVec 32 := 2#32
  let arg1 : BitVec 32 := BitVec.ofNat 32 (i 1).val
  let v0 : BitVec 32 := Scalar.muli c2_i32 arg1
  let c2_i32_273 : BitVec 32 := 2#32
  let c0_i32_146 : BitVec 32 := 0#32
  let c32_i32 : BitVec 32 := 32#32
  let v1 : BitVec 32 := Scalar.subi c32_i32 v0
  let c4_i32 : BitVec 32 := 4#32
  let v210 : BitVec 32 := Scalar.subi v1 c4_i32
  let c0_i32_139 : BitVec 32 := 0#32
  let v212 : BitVec 1 := Scalar.cmpi .sgt v210 c0_i32_139
  let v213 : BitVec 32 := Scalar.extui v212
  let c0_i32_140 : BitVec 32 := 0#32
  let v214 : BitVec 1 := Scalar.cmpi .slt v210 c0_i32_140
  let v215 : BitVec 32 := Scalar.extui v214
  let v216 : BitVec 32 := Scalar.subi v213 v215
  let c2_i32_138 : BitVec 32 := 2#32
  let c0_i32_141 : BitVec 32 := 0#32
  let v217 : BitVec 1 := Scalar.cmpi .sgt c2_i32_138 c0_i32_141
  let v218 : BitVec 32 := Scalar.extui v217
  let c0_i32_142 : BitVec 32 := 0#32
  let v219 : BitVec 1 := Scalar.cmpi .slt c2_i32_138 c0_i32_142
  let v220 : BitVec 32 := Scalar.extui v219
  let v221 : BitVec 32 := Scalar.subi v218 v220
  let v222 : BitVec 1 := Scalar.cmpi .ne v216 v221
  let v223 : BitVec 32 := Scalar.remsi v210 c2_i32_138
  let c0_i32_143 : BitVec 32 := 0#32
  let v224 : BitVec 1 := Scalar.cmpi .ne v223 c0_i32_143
  let v225 : BitVec 1 := Scalar.andi v222 v224
  let v211 : BitVec 32 := Scalar.divsi v210 c2_i32_138
  let c1_i32_144 : BitVec 32 := 1#32
  let v226 : BitVec 32 := Scalar.subi v211 c1_i32_144
  let v227 : BitVec 32 := Scalar.select v225 v226 v211
  let v228 : BitVec 32 := Scalar.subi v227 c0_i32_146
  let c1_i32_147 : BitVec 32 := 1#32
  let v230 : BitVec 32 := Scalar.divsi v228 c1_i32_147
  let v231 : BitVec 32 := Scalar.muli v230 c1_i32_147
  let v232 : BitVec 32 := Scalar.addi c0_i32_146 v231
  let c1_i32_149 : BitVec 32 := 1#32
  let arg21 : BitVec 32 := Scf.iv v232 c1_i32_149 k0_t2
  let v416 : BitVec 32 := Scalar.muli c2_i32_273 arg21
  let v417 : BitVec 32 := Scalar.addi c2_i32_274 v416
  let c1_i32_301 : BitVec 32 := 1#32
  let v454 : BitVec 32 := Scalar.addi v417 c1_i32_301
  let v457 : BitVec 32 := Scalar.addi v0 v454
  let c512_i32_304 : BitVec 32 := 512#32
  let v458 : BitVec 32 := Scalar.muli v457 c512_i32_304
  let v459 : BitVec 32 := v458
  let v460 : Index := Scalar.indexCast v459
  let c0_305 : Index := 0#32
  ![v460.toNat, 0]
def k0_mult26 (i : grid0.Coords) (k0_t2 : Fin (k0_t2_loop i).trips) : BitVec 32 :=
  let c2_i32 : BitVec 32 := 2#32
  let arg1 : BitVec 32 := BitVec.ofNat 32 (i 1).val
  let v0 : BitVec 32 := Scalar.muli c2_i32 arg1
  let c2_i32_274 : BitVec 32 := 2#32
  let c2_i32_273 : BitVec 32 := 2#32
  let c0_i32_146 : BitVec 32 := 0#32
  let c32_i32 : BitVec 32 := 32#32
  let v1 : BitVec 32 := Scalar.subi c32_i32 v0
  let c4_i32 : BitVec 32 := 4#32
  let v210 : BitVec 32 := Scalar.subi v1 c4_i32
  let c0_i32_139 : BitVec 32 := 0#32
  let v212 : BitVec 1 := Scalar.cmpi .sgt v210 c0_i32_139
  let v213 : BitVec 32 := Scalar.extui v212
  let c0_i32_140 : BitVec 32 := 0#32
  let v214 : BitVec 1 := Scalar.cmpi .slt v210 c0_i32_140
  let v215 : BitVec 32 := Scalar.extui v214
  let v216 : BitVec 32 := Scalar.subi v213 v215
  let c2_i32_138 : BitVec 32 := 2#32
  let c0_i32_141 : BitVec 32 := 0#32
  let v217 : BitVec 1 := Scalar.cmpi .sgt c2_i32_138 c0_i32_141
  let v218 : BitVec 32 := Scalar.extui v217
  let c0_i32_142 : BitVec 32 := 0#32
  let v219 : BitVec 1 := Scalar.cmpi .slt c2_i32_138 c0_i32_142
  let v220 : BitVec 32 := Scalar.extui v219
  let v221 : BitVec 32 := Scalar.subi v218 v220
  let v222 : BitVec 1 := Scalar.cmpi .ne v216 v221
  let v223 : BitVec 32 := Scalar.remsi v210 c2_i32_138
  let c0_i32_143 : BitVec 32 := 0#32
  let v224 : BitVec 1 := Scalar.cmpi .ne v223 c0_i32_143
  let v225 : BitVec 1 := Scalar.andi v222 v224
  let v211 : BitVec 32 := Scalar.divsi v210 c2_i32_138
  let c1_i32_144 : BitVec 32 := 1#32
  let v226 : BitVec 32 := Scalar.subi v211 c1_i32_144
  let v227 : BitVec 32 := Scalar.select v225 v226 v211
  let v228 : BitVec 32 := Scalar.subi v227 c0_i32_146
  let c1_i32_147 : BitVec 32 := 1#32
  let v230 : BitVec 32 := Scalar.divsi v228 c1_i32_147
  let v231 : BitVec 32 := Scalar.muli v230 c1_i32_147
  let v232 : BitVec 32 := Scalar.addi c0_i32_146 v231
  let c1_i32_149 : BitVec 32 := 1#32
  let arg21 : BitVec 32 := Scf.iv v232 c1_i32_149 k0_t2
  let v416 : BitVec 32 := Scalar.muli c2_i32_273 arg21
  let v417 : BitVec 32 := Scalar.addi c2_i32_274 v416
  let c1_i32_301 : BitVec 32 := 1#32
  let v454 : BitVec 32 := Scalar.addi v417 c1_i32_301
  let v469 : BitVec 32 := Scalar.addi v0 v454
  let c512_i32_311 : BitVec 32 := 512#32
  let v470 : BitVec 32 := Scalar.muli v469 c512_i32_311
  v470
def k0_off21 (i : grid0.Coords) (k0_t2 : Fin (k0_t2_loop i).trips) (c2_i32_274 : BitVec 32) : Fin 2 → Nat :=
  let c2_i32 : BitVec 32 := 2#32
  let arg1 : BitVec 32 := BitVec.ofNat 32 (i 1).val
  let v0 : BitVec 32 := Scalar.muli c2_i32 arg1
  let c2_i32_273 : BitVec 32 := 2#32
  let c0_i32_146 : BitVec 32 := 0#32
  let c32_i32 : BitVec 32 := 32#32
  let v1 : BitVec 32 := Scalar.subi c32_i32 v0
  let c4_i32 : BitVec 32 := 4#32
  let v210 : BitVec 32 := Scalar.subi v1 c4_i32
  let c0_i32_139 : BitVec 32 := 0#32
  let v212 : BitVec 1 := Scalar.cmpi .sgt v210 c0_i32_139
  let v213 : BitVec 32 := Scalar.extui v212
  let c0_i32_140 : BitVec 32 := 0#32
  let v214 : BitVec 1 := Scalar.cmpi .slt v210 c0_i32_140
  let v215 : BitVec 32 := Scalar.extui v214
  let v216 : BitVec 32 := Scalar.subi v213 v215
  let c2_i32_138 : BitVec 32 := 2#32
  let c0_i32_141 : BitVec 32 := 0#32
  let v217 : BitVec 1 := Scalar.cmpi .sgt c2_i32_138 c0_i32_141
  let v218 : BitVec 32 := Scalar.extui v217
  let c0_i32_142 : BitVec 32 := 0#32
  let v219 : BitVec 1 := Scalar.cmpi .slt c2_i32_138 c0_i32_142
  let v220 : BitVec 32 := Scalar.extui v219
  let v221 : BitVec 32 := Scalar.subi v218 v220
  let v222 : BitVec 1 := Scalar.cmpi .ne v216 v221
  let v223 : BitVec 32 := Scalar.remsi v210 c2_i32_138
  let c0_i32_143 : BitVec 32 := 0#32
  let v224 : BitVec 1 := Scalar.cmpi .ne v223 c0_i32_143
  let v225 : BitVec 1 := Scalar.andi v222 v224
  let v211 : BitVec 32 := Scalar.divsi v210 c2_i32_138
  let c1_i32_144 : BitVec 32 := 1#32
  let v226 : BitVec 32 := Scalar.subi v211 c1_i32_144
  let v227 : BitVec 32 := Scalar.select v225 v226 v211
  let v228 : BitVec 32 := Scalar.subi v227 c0_i32_146
  let c1_i32_147 : BitVec 32 := 1#32
  let v230 : BitVec 32 := Scalar.divsi v228 c1_i32_147
  let v231 : BitVec 32 := Scalar.muli v230 c1_i32_147
  let v232 : BitVec 32 := Scalar.addi c0_i32_146 v231
  let c1_i32_149 : BitVec 32 := 1#32
  let arg21 : BitVec 32 := Scf.iv v232 c1_i32_149 k0_t2
  let v416 : BitVec 32 := Scalar.muli c2_i32_273 arg21
  let v417 : BitVec 32 := Scalar.addi c2_i32_274 v416
  let c1_i32_301 : BitVec 32 := 1#32
  let v454 : BitVec 32 := Scalar.addi v417 c1_i32_301
  let v469 : BitVec 32 := Scalar.addi v0 v454
  let c512_i32_311 : BitVec 32 := 512#32
  let v470 : BitVec 32 := Scalar.muli v469 c512_i32_311
  let v471 : BitVec 32 := v470
  let v472 : Index := Scalar.indexCast v471
  let c0_312 : Index := 0#32
  ![v472.toNat, 0]
def k0_off22 (i : grid0.Coords) (k0_t2 : Fin (k0_t2_loop i).trips) (c2_i32_274 : BitVec 32) : Fin 4 → Nat :=
  let c0_318 : Index := 0#32
  let c2_i32 : BitVec 32 := 2#32
  let arg1 : BitVec 32 := BitVec.ofNat 32 (i 1).val
  let v0 : BitVec 32 := Scalar.muli c2_i32 arg1
  let c2_i32_273 : BitVec 32 := 2#32
  let c0_i32_146 : BitVec 32 := 0#32
  let c32_i32 : BitVec 32 := 32#32
  let v1 : BitVec 32 := Scalar.subi c32_i32 v0
  let c4_i32 : BitVec 32 := 4#32
  let v210 : BitVec 32 := Scalar.subi v1 c4_i32
  let c0_i32_139 : BitVec 32 := 0#32
  let v212 : BitVec 1 := Scalar.cmpi .sgt v210 c0_i32_139
  let v213 : BitVec 32 := Scalar.extui v212
  let c0_i32_140 : BitVec 32 := 0#32
  let v214 : BitVec 1 := Scalar.cmpi .slt v210 c0_i32_140
  let v215 : BitVec 32 := Scalar.extui v214
  let v216 : BitVec 32 := Scalar.subi v213 v215
  let c2_i32_138 : BitVec 32 := 2#32
  let c0_i32_141 : BitVec 32 := 0#32
  let v217 : BitVec 1 := Scalar.cmpi .sgt c2_i32_138 c0_i32_141
  let v218 : BitVec 32 := Scalar.extui v217
  let c0_i32_142 : BitVec 32 := 0#32
  let v219 : BitVec 1 := Scalar.cmpi .slt c2_i32_138 c0_i32_142
  let v220 : BitVec 32 := Scalar.extui v219
  let v221 : BitVec 32 := Scalar.subi v218 v220
  let v222 : BitVec 1 := Scalar.cmpi .ne v216 v221
  let v223 : BitVec 32 := Scalar.remsi v210 c2_i32_138
  let c0_i32_143 : BitVec 32 := 0#32
  let v224 : BitVec 1 := Scalar.cmpi .ne v223 c0_i32_143
  let v225 : BitVec 1 := Scalar.andi v222 v224
  let v211 : BitVec 32 := Scalar.divsi v210 c2_i32_138
  let c1_i32_144 : BitVec 32 := 1#32
  let v226 : BitVec 32 := Scalar.subi v211 c1_i32_144
  let v227 : BitVec 32 := Scalar.select v225 v226 v211
  let v228 : BitVec 32 := Scalar.subi v227 c0_i32_146
  let c1_i32_147 : BitVec 32 := 1#32
  let v230 : BitVec 32 := Scalar.divsi v228 c1_i32_147
  let v231 : BitVec 32 := Scalar.muli v230 c1_i32_147
  let v232 : BitVec 32 := Scalar.addi c0_i32_146 v231
  let c1_i32_149 : BitVec 32 := 1#32
  let arg21 : BitVec 32 := Scf.iv v232 c1_i32_149 k0_t2
  let v416 : BitVec 32 := Scalar.muli c2_i32_273 arg21
  let v417 : BitVec 32 := Scalar.addi c2_i32_274 v416
  let v480 : BitVec 32 := Scalar.addi v0 v417
  let v481 : Index := Scalar.indexCast v480
  let c0_319 : Index := 0#32
  let c0_320 : Index := 0#32
  ![0, v481.toNat, 0, 0]
def k0_mult27 (i : grid0.Coords) (k0_t2 : Fin (k0_t2_loop i).trips) : BitVec 32 :=
  let c2_i32 : BitVec 32 := 2#32
  let arg1 : BitVec 32 := BitVec.ofNat 32 (i 1).val
  let v0 : BitVec 32 := Scalar.muli c2_i32 arg1
  let c3_i32 : BitVec 32 := 3#32
  let c2_i32_330 : BitVec 32 := 2#32
  let c0_i32_146 : BitVec 32 := 0#32
  let c32_i32 : BitVec 32 := 32#32
  let v1 : BitVec 32 := Scalar.subi c32_i32 v0
  let c4_i32 : BitVec 32 := 4#32
  let v210 : BitVec 32 := Scalar.subi v1 c4_i32
  let c0_i32_139 : BitVec 32 := 0#32
  let v212 : BitVec 1 := Scalar.cmpi .sgt v210 c0_i32_139
  let v213 : BitVec 32 := Scalar.extui v212
  let c0_i32_140 : BitVec 32 := 0#32
  let v214 : BitVec 1 := Scalar.cmpi .slt v210 c0_i32_140
  let v215 : BitVec 32 := Scalar.extui v214
  let v216 : BitVec 32 := Scalar.subi v213 v215
  let c2_i32_138 : BitVec 32 := 2#32
  let c0_i32_141 : BitVec 32 := 0#32
  let v217 : BitVec 1 := Scalar.cmpi .sgt c2_i32_138 c0_i32_141
  let v218 : BitVec 32 := Scalar.extui v217
  let c0_i32_142 : BitVec 32 := 0#32
  let v219 : BitVec 1 := Scalar.cmpi .slt c2_i32_138 c0_i32_142
  let v220 : BitVec 32 := Scalar.extui v219
  let v221 : BitVec 32 := Scalar.subi v218 v220
  let v222 : BitVec 1 := Scalar.cmpi .ne v216 v221
  let v223 : BitVec 32 := Scalar.remsi v210 c2_i32_138
  let c0_i32_143 : BitVec 32 := 0#32
  let v224 : BitVec 1 := Scalar.cmpi .ne v223 c0_i32_143
  let v225 : BitVec 1 := Scalar.andi v222 v224
  let v211 : BitVec 32 := Scalar.divsi v210 c2_i32_138
  let c1_i32_144 : BitVec 32 := 1#32
  let v226 : BitVec 32 := Scalar.subi v211 c1_i32_144
  let v227 : BitVec 32 := Scalar.select v225 v226 v211
  let v228 : BitVec 32 := Scalar.subi v227 c0_i32_146
  let c1_i32_147 : BitVec 32 := 1#32
  let v230 : BitVec 32 := Scalar.divsi v228 c1_i32_147
  let v231 : BitVec 32 := Scalar.muli v230 c1_i32_147
  let v232 : BitVec 32 := Scalar.addi c0_i32_146 v231
  let c1_i32_149 : BitVec 32 := 1#32
  let arg21 : BitVec 32 := Scf.iv v232 c1_i32_149 k0_t2
  let v503 : BitVec 32 := Scalar.muli c2_i32_330 arg21
  let v504 : BitVec 32 := Scalar.addi c3_i32 v503
  let c1_i32_331 : BitVec 32 := 1#32
  let v505 : BitVec 32 := Scalar.subi v504 c1_i32_331
  let v509 : BitVec 32 := Scalar.addi v0 v505
  let c512_i32_336 : BitVec 32 := 512#32
  let v510 : BitVec 32 := Scalar.muli v509 c512_i32_336
  v510
def k0_mult28 (i : grid0.Coords) (k0_t2 : Fin (k0_t2_loop i).trips) : BitVec 32 :=
  let c2_i32 : BitVec 32 := 2#32
  let arg1 : BitVec 32 := BitVec.ofNat 32 (i 1).val
  let v0 : BitVec 32 := Scalar.muli c2_i32 arg1
  let c3_i32 : BitVec 32 := 3#32
  let c2_i32_330 : BitVec 32 := 2#32
  let c0_i32_146 : BitVec 32 := 0#32
  let c32_i32 : BitVec 32 := 32#32
  let v1 : BitVec 32 := Scalar.subi c32_i32 v0
  let c4_i32 : BitVec 32 := 4#32
  let v210 : BitVec 32 := Scalar.subi v1 c4_i32
  let c0_i32_139 : BitVec 32 := 0#32
  let v212 : BitVec 1 := Scalar.cmpi .sgt v210 c0_i32_139
  let v213 : BitVec 32 := Scalar.extui v212
  let c0_i32_140 : BitVec 32 := 0#32
  let v214 : BitVec 1 := Scalar.cmpi .slt v210 c0_i32_140
  let v215 : BitVec 32 := Scalar.extui v214
  let v216 : BitVec 32 := Scalar.subi v213 v215
  let c2_i32_138 : BitVec 32 := 2#32
  let c0_i32_141 : BitVec 32 := 0#32
  let v217 : BitVec 1 := Scalar.cmpi .sgt c2_i32_138 c0_i32_141
  let v218 : BitVec 32 := Scalar.extui v217
  let c0_i32_142 : BitVec 32 := 0#32
  let v219 : BitVec 1 := Scalar.cmpi .slt c2_i32_138 c0_i32_142
  let v220 : BitVec 32 := Scalar.extui v219
  let v221 : BitVec 32 := Scalar.subi v218 v220
  let v222 : BitVec 1 := Scalar.cmpi .ne v216 v221
  let v223 : BitVec 32 := Scalar.remsi v210 c2_i32_138
  let c0_i32_143 : BitVec 32 := 0#32
  let v224 : BitVec 1 := Scalar.cmpi .ne v223 c0_i32_143
  let v225 : BitVec 1 := Scalar.andi v222 v224
  let v211 : BitVec 32 := Scalar.divsi v210 c2_i32_138
  let c1_i32_144 : BitVec 32 := 1#32
  let v226 : BitVec 32 := Scalar.subi v211 c1_i32_144
  let v227 : BitVec 32 := Scalar.select v225 v226 v211
  let v228 : BitVec 32 := Scalar.subi v227 c0_i32_146
  let c1_i32_147 : BitVec 32 := 1#32
  let v230 : BitVec 32 := Scalar.divsi v228 c1_i32_147
  let v231 : BitVec 32 := Scalar.muli v230 c1_i32_147
  let v232 : BitVec 32 := Scalar.addi c0_i32_146 v231
  let c1_i32_149 : BitVec 32 := 1#32
  let arg21 : BitVec 32 := Scf.iv v232 c1_i32_149 k0_t2
  let v503 : BitVec 32 := Scalar.muli c2_i32_330 arg21
  let v504 : BitVec 32 := Scalar.addi c3_i32 v503
  let c1_i32_331 : BitVec 32 := 1#32
  let v505 : BitVec 32 := Scalar.subi v504 c1_i32_331
  let v521 : BitVec 32 := Scalar.addi v0 v505
  let c512_i32_345 : BitVec 32 := 512#32
  let v522 : BitVec 32 := Scalar.muli v521 c512_i32_345
  v522
def k0_mult29 (i : grid0.Coords) (k0_t2 : Fin (k0_t2_loop i).trips) : BitVec 32 :=
  let c2_i32 : BitVec 32 := 2#32
  let arg1 : BitVec 32 := BitVec.ofNat 32 (i 1).val
  let v0 : BitVec 32 := Scalar.muli c2_i32 arg1
  let c3_i32 : BitVec 32 := 3#32
  let c2_i32_330 : BitVec 32 := 2#32
  let c0_i32_146 : BitVec 32 := 0#32
  let c32_i32 : BitVec 32 := 32#32
  let v1 : BitVec 32 := Scalar.subi c32_i32 v0
  let c4_i32 : BitVec 32 := 4#32
  let v210 : BitVec 32 := Scalar.subi v1 c4_i32
  let c0_i32_139 : BitVec 32 := 0#32
  let v212 : BitVec 1 := Scalar.cmpi .sgt v210 c0_i32_139
  let v213 : BitVec 32 := Scalar.extui v212
  let c0_i32_140 : BitVec 32 := 0#32
  let v214 : BitVec 1 := Scalar.cmpi .slt v210 c0_i32_140
  let v215 : BitVec 32 := Scalar.extui v214
  let v216 : BitVec 32 := Scalar.subi v213 v215
  let c2_i32_138 : BitVec 32 := 2#32
  let c0_i32_141 : BitVec 32 := 0#32
  let v217 : BitVec 1 := Scalar.cmpi .sgt c2_i32_138 c0_i32_141
  let v218 : BitVec 32 := Scalar.extui v217
  let c0_i32_142 : BitVec 32 := 0#32
  let v219 : BitVec 1 := Scalar.cmpi .slt c2_i32_138 c0_i32_142
  let v220 : BitVec 32 := Scalar.extui v219
  let v221 : BitVec 32 := Scalar.subi v218 v220
  let v222 : BitVec 1 := Scalar.cmpi .ne v216 v221
  let v223 : BitVec 32 := Scalar.remsi v210 c2_i32_138
  let c0_i32_143 : BitVec 32 := 0#32
  let v224 : BitVec 1 := Scalar.cmpi .ne v223 c0_i32_143
  let v225 : BitVec 1 := Scalar.andi v222 v224
  let v211 : BitVec 32 := Scalar.divsi v210 c2_i32_138
  let c1_i32_144 : BitVec 32 := 1#32
  let v226 : BitVec 32 := Scalar.subi v211 c1_i32_144
  let v227 : BitVec 32 := Scalar.select v225 v226 v211
  let v228 : BitVec 32 := Scalar.subi v227 c0_i32_146
  let c1_i32_147 : BitVec 32 := 1#32
  let v230 : BitVec 32 := Scalar.divsi v228 c1_i32_147
  let v231 : BitVec 32 := Scalar.muli v230 c1_i32_147
  let v232 : BitVec 32 := Scalar.addi c0_i32_146 v231
  let c1_i32_149 : BitVec 32 := 1#32
  let arg21 : BitVec 32 := Scf.iv v232 c1_i32_149 k0_t2
  let v503 : BitVec 32 := Scalar.muli c2_i32_330 arg21
  let v504 : BitVec 32 := Scalar.addi c3_i32 v503
  let c1_i32_357 : BitVec 32 := 1#32
  let v541 : BitVec 32 := Scalar.addi v504 c1_i32_357
  let v544 : BitVec 32 := Scalar.addi v0 v541
  let c512_i32_360 : BitVec 32 := 512#32
  let v545 : BitVec 32 := Scalar.muli v544 c512_i32_360
  v545
def k0_mult30 (i : grid0.Coords) (k0_t2 : Fin (k0_t2_loop i).trips) : BitVec 32 :=
  let c2_i32 : BitVec 32 := 2#32
  let arg1 : BitVec 32 := BitVec.ofNat 32 (i 1).val
  let v0 : BitVec 32 := Scalar.muli c2_i32 arg1
  let c3_i32 : BitVec 32 := 3#32
  let c2_i32_330 : BitVec 32 := 2#32
  let c0_i32_146 : BitVec 32 := 0#32
  let c32_i32 : BitVec 32 := 32#32
  let v1 : BitVec 32 := Scalar.subi c32_i32 v0
  let c4_i32 : BitVec 32 := 4#32
  let v210 : BitVec 32 := Scalar.subi v1 c4_i32
  let c0_i32_139 : BitVec 32 := 0#32
  let v212 : BitVec 1 := Scalar.cmpi .sgt v210 c0_i32_139
  let v213 : BitVec 32 := Scalar.extui v212
  let c0_i32_140 : BitVec 32 := 0#32
  let v214 : BitVec 1 := Scalar.cmpi .slt v210 c0_i32_140
  let v215 : BitVec 32 := Scalar.extui v214
  let v216 : BitVec 32 := Scalar.subi v213 v215
  let c2_i32_138 : BitVec 32 := 2#32
  let c0_i32_141 : BitVec 32 := 0#32
  let v217 : BitVec 1 := Scalar.cmpi .sgt c2_i32_138 c0_i32_141
  let v218 : BitVec 32 := Scalar.extui v217
  let c0_i32_142 : BitVec 32 := 0#32
  let v219 : BitVec 1 := Scalar.cmpi .slt c2_i32_138 c0_i32_142
  let v220 : BitVec 32 := Scalar.extui v219
  let v221 : BitVec 32 := Scalar.subi v218 v220
  let v222 : BitVec 1 := Scalar.cmpi .ne v216 v221
  let v223 : BitVec 32 := Scalar.remsi v210 c2_i32_138
  let c0_i32_143 : BitVec 32 := 0#32
  let v224 : BitVec 1 := Scalar.cmpi .ne v223 c0_i32_143
  let v225 : BitVec 1 := Scalar.andi v222 v224
  let v211 : BitVec 32 := Scalar.divsi v210 c2_i32_138
  let c1_i32_144 : BitVec 32 := 1#32
  let v226 : BitVec 32 := Scalar.subi v211 c1_i32_144
  let v227 : BitVec 32 := Scalar.select v225 v226 v211
  let v228 : BitVec 32 := Scalar.subi v227 c0_i32_146
  let c1_i32_147 : BitVec 32 := 1#32
  let v230 : BitVec 32 := Scalar.divsi v228 c1_i32_147
  let v231 : BitVec 32 := Scalar.muli v230 c1_i32_147
  let v232 : BitVec 32 := Scalar.addi c0_i32_146 v231
  let c1_i32_149 : BitVec 32 := 1#32
  let arg21 : BitVec 32 := Scf.iv v232 c1_i32_149 k0_t2
  let v503 : BitVec 32 := Scalar.muli c2_i32_330 arg21
  let v504 : BitVec 32 := Scalar.addi c3_i32 v503
  let c1_i32_357 : BitVec 32 := 1#32
  let v541 : BitVec 32 := Scalar.addi v504 c1_i32_357
  let v556 : BitVec 32 := Scalar.addi v0 v541
  let c512_i32_367 : BitVec 32 := 512#32
  let v557 : BitVec 32 := Scalar.muli v556 c512_i32_367
  v557
def k0_mult31 (i : grid0.Coords) : BitVec 32 :=
  let c2_i32 : BitVec 32 := 2#32
  let arg1 : BitVec 32 := BitVec.ofNat 32 (i 1).val
  let v0 : BitVec 32 := Scalar.muli c2_i32 arg1
  let c32_i32 : BitVec 32 := 32#32
  let v1 : BitVec 32 := Scalar.subi c32_i32 v0
  let c2_i32_150 : BitVec 32 := 2#32
  let v233 : BitVec 32 := Scalar.subi v1 c2_i32_150
  let c1_i32_151 : BitVec 32 := 1#32
  let v234 : BitVec 32 := Scalar.subi v233 c1_i32_151
  let v238 : BitVec 32 := Scalar.addi v0 v234
  let c512_i32_156 : BitVec 32 := 512#32
  let v239 : BitVec 32 := Scalar.muli v238 c512_i32_156
  v239
def k0_off23 (i : grid0.Coords) (c2_i32_150 : BitVec 32) : Fin 2 → Nat :=
  let c2_i32 : BitVec 32 := 2#32
  let arg1 : BitVec 32 := BitVec.ofNat 32 (i 1).val
  let v0 : BitVec 32 := Scalar.muli c2_i32 arg1
  let c32_i32 : BitVec 32 := 32#32
  let v1 : BitVec 32 := Scalar.subi c32_i32 v0
  let v233 : BitVec 32 := Scalar.subi v1 c2_i32_150
  let c1_i32_151 : BitVec 32 := 1#32
  let v234 : BitVec 32 := Scalar.subi v233 c1_i32_151
  let v238 : BitVec 32 := Scalar.addi v0 v234
  let c512_i32_156 : BitVec 32 := 512#32
  let v239 : BitVec 32 := Scalar.muli v238 c512_i32_156
  let v240 : BitVec 32 := v239
  let v241 : Index := Scalar.indexCast v240
  let c0_157 : Index := 0#32
  ![v241.toNat, 0]
def k0_mult32 (i : grid0.Coords) : BitVec 32 :=
  let c2_i32 : BitVec 32 := 2#32
  let arg1 : BitVec 32 := BitVec.ofNat 32 (i 1).val
  let v0 : BitVec 32 := Scalar.muli c2_i32 arg1
  let c32_i32 : BitVec 32 := 32#32
  let v1 : BitVec 32 := Scalar.subi c32_i32 v0
  let c2_i32_150 : BitVec 32 := 2#32
  let v233 : BitVec 32 := Scalar.subi v1 c2_i32_150
  let c1_i32_151 : BitVec 32 := 1#32
  let v234 : BitVec 32 := Scalar.subi v233 c1_i32_151
  let v250 : BitVec 32 := Scalar.addi v0 v234
  let c512_i32_165 : BitVec 32 := 512#32
  let v251 : BitVec 32 := Scalar.muli v250 c512_i32_165
  v251
def k0_off24 (i : grid0.Coords) (c2_i32_150 : BitVec 32) : Fin 2 → Nat :=
  let c2_i32 : BitVec 32 := 2#32
  let arg1 : BitVec 32 := BitVec.ofNat 32 (i 1).val
  let v0 : BitVec 32 := Scalar.muli c2_i32 arg1
  let c32_i32 : BitVec 32 := 32#32
  let v1 : BitVec 32 := Scalar.subi c32_i32 v0
  let v233 : BitVec 32 := Scalar.subi v1 c2_i32_150
  let c1_i32_151 : BitVec 32 := 1#32
  let v234 : BitVec 32 := Scalar.subi v233 c1_i32_151
  let v250 : BitVec 32 := Scalar.addi v0 v234
  let c512_i32_165 : BitVec 32 := 512#32
  let v251 : BitVec 32 := Scalar.muli v250 c512_i32_165
  let v252 : BitVec 32 := v251
  let v253 : Index := Scalar.indexCast v252
  let c0_166 : Index := 0#32
  ![v253.toNat, 0]
def k0_off25 (i : grid0.Coords) (c2_i32_150 : BitVec 32) : Fin 3 → Nat :=
  let c2_i32 : BitVec 32 := 2#32
  let arg1 : BitVec 32 := BitVec.ofNat 32 (i 1).val
  let v0 : BitVec 32 := Scalar.muli c2_i32 arg1
  let c32_i32 : BitVec 32 := 32#32
  let v1 : BitVec 32 := Scalar.subi c32_i32 v0
  let v233 : BitVec 32 := Scalar.subi v1 c2_i32_150
  let c1_i32_151 : BitVec 32 := 1#32
  let v234 : BitVec 32 := Scalar.subi v233 c1_i32_151
  let v259 : BitVec 32 := Scalar.addi v0 v234
  let v260 : Index := Scalar.indexCast v259
  let c0_170 : Index := 0#32
  let c0_171 : Index := 0#32
  ![v260.toNat, 0, 0]
def k0_mult33 (i : grid0.Coords) : BitVec 32 :=
  let c2_i32 : BitVec 32 := 2#32
  let arg1 : BitVec 32 := BitVec.ofNat 32 (i 1).val
  let v0 : BitVec 32 := Scalar.muli c2_i32 arg1
  let c32_i32 : BitVec 32 := 32#32
  let v1 : BitVec 32 := Scalar.subi c32_i32 v0
  let c2_i32_150 : BitVec 32 := 2#32
  let v233 : BitVec 32 := Scalar.subi v1 c2_i32_150
  let c1_i32_177 : BitVec 32 := 1#32
  let v270 : BitVec 32 := Scalar.addi v233 c1_i32_177
  let v273 : BitVec 32 := Scalar.addi v0 v270
  let c512_i32_180 : BitVec 32 := 512#32
  let v274 : BitVec 32 := Scalar.muli v273 c512_i32_180
  v274
def k0_off26 (i : grid0.Coords) : Fin 2 → Nat :=
  let c2_i32 : BitVec 32 := 2#32
  let arg1 : BitVec 32 := BitVec.ofNat 32 (i 1).val
  let v0 : BitVec 32 := Scalar.muli c2_i32 arg1
  let c32_i32 : BitVec 32 := 32#32
  let v1 : BitVec 32 := Scalar.subi c32_i32 v0
  let c2_i32_150 : BitVec 32 := 2#32
  let v233 : BitVec 32 := Scalar.subi v1 c2_i32_150
  let c1_i32_177 : BitVec 32 := 1#32
  let v270 : BitVec 32 := Scalar.addi v233 c1_i32_177
  let v273 : BitVec 32 := Scalar.addi v0 v270
  let c512_i32_180 : BitVec 32 := 512#32
  let v274 : BitVec 32 := Scalar.muli v273 c512_i32_180
  let v275 : BitVec 32 := v274
  let v276 : Index := Scalar.indexCast v275
  let c0_181 : Index := 0#32
  ![v276.toNat, 0]
def k0_mult34 (i : grid0.Coords) : BitVec 32 :=
  let c2_i32 : BitVec 32 := 2#32
  let arg1 : BitVec 32 := BitVec.ofNat 32 (i 1).val
  let v0 : BitVec 32 := Scalar.muli c2_i32 arg1
  let c32_i32 : BitVec 32 := 32#32
  let v1 : BitVec 32 := Scalar.subi c32_i32 v0
  let c2_i32_150 : BitVec 32 := 2#32
  let v233 : BitVec 32 := Scalar.subi v1 c2_i32_150
  let c1_i32_177 : BitVec 32 := 1#32
  let v270 : BitVec 32 := Scalar.addi v233 c1_i32_177
  let v285 : BitVec 32 := Scalar.addi v0 v270
  let c512_i32_187 : BitVec 32 := 512#32
  let v286 : BitVec 32 := Scalar.muli v285 c512_i32_187
  v286
def k0_off27 (i : grid0.Coords) : Fin 2 → Nat :=
  let c2_i32 : BitVec 32 := 2#32
  let arg1 : BitVec 32 := BitVec.ofNat 32 (i 1).val
  let v0 : BitVec 32 := Scalar.muli c2_i32 arg1
  let c32_i32 : BitVec 32 := 32#32
  let v1 : BitVec 32 := Scalar.subi c32_i32 v0
  let c2_i32_150 : BitVec 32 := 2#32
  let v233 : BitVec 32 := Scalar.subi v1 c2_i32_150
  let c1_i32_177 : BitVec 32 := 1#32
  let v270 : BitVec 32 := Scalar.addi v233 c1_i32_177
  let v285 : BitVec 32 := Scalar.addi v0 v270
  let c512_i32_187 : BitVec 32 := 512#32
  let v286 : BitVec 32 := Scalar.muli v285 c512_i32_187
  let v287 : BitVec 32 := v286
  let v288 : Index := Scalar.indexCast v287
  let c0_188 : Index := 0#32
  ![v288.toNat, 0]
def k0_off28 (i : grid0.Coords) (c2_i32_150 : BitVec 32) : Fin 4 → Nat :=
  let c0_194 : Index := 0#32
  let c2_i32 : BitVec 32 := 2#32
  let arg1 : BitVec 32 := BitVec.ofNat 32 (i 1).val
  let v0 : BitVec 32 := Scalar.muli c2_i32 arg1
  let c32_i32 : BitVec 32 := 32#32
  let v1 : BitVec 32 := Scalar.subi c32_i32 v0
  let v233 : BitVec 32 := Scalar.subi v1 c2_i32_150
  let v296 : BitVec 32 := Scalar.addi v0 v233
  let v297 : Index := Scalar.indexCast v296
  let c0_195 : Index := 0#32
  let c0_196 : Index := 0#32
  ![0, v297.toNat, 0, 0]
def k0_mult35 (i : grid0.Coords) : BitVec 32 :=
  let c2_i32 : BitVec 32 := 2#32
  let arg1 : BitVec 32 := BitVec.ofNat 32 (i 1).val
  let v0 : BitVec 32 := Scalar.muli c2_i32 arg1
  let c32_i32 : BitVec 32 := 32#32
  let v1 : BitVec 32 := Scalar.subi c32_i32 v0
  let c1_i32_206 : BitVec 32 := 1#32
  let v319 : BitVec 32 := Scalar.subi v1 c1_i32_206
  let c1_i32_207 : BitVec 32 := 1#32
  let v320 : BitVec 32 := Scalar.subi v319 c1_i32_207
  let v324 : BitVec 32 := Scalar.addi v0 v320
  let c512_i32_212 : BitVec 32 := 512#32
  let v325 : BitVec 32 := Scalar.muli v324 c512_i32_212
  v325
def k0_mult36 (i : grid0.Coords) : BitVec 32 :=
  let c2_i32 : BitVec 32 := 2#32
  let arg1 : BitVec 32 := BitVec.ofNat 32 (i 1).val
  let v0 : BitVec 32 := Scalar.muli c2_i32 arg1
  let c32_i32 : BitVec 32 := 32#32
  let v1 : BitVec 32 := Scalar.subi c32_i32 v0
  let c1_i32_206 : BitVec 32 := 1#32
  let v319 : BitVec 32 := Scalar.subi v1 c1_i32_206
  let c1_i32_207 : BitVec 32 := 1#32
  let v320 : BitVec 32 := Scalar.subi v319 c1_i32_207
  let v336 : BitVec 32 := Scalar.addi v0 v320
  let c512_i32_221 : BitVec 32 := 512#32
  let v337 : BitVec 32 := Scalar.muli v336 c512_i32_221
  v337
def k0_mult37 (i : grid0.Coords) : BitVec 32 :=
  let c2_i32 : BitVec 32 := 2#32
  let arg1 : BitVec 32 := BitVec.ofNat 32 (i 1).val
  let v0 : BitVec 32 := Scalar.muli c2_i32 arg1
  let c32_i32 : BitVec 32 := 32#32
  let v1 : BitVec 32 := Scalar.subi c32_i32 v0
  let c1_i32_247 : BitVec 32 := 1#32
  let v380 : BitVec 32 := Scalar.subi v1 c1_i32_247
  let v384 : BitVec 32 := Scalar.addi v0 v380
  let c512_i32_252 : BitVec 32 := 512#32
  let v385 : BitVec 32 := Scalar.muli v384 c512_i32_252
  v385
def k0_off29 (i : grid0.Coords) : Fin 2 → Nat :=
  let c2_i32 : BitVec 32 := 2#32
  let arg1 : BitVec 32 := BitVec.ofNat 32 (i 1).val
  let v0 : BitVec 32 := Scalar.muli c2_i32 arg1
  let c32_i32 : BitVec 32 := 32#32
  let v1 : BitVec 32 := Scalar.subi c32_i32 v0
  let c1_i32_247 : BitVec 32 := 1#32
  let v380 : BitVec 32 := Scalar.subi v1 c1_i32_247
  let v384 : BitVec 32 := Scalar.addi v0 v380
  let c512_i32_252 : BitVec 32 := 512#32
  let v385 : BitVec 32 := Scalar.muli v384 c512_i32_252
  let v386 : BitVec 32 := v385
  let v387 : Index := Scalar.indexCast v386
  let c0_253 : Index := 0#32
  ![v387.toNat, 0]
def k0_mult38 (i : grid0.Coords) : BitVec 32 :=
  let c2_i32 : BitVec 32 := 2#32
  let arg1 : BitVec 32 := BitVec.ofNat 32 (i 1).val
  let v0 : BitVec 32 := Scalar.muli c2_i32 arg1
  let c32_i32 : BitVec 32 := 32#32
  let v1 : BitVec 32 := Scalar.subi c32_i32 v0
  let c1_i32_247 : BitVec 32 := 1#32
  let v380 : BitVec 32 := Scalar.subi v1 c1_i32_247
  let v396 : BitVec 32 := Scalar.addi v0 v380
  let c512_i32_261 : BitVec 32 := 512#32
  let v397 : BitVec 32 := Scalar.muli v396 c512_i32_261
  v397
def k0_off30 (i : grid0.Coords) : Fin 2 → Nat :=
  let c2_i32 : BitVec 32 := 2#32
  let arg1 : BitVec 32 := BitVec.ofNat 32 (i 1).val
  let v0 : BitVec 32 := Scalar.muli c2_i32 arg1
  let c32_i32 : BitVec 32 := 32#32
  let v1 : BitVec 32 := Scalar.subi c32_i32 v0
  let c1_i32_247 : BitVec 32 := 1#32
  let v380 : BitVec 32 := Scalar.subi v1 c1_i32_247
  let v396 : BitVec 32 := Scalar.addi v0 v380
  let c512_i32_261 : BitVec 32 := 512#32
  let v397 : BitVec 32 := Scalar.muli v396 c512_i32_261
  let v398 : BitVec 32 := v397
  let v399 : Index := Scalar.indexCast v398
  let c0_262 : Index := 0#32
  ![v399.toNat, 0]
def k0_off31 (i : grid0.Coords) : Fin 3 → Nat :=
  let c2_i32 : BitVec 32 := 2#32
  let arg1 : BitVec 32 := BitVec.ofNat 32 (i 1).val
  let v0 : BitVec 32 := Scalar.muli c2_i32 arg1
  let c32_i32 : BitVec 32 := 32#32
  let v1 : BitVec 32 := Scalar.subi c32_i32 v0
  let c1_i32_247 : BitVec 32 := 1#32
  let v380 : BitVec 32 := Scalar.subi v1 c1_i32_247
  let v405 : BitVec 32 := Scalar.addi v0 v380
  let v406 : Index := Scalar.indexCast v405
  let c0_266 : Index := 0#32
  let c0_267 : Index := 0#32
  ![v406.toNat, 0, 0]
def k0_off32 (i : grid0.Coords) : Fin 3 → Nat :=
  let c2_i32 : BitVec 32 := 2#32
  let arg1 : BitVec 32 := BitVec.ofNat 32 (i 1).val
  let v0 : BitVec 32 := Scalar.muli c2_i32 arg1
  let v47 : Index := Scalar.indexCast v0
  let c0_28 : Index := 0#32
  let c0_29 : Index := 0#32
  ![v47.toNat, 0, 0]
def k0_off33 (i : grid0.Coords) : Fin 3 → Nat :=
  let c2_i32 : BitVec 32 := 2#32
  let arg1 : BitVec 32 := BitVec.ofNat 32 (i 1).val
  let v0 : BitVec 32 := Scalar.muli c2_i32 arg1
  let c1_i32 : BitVec 32 := 1#32
  let v53 : BitVec 32 := Scalar.addi v0 c1_i32
  let v54 : Index := Scalar.indexCast v53
  let c0_33 : Index := 0#32
  let c0_34 : Index := 0#32
  ![v54.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel2Ideal.lean ====
variable {F : FTy → Type} [FloatOps F] [Named F]
def κ : String → Option EReal := fun
  | "ln2" => some ((Real.log 2 : ℝ) : EReal)
  | _ => none
-- ==== Reference2Ideal.lean ====
abbrev S16384x16x128 : Shape := ⟨3, ![16384, 16, 128]⟩
abbrev S16384x16x64 : Shape := ⟨3, ![16384, 16, 64]⟩
abbrev S16384x64 : Shape := ⟨2, ![16384, 64]⟩
abbrev S16384x1x64 : Shape := ⟨3, ![16384, 1, 64]⟩
abbrev S16x16384x16384 : Shape := ⟨3, ![16, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S16x16384 : Shape := ⟨2, ![16, 16384]⟩
abbrev S16x16384x1 : Shape := ⟨3, ![16, 16384, 1]⟩
abbrev S16x128x16384 : Shape := ⟨3, ![16, 128, 16384]⟩
abbrev S16x16384x64 : Shape := ⟨3, ![16, 16384, 64]⟩
abbrev S16x16384x128 : Shape := ⟨3, ![16, 16384, 128]⟩
abbrev S16384x16x256 : Shape := ⟨3, ![16384, 16, 256]⟩
abbrev S16384x4096 : Shape := ⟨2, ![16384, 4096]⟩
abbrev S4096x16384 : Shape := ⟨2, ![4096, 16384]⟩
abbrev S16384x2048 : Shape := ⟨2, ![16384, 2048]⟩

abbrev nBuf : Space → Nat
  | .hbm => 110
  | .vmem => 0
  | .smem => 0
  | _ => 0

abbrev bufTy : (tb : Table) → Fin (tcTables nBuf tb) → BufTy
  | .hbm, ⟨0, _⟩ => ⟨S16384x16x128, .f32⟩
  | .hbm, ⟨1, _⟩ => ⟨S16384x16x64, .f32⟩
  | .hbm, ⟨2, _⟩ => ⟨S16384x16x128, .f32⟩
  | .hbm, ⟨3, _⟩ => ⟨S16384x64, .f32⟩
  | .hbm, ⟨4, _⟩ => ⟨S16384x16x128, .f32⟩
  | .hbm, ⟨5, _⟩ => ⟨S16384x16x128, .f32⟩
  | .hbm, ⟨6, _⟩ => ⟨S16384x1x64, .f32⟩
  | .hbm, ⟨7, _⟩ => ⟨S16384x16x64, .f32⟩
  | .hbm, ⟨8, _⟩ => ⟨S16x16384x16384, .f32⟩
  | .hbm, ⟨9, _⟩ => ⟨S16x16384x16384, .f32⟩
  | .hbm, ⟨10, _⟩ => ⟨S16x16384x16384, .f32⟩
  | .hbm, ⟨11, _⟩ => ⟨S_, .f32⟩
  | .hbm, ⟨12, _⟩ => ⟨S16x16384x16384, .f32⟩
  | .hbm, ⟨13, _⟩ => ⟨S16x16384x16384, .f32⟩
  | .hbm, ⟨14, _⟩ => ⟨S16384, .i32⟩
  | .hbm, ⟨15, _⟩ => ⟨S1x16384, .i32⟩
  | .hbm, ⟨16, _⟩ => ⟨S16384x1, .i32⟩
  | .hbm, ⟨17, _⟩ => ⟨S16384x16384, .i32⟩
  | .hbm, ⟨18, _⟩ => ⟨S16384x16384, .i32⟩
  | .hbm, ⟨19, _⟩ => ⟨S16384x16384, .i1⟩
  | .hbm, ⟨20, _⟩ => ⟨S1x16384x16384, .i1⟩
  | .hbm, ⟨21, _⟩ => ⟨S_, .f32⟩
  | .hbm, ⟨22, _⟩ => ⟨S_, .f32⟩
  | .hbm, ⟨23, _⟩ => ⟨S16x16384x16384, .i1⟩
  | .hbm, ⟨24, _⟩ => ⟨S16x16384x16384, .f32⟩
  | .hbm, ⟨25, _⟩ => ⟨S16x16384x16384, .f32⟩
  | .hbm, ⟨26, _⟩ => ⟨S_, .f32⟩
  | .hbm, ⟨27, _⟩ => ⟨S16x16384x16384, .f32⟩
  | .hbm, ⟨28, _⟩ => ⟨S_, .f32⟩
  | .hbm, ⟨29, _⟩ => ⟨S16x16384, .f32⟩
  | .hbm, ⟨30, _⟩ => ⟨S16x16384x1, .f32⟩
  | .hbm, ⟨31, _⟩ => ⟨S16x16384x16384, .f32⟩
  | .hbm, ⟨32, _⟩ => ⟨S16x16384x16384, .i1⟩
  | .hbm, ⟨33, _⟩ => ⟨S16x16384x16384, .f32⟩
  | .hbm, ⟨34, _⟩ => ⟨S_, .f32⟩
  | .hbm, ⟨35, _⟩ => ⟨S16x16384, .f32⟩
  | .hbm, ⟨36, _⟩ => ⟨S_, .f32⟩
  | .hbm, ⟨37, _⟩ => ⟨S16x16384, .f32⟩
  | .hbm, ⟨38, _⟩ => ⟨S16x16384, .f32⟩
  | .hbm, ⟨39, _⟩ => ⟨S_, .f32⟩
  | .hbm, ⟨40, _⟩ => ⟨S16x16384, .f32⟩
  | .hbm, ⟨41, _⟩ => ⟨S16x16384, .i1⟩
  | .hbm, ⟨42, _⟩ => ⟨S_, .f32⟩
  | .hbm, ⟨43, _⟩ => ⟨S16x16384, .f32⟩
  | .hbm, ⟨44, _⟩ => ⟨S16x16384, .i1⟩
  | .hbm, ⟨45, _⟩ => ⟨S_, .f32⟩
  | .hbm, ⟨46, _⟩ => ⟨S16x16384, .f32⟩
  | .hbm, ⟨47, _⟩ => ⟨S_, .f32⟩
  | .hbm, ⟨48, _⟩ => ⟨S16x16384, .f32⟩
  | .hbm, ⟨49, _⟩ => ⟨S_, .f32⟩
  | .hbm, ⟨50, _⟩ => ⟨S16x16384, .f32⟩
  | .hbm, ⟨51, _⟩ => ⟨S16x16384, .f32⟩
  | .hbm, ⟨52, _⟩ => ⟨S16x16384, .f32⟩
  | .hbm, ⟨53, _⟩ => ⟨S16x16384x1, .f32⟩
  | .hbm, ⟨54, _⟩ => ⟨S16x16384x16384, .f32⟩
  | .hbm, ⟨55, _⟩ => ⟨S16x16384x16384, .f32⟩
  | .hbm, ⟨56, _⟩ => ⟨S16x16384x16384, .f32⟩
  | .hbm, ⟨57, _⟩ => ⟨S_, .f32⟩
  | .hbm, ⟨58, _⟩ => ⟨S16x16384, .f32⟩
  | .hbm, ⟨59, _⟩ => ⟨S16x16384x1, .f32⟩
  | .hbm, ⟨60, _⟩ => ⟨S16x16384x16384, .f32⟩
  | .hbm, ⟨61, _⟩ => ⟨S16x16384x16384, .f32⟩
  | .hbm, ⟨62, _⟩ => ⟨S16x16384x1, .f32⟩
  | .hbm, ⟨63, _⟩ => ⟨S_, .f32⟩
  | .hbm, ⟨64, _⟩ => ⟨S16x16384x1, .f32⟩
  | .hbm, ⟨65, _⟩ => ⟨S16x16384x1, .f32⟩
  | .hbm, ⟨66, _⟩ => ⟨S16x128x16384, .f32⟩
  | .hbm, ⟨67, _⟩ => ⟨S16384x16x128, .f32⟩
  | .hbm, ⟨68, _⟩ => ⟨S16x128x16384, .f32⟩
  | .hbm, ⟨69, _⟩ => ⟨S16x16384x16384, .f32⟩
  | .hbm, ⟨70, _⟩ => ⟨S16x128x16384, .f32⟩
  | .hbm, ⟨71, _⟩ => ⟨S16384x16x128, .f32⟩
  | .hbm, ⟨72, _⟩ => ⟨S16x16384x16384, .f32⟩
  | .hbm, ⟨73, _⟩ => ⟨S16x16384x16384, .f32⟩
  | .hbm, ⟨74, _⟩ => ⟨S16x16384x16384, .f32⟩
  | .hbm, ⟨75, _⟩ => ⟨S_, .f32⟩
  | .hbm, ⟨76, _⟩ => ⟨S16x16384, .f32⟩
  | .hbm, ⟨77, _⟩ => ⟨S16x16384x1, .f32⟩
  | .hbm, ⟨78, _⟩ => ⟨S16x16384x1, .f32⟩
  | .hbm, ⟨79, _⟩ => ⟨S16x16384x16384, .f32⟩
  | .hbm, ⟨80, _⟩ => ⟨S16x16384x16384, .f32⟩
  | .hbm, ⟨81, _⟩ => ⟨S_, .f32⟩
  | .hbm, ⟨82, _⟩ => ⟨S16x16384, .f32⟩
  | .hbm, ⟨83, _⟩ => ⟨S16x16384x16384, .f32⟩
  | .hbm, ⟨84, _⟩ => ⟨S16x16384x16384, .f32⟩
  | .hbm, ⟨85, _⟩ => ⟨S16x16384x16384, .f32⟩
  | .hbm, ⟨86, _⟩ => ⟨S_, .f32⟩
  | .hbm, ⟨87, _⟩ => ⟨S16x16384x16384, .f32⟩
  | .hbm, ⟨88, _⟩ => ⟨S16x16384x16384, .f32⟩
  | .hbm, ⟨89, _⟩ => ⟨S_, .f32⟩
  | .hbm, ⟨90, _⟩ => ⟨S16x16384x16384, .f32⟩
  | .hbm, ⟨91, _⟩ => ⟨S16x16384x16384, .f32⟩
  | .hbm, ⟨92, _⟩ => ⟨S16x16384x64, .f32⟩
  | .hbm, ⟨93, _⟩ => ⟨S16384x16x64, .f32⟩
  | .hbm, ⟨94, _⟩ => ⟨S16x16384x64, .f32⟩
  | .hbm, ⟨95, _⟩ => ⟨S16384x16x64, .f32⟩
  | .hbm, ⟨96, _⟩ => ⟨S16x16384x128, .f32⟩
  | .hbm, ⟨97, _⟩ => ⟨S16384x16x128, .f32⟩
  | .hbm, ⟨98, _⟩ => ⟨S16x16384x128, .f32⟩
  | .hbm, ⟨99, _⟩ => ⟨S16384x16x128, .f32⟩
  | .hbm, ⟨100, _⟩ => ⟨S_, .f32⟩
  | .hbm, ⟨101, _⟩ => ⟨S16384x16x64, .f32⟩
  | .hbm, ⟨102, _⟩ => ⟨S16384x16x256, .f32⟩
  | .hbm, ⟨103, _⟩ => ⟨S16384x4096, .f32⟩
  | .hbm, ⟨104, _⟩ => ⟨S4096x16384, .f32⟩
  | .hbm, ⟨105, _⟩ => ⟨S_, .f32⟩
  | .hbm, ⟨106, _⟩ => ⟨S16384x16x64, .f32⟩
  | .hbm, ⟨107, _⟩ => ⟨S16384x16x256, .f32⟩
  | .hbm, ⟨108, _⟩ => ⟨S16384x4096, .f32⟩
  | .hbm, ⟨109, _⟩ => ⟨S16384x2048, .f32⟩
  | _, _ => ⟨S16384x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_call0_v0 : Ref sig .tc := ⟨.hbm, 22, rfl⟩
abbrev main_v14_1 : Ref sig .tc := ⟨.hbm, 23, rfl⟩
abbrev main_call0_v2 : Ref sig .tc := ⟨.hbm, 24, rfl⟩
abbrev main_v14_0 : Ref sig .tc := ⟨.hbm, 25, rfl⟩
abbrev main_call0_cst : Ref sig .tc := ⟨.hbm, 26, rfl⟩
abbrev main_v14_2 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_cst_8 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call1_cst : Ref sig .tc := ⟨.hbm, 86, rfl⟩
abbrev main_call1_v0 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_15 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x256 : Shape := ⟨2, ![1024, 256]⟩
abbrev S16384x256 : Shape := ⟨2, ![16384, 256]⟩
abbrev S1x1024 : Shape := ⟨2, ![1, 1024]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x256, .f32⟩
  | .hbm, ⟨3, _⟩ => ⟨S16384x256, .f32⟩
  | .hbm, ⟨4, _⟩ => ⟨S16384x1024, .f32⟩
  | .hbm, ⟨5, _⟩ => ⟨S1024x256, .bf16⟩
  | .hbm, ⟨6, _⟩ => ⟨S1x1024, .f32⟩
  | .hbm, ⟨7, _⟩ => ⟨S16384x1024, .f32⟩
  | .hbm, ⟨8, _⟩ => ⟨S1x1024, .f32⟩
  | .local _ .vmem, ⟨0, _⟩ => ⟨S512x256, .f32⟩
  | .local _ .vmem, ⟨1, _⟩ => ⟨S512x256, .f32⟩
  | .local _ .vmem, ⟨2, _⟩ => ⟨S1024x256, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S16384x1024 : Shape := ⟨2, ![16384, 1024]⟩
abbrev S1024 : Shape := ⟨1, ![1024]⟩
abbrev S1024x256 : Shape := ⟨2, ![1024, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x256, .f32⟩
  | .hbm, ⟨3, _⟩ => ⟨S16384x256, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x256, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel6.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x16384 : Shape := ⟨2, ![1024, 16384]⟩
abbrev S3x2816x1024 : Shape := ⟨3, ![3, 2816, 1024]⟩
abbrev S512x1408 : Shape := ⟨2, ![512, 1408]⟩
abbrev S1024x512 : Shape := ⟨2, ![1024, 512]⟩
abbrev S3x1408x1024 : Shape := ⟨3, ![3, 1408, 1024]⟩
abbrev S3x1024x1408 : Shape := ⟨3, ![3, 1024, 1408]⟩
abbrev S1x1024x1408 : Shape := ⟨3, ![1, 1024, 1408]⟩
abbrev S1024x1408 : Shape := ⟨2, ![1024, 1408]⟩
abbrev S1408x1024 : Shape := ⟨2, ![1408, 1024]⟩
abbrev S1x1408x1024 : Shape := ⟨3, ![1, 1408, 1024]⟩

abbrev nBuf : Space → Nat
  | .hbm => 35
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x2816, .f32⟩
  | .hbm, ⟨6, _⟩ => ⟨S16384x2816, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x2816, .f32⟩
  | .hbm, ⟨25, _⟩ => ⟨S16384x2816, .f32⟩
  | .hbm, ⟨26, _⟩ => ⟨S16384x2816, .bf16⟩
  | .hbm, ⟨27, _⟩ => ⟨S16384x2816, .bf16⟩
  | .hbm, ⟨28, _⟩ => ⟨S16384x2816, .bf16⟩
  | .hbm, ⟨29, _⟩ => ⟨S16384x2816, .bf16⟩
  | .hbm, ⟨30, _⟩ => ⟨S1024x16384, .f32⟩
  | .hbm, ⟨31, _⟩ => ⟨S1024x16384, .bf16⟩
  | .hbm, ⟨32, _⟩ => ⟨S1024x16384, .f32⟩
  | .hbm, ⟨33, _⟩ => ⟨S1024x16384, .bf16⟩
  | .hbm, ⟨34, _⟩ => ⟨S3x2816x1024, .bf16⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S3x1408x1024, .bf16⟩
  | .local _ .vmem, ⟨13, _⟩ => ⟨S3x1408x1024, .bf16⟩
  | .local _ .vmem, ⟨14, _⟩ => ⟨S3x1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v48 : BitVec 1 := Scalar.cmpi .eq arg1 c31_i32
  let v49 : BitVec 32 := Scalar.extui v48
  let c0_i32_33 : BitVec 32 := 0#32
  let v50 : BitVec 1 := Scalar.cmpi .ne v49 c0_i32_33
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference6Ideal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x2816x1024 : Shape := ⟨3, ![1, 2816, 1024]⟩
abbrev S3x2816x1024 : Shape := ⟨3, ![3, 2816, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x2816, .f32⟩
  | .hbm, ⟨6, _⟩ => ⟨S16384x2816, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x2816, .f32⟩
  | .hbm, ⟨25, _⟩ => ⟨S16384x2816, .f32⟩
  | .hbm, ⟨26, _⟩ => ⟨S2816x1024, .f32⟩
  | .hbm, ⟨27, _⟩ => ⟨S1024x2816, .f32⟩
  | .hbm, ⟨28, _⟩ => ⟨S2816x1024, .f32⟩
  | .hbm, ⟨29, _⟩ => ⟨S1024x2816, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x1024, .f32⟩
  | .hbm, ⟨41, _⟩ => ⟨S1024x2816, .f32⟩
  | .hbm, ⟨42, _⟩ => ⟨S2816x1024, .f32⟩
  | .hbm, ⟨43, _⟩ => ⟨S2816x1024, .f32⟩
  | .hbm, ⟨44, _⟩ => ⟨S2816x1024, .f32⟩
  | .hbm, ⟨45, _⟩ => ⟨S1x2816x1024, .f32⟩
  | .hbm, ⟨46, _⟩ => ⟨S1x2816x1024, .f32⟩
  | .hbm, ⟨47, _⟩ => ⟨S1x2816x1024, .f32⟩
  | .hbm, ⟨48, _⟩ => ⟨S3x2816x1024, .f32⟩
  | .hbm, ⟨49, _⟩ => ⟨S3x2816x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== Kernel7.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S1x2816x1024 : Shape := ⟨3, ![1, 2816, 1024]⟩
abbrev S3x2816x1024 : Shape := ⟨3, ![3, 2816, 1024]⟩
abbrev S1024x16384 : Shape := ⟨2, ![1024, 16384]⟩
abbrev S256x1024 : Shape := ⟨2, ![256, 1024]⟩
abbrev S256x2816 : Shape := ⟨2, ![256, 2816]⟩
abbrev S1024x256 : Shape := ⟨2, ![1024, 256]⟩
abbrev S256 : Shape := ⟨1, ![256]⟩
abbrev S256x1 : Shape := ⟨2, ![256, 1]⟩
abbrev S1x1536x1024 : Shape := ⟨3, ![1, 1536, 1024]⟩
abbrev S1536x1024 : Shape := ⟨2, ![1536, 1024]⟩
abbrev S256x1536 : Shape := ⟨2, ![256, 1536]⟩
abbrev S1x1280x1024 : Shape := ⟨3, ![1, 1280, 1024]⟩
abbrev S1280x1024 : Shape := ⟨2, ![1280, 1024]⟩
abbrev S256x1280 : Shape := ⟨2, ![256, 1280]⟩

abbrev nBuf : Space → Nat
  | .hbm => 40
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S2816x1024, .f32⟩
  | .hbm, ⟨25, _⟩ => ⟨S2816x1024, .f32⟩
  | .hbm, ⟨26, _⟩ => ⟨S1x2816x1024, .f32⟩
  | .hbm, ⟨27, _⟩ => ⟨S1x2816x1024, .f32⟩
  | .hbm, ⟨28, _⟩ => ⟨S1x2816x1024, .f32⟩
  | .hbm, ⟨29, _⟩ => ⟨S3x2816x1024, .f32⟩
  | .hbm, ⟨30, _⟩ => ⟨S3x2816x1024, .bf16⟩
  | .hbm, ⟨31, _⟩ => ⟨S1x1024, .f32⟩
  | .hbm, ⟨32, _⟩ => ⟨S16384x2816, .bf16⟩
  | .hbm, ⟨33, _⟩ => ⟨S16384x2816, .bf16⟩
  | .hbm, ⟨34, _⟩ => ⟨S16384x1024, .f32⟩
  | .hbm, ⟨35, _⟩ => ⟨S16384x2816, .bf16⟩
  | .hbm, ⟨36, _⟩ => ⟨S16384x2816, .bf16⟩
  | .hbm, ⟨37, _⟩ => ⟨S1024x16384, .bf16⟩
  | .hbm, ⟨38, _⟩ => ⟨S1024x16384, .bf16⟩
  | .hbm, ⟨39, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S3x2816x1024, .bf16⟩
  | .local _ .vmem, ⟨10, _⟩ => ⟨S256x1024, .f32⟩
  | .local _ .vmem, ⟨11, _⟩ => ⟨S256x1024, .f32⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev main_v25_3 : Ref sig .tc := ⟨.hbm, 37, rfl⟩
abbrev main_v25_4 : Ref sig .tc := ⟨.hbm, 38, rfl⟩
abbrev main_v25_5 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference7Ideal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S1024x16384 : Shape := ⟨2, ![1024, 16384]⟩

abbrev nBuf : Space → Nat
  | .hbm => 108
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S1024, .f32⟩
  | .hbm, ⟨67, _⟩ => ⟨S16384x1024, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S16384x1024, .f32⟩
  | .hbm, ⟨72, _⟩ => ⟨S16384x1024, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S_, .f32⟩
  | .hbm, ⟨78, _⟩ => ⟨S16384, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x2816, .bf16⟩
  | .hbm, ⟨86, _⟩ => ⟨S16384x2816, .bf16⟩
  | .hbm, ⟨87, _⟩ => ⟨S16384x1024, .f32⟩
  | .hbm, ⟨88, _⟩ => ⟨S_, .f32⟩
  | .hbm, ⟨89, _⟩ => ⟨S16384, .f32⟩
  | .hbm, ⟨90, _⟩ => ⟨S16384x1, .f32⟩
  | .hbm, ⟨91, _⟩ => ⟨S_, .f32⟩
  | .hbm, ⟨92, _⟩ => ⟨S16384x1, .f32⟩
  | .hbm, ⟨93, _⟩ => ⟨S16384x1, .f32⟩
  | .hbm, ⟨94, _⟩ => ⟨S_, .f32⟩
  | .hbm, ⟨95, _⟩ => ⟨S16384x1, .f32⟩
  | .hbm, ⟨96, _⟩ => ⟨S16384x1, .f32⟩
  | .hbm, ⟨97, _⟩ => ⟨S16384x1, .f32⟩
  | .hbm, ⟨98, _⟩ => ⟨S16384x1024, .f32⟩
  | .hbm, ⟨99, _⟩ => ⟨S16384x1024, .f32⟩
  | .hbm, ⟨100, _⟩ => ⟨S1x1024, .f32⟩
  | .hbm, ⟨101, _⟩ => ⟨S16384x1024, .f32⟩
  | .hbm, ⟨102, _⟩ => ⟨S16384x1024, .f32⟩
  | .hbm, ⟨103, _⟩ => ⟨S1024x16384, .f32⟩
  | .hbm, ⟨104, _⟩ => ⟨S1024x16384, .bf16⟩
  | .hbm, ⟨105, _⟩ => ⟨S1024x16384, .f32⟩
  | .hbm, ⟨106, _⟩ => ⟨S1024x16384, .bf16⟩
  | .hbm, ⟨107, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_cst_9 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩

abbrev nD : Nat := 1
abbrev τ : Topo := Topo.v7x

variable {F : FTy → Type} [FloatOps F]
-- ==== Kernel4.lean ====
abbrev S16384x256 : Shape := ⟨2, ![16384, 256]⟩
abbrev S256 : Shape := ⟨1, ![256]⟩
abbrev S256x16x192 : Shape := ⟨3, ![256, 16, 192]⟩
abbrev S16384x16x128 : Shape := ⟨3, ![16384, 16, 128]⟩
abbrev S16384x16x64 : Shape := ⟨3, ![16384, 16, 64]⟩
abbrev S_ : Shape := ⟨0, ![]⟩
abbrev S256x16x64 : Shape := ⟨3, ![256, 16, 64]⟩
abbrev S256x16x128 : Shape := ⟨3, ![256, 16, 128]⟩
abbrev S256x16x256 : Shape := ⟨3, ![256, 16, 256]⟩
abbrev S256x16x32 : Shape := ⟨3, ![256, 16, 32]⟩
abbrev S16384 : Shape := ⟨1, ![16384]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S1x16384x1x32 : Shape := ⟨4, ![1, 16384, 1, 32]⟩
abbrev S1x16384x2x32 : Shape := ⟨4, ![1, 16384, 2, 32]⟩
abbrev S16384x64 : Shape := ⟨2, ![16384, 64]⟩
abbrev S16384x128 : Shape := ⟨2, ![16384, 128]⟩
abbrev S16384x16x256 : Shape := ⟨3, ![16384, 16, 256]⟩
abbrev S16384x4096 : Shape := ⟨2, ![16384, 4096]⟩
abbrev S4096x16384 : Shape := ⟨2, ![4096, 16384]⟩
abbrev S1x256 : Shape := ⟨2, ![1, 256]⟩
abbrev S256x4096 : Shape := ⟨2, ![256, 4096]⟩
abbrev S4096x512 : Shape := ⟨2, ![4096, 512]⟩
abbrev S512x256 : Shape := ⟨2, ![512, 256]⟩
abbrev S512 : Shape := ⟨1, ![512]⟩
abbrev S512x1 : Shape := ⟨2, ![512, 1]⟩
abbrev S512x1024 : Shape := ⟨2, ![512, 1024]⟩
abbrev S1024x512 : Shape := ⟨2, ![1024, 512]⟩
abbrev S256x1024 : Shape := ⟨2, ![256, 1024]⟩

abbrev nBuf : Space → Nat
  | .hbm => 76
  | .vmem => 16
  | .smem => 0
  | _ => 0

abbrev bufTy : (tb : Table) → Fin (tcTables nBuf tb) → BufTy
  | .hbm, ⟨0, _⟩ => ⟨S16384x256, .f32⟩
  | .hbm, ⟨1, _⟩ => ⟨S256, .f32⟩
  | .hbm, ⟨2, _⟩ => ⟨S256x16x192, .f32⟩
  | .hbm, ⟨3, _⟩ => ⟨S16384x16x128, .f32⟩
  | .hbm, ⟨4, _⟩ => ⟨S16384x16x64, .f32⟩
  | .hbm, ⟨5, _⟩ => ⟨S256x16x192, .bf16⟩
  | .hbm, ⟨6, _⟩ => ⟨S_, .bf16⟩
  | .hbm, ⟨7, _⟩ => ⟨S256x16x64, .bf16⟩
  | .hbm, ⟨8, _⟩ => ⟨S_, .bf16⟩
  | .hbm, ⟨9, _⟩ => ⟨S256x16x128, .bf16⟩
  | .hbm, ⟨10, _⟩ => ⟨S256x16x256, .bf16⟩
  | .hbm, ⟨11, _⟩ => ⟨S256x16x32, .bf16⟩
  | .hbm, ⟨12, _⟩ => ⟨S256x16x32, .bf16⟩
  | .hbm, ⟨13, _⟩ => ⟨S256x16x32, .bf16⟩
  | .hbm, ⟨14, _⟩ => ⟨S256x16x256, .bf16⟩
  | .hbm, ⟨15, _⟩ => ⟨S16384, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S16384x1, .f32⟩
  | .hbm, ⟨31, _⟩ => ⟨S1x32, .f32⟩
  | .hbm, ⟨32, _⟩ => ⟨S16384x32, .f32⟩
  | .hbm, ⟨33, _⟩ => ⟨S16384x32, .f32⟩
  | .hbm, ⟨34, _⟩ => ⟨S16384x32, .f32⟩
  | .hbm, ⟨35, _⟩ => ⟨S16384x32, .f32⟩
  | .hbm, ⟨36, _⟩ => ⟨S1x16384x1x32, .f32⟩
  | .hbm, ⟨37, _⟩ => ⟨S1x16384x2x32, .f32⟩
  | .hbm, ⟨38, _⟩ => ⟨S16384x64, .f32⟩
  | .hbm, ⟨39, _⟩ => ⟨S16384x32, .f32⟩
  | .hbm, ⟨40, _⟩ => ⟨S1x16384x1x32, .f32⟩
  | .hbm, ⟨41, _⟩ => ⟨S1x16384x2x32, .f32⟩
  | .hbm, ⟨42, _⟩ => ⟨S16384x64, .f32⟩
  | .hbm, ⟨43, _⟩ => ⟨S_, .f32⟩
  | .hbm, ⟨44, _⟩ => ⟨S16384x64, .f32⟩
  | .hbm, ⟨45, _⟩ => ⟨S_, .f32⟩
  | .hbm, ⟨46, _⟩ => ⟨S16384x128, .f32⟩
  | .hbm, ⟨47, _⟩ => ⟨S16384x256, .f32⟩
  | .hbm, ⟨48, _⟩ => ⟨S_, .f32⟩
  | .hbm, ⟨49, _⟩ => ⟨S16384x128, .f32⟩
  | .hbm, ⟨50, _⟩ => ⟨S16384x256, .f32⟩
  | .hbm, ⟨51, _⟩ => ⟨S_, .f32⟩
  | .hbm, ⟨52, _⟩ => ⟨S16384x128, .f32⟩
  | .hbm, ⟨53, _⟩ => ⟨S16384x256, .f32⟩
  | .hbm, ⟨54, _⟩ => ⟨S_, .f32⟩
  | .hbm, ⟨55, _⟩ => ⟨S16384x16x64, .f32⟩
  | .hbm, ⟨56, _⟩ => ⟨S16384x16x256, .f32⟩
  | .hbm, ⟨57, _⟩ => ⟨S16384x4096, .f32⟩
  | .hbm, ⟨58, _⟩ => ⟨S4096x16384, .f32⟩
  | .hbm, ⟨59, _⟩ => ⟨S1x256, .f32⟩
  | .hbm, ⟨60, _⟩ => ⟨S256x4096, .bf16⟩
  | .hbm, ⟨61, _⟩ => ⟨S256x4096, .bf16⟩
  | .hbm, ⟨62, _⟩ => ⟨S16384x256, .f32⟩
  | .hbm, ⟨63, _⟩ => ⟨S1x256, .f32⟩
  | .hbm, ⟨64, _⟩ => ⟨S256x4096, .f32⟩
  | .hbm, ⟨65, _⟩ => ⟨S256x4096, .f32⟩
  | .hbm, ⟨66, _⟩ => ⟨S256x16x256, .f32⟩
  | .hbm, ⟨67, _⟩ => ⟨S256x16x256, .f32⟩
  | .hbm, ⟨68, _⟩ => ⟨S256x16x32, .f32⟩
  | .hbm, ⟨69, _⟩ => ⟨S256x16x32, .f32⟩
  | .hbm, ⟨70, _⟩ => ⟨S256x16x32, .f32⟩
  | .hbm, ⟨71, _⟩ => ⟨S256x16x32, .f32⟩
  | .hbm, ⟨72, _⟩ => ⟨S256x16x32, .f32⟩
  | .hbm, ⟨73, _⟩ => ⟨S256x16x32, .f32⟩
  | .hbm, ⟨74, _⟩ => ⟨S256x16x128, .f32⟩
  | .hbm, ⟨75, _⟩ => ⟨S256x16x192, .f32⟩
  | .local _ .vmem, ⟨0, _⟩ => ⟨S4096x512, .f32⟩
  | .local _ .vmem, ⟨1, _⟩ => ⟨S4096x512, .f32⟩
  | .local _ .vmem, ⟨2, _⟩ => ⟨S512x256, .f32⟩
  | .local _ .vmem, ⟨3, _⟩ => ⟨S512x256, .f32⟩
  | .local _ .vmem, ⟨4, _⟩ => ⟨S1x256, .f32⟩
  | .local _ .vmem, ⟨5, _⟩ => ⟨S256x4096, .bf16⟩
  | .local _ .vmem, ⟨6, _⟩ => ⟨S256x4096, .bf16⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S1x256, .f32⟩
  | .local _ .vmem, ⟨14, _⟩ => ⟨S256x4096, .f32⟩
  | .local _ .vmem, ⟨15, _⟩ => ⟨S256x4096, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46_0 : Ref sig .tc := ⟨.hbm, 62, rfl⟩
abbrev main_v46_1 : Ref sig .tc := ⟨.hbm, 63, rfl⟩
abbrev main_v46_2 : Ref sig .tc := ⟨.hbm, 64, rfl⟩
abbrev main_v46_3 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference4Ideal.lean ====
abbrev S16384x256 : Shape := ⟨2, ![16384, 256]⟩
abbrev S256 : Shape := ⟨1, ![256]⟩
abbrev S256x16x192 : Shape := ⟨3, ![256, 16, 192]⟩
abbrev S16384x16x128 : Shape := ⟨3, ![16384, 16, 128]⟩
abbrev S16384x16x64 : Shape := ⟨3, ![16384, 16, 64]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S1x256 : Shape := ⟨2, ![1, 256]⟩
abbrev S16384x16x192 : Shape := ⟨3, ![16384, 16, 192]⟩
abbrev S16384x1x32 : Shape := ⟨3, ![16384, 1, 32]⟩
abbrev S16384x16x32 : Shape := ⟨3, ![16384, 16, 32]⟩
abbrev S16x192x256 : Shape := ⟨3, ![16, 192, 256]⟩

abbrev nBuf : Space → Nat
  | .hbm => 117
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256, .f32⟩
  | .hbm, ⟨2, _⟩ => ⟨S256x16x192, .f32⟩
  | .hbm, ⟨3, _⟩ => ⟨S16384x16x128, .f32⟩
  | .hbm, ⟨4, _⟩ => ⟨S16384x16x64, .f32⟩
  | .hbm, ⟨5, _⟩ => ⟨S16384, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S16384x1, .f32⟩
  | .hbm, ⟨21, _⟩ => ⟨S1x32, .f32⟩
  | .hbm, ⟨22, _⟩ => ⟨S16384x32, .f32⟩
  | .hbm, ⟨23, _⟩ => ⟨S16384x32, .f32⟩
  | .hbm, ⟨24, _⟩ => ⟨S16384x32, .f32⟩
  | .hbm, ⟨25, _⟩ => ⟨S16384x32, .f32⟩
  | .hbm, ⟨26, _⟩ => ⟨S16384x32, .f32⟩
  | .hbm, ⟨27, _⟩ => ⟨S16384x256, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x256, .f32⟩
  | .hbm, ⟨43, _⟩ => ⟨S16384x256, .f32⟩
  | .hbm, ⟨44, _⟩ => ⟨S1x256, .f32⟩
  | .hbm, ⟨45, _⟩ => ⟨S16384x256, .f32⟩
  | .hbm, ⟨46, _⟩ => ⟨S16384x256, .f32⟩
  | .hbm, ⟨47, _⟩ => ⟨S16384x16x192, .f32⟩
  | .hbm, ⟨48, _⟩ => ⟨S16384x16x128, .f32⟩
  | .hbm, ⟨49, _⟩ => ⟨S16384x16x64, .f32⟩
  | .hbm, ⟨50, _⟩ => ⟨S16384x1x32, .f32⟩
  | .hbm, ⟨51, _⟩ => ⟨S16384x1x32, .f32⟩
  | .hbm, ⟨52, _⟩ => ⟨S16384x16x32, .f32⟩
  | .hbm, ⟨53, _⟩ => ⟨S16384x16x32, .f32⟩
  | .hbm, ⟨54, _⟩ => ⟨S16384x16x32, .f32⟩
  | .hbm, ⟨55, _⟩ => ⟨S16384x16x32, .f32⟩
  | .hbm, ⟨56, _⟩ => ⟨S16384x16x32, .f32⟩
  | .hbm, ⟨57, _⟩ => ⟨S16384x16x32, .f32⟩
  | .hbm, ⟨58, _⟩ => ⟨S16384x16x32, .f32⟩
  | .hbm, ⟨59, _⟩ => ⟨S16384x16x32, .f32⟩
  | .hbm, ⟨60, _⟩ => ⟨S16384x16x32, .f32⟩
  | .hbm, ⟨61, _⟩ => ⟨S16384x16x32, .f32⟩
  | .hbm, ⟨62, _⟩ => ⟨S16384x16x32, .f32⟩
  | .hbm, ⟨63, _⟩ => ⟨S16384x16x32, .f32⟩
  | .hbm, ⟨64, _⟩ => ⟨S16384x16x64, .f32⟩
  | .hbm, ⟨65, _⟩ => ⟨S16384x16x32, .f32⟩
  | .hbm, ⟨66, _⟩ => ⟨S16384x16x32, .f32⟩
  | .hbm, ⟨67, _⟩ => ⟨S16384x16x32, .f32⟩
  | .hbm, ⟨68, _⟩ => ⟨S16384x16x32, .f32⟩
  | .hbm, ⟨69, _⟩ => ⟨S16384x16x32, .f32⟩
  | .hbm, ⟨70, _⟩ => ⟨S16384x16x32, .f32⟩
  | .hbm, ⟨71, _⟩ => ⟨S16384x16x32, .f32⟩
  | .hbm, ⟨72, _⟩ => ⟨S16384x16x32, .f32⟩
  | .hbm, ⟨73, _⟩ => ⟨S16384x16x32, .f32⟩
  | .hbm, ⟨74, _⟩ => ⟨S16384x16x32, .f32⟩
  | .hbm, ⟨75, _⟩ => ⟨S16384x16x32, .f32⟩
  | .hbm, ⟨76, _⟩ => ⟨S16384x16x32, .f32⟩
  | .hbm, ⟨77, _⟩ => ⟨S16384x16x32, .f32⟩
  | .hbm, ⟨78, _⟩ => ⟨S_, .f32⟩
  | .hbm, ⟨79, _⟩ => ⟨S16384x16x64, .f32⟩
  | .hbm, ⟨80, _⟩ => ⟨S_, .f32⟩
  | .hbm, ⟨81, _⟩ => ⟨S16384x16x64, .f32⟩
  | .hbm, ⟨82, _⟩ => ⟨S16384x16x64, .f32⟩
  | .hbm, ⟨83, _⟩ => ⟨S_, .f32⟩
  | .hbm, ⟨84, _⟩ => ⟨S16384x16x192, .f32⟩
  | .hbm, ⟨85, _⟩ => ⟨S_, .f32⟩
  | .hbm, ⟨86, _⟩ => ⟨S16384x16x192, .f32⟩
  | .hbm, ⟨87, _⟩ => ⟨S16384x16x192, .f32⟩
  | .hbm, ⟨88, _⟩ => ⟨S16x192x256, .f32⟩
  | .hbm, ⟨89, _⟩ => ⟨S256x16x192, .f32⟩
  | .hbm, ⟨90, _⟩ => ⟨S16384x256, .f32⟩
  | .hbm, ⟨91, _⟩ => ⟨S16384x256, .f32⟩
  | .hbm, ⟨92, _⟩ => ⟨S_, .f32⟩
  | .hbm, ⟨93, _⟩ => ⟨S256, .f32⟩
  | .hbm, ⟨94, _⟩ => ⟨S1x256, .f32⟩
  | .hbm, ⟨95, _⟩ => ⟨S16384x256, .f32⟩
  | .hbm, ⟨96, _⟩ => ⟨S16384x256, .f32⟩
  | .hbm, ⟨97, _⟩ => ⟨S_, .f32⟩
  | .hbm, ⟨98, _⟩ => ⟨S256, .f32⟩
  | .hbm, ⟨99, _⟩ => ⟨S16384x256, .f32⟩
  | .hbm, ⟨100, _⟩ => ⟨S_, .f32⟩
  | .hbm, ⟨101, _⟩ => ⟨S16384, .f32⟩
  | .hbm, ⟨102, _⟩ => ⟨S16384x1, .f32⟩
  | .hbm, ⟨103, _⟩ => ⟨S16384x256, .f32⟩
  | .hbm, ⟨104, _⟩ => ⟨S16384x256, .f32⟩
  | .hbm, ⟨105, _⟩ => ⟨S16384x1, .f32⟩
  | .hbm, ⟨106, _⟩ => ⟨S_, .f32⟩
  | .hbm, ⟨107, _⟩ => ⟨S16384x1, .f32⟩
  | .hbm, ⟨108, _⟩ => ⟨S16384x1, .f32⟩
  | .hbm, ⟨109, _⟩ => ⟨S_, .f32⟩
  | .hbm, ⟨110, _⟩ => ⟨S16384, .f32⟩
  | .hbm, ⟨111, _⟩ => ⟨S16384x256, .f32⟩
  | .hbm, ⟨112, _⟩ => ⟨S16384x256, .f32⟩
  | .hbm, ⟨113, _⟩ => ⟨S16384x256, .f32⟩
  | .hbm, ⟨114, _⟩ => ⟨S16384x256, .f32⟩
  | .hbm, ⟨115, _⟩ => ⟨S16384x256, .f32⟩
  | .hbm, ⟨116, _⟩ => ⟨S1x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_7 : Ref sig .tc := ⟨.hbm, 78, rfl⟩
abbrev main_v65 : Ref sig .tc := ⟨.hbm, 79, rfl⟩
abbrev main_cst_8 : Ref sig .tc := ⟨.hbm, 80, rfl⟩
abbrev main_v66 : Ref sig .tc := ⟨.hbm, 81, rfl⟩
abbrev main_v67 : Ref sig .tc := ⟨.hbm, 82, rfl⟩
abbrev main_cst_9 : Ref sig .tc := ⟨.hbm, 83, rfl⟩
abbrev main_v68 : Ref sig .tc := ⟨.hbm, 84, rfl⟩
abbrev main_cst_10 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_11 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_12 : Ref sig .tc := ⟨.hbm, 97, rfl⟩
abbrev main_v79 : Ref sig .tc := ⟨.hbm, 98, rfl⟩
abbrev main_v80 : Ref sig .tc := ⟨.hbm, 99, rfl⟩
abbrev main_cst_13 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_14 : Ref sig .tc := ⟨.hbm, 106, rfl⟩
abbrev main_v86 : Ref sig .tc := ⟨.hbm, 107, rfl⟩
abbrev main_v87 : Ref sig .tc := ⟨.hbm, 108, rfl⟩
abbrev main_cst_15 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩

abbrev nD : Nat := 1
abbrev τ : Topo := Topo.v7x

variable {F : FTy → Type} [FloatOps F]
-- ==== Proof.Rms.lean ====
/- The root-mean-square norm over the extended reals: the reciprocal root a row is scaled by, and the one
   identity its two gradients agree by. The first spelling takes the mean of (gradient · normalised row) off the
   gradient and scales by the reciprocal root; the second is the chain rule through the root, with the row's
   square entering twice. No finiteness is asked: where a row holds an infinity its reciprocal root is zero and
   both are zero. -/
module

public import Idealize.ShloMosaic.PureOps.Ideal
public import Idealize.ShloMosaic.PureOps.Ideal.Laws

@[expose] public section

noncomputable section

namespace Cert.Rms

open Idealize.ShloMosaic

theorem lit_1024 : Ideal.ofBits .f32 0x44800000#32 = ((1024 : ℝ) : EReal) := by
  simp [Ideal.ofBits, Ideal.ieee, -EReal.coe_mul, -EReal.coe_neg]; norm_num
theorem lit_256 : Ideal.ofBits .f32 0x43800000#32 = ((256 : ℝ) : EReal) := by
  simp [Ideal.ofBits, Ideal.ieee, -EReal.coe_mul, -EReal.coe_neg]; norm_num
theorem lit_128 : Ideal.ofBits .f32 0x43000000#32 = ((128 : ℝ) : EReal) := by
  simp [Ideal.ofBits, Ideal.ieee, -EReal.coe_mul, -EReal.coe_neg]; norm_num
theorem lit_two : Ideal.ofBits .f32 0x40000000#32 = ((2 : ℝ) : EReal) := by
  simp [Ideal.ofBits, Ideal.ieee, -EReal.coe_mul, -EReal.coe_neg]; norm_num
theorem lit_half : Ideal.ofBits .f32 0x3F000000#32 = ((1 / 2 : ℝ) : EReal) := by
  simp [Ideal.ofBits, Ideal.ieee, -EReal.coe_mul, -EReal.coe_neg]; norm_num
theorem lit_neg_half : Ideal.ofBits .f32 0xBF000000#32 = ((-(1 / 2) : ℝ) : EReal) := by
  simp [Ideal.ofBits, Ideal.ieee, -EReal.coe_mul, -EReal.coe_neg]; norm_num
theorem lit_inv1024 : Ideal.ofBits .f32 0x3A800000#32 = ((1 / 1024 : ℝ) : EReal) := by
  simp [Ideal.ofBits, Ideal.ieee, -EReal.coe_mul, -EReal.coe_neg]; norm_num
/-- The norm's small addend is a positive real. -/
def eps : ℝ := 8796093 * 2 ^ (-43 : ℤ)
theorem eps_pos : 0 < eps := by unfold eps; positivity
theorem lit_eps : Ideal.ofBits .f32 0x358637BD#32 = (eps : EReal) := by
  simp [eps, Ideal.ofBits, Ideal.ieee, -EReal.coe_mul]

theorem coe_mul_add {a : ℝ} (ha : 0 ≤ a) (y z : EReal) : (a : EReal) * (y + z) = a * y + a * z :=
  EReal.left_distrib_of_nonneg_of_ne_top (EReal.coe_nonneg.2 ha) (EReal.coe_ne_top a) y z

/-- A finite sum of reals is the sum in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A real factor, not negative, goes through a finite sum. -/
theorem coe_mul_sum {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih => rw [Finset.sum_insert hi, Finset.sum_insert hi, coe_mul_add ha, ih]

/-- Twice the same multiple. -/
theorem mul_twice (a : ℝ) (T : EReal) : (a : EReal) * T + (a : EReal) * T = ((2 * a : ℝ) : EReal) * T := by
  induction T with
  | coe t => rw [← EReal.coe_mul, ← EReal.coe_add, ← EReal.coe_mul]; congr 1; ring
  | top =>
    rcases lt_trichotomy a 0 with h | h | h
    · rw [EReal.coe_mul_top_of_neg h, EReal.coe_mul_top_of_neg (by linarith)]; rfl
    · subst h; simp
    · rw [EReal.coe_mul_top_of_pos h, EReal.coe_mul_top_of_pos (by linarith)]; rfl
  | bot =>
    rcases lt_trichotomy a 0 with h | h | h
    · rw [EReal.coe_mul_bot_of_neg h, EReal.coe_mul_bot_of_neg (by linarith)]; rfl
    · subst h; simp
    · rw [EReal.coe_mul_bot_of_pos h, EReal.coe_mul_bot_of_pos (by linarith)]; rfl

theorem mul_self_nonneg' (x : EReal) : 0 ≤ x * x := by
  rcases le_total 0 x with h | h
  · exact mul_nonneg h h
  · rw [← neg_mul_neg]; exact mul_nonneg (EReal.neg_nonneg.2 h) (EReal.neg_nonneg.2 h)

/-- The mean square of a row plus the addend. -/
def var {n : ℕ} (N e : ℝ) (x : Fin n → EReal) : EReal := Ideal.div (∑ k, x k * x k) (N : EReal) + (e : EReal)

/-- Either the row holds an infinity, and the mean square is infinite, or it is real, and so is the mean square. -/
theorem var_cases {n : ℕ} {N e : ℝ} (hN : 0 < N) (he : 0 < e) (x : Fin n → EReal) :
    var N e x = ⊤ ∨ ∃ (y : Fin n → ℝ) (v : ℝ), (∀ k, x k = (y k : EReal)) ∧ 0 < v ∧ var N e x = (v : EReal) := by
  by_cases h : ∃ k, x k = ⊤ ∨ x k = ⊥
  · left
    obtain ⟨k, hk⟩ := h
    have h1 : x k * x k = ⊤ := by rcases hk with h | h <;> rw [h] <;> rfl
    have h2 : ∑ k, x k * x k = ⊤ := by
      refine top_le_iff.1 (h1 ▸ ?_)
      exact Finset.single_le_sum (f := fun k => x k * x k) (fun i _ => mul_self_nonneg' (x i)) (Finset.mem_univ k)
    rw [var, h2, Ideal.div_coe hN.ne', EReal.top_mul_coe_of_pos (by positivity)]
    rfl
  · right
    push Not at h
    have hy : ∀ k, x k = ((x k).toReal : EReal) := fun k => (EReal.coe_toReal (h k).1 (h k).2).symm
    refine ⟨fun k => (x k).toReal, (∑ k, (x k).toReal * (x k).toReal) * (1 / N) + e, hy, ?_, ?_⟩
    · have : 0 ≤ ∑ k, (x k).toReal * (x k).toReal := Finset.sum_nonneg fun k _ => mul_self_nonneg _
      positivity
    · rw [var, Ideal.div_coe hN.ne', EReal.coe_add, EReal.coe_mul]
      congr 2
      rw [coe_sum]
      refine Finset.sum_congr rfl fun k _ => ?_
      rw [EReal.coe_mul, ← hy k]

/-- The reciprocal root of a positive real is a positive real, and over the real it is its cube. -/
theorem rsqrt_pos {v : ℝ} (hv : 0 < v) : ∃ r : ℝ, 0 < r ∧ Ideal.rsqrt (v : EReal) = (r : EReal)
    ∧ Ideal.div (r : EReal) (v : EReal) = ((r * r * r : ℝ) : EReal) := by
  refine ⟨(Real.sqrt v)⁻¹, by positivity, ?_, ?_⟩
  · rw [Ideal.rsqrt_coe, if_neg (not_lt.2 hv.le), if_neg hv.ne']
  · rw [Ideal.div_coe hv.ne', ← EReal.coe_mul]
    congr 1
    have h : Real.sqrt v * Real.sqrt v = v := Real.mul_self_sqrt hv.le
    have h0 : Real.sqrt v ≠ 0 := (Real.sqrt_pos.2 hv).ne'
    rw [div_eq_mul_inv, one_mul] ; nth_rewrite 2 [← h]; rw [mul_inv, mul_assoc]

/-- The two spellings of the norm's gradient by its row agree. -/
theorem grad {n : ℕ} {N e : ℝ} (hN : 0 < N) (he : 0 < e) (x d : Fin n → EReal) (j : Fin n) :
    Ideal.rsqrt (var N e x) * (d j - x j * Ideal.rsqrt (var N e x)
        * Ideal.div (∑ k, d k * (x k * Ideal.rsqrt (var N e x))) (N : EReal))
      = d j * Ideal.rsqrt (var N e x)
        + x j * Ideal.div ((∑ k, x k * d k) * (((-(1 / 2) : ℝ) : EReal) * Ideal.div (Ideal.rsqrt (var N e x)) (var N e x))) (N : EReal)
        + Ideal.div ((∑ k, x k * d k) * (((-(1 / 2) : ℝ) : EReal) * Ideal.div (Ideal.rsqrt (var N e x)) (var N e x))) (N : EReal) * x j := by
  rcases var_cases hN he x with h | ⟨y, v, hx, hv, h⟩
  · have h0 : Ideal.div (0 : EReal) ⊤ = 0 := by rw [Ideal.div, if_neg (by simp)]; simp
    have h1 : Ideal.div (0 : EReal) (N : EReal) = 0 := by rw [Ideal.div_coe hN.ne', zero_mul]
    rw [h, Ideal.rsqrt_top, h0]
    simp only [mul_zero, zero_mul, h1, add_zero]
  · obtain ⟨r, hr, h1, h2⟩ := rsqrt_pos hv
    rw [h, h1, h2, Ideal.div_coe hN.ne', Ideal.div_coe hN.ne', hx j]
    set T : EReal := ∑ k, x k * d k with hT
    have hS : ∑ k, d k * (x k * (r : EReal)) = (r : EReal) * T := by
      rw [hT, coe_mul_sum _ _ hr.le]
      exact Finset.sum_congr rfl fun k _ => by rw [mul_comm (d k), mul_comm (x k) (r : EReal), mul_assoc]
    have hc : ∀ a : ℝ, (a : EReal) * (T * (((-(1 / 2) : ℝ) : EReal) * ((r * r * r : ℝ) : EReal)) * ((1 / N : ℝ) : EReal))
        = ((a * (-(1 / 2) * (r * r * r) * (1 / N)) : ℝ) : EReal) * T := by
      intro a; push_cast; ac_rfl
    rw [hS, sub_eq_add_neg, coe_mul_add hr.le, mul_comm _ (y j : EReal), hc, add_assoc, mul_twice,
      mul_comm (r : EReal) (d j), mul_neg]
    congr 1
    rw [show (r : EReal) * (y j * r * ((r : EReal) * T * ((1 / N : ℝ) : EReal))) = ((r * y j * r * r * (1 / N) : ℝ) : EReal) * T by
      push_cast; ac_rfl, ← EReal.neg_mul, ← EReal.coe_neg]
    congr 2
    ring

/-- A normalised row before its weight: the row times its reciprocal root. -/
def unit {n : ℕ} (N : ℝ) (x : Fin n → EReal) (k : Fin n) : EReal := x k * Ideal.rsqrt (var N eps x)

/-- The gradient by the row of a norm whose unweighted output has gradient `d`, the kernels' spelling. -/
def back {n : ℕ} (N : ℝ) (x d : Fin n → EReal) (j : Fin n) : EReal :=
  Ideal.rsqrt (var N eps x) * (d j - unit N x j * Ideal.div (∑ k, d k * unit N x k) (N : EReal))

/-- The factor through the root in the chain rule's spelling. -/
def chain {n : ℕ} (N : ℝ) (x d : Fin n → EReal) : EReal :=
  Ideal.div ((∑ k, x k * d k) * (((-(1 / 2) : ℝ) : EReal) * Ideal.div (Ideal.rsqrt (var N eps x)) (var N eps x))) (N : EReal)

theorem back_eq {n : ℕ} {N : ℝ} (hN : 0 < N) (x d : Fin n → EReal) (j : Fin n) :
    back N x d j = d j * Ideal.rsqrt (var N eps x) + x j * chain N x d + chain N x d * x j :=
  grad hN eps_pos x d j

end Cert.Rms

end
-- ==== Proof.LossRows.lean ====
/- The loss head, one row at a time: what the kernel's body computes on a block of rows and what the reference
   computes on the array are the same functions of a row. -/
module

public import proofs.«01_k».proof.Proof.Rms
public import proofs.«01_k».proof.Proof.Gen.KernelIdeal.Skeleton
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem

namespace Cert.LossHead

open Cert.Rms

/-- The error of a row: its norm, weighted, less the target. -/
def err (x g t : Fin 1024 → EReal) (k : Fin 1024) : EReal := unit 1024 x k * g k - t k

/-- The gradient of the loss by the norm's output. -/
def du (x g t : Fin 1024 → EReal) (k : Fin 1024) : EReal := err x g t k * ((1 / 1024 : ℝ) : EReal)

/-- A row's mean square error. -/
def mse (x g t : Fin 1024 → EReal) : EReal := Ideal.div (∑ k, err x g t k * err x g t k) ((1024 : ℝ) : EReal)

section
open Cert.KernelIdeal Cert.KernelIdeal.Gen

theorem pay_dh (x : FVec Ideal S512x1024 .f32) (g : FVec Ideal S1x1024 .f32) (t : FVec Ideal S512x1024 .f32) (r : Fin 512) (j : Fin 1024) :
    k0_pay3 (F := Ideal) x (k0_pay9 (F := Ideal) x g t) g (ix2 r j)
      = back 1024 (fun k => x (ix2 r k)) (fun k => du (fun k => x (ix2 r k)) (fun k => g (ix2 0 k)) (fun k => t (ix2 r k)) k * g (ix2 0 k)) j := by
  pointwise [k0_pay3, k0_pay2, k0_pay1, k0_pay9, k0_pay7, lit_1024, lit_eps, lit_inv1024]
  rfl

theorem pay_loss (x : FVec Ideal S512x1024 .f32) (g : FVec Ideal S1x1024 .f32) (t : FVec Ideal S512x1024 .f32) (o : FVec Ideal S1x128 .f32) (j : Fin 128) :
    k0_pay8 (F := Ideal) x g t o (ix2 0 j) = o (ix2 0 j) + ∑ r : Fin 512, ((1 / 2 : ℝ) : EReal)
      * mse (fun k => x (ix2 r k)) (fun k => g (ix2 0 k)) (fun k => t (ix2 r k)) := by
  rw [← coe_mul_sum _ _ (by norm_num)]
  pointwise [k0_pay8, k0_pay7, lit_1024, lit_eps, lit_half]
  rfl

theorem pay_dg (x : FVec Ideal S512x1024 .f32) (g : FVec Ideal S1x1024 .f32) (t : FVec Ideal S512x1024 .f32) (o : FVec Ideal S1x1024 .f32) (j : Fin 1024) :
    k0_pay4 (F := Ideal) x (k0_pay9 (F := Ideal) x g t) o (ix2 0 j) = o (ix2 0 j) + ∑ r : Fin 512,
      du (fun k => x (ix2 r k)) (fun k => g (ix2 0 k)) (fun k => t (ix2 r k)) j * unit 1024 (fun k => x (ix2 r k)) j := by
  pointwise [k0_pay4, k0_pay2, k0_pay1, k0_pay9, k0_pay7, lit_1024, lit_eps, lit_inv1024]
  rfl

theorem pay_zero_loss (j : Fin 128) : k0_pay5 (F := Ideal) (ix2 0 j) = 0 := by pointwise [k0_pay5]
theorem pay_zero_dg (j : Fin 1024) : k0_pay6 (F := Ideal) (ix2 0 j) = 0 := by pointwise [k0_pay6]

end

section
open Cert.ReferenceIdeal Cert.ReferenceIdeal.Gen Cert.ReferenceIdeal.Read

/-- The reference's factors one half, two and 1 / 1024 are the one factor 1 / 1024. -/
theorem factor (a : EReal) : Ideal.div ((1 / 2 : ℝ) : EReal) ((1024 : ℝ) : EReal) * (((2 : ℝ) : EReal) * a) = a * ((1 / 1024 : ℝ) : EReal) := by
  rw [Ideal.div_coe (by norm_num), ← mul_assoc, ← EReal.coe_mul, ← EReal.coe_mul, mul_comm]
  norm_num

theorem ref_dh (x : FVec Ideal S16384x1024 .f32) (g : FVec Ideal S1024 .f32) (t : FVec Ideal S1x16384x1024 .f32) (r : Fin 16384) (j : Fin 1024) :
    val_main_v51 (F := Ideal) x g t (ix2 r j)
      = back 1024 (fun k => x (ix2 r k)) (fun k => du (fun k => x (ix2 r k)) (fun k => g (ix1 k)) (fun k => t (ix3 0 r k)) k * g (ix1 k)) j := by
  rw [back_eq (by norm_num)]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_cst_4, val_main_v21, val_main_cst_5, val_main_v22, val_main_v23, val_main_cst_6, val_main_v24, val_main_cst_7, val_main_v25, val_main_cst_8, val_main_cst_9, val_main_v26, val_main_v27, val_main_cst_10, val_main_v28, val_main_v29, val_main_v30, val_main_v31, val_main_v32, val_main_cst_11, val_main_v33, val_main_v34, val_main_v35, val_main_v36, val_main_cst_12, val_main_v37, val_main_v38, val_main_cst_13, val_main_v39, val_main_v40, val_main_v41, val_main_v42, val_main_v43, val_main_cst_14, val_main_v44, val_main_v45, val_main_cst_15, val_main_v46, val_main_v47, val_main_v48, val_main_v49, val_main_v50, val_main_v51, val_main_v52, val_main_v53, lit_1024, lit_eps, lit_inv1024, lit_half, lit_two, lit_neg_half, factor]
  simp only [Finset.univ_unique, Finset.sum_singleton]
  rfl

theorem ref_loss (x : FVec Ideal S16384x1024 .f32) (g : FVec Ideal S1024 .f32) (t : FVec Ideal S1x16384x1024 .f32) (j : Fin 128) :
    val_main_v52 (F := Ideal) x g t (ix2 0 j)
      = ∑ r : Fin 16384, ((1 / 2 : ℝ) : EReal) * mse (fun k => x (ix2 r k)) (fun k => g (ix1 k)) (fun k => t (ix3 0 r k)) := by
  rw [← coe_mul_sum _ _ (by norm_num)]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_cst_4, val_main_v21, val_main_cst_5, val_main_v22, val_main_v23, val_main_cst_6, val_main_v24, val_main_cst_7, val_main_v25, val_main_cst_8, val_main_cst_9, val_main_v26, val_main_v27, val_main_cst_10, val_main_v28, val_main_v29, val_main_v30, val_main_v31, val_main_v32, val_main_cst_11, val_main_v33, val_main_v34, val_main_v35, val_main_v36, val_main_cst_12, val_main_v37, val_main_v38, val_main_cst_13, val_main_v39, val_main_v40, val_main_v41, val_main_v42, val_main_v43, val_main_cst_14, val_main_v44, val_main_v45, val_main_cst_15, val_main_v46, val_main_v47, val_main_v48, val_main_v49, val_main_v50, val_main_v51, val_main_v52, val_main_v53, lit_1024, lit_eps, lit_inv1024, lit_half, lit_two, lit_neg_half]
  rfl

theorem ref_dg (x : FVec Ideal S16384x1024 .f32) (g : FVec Ideal S1024 .f32) (t : FVec Ideal S1x16384x1024 .f32) (j : Fin 1024) :
    val_main_v53 (F := Ideal) x g t (ix2 0 j)
      = ∑ r : Fin 16384, du (fun k => x (ix2 r k)) (fun k => g (ix1 k)) (fun k => t (ix3 0 r k)) j * unit 1024 (fun k => x (ix2 r k)) j := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_cst_4, val_main_v21, val_main_cst_5, val_main_v22, val_main_v23, val_main_cst_6, val_main_v24, val_main_cst_7, val_main_v25, val_main_cst_8, val_main_cst_9, val_main_v26, val_main_v27, val_main_cst_10, val_main_v28, val_main_v29, val_main_v30, val_main_v31, val_main_v32, val_main_cst_11, val_main_v33, val_main_v34, val_main_v35, val_main_v36, val_main_cst_12, val_main_v37, val_main_v38, val_main_cst_13, val_main_v39, val_main_v40, val_main_v41, val_main_v42, val_main_v43, val_main_cst_14, val_main_v44, val_main_v45, val_main_cst_15, val_main_v46, val_main_v47, val_main_v48, val_main_v49, val_main_v50, val_main_v51, val_main_v52, val_main_v53, lit_1024, lit_eps, lit_inv1024, lit_half, lit_two, lit_neg_half, factor]
  simp only [Finset.univ_unique, Finset.sum_singleton]
  exact Finset.sum_congr rfl fun r _ => mul_comm _ _

end

end Cert.LossHead

end
-- ==== Proof.LossValue.lean ====
/- The loss head's three result arrays: the row gradient block by block, and the loss and the weight's gradient as
   sums over all rows, gathered point by point of the grid. -/
module

public import proofs.«01_k».proof.Proof.LossRows
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.LossHead

open Cert.KernelIdeal Cert.KernelIdeal.Gen Cert.LossHead Cert.Rms

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![0, 0] :=
  (by decide +kernel : ∀ t : Fin grid0.N, _)

/-- The row of the array that row `r` of point `t`'s block is. -/
def row (t : Fin cfg0.N) (r : Fin 512) : Fin 16384 := ⟨t.val * 512 + r.val, by have := t.isLt; have : cfg0.N = 32 := N_0; omega⟩

abbrev argH (c : Dev nD) : FVec Ideal S16384x1024 .f32 := m ((c : Thread nD τ).loc main_arg0)
abbrev argG (c : Dev nD) : FVec Ideal S1024 .f32 := m ((c : Thread nD τ).loc main_arg1)
abbrev argT (c : Dev nD) : FVec Ideal S1x16384x1024 .f32 := m ((c : Thread nD τ).loc main_arg2)

theorem blkH (c : Dev nD) (t : Fin cfg0.N) (r : Fin 512) (k : Fin 1024) :
    (iblk m c 0 t : FVec Ideal S512x1024 .f32) (ix2 r k) = argH m c (ix2 (row t r) k) := by
  blk_ext [iblk, V, idx t, row]

theorem blkG (c : Dev nD) (t : Fin cfg0.N) (k : Fin 1024) :
    (iblk m c 1 t : FVec Ideal S1x1024 .f32) (ix2 0 k) = argG m c (ix1 k) := by
  blk_simp [iblk, idx t]
  entry_read
  pointwise
  blk_ext [idx t]

theorem blkT (c : Dev nD) (t : Fin cfg0.N) (r : Fin 512) (k : Fin 1024) :
    (iblk m c 2 t : FVec Ideal S512x1024 .f32) (ix2 r k) = argT m c (ix3 0 (row t r) k) := by
  blk_simp [iblk, idx t]
  entry_read
  pointwise
  blk_ext [idx t, row]

/-- A block's row and its column: the three input blocks of point `t` at row `r` are the arrays at row `row t r`. -/
theorem rows (c : Dev nD) (t : Fin cfg0.N) (r : Fin 512) :
    (fun k => (iblk m c 0 t : FVec Ideal S512x1024 .f32) (ix2 r k)) = (fun k => argH m c (ix2 (row t r) k))
      ∧ (fun k => (iblk m c 1 t : FVec Ideal S1x1024 .f32) (ix2 0 k)) = (fun k => argG m c (ix1 k))
      ∧ (fun k => (iblk m c 2 t : FVec Ideal S512x1024 .f32) (ix2 r k)) = (fun k => argT m c (ix3 0 (row t r) k)) :=
  ⟨funext fun k => blkH m c t r k, funext fun k => blkG m c t k, funext fun k => blkT m c t r k⟩

/-- The rows summed over are those of the points before the last, block by block. -/
theorem row_eq (t : Fin cfg0.N) (h : t.val % 32 = 32 - 1) (s : Fin 32) (r : Fin 512) (hp) (hl) :
    row ⟨32 * (t.val / 32) + s.val, hp⟩ r = ⟨s.val * 512 + r.val, hl⟩ := by
  have := t.isLt; have h32 : cfg0.N = 32 := N_0
  apply Fin.ext; simp only [row]; omega

/-- The row gradient is the reference's, block of rows by block of rows. -/
theorem final_dh (c : Dev nD) : (dats m 0 c).arrAt 3 cfg0.N = Cert.ReferenceIdeal.Read.val_main_v51 (F := Ideal) (argH m c) (argG m c) (argT m c) := by
  refine (dats m 0 c).arrAt_eq_of_covers 3 _ (by decide +kernel) fun t hf y => ?_
  blk_simp [idx t]
  rw [after0_3]
  idx_vars y
  have he : ((View.whole main_v2_0).slice (win0_3.rect t)).emb (ix2 y0 y1) = ix2 (row t y0) y1 := by blk_ext [idx t, row]
  have hv : (outsAt0 m c t.val t.isLt).1 = k0_pay3 (F := Ideal) (iblk m c 0 t) (k0_pay9 (F := Ideal) (iblk m c 0 t) (iblk m c 1 t) (iblk m c 2 t)) (iblk m c 1 t) := by
    by_cases h : t.val % 32 = 0
    · rw [outsAt0_A m c t h]; frame_out
    · rw [outsAt0_B m c t h]; frame_out
  rw [hv, he, ref_dh]
  refine (pay_dh _ _ _ y0 y1).trans ?_
  obtain ⟨h0, h1, h2⟩ := rows m c t y0
  rw [h0, h1, h2]
  exact congrArg (fun d => back 1024 _ d y1) (funext fun k => congrArg _ (congrFun h1 k))

/-- The loss: every lane of the accumulator is the sum over all rows. -/
theorem final_loss (c : Dev nD) : (dats m 0 c).arrAt 4 cfg0.N = Cert.ReferenceIdeal.Read.val_main_v52 (F := Ideal) (argH m c) (argG m c) (argT m c) := by
  have hp (t : Fin cfg0.N) (o : FVec Ideal S1x128 .f32) (y : S1x128.Idx) : k0_pay8 (F := Ideal) (iblk m c 0 t) (iblk m c 1 t) (iblk m c 2 t) o y
      = o y + ∑ r : Fin 512, ((1 / 2 : ℝ) : EReal) * mse (fun k => argH m c (ix2 (row t r) k)) (fun k => argG m c (ix1 k)) (fun k => argT m c (ix3 0 (row t r) k)) := by
    idx_vars y; obtain rfl : y0 = 0 := Subsingleton.elim _ _
    refine (pay_loss _ _ _ o y1).trans (congrArg _ (Finset.sum_congr rfl fun r _ => ?_))
    obtain ⟨h0, h1, h2⟩ := rows m c t r
    rw [h0, h1, h2]
  refine (dats m 0 c).arrAt_eq_of_covers 4 _ (by decide +kernel) fun t hf y => ?_
  blk_simp [idx t]
  rw [after0_4, Pipeline.eq_sum_fin_of_reset_step_apply_of_flush (fun n h => (outsAt0 m c n h).2.1) 32 (fun _ => 0)
    (fun t _ => ∑ r : Fin 512, ((1 / 2 : ℝ) : EReal) * mse (fun k => argH m c (ix2 (row t r) k)) (fun k => argG m c (ix1 k)) (fun k => argT m c (ix3 0 (row t r) k)))
    (fun t h y => by
      rw [outsAt0_A m c t h]; frame_out; rw [hp]
      idx_vars y; obtain rfl : y0 = 0 := Subsingleton.elim _ _
      rw [pay_zero_loss])
    (fun t h y => by rw [outsAt0_B m c t h]; frame_out; rw [hp])
    t ((flush0_4 t).mp hf) _, zero_add]
  idx_vars y; obtain rfl : y0 = 0 := Subsingleton.elim _ _
  have he : (win0_4.blk t).view.emb (ix2 0 y1) = ix2 0 y1 := by blk_ext [idx t]
  rw [he, ref_loss]
  exact Fin.sum_mul_add_congr fun s r hl => by rw [row_eq t ((flush0_4 t).mp hf) s r _ hl]

/-- The weight's gradient: the sum over all rows. -/
theorem final_dg (c : Dev nD) : (dats m 0 c).arrAt 5 cfg0.N = Cert.ReferenceIdeal.Read.val_main_v53 (F := Ideal) (argH m c) (argG m c) (argT m c) := by
  have hp (t : Fin cfg0.N) (o : FVec Ideal S1x1024 .f32) (j : Fin 1024) :
      k0_pay4 (F := Ideal) (iblk m c 0 t) (k0_pay9 (F := Ideal) (iblk m c 0 t) (iblk m c 1 t) (iblk m c 2 t)) o (ix2 0 j)
      = o (ix2 0 j) + ∑ r : Fin 512, du (fun k => argH m c (ix2 (row t r) k)) (fun k => argG m c (ix1 k)) (fun k => argT m c (ix3 0 (row t r) k)) j
          * unit 1024 (fun k => argH m c (ix2 (row t r) k)) j := by
    refine (pay_dg _ _ _ o j).trans (congrArg _ (Finset.sum_congr rfl fun r _ => ?_))
    obtain ⟨h0, h1, h2⟩ := rows m c t r
    rw [h0, h1, h2]
  refine (dats m 0 c).arrAt_eq_of_covers 5 _ (by decide +kernel) fun t hf y => ?_
  blk_simp [idx t]
  rw [after0_5, Pipeline.eq_sum_fin_of_reset_step_apply_of_flush (fun n h => (outsAt0 m c n h).2.2) 32 (fun _ => 0)
    (fun t y => ∑ r : Fin 512, du (fun k => argH m c (ix2 (row t r) k)) (fun k => argG m c (ix1 k)) (fun k => argT m c (ix3 0 (row t r) k)) (y 1)
          * unit 1024 (fun k => argH m c (ix2 (row t r) k)) (y 1))
    (fun t h y => by
      rw [outsAt0_A m c t h]; frame_out
      idx_vars y; obtain rfl : y0 = 0 := Subsingleton.elim _ _
      rw [hp, pay_zero_dg])
    (fun t h y => by
      rw [outsAt0_B m c t h]; frame_out
      idx_vars y; obtain rfl : y0 = 0 := Subsingleton.elim _ _
      rw [hp])
    t ((flush0_5 t).mp hf) _, zero_add]
  idx_vars y; obtain rfl : y0 = 0 := Subsingleton.elim _ _
  have he : (win0_5.blk t).view.emb (ix2 0 y1) = ix2 0 y1 := by blk_ext [idx t]
  rw [he, ref_dg]
  exact Fin.sum_mul_add_congr fun s r hl => by rw [row_eq t ((flush0_5 t).mp hf) s r _ hl]

end Cert.KernelIdeal.LossHead

end
-- ==== Proof.LossRun.lean ====
/- The loss head's reference, run: its three results named by the stages they are read through. -/
module

public import proofs.«01_k».proof.Proof.Gen.ReferenceIdeal.Read

@[expose] public section

noncomputable section

namespace Cert.ReferenceIdeal

open Cert.ReferenceIdeal Cert.ReferenceIdeal.Gen Cert.ReferenceIdeal.Read Idealize.ShloMosaic Idealize.ShloMosaic.TcCoe Idealize.SL.Sem

/-- The reference's run of the loss head, its results named stage by stage. -/
theorem run_vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v51) = val_main_v51 (F := Ideal) (m ((c.tc : Thread nD τ).loc main_arg0)) (m ((c.tc : Thread nD τ).loc main_arg1)) (m ((c.tc : Thread nD τ).loc main_arg2))
      ∧ r.2.mem ((c.tc : Thread nD τ).loc main_v52) = val_main_v52 (F := Ideal) (m ((c.tc : Thread nD τ).loc main_arg0)) (m ((c.tc : Thread nD τ).loc main_arg1)) (m ((c.tc : Thread nD τ).loc main_arg2))
      ∧ r.2.mem ((c.tc : Thread nD τ).loc main_v53) = val_main_v53 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v51_eq m c), (h c).2.1.trans (val_main_v52_eq _ _ _),
    (h c).2.2.1.trans (val_main_v53_eq _ _ _), (h c).2.2.2⟩) (Cert.ReferenceIdeal.Value.run m ρ)

end Cert.ReferenceIdeal

end
-- ==== Proof.ProjRows.lean ====
/- The gradient through a norm and the projection after it, one row at a time: the kernel's body on a block of rows
   and the reference on the array are the same functions of a row of the input and of the product's gradient. -/
module

public import proofs.«01_k».proof.Proof.Rms
public import proofs.«01_k».proof.Proof.Gen.Kernel3Ideal.Skeleton
public import proofs.«01_k».proof.Proof.Gen.Reference3Ideal.Read
public import Idealize.ShloMosaic.Lib.Pointwise

@[expose] public section

set_option maxRecDepth 16384

noncomputable section

open Idealize.ShloMosaic Idealize.ShloMosaic.TcCoe Idealize.SL.Sem

namespace Cert.Proj

open Cert.Rms

/-- The gradient by the norm's output: the product's gradient times the weight's columns. -/
def du (z : Fin 256 → EReal) (w : Fin 1024 → Fin 256 → EReal) (k : Fin 1024) : EReal := ∑ i, z i * w k i

section
open Cert.Kernel3Ideal Cert.Kernel3Ideal.Gen

theorem pay_dh (z : FVec Ideal S512x256 .f32) (w : FVec Ideal S1024x256 .bf16) (x : FVec Ideal S512x1024 .f32) (g : FVec Ideal S1x1024 .f32)
    (a : FVec Ideal S512x1024 .f32) (r : Fin 512) (j : Fin 1024) :
    k0_pay7 (F := Ideal) z w x g a (ix2 r j) = a (ix2 r j)
      + back 1024 (fun k => x (ix2 r k)) (fun k => du (fun i => z (ix2 r i)) (fun k i => w (ix2 k i)) k * g (ix2 0 k)) j := by
  pointwise [k0_pay7, k0_pay3, k0_pay4, k0_pay5, lit_1024, lit_eps]
  rfl

theorem pay_dg (z : FVec Ideal S512x256 .f32) (w : FVec Ideal S1024x256 .bf16) (x : FVec Ideal S512x1024 .f32) (o : FVec Ideal S1x1024 .f32) (j : Fin 1024) :
    k0_pay2 (F := Ideal) (k0_pay6 (F := Ideal) z w x) o (ix2 0 j) = o (ix2 0 j) + ∑ r : Fin 512,
      du (fun i => z (ix2 r i)) (fun k i => w (ix2 k i)) j * unit 1024 (fun k => x (ix2 r k)) j := by
  pointwise [k0_pay2, k0_pay6, k0_pay3, k0_pay4, k0_pay5, lit_1024, lit_eps]
  rfl

theorem pay_zero (j : Fin 1024) : k0_pay1 (F := Ideal) (ix2 0 j) = 0 := by pointwise [k0_pay1]

end

section
open Cert.Reference3Ideal Cert.Reference3Ideal.Gen Cert.Reference3Ideal.Read

theorem ref_dh (x : FVec Ideal S16384x1024 .f32) (g : FVec Ideal S1024 .f32) (w : FVec Ideal S1024x256 .f32) (z : FVec Ideal S16384x256 .f32)
    (a : FVec Ideal S16384x1024 .f32) (r : Fin 16384) (j : Fin 1024) :
    val_main_v38 (F := Ideal) x g w z a (ix2 r j) = a (ix2 r j)
      + back 1024 (fun k => x (ix2 r k)) (fun k => du (fun i => z (ix2 r i)) (fun k i => w (ix2 k i)) k * g (ix1 k)) j := by
  rw [back_eq (by norm_num), ← add_assoc, ← add_assoc]
  pointwise [val_main_v17, val_main_v13, val_main_v21, val_main_v22, val_main_v0, val_main_cst, val_main_v1, val_main_v2, val_main_cst_0, val_main_v3, val_main_v4, val_main_cst_1, val_main_v5, val_main_v6, val_main_v7, val_main_v27, val_main_v28, val_main_v29, val_main_v24, val_main_cst_5, val_main_v25, val_main_v26, val_main_cst_2, val_main_v9, val_main_v8, val_main_v10, val_main_v30, val_main_cst_6, val_main_v31, val_main_v32, val_main_cst_7, val_main_v33, val_main_v34, val_main_v35, val_main_v36, val_main_v37, val_main_v38, lit_1024, lit_eps, lit_neg_half]
  simp only [Finset.univ_unique, Finset.sum_singleton]
  rfl

theorem ref_dg (x : FVec Ideal S16384x1024 .f32) (w : FVec Ideal S1024x256 .f32) (z : FVec Ideal S16384x256 .f32) (j : Fin 1024) :
    val_main_v39 (F := Ideal) x w z (ix2 0 j)
      = ∑ r : Fin 16384, du (fun i => z (ix2 r i)) (fun k i => w (ix2 k i)) j * unit 1024 (fun k => x (ix2 r k)) j := by
  pointwise [val_main_v0, val_main_cst, val_main_v1, val_main_v2, val_main_cst_0, val_main_v3, val_main_v4, val_main_cst_1, val_main_v5, val_main_v6, val_main_v7, val_main_v11, val_main_v12, val_main_v17, val_main_v18, val_main_cst_3, val_main_v19, val_main_v20, val_main_cst_4, val_main_v23, val_main_v39, lit_1024, lit_eps]
  simp only [Finset.univ_unique, Finset.sum_singleton]
  exact Finset.sum_congr rfl fun r _ => mul_comm _ _

end

end Cert.Proj

end
-- ==== Proof.ProjValue.lean ====
/- The gradient through a norm and the projection after it: the two result arrays, the row gradient block by block and
   the norm weight's gradient as a sum over all rows gathered point by point. -/
module

public import proofs.«01_k».proof.Proof.ProjRows
public import proofs.«01_k».proof.Proof.Gen.Kernel3Ideal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Proj

open Cert.Kernel3Ideal Cert.Kernel3Ideal.Gen Cert.Proj Cert.Rms

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-- The row of the array that row `r` of point `t`'s block is. -/
def row (t : Fin cfg0.N) (r : Fin 512) : Fin 16384 := ⟨t.val * 512 + r.val, by have := t.isLt; have : cfg0.N = 32 := N_0; omega⟩

abbrev argH (c : Dev nD) : FVec Ideal S16384x1024 .f32 := m ((c : Thread nD τ).loc main_arg0)
abbrev argG (c : Dev nD) : FVec Ideal S1024 .f32 := m ((c : Thread nD τ).loc main_arg1)
abbrev argW (c : Dev nD) : FVec Ideal S1024x256 .f32 := m ((c : Thread nD τ).loc main_arg2)
abbrev argZ (c : Dev nD) : FVec Ideal S16384x256 .f32 := m ((c : Thread nD τ).loc main_arg3)
abbrev argA (c : Dev nD) : FVec Ideal S16384x1024 .f32 := m ((c : Thread nD τ).loc main_arg4)

theorem blkZ (c : Dev nD) (t : Fin cfg0.N) (r : Fin 512) (k : Fin 256) :
    (iblk m c 0 t : FVec Ideal S512x256 .f32) (ix2 r k) = argZ m c (ix2 (row t r) k) := by
  blk_ext [iblk, V, idx t, row]

theorem blkW (c : Dev nD) (t : Fin cfg0.N) (j : Fin 1024) (k : Fin 256) :
    (iblk m c 1 t : FVec Ideal S1024x256 .bf16) (ix2 j k) = argW m c (ix2 j k) := by
  blk_simp [iblk, idx t]
  entry_read
  pointwise
  blk_ext [idx t]

theorem blkH (c : Dev nD) (t : Fin cfg0.N) (r : Fin 512) (k : Fin 1024) :
    (iblk m c 2 t : FVec Ideal S512x1024 .f32) (ix2 r k) = argH m c (ix2 (row t r) k) := by
  blk_ext [iblk, V, idx t, row]

theorem blkG (c : Dev nD) (t : Fin cfg0.N) (k : Fin 1024) :
    (iblk m c 3 t : FVec Ideal S1x1024 .f32) (ix2 0 k) = argG m c (ix1 k) := by
  blk_simp [iblk, idx t]
  entry_read
  pointwise
  blk_ext [idx t]

theorem blkA (c : Dev nD) (t : Fin cfg0.N) (r : Fin 512) (k : Fin 1024) :
    (iblk m c 4 t : FVec Ideal S512x1024 .f32) (ix2 r k) = argA m c (ix2 (row t r) k) := by
  blk_ext [iblk, V, idx t, row]

/-- The row gradient is the reference's, block of rows by block of rows. -/
theorem final_dh (c : Dev nD) : (dats m 0 c).arrAt 5 cfg0.N = Cert.Reference3Ideal.Read.val_main_v38 (F := Ideal) (argH m c) (argG m c) (argW m c) (argZ m c) (argA m c) := by
  refine (dats m 0 c).arrAt_eq_of_covers 5 _ (by decide +kernel) fun t hf y => ?_
  blk_simp [idx t]
  rw [after0_5]
  idx_vars y
  have he : ((View.whole main_v2_0).slice (win0_5.rect t)).emb (ix2 y0 y1) = ix2 (row t y0) y1 := by blk_ext [idx t, row]
  have hv : (outsAt0 m c t.val t.isLt).1 = k0_pay7 (F := Ideal) (iblk m c 0 t) (iblk m c 1 t) (iblk m c 2 t) (iblk m c 3 t) (iblk m c 4 t) := by
    by_cases h : t.val % 32 = 0
    · rw [outsAt0_A m c t h]; frame_out
    · rw [outsAt0_B m c t h]; frame_out
  rw [hv, he, ref_dh]
  refine (pay_dh _ _ _ _ _ y0 y1).trans ?_
  simp only [blkZ, blkW, blkH, blkG, blkA]

/-- The norm weight's gradient: the sum over all rows. -/
theorem final_dg (c : Dev nD) : (dats m 0 c).arrAt 6 cfg0.N = Cert.Reference3Ideal.Read.val_main_v39 (F := Ideal) (argH m c) (argW m c) (argZ m c) := by
  have hp (t : Fin cfg0.N) (o : FVec Ideal S1x1024 .f32) (j : Fin 1024) :
      k0_pay2 (F := Ideal) (k0_pay6 (F := Ideal) (iblk m c 0 t) (iblk m c 1 t) (iblk m c 2 t)) o (ix2 0 j)
      = o (ix2 0 j) + ∑ r : Fin 512, du (fun i => argZ m c (ix2 (row t r) i)) (fun k i => argW m c (ix2 k i)) j * unit 1024 (fun k => argH m c (ix2 (row t r) k)) j := by
    refine (pay_dg _ _ _ o j).trans ?_
    simp only [blkZ, blkW, blkH]
  refine (dats m 0 c).arrAt_eq_of_covers 6 _ (by decide +kernel) fun t hf y => ?_
  blk_simp [idx t]
  rw [after0_6, Pipeline.eq_sum_fin_of_reset_step_apply_of_flush (fun n h => (outsAt0 m c n h).2) 32 (fun _ => 0)
    (fun t y => ∑ r : Fin 512, du (fun i => argZ m c (ix2 (row t r) i)) (fun k i => argW m c (ix2 k i)) (y 1) * unit 1024 (fun k => argH m c (ix2 (row t r) k)) (y 1))
    (fun t h y => by
      rw [outsAt0_A m c t h]; frame_out
      idx_vars y; obtain rfl : y0 = 0 := Subsingleton.elim _ _
      rw [hp, pay_zero])
    (fun t h y => by
      rw [outsAt0_B m c t h]; frame_out
      idx_vars y; obtain rfl : y0 = 0 := Subsingleton.elim _ _
      rw [hp])
    t ((flush0_6 t).mp hf) _, zero_add]
  idx_vars y; obtain rfl : y0 = 0 := Subsingleton.elim _ _
  have he : (win0_6.blk t).view.emb (ix2 0 y1) = ix2 0 y1 := by blk_ext [idx t]
  rw [he, ref_dg]
  have hr (s : Fin 32) (r : Fin 512) (hp) (hl) : row ⟨32 * (t.val / 32) + s.val, hp⟩ r = ⟨s.val * 512 + r.val, hl⟩ := by
    have := t.isLt; have h32 : cfg0.N = 32 := N_0; have := (flush0_6 t).mp hf
    apply Fin.ext; simp only [row]; omega
  exact Fin.sum_mul_add_congr fun s r hl => by rw [hr s r _ hl]

end Cert.Kernel3Ideal.Proj

end
-- ==== Proof.DwRows.lean ====
/- The weights' gradients of a gated feed-forward layer: what one point of the grid adds to each of the three
   accumulated slabs, how the slabs are stored and read, and the reference's three products at an entry. -/
module

public import proofs.«01_k».proof.Proof.Rms
public import proofs.«01_k».proof.Proof.Gen.Kernel6Ideal.Skeleton
public import proofs.«01_k».proof.Proof.Gen.Reference6Ideal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Dw

open Cert.Rms

/-- The gate times its sigmoid times the value it gates. -/
def act (g u : EReal) : EReal := g * Ideal.div 1 (1 + Ideal.exp (-g)) * u

section
open Cert.Kernel6Ideal Cert.Kernel6Ideal.Gen

theorem pay_gate (u : FVec Ideal S1024x512 .bf16) (a : FVec Ideal S1x1024x1408 .f32) (d : FVec Ideal S512x1408 .bf16) (i : Fin 1024) (j : Fin 1408) :
    k0_pay7 (F := Ideal) u a d (ix3 0 i j) = a (ix3 0 i j) + ∑ r : Fin 512, u (ix2 i r) * d (ix2 r j) := by
  pointwise [k0_pay7, k0_pay6]

theorem pay_up (u : FVec Ideal S1024x512 .bf16) (a : FVec Ideal S1x1024x1408 .f32) (d : FVec Ideal S512x1408 .bf16) (i : Fin 1024) (j : Fin 1408) :
    k0_pay8 (F := Ideal) u a d (ix3 0 i j) = a (ix3 0 i j) + ∑ r : Fin 512, u (ix2 i r) * d (ix2 r j) := by
  pointwise [k0_pay8, k0_pay6]

theorem pay_down (g u : FVec Ideal S512x1408 .bf16) (a : FVec Ideal S1x1024x1408 .f32) (y : FVec Ideal S1024x512 .bf16) (i : Fin 1024) (j : Fin 1408) :
    k0_pay1 (F := Ideal) (k0_pay9 g) (k0_pay10 g) (FloatOps.ofBits FTy.f32 0x3F800000#32) u a y (ix3 0 i j)
      = a (ix3 0 i j) + ∑ r : Fin 512, y (ix2 i r) * act (g (ix2 r j)) (u (ix2 r j)) := by
  pointwise [k0_pay1, k0_pay9, k0_pay10]
  simp only [act, zero_sub]

theorem pay_zero (y : S3x1024x1408.Idx) : k0_pay5 (F := Ideal) y = 0 := by
  idx_vars y
  pointwise [k0_pay5]

theorem pay_out2 (a : FVec Ideal S1x1024x1408 .f32) (i : Fin 1408) (j : Fin 1024) : k0_pay2 (F := Ideal) a (ix3 0 i j) = a (ix3 0 j i) := by pointwise [k0_pay2]
theorem pay_out3 (a : FVec Ideal S1x1024x1408 .f32) (i : Fin 1408) (j : Fin 1024) : k0_pay3 (F := Ideal) a (ix3 0 i j) = a (ix3 0 j i) := by pointwise [k0_pay3]
theorem pay_out4 (a : FVec Ideal S1x1024x1408 .f32) (i : Fin 1408) (j : Fin 1024) : k0_pay4 (F := Ideal) a (ix3 0 i j) = a (ix3 0 j i) := by pointwise [k0_pay4]

section
variable {α : Type} (a b c : α)
theorem at_0 : (![a, b, c] : Fin 3 → α) 0 = a := rfl
theorem at_1 : (![a, b, c] : Fin 3 → α) 1 = b := rfl
theorem at_2 : (![a, b, c] : Fin 3 → α) 2 = c := rfl
end

/-- The accumulator after its three slabs are stored, whatever was stored before. -/
theorem slabs (P2 P1 P0 : FVec Ideal S1x1024x1408 .f32) (L : List (View.Piece (Elt Ideal) S3x1024x1408 .f32)) (q : Fin 3) (i : Fin 1024) (j : Fin 1408) :
    View.canon (⟨Rect.unit ![2, 0, 0] ![1, 1024, 1408] inb_S3x1024x1408_S1x1024x1408_2_0_0, P2⟩
      :: ⟨Rect.unit ![1, 0, 0] ![1, 1024, 1408] inb_S3x1024x1408_S1x1024x1408_1_0_0, P1⟩
      :: ⟨Rect.unit ![0, 0, 0] ![1, 1024, 1408] inb_S3x1024x1408_S1x1024x1408_0_0_0, P0⟩ :: L) (ix3 q i j : S3x1024x1408.Idx) = (![P0, P1, P2] q) (ix3 0 i j) := by
  refine View.canon_append_of_piecesOf (fun y : S3x1024x1408.Idx => (![P0, P1, P2] (y 0)) (ix3 0 (y 1) (y 2))) L
    [⟨Rect.unit ![2, 0, 0] ![1, 1024, 1408] inb_S3x1024x1408_S1x1024x1408_2_0_0, P2⟩,
      ⟨Rect.unit ![1, 0, 0] ![1, 1024, 1408] inb_S3x1024x1408_S1x1024x1408_1_0_0, P1⟩,
      ⟨Rect.unit ![0, 0, 0] ![1, 1024, 1408] inb_S3x1024x1408_S1x1024x1408_0_0_0, P0⟩] ⟨fun x => ?_, fun x => ?_, fun x => ?_, trivial⟩ (ix3 q i j)
    (View.cover_of_tiled_head _ _ _ (by rfl) _)
  all_goals
    idx_vars x
    obtain rfl : x0 = 0 := Subsingleton.elim _ _
  · have e : (Rect.unit ![2, 0, 0] ![1, 1024, 1408] inb_S3x1024x1408_S1x1024x1408_2_0_0).emb (ix3 0 x1 x2) = (ix3 2 x1 x2 : S3x1024x1408.Idx) := by blk_ext
    rw [e]; exact (congrFun (at_2 _ _ _) _).symm
  · have e : (Rect.unit ![1, 0, 0] ![1, 1024, 1408] inb_S3x1024x1408_S1x1024x1408_1_0_0).emb (ix3 0 x1 x2) = (ix3 1 x1 x2 : S3x1024x1408.Idx) := by blk_ext
    rw [e]; exact (congrFun (at_1 _ _ _) _).symm
  · have e : (Rect.unit ![0, 0, 0] ![1, 1024, 1408] inb_S3x1024x1408_S1x1024x1408_0_0_0).emb (ix3 0 x1 x2) = (ix3 0 x1 x2 : S3x1024x1408.Idx) := by blk_ext
    rw [e]; exact (congrFun (at_0 _ _ _) _).symm

/-- The output block's three slabs likewise. -/
theorem outs (P2 P1 P0 : FVec Ideal S1x1408x1024 .bf16) (L : List (View.Piece (Elt Ideal) S3x1408x1024 .bf16)) (q : Fin 3) (i : Fin 1408) (j : Fin 1024) :
    View.canon (⟨Rect.unit ![2, 0, 0] ![1, 1408, 1024] inb_S3x1408x1024_S1x1408x1024_2_0_0, P2⟩
      :: ⟨Rect.unit ![1, 0, 0] ![1, 1408, 1024] inb_S3x1408x1024_S1x1408x1024_1_0_0, P1⟩
      :: ⟨Rect.unit ![0, 0, 0] ![1, 1408, 1024] inb_S3x1408x1024_S1x1408x1024_0_0_0, P0⟩ :: L) (ix3 q i j : S3x1408x1024.Idx) = (![P0, P1, P2] q) (ix3 0 i j) := by
  refine View.canon_append_of_piecesOf (fun y : S3x1408x1024.Idx => (![P0, P1, P2] (y 0)) (ix3 0 (y 1) (y 2))) L
    [⟨Rect.unit ![2, 0, 0] ![1, 1408, 1024] inb_S3x1408x1024_S1x1408x1024_2_0_0, P2⟩,
      ⟨Rect.unit ![1, 0, 0] ![1, 1408, 1024] inb_S3x1408x1024_S1x1408x1024_1_0_0, P1⟩,
      ⟨Rect.unit ![0, 0, 0] ![1, 1408, 1024] inb_S3x1408x1024_S1x1408x1024_0_0_0, P0⟩] ⟨fun x => ?_, fun x => ?_, fun x => ?_, trivial⟩ (ix3 q i j)
    (View.cover_of_tiled_head _ _ _ (by rfl) _)
  all_goals
    idx_vars x
    obtain rfl : x0 = 0 := Subsingleton.elim _ _
  · have e : (Rect.unit ![2, 0, 0] ![1, 1408, 1024] inb_S3x1408x1024_S1x1408x1024_2_0_0).emb (ix3 0 x1 x2) = (ix3 2 x1 x2 : S3x1408x1024.Idx) := by blk_ext
    rw [e]; exact (congrFun (at_2 _ _ _) _).symm
  · have e : (Rect.unit ![1, 0, 0] ![1, 1408, 1024] inb_S3x1408x1024_S1x1408x1024_1_0_0).emb (ix3 0 x1 x2) = (ix3 1 x1 x2 : S3x1408x1024.Idx) := by blk_ext
    rw [e]; exact (congrFun (at_1 _ _ _) _).symm
  · have e : (Rect.unit ![0, 0, 0] ![1, 1408, 1024] inb_S3x1408x1024_S1x1408x1024_0_0_0).emb (ix3 0 x1 x2) = (ix3 0 x1 x2 : S3x1408x1024.Idx) := by blk_ext
    rw [e]; exact (congrFun (at_0 _ _ _) _).symm

end

section
open Cert.Reference6Ideal Cert.Reference6Ideal.Gen Cert.Reference6Ideal.Read

theorem ref_act (x : FVec Ideal S16384x1024 .f32) (g : FVec Ideal S1024 .f32) (wg wu : FVec Ideal S1024x2816 .f32) (r : Fin 16384) (j : Fin 2816) :
    val_main_v20 (F := Ideal) x g wg wu (ix2 r j) = act (val_main_v13 (F := Ideal) x g wg (ix2 r j)) (val_main_v14 (F := Ideal) x g wu (ix2 r j)) := by
  pointwise [val_main_call0_cst_0, val_main_call0_v4, val_main_call0_cst, val_main_call0_v2, val_main_call0_v0, val_main_call0_v1, val_main_call0_v3, val_main_call0_v5, val_main_v19, val_main_v20]
  rfl

/-- The reference's three gradients, stacked, each a sum over the rows. -/
theorem ref_out (x : FVec Ideal S16384x1024 .f32) (g : FVec Ideal S1024 .f32) (wg wu : FVec Ideal S1024x2816 .f32) (dg du : FVec Ideal S16384x2816 .f32)
    (dy : FVec Ideal S16384x1024 .f32) (q : Fin 3) (i : Fin 2816) (j : Fin 1024) :
    val_main_v30 (F := Ideal) x g wg wu dg du dy (ix3 q i j) = ∑ r : Fin 16384,
      (![val_main_v12 (F := Ideal) x g, val_main_v12 (F := Ideal) x g, dy] q) (ix2 r j) * (![dg, du, val_main_v20 (F := Ideal) x g wg wu] q) (ix2 r i) := by
  fin_cases q
  · pointwise [val_main_v30, val_main_v29, val_main_v26, val_main_v24, val_main_v18, val_main_v17]
    exact Finset.sum_congr rfl fun r _ => mul_comm _ _
  · pointwise [val_main_v30, val_main_v29, val_main_v27, val_main_v25, val_main_v16, val_main_v15]
    exact Finset.sum_congr rfl fun r _ => mul_comm _ _
  · pointwise [val_main_v30, val_main_v29, val_main_v28, val_main_v23, val_main_v22]

end

end Cert.Dw

end
-- ==== Proof.DwValue.lean ====
/- The weights' gradients of a gated feed-forward layer: the accumulated slabs are sums over the rows, point by point
   of the grid, and the result array is the reference's, half of the columns by half. -/
module

public import proofs.«01_k».proof.Proof.DwRows
public import proofs.«01_k».proof.Proof.Gen.Kernel6Ideal.Value

@[expose] public section

set_option maxRecDepth 16384

noncomputable section

open Idealize.ShloMosaic Idealize.ShloMosaic.TcCoe Idealize.SL.Sem
open Idealize.ShloMosaic.Pipeline (Dat)

namespace Cert.Kernel6Ideal.Dw

open Cert.Kernel6Ideal Cert.Kernel6Ideal.Gen Cert.Dw Cert.Rms

variable (m : (ℓ : Loc nD τ sig) → Buf (Elt Ideal) ℓ)

theorem idx : ∀ t : Fin cfg0.N, win0_0.index t = ![t.val % 32, t.val / 32] ∧ win0_1.index t = ![t.val % 32, t.val / 32]
    ∧ win0_2.index t = ![t.val % 32, t.val / 32] ∧ win0_3.index t = ![t.val % 32, t.val / 32]
    ∧ win0_4.index t = ![0, t.val % 32] ∧ win0_5.index t = ![0, t.val % 32] ∧ win0_6.index t = ![0, t.val / 32, 0] :=
  (by decide +kernel : ∀ t : Fin grid0.N, _)

/-- The row of the arrays that row `r` of point `t`'s blocks is. -/
def row (t : Fin cfg0.N) (r : Fin 512) : Fin 16384 := ⟨t.val % 32 * 512 + r.val, by omega⟩
/-- The column that column `j` of point `t`'s blocks is. -/
def col (t : Fin cfg0.N) (j : Fin 1408) : Fin 2816 := ⟨t.val / 32 * 1408 + j.val, by have := t.isLt; have : cfg0.N = 64 := N_0; omega⟩

abbrev argH (c : Dev nD) : FVec Ideal S16384x1024 .f32 := m ((c : Thread nD τ).loc main_arg0)
abbrev argG (c : Dev nD) : FVec Ideal S1024 .f32 := m ((c : Thread nD τ).loc main_arg1)
abbrev argWg (c : Dev nD) : FVec Ideal S1024x2816 .f32 := m ((c : Thread nD τ).loc main_arg2)
abbrev argWu (c : Dev nD) : FVec Ideal S1024x2816 .f32 := m ((c : Thread nD τ).loc main_arg3)
abbrev argDg (c : Dev nD) : FVec Ideal S16384x2816 .f32 := m ((c : Thread nD τ).loc main_arg5)
abbrev argDu (c : Dev nD) : FVec Ideal S16384x2816 .f32 := m ((c : Thread nD τ).loc main_arg6)
abbrev argDy (c : Dev nD) : FVec Ideal S16384x1024 .f32 := m ((c : Thread nD τ).loc main_arg7)
/-- The norm's output, the gate, the gated value and their product, by the reference's lines. -/
abbrev hU (c : Dev nD) : FVec Ideal S16384x1024 .f32 := Cert.Reference6Ideal.Read.val_main_v12 (F := Ideal) (argH m c) (argG m c)
abbrev hGate (c : Dev nD) : FVec Ideal S16384x2816 .f32 := Cert.Reference6Ideal.Read.val_main_v13 (F := Ideal) (argH m c) (argG m c) (argWg m c)
abbrev hUp (c : Dev nD) : FVec Ideal S16384x2816 .f32 := Cert.Reference6Ideal.Read.val_main_v14 (F := Ideal) (argH m c) (argG m c) (argWu m c)
abbrev hAct (c : Dev nD) : FVec Ideal S16384x2816 .f32 := Cert.Reference6Ideal.Read.val_main_v20 (F := Ideal) (argH m c) (argG m c) (argWg m c) (argWu m c)

theorem V_gate (c : Dev nD) : (V m c main_v17 : FVec Ideal S16384x2816 .bf16) = truncf .bf16 (hGate m c) bitsLt_bf16_f32 := by
  simp only [V, hostOps0]
  after_results_simp <;> rfl
theorem V_up (c : Dev nD) : (V m c main_v18 : FVec Ideal S16384x2816 .bf16) = truncf .bf16 (hUp m c) bitsLt_bf16_f32 := by
  simp only [V, hostOps0]
  after_results_simp <;> rfl
theorem V_u (c : Dev nD) : (V m c main_v20 : FVec Ideal S1024x16384 .bf16) = truncf .bf16 (transpose S1024x16384 [1, 0] (hU m c) transposes_S16384x1024_S1024x16384_1_0) bitsLt_bf16_f32 := by
  simp only [V, hostOps0]
  after_results_simp <;> rfl

theorem blkDg (c : Dev nD) (t : Fin cfg0.N) (r : Fin 512) (j : Fin 1408) :
    (iblk m c 0 t : FVec Ideal S512x1408 .bf16) (ix2 r j) = argDg m c (ix2 (row t r) (col t j)) := by
  blk_simp [iblk, idx t]
  entry_read
  pointwise
  blk_ext [idx t, row, col]

theorem blkDu (c : Dev nD) (t : Fin cfg0.N) (r : Fin 512) (j : Fin 1408) :
    (iblk m c 1 t : FVec Ideal S512x1408 .bf16) (ix2 r j) = argDu m c (ix2 (row t r) (col t j)) := by
  blk_simp [iblk, idx t]
  entry_read
  pointwise
  blk_ext [idx t, row, col]

theorem blkGate (c : Dev nD) (t : Fin cfg0.N) (r : Fin 512) (j : Fin 1408) :
    (iblk m c 2 t : FVec Ideal S512x1408 .bf16) (ix2 r j) = hGate m c (ix2 (row t r) (col t j)) := by
  blk_simp [iblk, idx t]
  rw [V_gate]
  generalize hGate m c = X
  pointwise
  blk_ext [idx t, row, col]

theorem blkUp (c : Dev nD) (t : Fin cfg0.N) (r : Fin 512) (j : Fin 1408) :
    (iblk m c 3 t : FVec Ideal S512x1408 .bf16) (ix2 r j) = hUp m c (ix2 (row t r) (col t j)) := by
  blk_simp [iblk, idx t]
  rw [V_up]
  generalize hUp m c = X
  pointwise
  blk_ext [idx t, row, col]

theorem blkU (c : Dev nD) (t : Fin cfg0.N) (i : Fin 1024) (r : Fin 512) :
    (iblk m c 4 t : FVec Ideal S1024x512 .bf16) (ix2 i r) = hU m c (ix2 (row t r) i) := by
  blk_simp [iblk, idx t]
  rw [V_u]
  generalize hU m c = X
  pointwise
  blk_ext [idx t, row, col]

theorem blkDy (c : Dev nD) (t : Fin cfg0.N) (i : Fin 1024) (r : Fin 512) :
    (iblk m c 5 t : FVec Ideal S1024x512 .bf16) (ix2 i r) = argDy m c (ix2 (row t r) i) := by
  blk_simp [iblk, idx t]
  entry_read
  pointwise
  blk_ext [idx t, row, col]

/-- What point `t` adds to slab `q` at row `i` and column `j`. -/
def term (c : Dev nD) (t : Fin cfg0.N) (q : Fin 3) (i : Fin 1024) (j : Fin 1408) : EReal :=
  ∑ r : Fin 512, (![hU m c, hU m c, argDy m c] q) (ix2 (row t r) i) * (![argDg m c, argDu m c, hAct m c] q) (ix2 (row t r) (col t j))

/-- The three stored slabs at point `t` over what the loads of the accumulator read. -/
theorem stored (c : Dev nD) (t : Fin cfg0.N) (a0 a1 a2 : FVec Ideal S1x1024x1408 .f32) (q : Fin 3) (i : Fin 1024) (j : Fin 1408) :
    (![k0_pay7 (F := Ideal) (iblk m c 4 t) a0 (iblk m c 0 t), k0_pay8 (F := Ideal) (iblk m c 4 t) a1 (iblk m c 1 t),
      k0_pay1 (F := Ideal) (k0_pay9 (F := Ideal) (iblk m c 2 t)) (k0_pay10 (F := Ideal) (iblk m c 2 t)) (FloatOps.ofBits FTy.f32 0x3F800000#32) (iblk m c 3 t) a2 (iblk m c 5 t)] q) (ix3 0 i j)
      = (![a0, a1, a2] q) (ix3 0 i j) + term m c t q i j := by
  fin_cases q
  · refine (pay_gate _ _ _ i j).trans (congrArg _ (Finset.sum_congr rfl fun r _ => ?_))
    rw [blkU, blkDg]; rfl
  · refine (pay_up _ _ _ i j).trans (congrArg _ (Finset.sum_congr rfl fun r _ => ?_))
    rw [blkU, blkDu]; rfl
  · refine (pay_down _ _ _ _ i j).trans (congrArg _ (Finset.sum_congr rfl fun r _ => ?_))
    rw [blkDy, blkGate, blkUp, ← ref_act]; rfl

/-- The loads of the accumulator at a run's first point read the zeros stored there, past the slabs stored since. -/
theorem load0 {κ : Kind} {sp : Space} (v : View sig κ sp S3x1024x1408 .f32) (Z : FVec Ideal S3x1024x1408 .f32) :
    View.readCov (Val := Elt Ideal) v [⟨Rect.unit (s := S3x1024x1408) ![0, 0, 0] ![3, 1024, 1408] inb_S3x1024x1408_S3x1024x1408_0_0_0, Z⟩]
      (Rect.unit (s := S3x1024x1408) ![0, 0, 0] ![1, 1024, 1408] inb_S3x1024x1408_S1x1024x1408_0_0_0).toLoadRect = View.ld (Val := Elt Ideal) (e' := .f32) Z (Rect.unit (s := S3x1024x1408) ![0, 0, 0] ![1, 1024, 1408] inb_S3x1024x1408_S1x1024x1408_0_0_0) :=
  View.readCov_fill (s := S3x1024x1408) (e := .f32) (Val := Elt Ideal) v inb_S3x1024x1408_S3x1024x1408_0_0_0 Z [] _ (by decide)
theorem load1 {κ : Kind} {sp : Space} (v : View sig κ sp S3x1024x1408 .f32) (Z : FVec Ideal S3x1024x1408 .f32) (w : FVec Ideal S1x1024x1408 .f32) :
    View.readCov (Val := Elt Ideal) v [⟨Rect.unit (s := S3x1024x1408) ![0, 0, 0] ![1, 1024, 1408] inb_S3x1024x1408_S1x1024x1408_0_0_0, w⟩, ⟨Rect.unit (s := S3x1024x1408) ![0, 0, 0] ![3, 1024, 1408] inb_S3x1024x1408_S3x1024x1408_0_0_0, Z⟩]
      (Rect.unit (s := S3x1024x1408) ![1, 0, 0] ![1, 1024, 1408] inb_S3x1024x1408_S1x1024x1408_1_0_0).toLoadRect = View.ld (Val := Elt Ideal) (e' := .f32) Z (Rect.unit (s := S3x1024x1408) ![1, 0, 0] ![1, 1024, 1408] inb_S3x1024x1408_S1x1024x1408_1_0_0) :=
  (View.readCov_skip v _ _ _ _ rfl).trans (View.readCov_fill (s := S3x1024x1408) (e := .f32) (Val := Elt Ideal) v inb_S3x1024x1408_S3x1024x1408_0_0_0 Z [] _ (by decide))
theorem load2 {κ : Kind} {sp : Space} (v : View sig κ sp S3x1024x1408 .f32) (Z : FVec Ideal S3x1024x1408 .f32) (w w' : FVec Ideal S1x1024x1408 .f32) :
    View.readCov (Val := Elt Ideal) v [⟨Rect.unit (s := S3x1024x1408) ![1, 0, 0] ![1, 1024, 1408] inb_S3x1024x1408_S1x1024x1408_1_0_0, w'⟩, ⟨Rect.unit (s := S3x1024x1408) ![0, 0, 0] ![1, 1024, 1408] inb_S3x1024x1408_S1x1024x1408_0_0_0, w⟩, ⟨Rect.unit (s := S3x1024x1408) ![0, 0, 0] ![3, 1024, 1408] inb_S3x1024x1408_S3x1024x1408_0_0_0, Z⟩]
      (Rect.unit (s := S3x1024x1408) ![2, 0, 0] ![1, 1024, 1408] inb_S3x1024x1408_S1x1024x1408_2_0_0).toLoadRect = View.ld (Val := Elt Ideal) (e' := .f32) Z (Rect.unit (s := S3x1024x1408) ![2, 0, 0] ![1, 1024, 1408] inb_S3x1024x1408_S1x1024x1408_2_0_0) :=
  (View.readCov_skip v _ _ _ _ rfl).trans ((View.readCov_skip v _ _ _ _ rfl).trans (View.readCov_fill (s := S3x1024x1408) (e := .f32) (Val := Elt Ideal) v inb_S3x1024x1408_S3x1024x1408_0_0_0 Z [] _ (by decide)))

theorem zeros (a0 a1 a2 : FVec Ideal S1x1024x1408 .f32) (h0 : a0 = (View.ld (Val := Elt Ideal) (e' := .f32) (k0_pay5 (F := Ideal)) (Rect.unit (s := S3x1024x1408) ![0, 0, 0] ![1, 1024, 1408] inb_S3x1024x1408_S1x1024x1408_0_0_0)))
    (h1 : a1 = (View.ld (Val := Elt Ideal) (e' := .f32) (k0_pay5 (F := Ideal)) (Rect.unit (s := S3x1024x1408) ![1, 0, 0] ![1, 1024, 1408] inb_S3x1024x1408_S1x1024x1408_1_0_0)))
    (h2 : a2 = (View.ld (Val := Elt Ideal) (e' := .f32) (k0_pay5 (F := Ideal)) (Rect.unit (s := S3x1024x1408) ![2, 0, 0] ![1, 1024, 1408] inb_S3x1024x1408_S1x1024x1408_2_0_0)))
    (q : Fin 3) (i : Fin 1024) (j : Fin 1408) : (![a0, a1, a2] q) (ix3 0 i j) = 0 := by
  subst h0 h1 h2
  fin_cases q <;> (pointwise; exact pay_zero _)

theorem first (c : Dev nD) (t : Fin cfg0.N) (h : t.val % 32 = 0) (q : Fin 3) (i : Fin 1024) (j : Fin 1408) :
    (outsAt0 m c t.val t.isLt).2 (ix3 q i j) = term m c t q i j := by
  rw [outsAt0_A m c t h (by omega)]; frame_out
  rw [slabs, stored]
  refine (congrArg (· + term m c t q i j) ?_).trans (zero_add _)
  exact zeros _ _ _ (load0 _ _) (load1 _ _ _) (load2 _ _ _ _) q i j

theorem next (c : Dev nD) (t : Fin cfg0.N) (h : ¬t.val % 32 = 0) (q : Fin 3) (i : Fin 1024) (j : Fin 1408) :
    (outsAt0 m c t.val t.isLt).2 (ix3 q i j) = (outsAt0 m c (t.val - 1) (Nat.lt_of_le_of_lt (Nat.sub_le _ _) t.isLt)).2 (ix3 q i j) + term m c t q i j := by
  by_cases h1 : t.val % 32 = 31
  · rw [outsAt0_C m c t h h1]; frame_out
    rw [slabs, stored]
    refine congrArg (· + term m c t q i j) ?_
    fin_cases q <;> (pointwise; rw [read_unread_whole])
  · rw [outsAt0_B m c t h h1]; frame_out
    rw [slabs, stored]
    refine congrArg (· + term m c t q i j) ?_
    fin_cases q <;> (pointwise; rw [read_unread_whole])

/-- The block written back at a run's last point is the accumulator transposed. -/
theorem last (c : Dev nD) (t : Fin cfg0.N) (h1 : t.val % 32 = 31) (q : Fin 3) (i : Fin 1408) (j : Fin 1024) :
    (outsAt0 m c t.val t.isLt).1 (ix3 q i j) = (outsAt0 m c t.val t.isLt).2 (ix3 q j i) := by
  rw [outsAt0_C m c t (by omega) h1]; frame_out
  rw [slabs, outs]
  fin_cases q
  · refine (pay_out2 _ i j).trans ?_
    rw [View.readCov_skip _ _ _ _ _ rfl, View.readCov_skip _ _ _ _ _ rfl, View.readCov_cons_toLoadRect]
    rfl
  · refine (pay_out3 _ i j).trans ?_
    rw [View.readCov_skip _ _ _ _ _ rfl, View.readCov_cons_toLoadRect]
    rfl
  · refine (pay_out4 _ i j).trans ?_
    rw [View.readCov_cons_toLoadRect]
    rfl

theorem final (c : Dev nD) : (dats m 0 c).arrAt 6 cfg0.N = Cert.Reference6Ideal.Read.val_main_v30 (F := Ideal) (argH m c) (argG m c) (argWg m c) (argWu m c) (argDg m c) (argDu m c) (argDy m c) := by
  refine (dats m 0 c).arrAt_eq_of_covers 6 _ (by decide +kernel) fun t hf y => ?_
  have hl := (flush0_6 t).mp hf
  blk_simp [idx t]
  rw [after0_6]
  idx_vars y
  have he : ((View.whole main_v23).slice (win0_6.rect t)).emb (ix3 y0 y1 y2) = ix3 y0 (col t y1) y2 := by blk_ext [idx t, col]
  rw [he, ref_out, last m c t hl, Pipeline.eq_sum_fin_of_reset_step_apply_of_flush (fun n h => (outsAt0 m c n h).2) 32 (fun _ => 0)
    (fun t y => term m c t (y 0) (y 1) (y 2))
    (fun t h y => by idx_vars y; rw [first m c t h, zero_add])
    (fun t h y => by idx_vars y; rw [next m c t h])
    t hl _, zero_add]
  exact Fin.sum_mul_add_congr fun s r hh => by
    have hr (hp) : row ⟨32 * (t.val / 32) + s.val, hp⟩ r = ⟨s.val * 512 + r.val, hh⟩ := by
      apply Fin.ext; simp only [row]; omega
    have hc (hp) : col ⟨32 * (t.val / 32) + s.val, hp⟩ y1 = col t y1 := by
      apply Fin.ext; simp only [col]; omega
    rw [hr]
    exact congrArg (fun z => (![hU m c, hU m c, argDy m c] y0) (ix2 ⟨s.val * 512 + r.val, hh⟩ y2)
      * (![argDg m c, argDu m c, hAct m c] y0) (ix2 ⟨s.val * 512 + r.val, hh⟩ z)) (hc _)

end Cert.Kernel6Ideal.Dw

end
-- ==== Proof.FfnRows.lean ====
/- The gradient through a gated feed-forward layer, one row at a time: the gate's derivative in its two spellings, and
   what the reference computes of a row. -/
module

public import proofs.«01_k».proof.Proof.Rms
public import proofs.«01_k».proof.Proof.Gen.Reference7Ideal.Read
public import Idealize.ShloMosaic.Lib.Pointwise

@[expose] public section

set_option maxRecDepth 16384

noncomputable section

open Idealize.ShloMosaic Idealize.ShloMosaic.TcCoe Idealize.SL.Sem

namespace Cert.Ffn

open Cert.Rms

/-- The logistic function. -/
def sg (g : EReal) : EReal := Ideal.div 1 (1 + Ideal.exp (-g))

theorem sg_real (g : ℝ) : ∃ s : ℝ, sg (g : EReal) = (s : EReal) := by
  refine ⟨1 / (1 + Real.exp (-g)), ?_⟩
  have h : (1 : ℝ) + Real.exp (-g) ≠ 0 := by positivity
  rw [sg, ← EReal.coe_neg, Ideal.exp_coe, ← EReal.coe_one, ← EReal.coe_add, Ideal.div_coe h, ← EReal.coe_mul, one_mul]

theorem sg_top : sg ⊤ = 1 := by
  rw [sg, EReal.neg_top, Ideal.exp_bot, add_zero, ← EReal.coe_one, Ideal.div_coe one_ne_zero, ← EReal.coe_mul]
  norm_num

theorem sg_bot : sg ⊥ = 0 := by
  rw [sg, EReal.neg_bot, Ideal.exp_top, ← EReal.coe_one, EReal.coe_add_top, Ideal.div, if_neg (by simp)]
  simp

/-- The gate's derivative times a real, factored and expanded. -/
theorem silu_back (g : EReal) (v : ℝ) :
    (v : EReal) * (sg g * (1 + g * (1 - sg g))) = (v : EReal) * sg g + g * (v : EReal) * (sg g * (1 - sg g)) := by
  induction g using EReal.rec with
  | bot => rw [sg_bot]; simp
  | top =>
    have h : (1 : EReal) - 1 = 0 := by rw [← EReal.coe_one, ← EReal.coe_sub]; simp
    rw [sg_top, h]; simp
  | coe g =>
    obtain ⟨s, hs⟩ := sg_real g
    rw [hs]
    norm_cast
    ring

/-- The gradient by the activation: half the output's gradient times the weight's rows. -/
def dact (a : Fin 1024 → EReal) (w : Fin 2816 → Fin 1024 → EReal) (i : Fin 2816) : EReal :=
  ∑ k, ((1 / 2 : ℝ) : EReal) * a k * w i k
/-- The gradient by the up projection. -/
def dup (d : EReal) (g : EReal) : EReal := d * (g * sg g)
/-- The gradient by the gate, as the kernel spells it. -/
def dgate (d u g : EReal) : EReal := d * u * (sg g * (1 + g * (1 - sg g)))

/-- A row's projection is real where the norm's weight and the projection's are. -/
theorem proj_real (x : Fin 1024 → EReal) (g : Fin 1024 → ℝ) (w : Fin 1024 → ℝ) :
    ∃ s : ℝ, ∑ k, unit 1024 x k * (g k : EReal) * (w k : EReal) = (s : EReal) := by
  have h (k) : ∃ s : ℝ, unit 1024 x k = (s : EReal) := by
    unfold unit
    rcases var_cases (by norm_num : (0 : ℝ) < 1024) eps_pos x with h | ⟨y, v, hx, hv, h⟩
    · exact ⟨0, by rw [h, Ideal.rsqrt_top, mul_zero]; rfl⟩
    · obtain ⟨r, hr, h1, h2⟩ := rsqrt_pos hv
      exact ⟨y k * r, by rw [h, h1, hx, EReal.coe_mul]⟩
  choose s hs using h
  refine ⟨∑ k, s k * g k * w k, ?_⟩
  rw [coe_sum]
  exact Finset.sum_congr rfl fun k _ => by rw [hs, EReal.coe_mul, EReal.coe_mul]

theorem dact_real (a : Fin 1024 → ℝ) (w : Fin 2816 → Fin 1024 → ℝ) (i : Fin 2816) :
    ∃ s : ℝ, dact (fun k => (a k : EReal)) (fun i k => (w i k : EReal)) i = (s : EReal) := by
  refine ⟨∑ k, 1 / 2 * a k * w i k, ?_⟩
  rw [dact, coe_sum]
  exact Finset.sum_congr rfl fun k _ => by rw [EReal.coe_mul, EReal.coe_mul]

section
open Cert.Reference7Ideal Cert.Reference7Ideal.Gen Cert.Reference7Ideal.Read

theorem ref_u (x : FVec Ideal S16384x1024 .f32) (g : FVec Ideal S1024 .f32) (r : Fin 16384) (j : Fin 1024) :
    val_main_v69 (F := Ideal) x g (ix2 j r) = unit 1024 (fun k => x (ix2 r k)) j * g (ix1 j) := by
  pointwise [val_main_v55, val_main_cst_10, val_main_v56, val_main_v57, val_main_cst_11, val_main_v58, val_main_v59, val_main_cst_12, val_main_v60, val_main_v61, val_main_v62, val_main_v63, val_main_v64, val_main_v65, val_main_v66, val_main_v67, val_main_v68, val_main_v69, lit_1024, lit_eps]
  rfl

theorem ref_dy (a : FVec Ideal S16384x1024 .f32) (r : Fin 16384) (j : Fin 1024) :
    val_main_v71 (F := Ideal) a (ix2 j r) = ((1 / 2 : ℝ) : EReal) * a (ix2 r j) := by
  pointwise [val_main_cst_4, val_main_v23, val_main_v24, val_main_v70, val_main_v71, lit_half]

theorem ref_gate (x : FVec Ideal S16384x1024 .f32) (g : FVec Ideal S1024 .f32) (w : FVec Ideal S1024x2816 .f32) (r : Fin 16384) (i : Fin 2816) :
    val_main_v16 (F := Ideal) x g w (ix2 r i) = ∑ k, unit 1024 (fun k => x (ix2 r k)) k * g (ix1 k) * w (ix2 k i) := by
  pointwise [val_main_v0, val_main_cst, val_main_v1, val_main_v2, val_main_cst_0, val_main_v3, val_main_v4, val_main_cst_1, val_main_v5, val_main_v6, val_main_v7, val_main_v11, val_main_v12, val_main_v13, val_main_v14, val_main_v15, val_main_v16, lit_1024, lit_eps]
  rfl

theorem ref_up (x : FVec Ideal S16384x1024 .f32) (g : FVec Ideal S1024 .f32) (w : FVec Ideal S1024x2816 .f32) (r : Fin 16384) (i : Fin 2816) :
    val_main_v17 (F := Ideal) x g w (ix2 r i) = ∑ k, unit 1024 (fun k => x (ix2 r k)) k * g (ix1 k) * w (ix2 k i) := by
  pointwise [val_main_v0, val_main_cst, val_main_v1, val_main_v2, val_main_cst_0, val_main_v3, val_main_v4, val_main_cst_1, val_main_v5, val_main_v6, val_main_v7, val_main_v11, val_main_v12, val_main_v13, val_main_v14, val_main_v15, val_main_v17, lit_1024, lit_eps]
  rfl

theorem ref_dact (a : FVec Ideal S16384x1024 .f32) (wd : FVec Ideal S2816x1024 .f32) (r : Fin 16384) (i : Fin 2816) :
    val_main_v25 (F := Ideal) wd a (ix2 r i) = dact (fun k => a (ix2 r k)) (fun i k => wd (ix2 i k)) i := by
  pointwise [val_main_cst_4, val_main_v23, val_main_v24, val_main_v25, lit_half]
  rfl

theorem ref_dup (x : FVec Ideal S16384x1024 .f32) (g : FVec Ideal S1024 .f32) (wg : FVec Ideal S1024x2816 .f32) (wd : FVec Ideal S2816x1024 .f32) (a : FVec Ideal S16384x1024 .f32) (r : Fin 16384) (i : Fin 2816) :
    val_main_v26 (F := Ideal) x g wg wd a (ix2 r i) = dup (dact (fun k => a (ix2 r k)) (fun i k => wd (ix2 i k)) i) (val_main_v16 (F := Ideal) x g wg (ix2 r i)) := by
  rw [← ref_dact]
  pointwise [val_main_call0_cst_0, val_main_call0_v4, val_main_call0_cst, val_main_call0_v2, val_main_call0_v0, val_main_call0_v1, val_main_call0_v3, val_main_v18_2, val_main_v18_0, val_main_v26]
  exact mul_comm _ _

theorem ref_dgate (x : FVec Ideal S16384x1024 .f32) (g : FVec Ideal S1024 .f32) (wg : FVec Ideal S1024x2816 .f32) (wu : FVec Ideal S1024x2816 .f32) (wd : FVec Ideal S2816x1024 .f32) (a : FVec Ideal S16384x1024 .f32) (r : Fin 16384) (i : Fin 2816) (d u : ℝ) (hd : val_main_v25 (F := Ideal) wd a (ix2 r i) = (d : EReal)) (hu : val_main_v17 (F := Ideal) x g wu (ix2 r i) = (u : EReal)) :
    val_main_v28 (F := Ideal) x g wg wu wd a (ix2 r i) = dgate (d : EReal) (u : EReal) (val_main_v16 (F := Ideal) x g wg (ix2 r i)) := by
  rw [dgate, ← EReal.coe_mul, silu_back, EReal.coe_mul, ← hd, ← hu]
  pointwise [val_main_v27, val_main_call0_cst_0, val_main_call0_v4, val_main_call0_cst, val_main_call0_v2, val_main_call0_v0, val_main_call0_v1, val_main_call0_v3, val_main_v18_2, val_main_call1_v1, val_main_call1_v0, val_main_call0_cst_1, val_main_call0_v6, val_main_call0_v7, val_main_v18_1, val_main_call1_v2, val_main_v28]
  rfl

/-- The gradient by the norm's output. -/
def du (z : Fin 2816 → EReal) (y : Fin 2816 → EReal) (w w' : Fin 1024 → Fin 2816 → EReal) (k : Fin 1024) : EReal :=
  ∑ i, z i * w k i + ∑ i, y i * w' k i

theorem ref_du (x : FVec Ideal S16384x1024 .f32) (g : FVec Ideal S1024 .f32) (wg : FVec Ideal S1024x2816 .f32) (wu : FVec Ideal S1024x2816 .f32) (wd : FVec Ideal S2816x1024 .f32) (a : FVec Ideal S16384x1024 .f32) (r : Fin 16384) (k : Fin 1024) :
    val_main_v31 (F := Ideal) x g wg wu wd a (ix2 r k)
      = du (fun i => val_main_v26 (F := Ideal) x g wg wd a (ix2 r i)) (fun i => val_main_v28 (F := Ideal) x g wg wu wd a (ix2 r i)) (fun k i => wu (ix2 k i)) (fun k i => wg (ix2 k i)) k := by
  pointwise [val_main_v29, val_main_v30, val_main_v31]
  rfl

theorem ref_dh (x : FVec Ideal S16384x1024 .f32) (g : FVec Ideal S1024 .f32) (wg : FVec Ideal S1024x2816 .f32) (wu : FVec Ideal S1024x2816 .f32) (wd : FVec Ideal S2816x1024 .f32) (a : FVec Ideal S16384x1024 .f32) (r : Fin 16384) (j : Fin 1024) :
    val_main_v52 (F := Ideal) x g wg wu wd a (ix2 r j) = a (ix2 r j)
      + back 1024 (fun k => x (ix2 r k)) (fun k => val_main_v31 (F := Ideal) x g wg wu wd a (ix2 r k) * g (ix1 k)) j := by
  rw [back_eq (by norm_num)]
  pointwise [val_main_v13, val_main_v35, val_main_v36, val_main_v0, val_main_cst, val_main_v1, val_main_v2, val_main_cst_0, val_main_v3, val_main_v4, val_main_cst_1, val_main_v5, val_main_v6, val_main_v7, val_main_v41, val_main_v42, val_main_v38, val_main_cst_7, val_main_v39, val_main_v40, val_main_cst_2, val_main_v9, val_main_v8, val_main_v10, val_main_v43, val_main_cst_8, val_main_v44, val_main_v45, val_main_cst_9, val_main_v46, val_main_v47, val_main_v48, val_main_v49, val_main_v50, val_main_v51, val_main_v52, lit_1024, lit_eps, lit_neg_half]
  simp only [Finset.univ_unique, Finset.sum_singleton]
  rfl

theorem ref_dg (x : FVec Ideal S16384x1024 .f32) (g : FVec Ideal S1024 .f32) (wg : FVec Ideal S1024x2816 .f32) (wu : FVec Ideal S1024x2816 .f32) (wd : FVec Ideal S2816x1024 .f32) (a : FVec Ideal S16384x1024 .f32) (j : Fin 1024) :
    val_main_v72 (F := Ideal) x g wg wu wd a (ix2 0 j)
      = ∑ r : Fin 16384, val_main_v31 (F := Ideal) x g wg wu wd a (ix2 r j) * unit 1024 (fun k => x (ix2 r k)) j := by
  pointwise [val_main_v0, val_main_cst, val_main_v1, val_main_v2, val_main_cst_0, val_main_v3, val_main_v4, val_main_cst_1, val_main_v5, val_main_v6, val_main_v7, val_main_v11, val_main_v12, val_main_v32, val_main_cst_5, val_main_v33, val_main_v34, val_main_cst_6, val_main_v37, val_main_v72, lit_1024, lit_eps]
  simp only [Finset.univ_unique, Finset.sum_singleton]
  exact Finset.sum_congr rfl fun r _ => mul_comm _ _

end

end Cert.Ffn

end
-- ==== Proof.FfnBody.lean ====
/- The gradient through a gated feed-forward layer, one row at a time: what the kernel's body computes of the blocks of
   a point, the two ranges of columns set side by side. -/
module

public import proofs.«01_k».proof.Proof.FfnRows
public import proofs.«01_k».proof.Proof.Gen.Kernel7Ideal.Skeleton
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Ffn

open Cert.Rms Cert.Kernel7Ideal Cert.Kernel7Ideal.Gen

/-- A column of the first range, and one of the second. -/
def lo (i : Fin 1536) : Fin 2816 := ⟨i.val, by omega⟩
def hi (i : Fin 1280) : Fin 2816 := ⟨1536 + i.val, by omega⟩

theorem sum_cols (f : Fin 2816 → EReal) : ∑ i, f i = ∑ i : Fin 1536, f (lo i) + ∑ i : Fin 1280, f (hi i) :=
  Fin.sum_univ_add (a := 1536) (b := 1280) f

theorem cols (PR : FVec Ideal S256x1280 .bf16) (PL : FVec Ideal S256x1536 .bf16) (L : List (View.Piece (Elt Ideal) S256x2816 .bf16)) (G : FVec Ideal S256x2816 .bf16)
    (hR : ∀ r i, PR (ix2 r i) = G (ix2 r (hi i))) (hL : ∀ r i, PL (ix2 r i) = G (ix2 r (lo i))) (y : S256x2816.Idx) :
    View.canon (⟨Rect.unit ![0, 1536] ![256, 1280] inb_S256x2816_S256x1280_0_1536, PR⟩
      :: ⟨Rect.unit ![0, 0] ![256, 1536] inb_S256x2816_S256x1536_0_0, PL⟩ :: L) y = G y := by
  refine View.canon_append_of_piecesOf G L
    [⟨Rect.unit ![0, 1536] ![256, 1280] inb_S256x2816_S256x1280_0_1536, PR⟩,
      ⟨Rect.unit ![0, 0] ![256, 1536] inb_S256x2816_S256x1536_0_0, PL⟩] ⟨?_, ?_, trivial⟩ y ?_
  · intro x
    idx_vars x
    have e : (Rect.unit ![0, 1536] ![256, 1280] inb_S256x2816_S256x1280_0_1536).emb (ix2 x0 x1) = (ix2 x0 (hi x1) : S256x2816.Idx) := by blk_ext [hi]
    rw [e]; exact hR x0 x1
  · intro x
    idx_vars x
    have e : (Rect.unit ![0, 0] ![256, 1536] inb_S256x2816_S256x1536_0_0).emb (ix2 x0 x1) = (ix2 x0 (lo x1) : S256x2816.Idx) := by blk_ext [lo]
    rw [e]; exact hL x0 x1
  · idx_vars y
    obtain h | h := lt_or_ge y1.val 1536
    · refine ⟨⟨Rect.unit ![0, 0] ![256, 1536] inb_S256x2816_S256x1536_0_0, PL⟩, .tail _ (.head _), (Rect.mem_set_unit (inb := inb_S256x2816_S256x1536_0_0)).2 fun a => ?_⟩
      fin_cases a
      · exact ⟨Nat.zero_le _, y0.isLt⟩
      · exact ⟨Nat.zero_le _, h⟩
    · refine ⟨⟨Rect.unit ![0, 1536] ![256, 1280] inb_S256x2816_S256x1280_0_1536, PR⟩, .head _, (Rect.mem_set_unit (inb := inb_S256x2816_S256x1280_0_1536)).2 fun a => ?_⟩
      fin_cases a
      · exact ⟨Nat.zero_le _, y0.isLt⟩
      · exact ⟨h, y1.isLt⟩

section
variable (D : FVec Ideal S256x1024 .f32) (X : FVec Ideal S256x1024 .f32) (G : FVec Ideal S1x1024 .f32)
  (wL : FVec Ideal S1x1536x1024 .bf16) (gL uL : FVec Ideal S256x1536 .bf16) (wR : FVec Ideal S1x1280x1024 .bf16) (gR uR : FVec Ideal S256x1280 .bf16)

theorem pay_gateL (r : Fin 256) (i : Fin 1536) : k0_pay16 (F := Ideal) (k0_pay10 (F := Ideal) D wL) (k0_pay11 (F := Ideal) gL) (k0_pay12 (F := Ideal) gL) (k0_pay13 (F := Ideal)) uL (ix2 r i)
    = dgate (∑ k, ((1 / 2 : ℝ) : EReal) * D (ix2 r k) * wL (ix3 0 i k)) (uL (ix2 r i)) (gL (ix2 r i)) := by
  pointwise [k0_pay16, k0_pay10, k0_pay11, k0_pay12, k0_pay13, k0_pay14, k0_pay7, k0_pay6, lit_half, zero_sub]
  rfl

theorem pay_upL (r : Fin 256) (i : Fin 1536) : k0_pay15 (F := Ideal) (k0_pay10 (F := Ideal) D wL) (k0_pay11 (F := Ideal) gL) (k0_pay12 (F := Ideal) gL) (k0_pay13 (F := Ideal)) (ix2 r i)
    = dup (∑ k, ((1 / 2 : ℝ) : EReal) * D (ix2 r k) * wL (ix3 0 i k)) (gL (ix2 r i)) := by
  pointwise [k0_pay15, k0_pay10, k0_pay11, k0_pay12, k0_pay13, k0_pay14, k0_pay7, k0_pay6, lit_half, zero_sub]
  rfl

theorem pay_gateR (r : Fin 256) (i : Fin 1280) : k0_pay23 (F := Ideal) (k0_pay18 (F := Ideal) (k0_pay7 (F := Ideal) D) wR) (k0_pay19 (F := Ideal) gR) (k0_pay20 (F := Ideal)) uR (ix2 r i)
    = dgate (∑ k, ((1 / 2 : ℝ) : EReal) * D (ix2 r k) * wR (ix3 0 i k)) (uR (ix2 r i)) (gR (ix2 r i)) := by
  pointwise [k0_pay23, k0_pay18, k0_pay19, k0_pay20, k0_pay21, k0_pay7, k0_pay6, lit_half, zero_sub]
  rfl

theorem pay_upR (r : Fin 256) (i : Fin 1280) : k0_pay22 (F := Ideal) (k0_pay18 (F := Ideal) (k0_pay7 (F := Ideal) D) wR) (k0_pay19 (F := Ideal) gR) (k0_pay20 (F := Ideal)) (ix2 r i)
    = dup (∑ k, ((1 / 2 : ℝ) : EReal) * D (ix2 r k) * wR (ix3 0 i k)) (gR (ix2 r i)) := by
  pointwise [k0_pay22, k0_pay18, k0_pay19, k0_pay20, k0_pay21, k0_pay7, k0_pay6, lit_half, zero_sub]
  rfl

theorem pay_duL (d : FVec Ideal S256x1536 .f32) (g s o : FVec Ideal S256x1536 .f32) (w w' : FVec Ideal S1x1536x1024 .bf16) (r : Fin 256) (k : Fin 1024) :
    k0_pay17 (F := Ideal) d g s o uL w w' (ix2 r k)
      = ∑ i, k0_pay16 (F := Ideal) d g s o uL (ix2 r i) * w (ix3 0 i k) + ∑ i, k0_pay15 (F := Ideal) d g s o (ix2 r i) * w' (ix3 0 i k) := by
  pointwise [k0_pay17]

theorem pay_duR (p : FVec Ideal S256x1024 .f32) (d : FVec Ideal S256x1280 .f32) (g s : FVec Ideal S256x1280 .f32) (w w' : FVec Ideal S1x1280x1024 .bf16) (r : Fin 256) (k : Fin 1024) :
    k0_pay24 (F := Ideal) p d g s uR w w' (ix2 r k)
      = p (ix2 r k) + (∑ i, k0_pay23 (F := Ideal) d g s uR (ix2 r i) * w (ix3 0 i k) + ∑ i, k0_pay22 (F := Ideal) d g s (ix2 r i) * w' (ix3 0 i k)) := by
  pointwise [k0_pay24]

theorem pay_dh (V : FVec Ideal S256x1024 .f32) (r : Fin 256) (j : Fin 1024) :
    k0_pay3 (F := Ideal) D X V (k0_pay25 (F := Ideal) G) (k0_pay26 (F := Ideal) X) (FloatOps.ofBits FTy.f32 1149239296#32) (ix2 r j)
      = D (ix2 r j) + back 1024 (fun k => X (ix2 r k)) (fun k => V (ix2 r k) * G (ix2 0 k)) j := by
  pointwise [k0_pay3, k0_pay2, k0_pay1, k0_pay25, k0_pay26, lit_1024, lit_eps]
  rfl

theorem pay_dg (V : FVec Ideal S256x1024 .f32) (o : FVec Ideal S1x1024 .f32) (j : Fin 1024) :
    k0_pay5 (F := Ideal) X V (k0_pay26 (F := Ideal) X) (FloatOps.ofBits FTy.f32 1149239296#32) o (ix2 0 j)
      = o (ix2 0 j) + ∑ r, V (ix2 r j) * unit 1024 (fun k => X (ix2 r k)) j := by
  pointwise [k0_pay5, k0_pay2, k0_pay1, k0_pay26, lit_1024, lit_eps]
  rfl

theorem pay_zero (j : Fin 1024) : k0_pay4 (F := Ideal) (ix2 0 j) = 0 := by pointwise [k0_pay4]

theorem pay_dy (r : Fin 256) (j : Fin 1024) : k0_pay8 (F := Ideal) D (ix2 j r) = ((1 / 2 : ℝ) : EReal) * D (ix2 r j) := by
  pointwise [k0_pay8, k0_pay6, lit_half]

theorem pay_u (r : Fin 256) (j : Fin 1024) : k0_pay9 (F := Ideal) X G (ix2 j r) = unit 1024 (fun k => X (ix2 r k)) j * G (ix2 0 j) := by
  pointwise [k0_pay9, lit_1024, lit_eps]
  rfl

end

/- A load of a range of columns, or of a range of a weight's rows, reads the block there. -/
theorem ldL0 (X : FVec Ideal S3x2816x1024 .bf16) (i : Fin 1536) (k : Fin 1024) :
    (View.ld (Val := Elt Ideal) (e' := .bf16) X (Rect.unit (s := S3x2816x1024) ![0, 0, 0] ![1, 1536, 1024] inb_S3x2816x1024_S1x1536x1024_0_0_0) : FVec Ideal S1x1536x1024 .bf16) (ix3 0 i k) = X (ix3 0 (lo i) k) := by
  pointwise
  try blk_ext [lo]
theorem ldR0 (X : FVec Ideal S3x2816x1024 .bf16) (i : Fin 1280) (k : Fin 1024) :
    (View.ld (Val := Elt Ideal) (e' := .bf16) X (Rect.unit (s := S3x2816x1024) ![0, 1536, 0] ![1, 1280, 1024] inb_S3x2816x1024_S1x1280x1024_0_1536_0) : FVec Ideal S1x1280x1024 .bf16) (ix3 0 i k) = X (ix3 0 (hi i) k) := by
  pointwise
  try blk_ext [hi]
theorem ldL1 (X : FVec Ideal S3x2816x1024 .bf16) (i : Fin 1536) (k : Fin 1024) :
    (View.ld (Val := Elt Ideal) (e' := .bf16) X (Rect.unit (s := S3x2816x1024) ![1, 0, 0] ![1, 1536, 1024] inb_S3x2816x1024_S1x1536x1024_1_0_0) : FVec Ideal S1x1536x1024 .bf16) (ix3 0 i k) = X (ix3 1 (lo i) k) := by
  pointwise
  try blk_ext [lo]
theorem ldR1 (X : FVec Ideal S3x2816x1024 .bf16) (i : Fin 1280) (k : Fin 1024) :
    (View.ld (Val := Elt Ideal) (e' := .bf16) X (Rect.unit (s := S3x2816x1024) ![1, 1536, 0] ![1, 1280, 1024] inb_S3x2816x1024_S1x1280x1024_1_1536_0) : FVec Ideal S1x1280x1024 .bf16) (ix3 0 i k) = X (ix3 1 (hi i) k) := by
  pointwise
  try blk_ext [hi]
theorem ldL2 (X : FVec Ideal S3x2816x1024 .bf16) (i : Fin 1536) (k : Fin 1024) :
    (View.ld (Val := Elt Ideal) (e' := .bf16) X (Rect.unit (s := S3x2816x1024) ![2, 0, 0] ![1, 1536, 1024] inb_S3x2816x1024_S1x1536x1024_2_0_0) : FVec Ideal S1x1536x1024 .bf16) (ix3 0 i k) = X (ix3 2 (lo i) k) := by
  pointwise
  try blk_ext [lo]
theorem ldR2 (X : FVec Ideal S3x2816x1024 .bf16) (i : Fin 1280) (k : Fin 1024) :
    (View.ld (Val := Elt Ideal) (e' := .bf16) X (Rect.unit (s := S3x2816x1024) ![2, 1536, 0] ![1, 1280, 1024] inb_S3x2816x1024_S1x1280x1024_2_1536_0) : FVec Ideal S1x1280x1024 .bf16) (ix3 0 i k) = X (ix3 2 (hi i) k) := by
  pointwise
  try blk_ext [hi]
theorem ldL (X : FVec Ideal S256x2816 .bf16) (r : Fin 256) (i : Fin 1536) :
    (View.ld (Val := Elt Ideal) (e' := .bf16) X (Rect.unit (s := S256x2816) ![0, 0] ![256, 1536] inb_S256x2816_S256x1536_0_0) : FVec Ideal S256x1536 .bf16) (ix2 r i) = X (ix2 r (lo i)) := by
  pointwise
  try blk_ext [lo]
theorem ldR (X : FVec Ideal S256x2816 .bf16) (r : Fin 256) (i : Fin 1280) :
    (View.ld (Val := Elt Ideal) (e' := .bf16) X (Rect.unit (s := S256x2816) ![0, 1536] ![256, 1280] inb_S256x2816_S256x1280_0_1536) : FVec Ideal S256x1280 .bf16) (ix2 r i) = X (ix2 r (hi i)) := by
  pointwise
  try blk_ext [hi]

end Cert.Ffn

end
-- ==== Proof.FfnValue.lean ====
/- The gradient through a gated feed-forward layer: the six result arrays, block of rows by block of rows, and the norm
   weight's gradient as a sum over all rows gathered point by point. -/
module

public import proofs.«01_k».proof.Proof.FfnBody
public import proofs.«01_k».proof.Proof.Gen.Kernel7Ideal.Value

@[expose] public section

set_option maxRecDepth 16384

noncomputable section

open Idealize.ShloMosaic Idealize.ShloMosaic.TcCoe Idealize.SL.Sem
open Idealize.ShloMosaic.Pipeline (Dat)

namespace Cert.Kernel7Ideal.Ffn

open Cert.Kernel7Ideal Cert.Kernel7Ideal.Gen Cert.Ffn Cert.Rms

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0, 0]
    ∧ win0_6.index t = ![t.val, 0] ∧ win0_7.index t = ![t.val, 0] ∧ win0_8.index t = ![t.val, 0]
    ∧ win0_9.index t = ![0, t.val] ∧ win0_10.index t = ![0, t.val] ∧ win0_11.index t = ![0, 0] :=
  (by decide +kernel : ∀ t : Fin grid0.N, _)

/-- The row of the arrays that row `r` of point `t`'s blocks is. -/
def row (t : Fin cfg0.N) (r : Fin 256) : Fin 16384 := ⟨t.val * 256 + r.val, by have := t.isLt; have : cfg0.N = 64 := N_0; omega⟩

abbrev argH (c : Dev nD) : FVec Ideal S16384x1024 .f32 := m ((c : Thread nD τ).loc main_arg0)
abbrev argG (c : Dev nD) : FVec Ideal S1024 .f32 := m ((c : Thread nD τ).loc main_arg1)
abbrev argWg (c : Dev nD) : FVec Ideal S1024x2816 .f32 := m ((c : Thread nD τ).loc main_arg2)
abbrev argWu (c : Dev nD) : FVec Ideal S1024x2816 .f32 := m ((c : Thread nD τ).loc main_arg3)
abbrev argWd (c : Dev nD) : FVec Ideal S2816x1024 .f32 := m ((c : Thread nD τ).loc main_arg4)
abbrev argA (c : Dev nD) : FVec Ideal S16384x1024 .f32 := m ((c : Thread nD τ).loc main_arg5)
/-- The gate and the gated value, by the reference's lines. -/
abbrev hGate (c : Dev nD) : FVec Ideal S16384x2816 .f32 := Cert.Reference7Ideal.Read.val_main_v16 (F := Ideal) (argH m c) (argG m c) (argWg m c)
abbrev hUp (c : Dev nD) : FVec Ideal S16384x2816 .f32 := Cert.Reference7Ideal.Read.val_main_v17 (F := Ideal) (argH m c) (argG m c) (argWu m c)

theorem V_gate (c : Dev nD) : (V m c main_v23 : FVec Ideal S16384x2816 .bf16) = truncf .bf16 (hGate m c) bitsLt_bf16_f32 := by
  simp only [V, hostOps0]
  after_results_simp <;> rfl
theorem V_up (c : Dev nD) : (V m c main_v24 : FVec Ideal S16384x2816 .bf16) = truncf .bf16 (hUp m c) bitsLt_bf16_f32 := by
  simp only [V, hostOps0]
  after_results_simp <;> rfl

theorem blkA (c : Dev nD) (t : Fin cfg0.N) (r : Fin 256) (k : Fin 1024) :
    (iblk m c 0 t : FVec Ideal S256x1024 .f32) (ix2 r k) = argA m c (ix2 (row t r) k) := by
  blk_ext [iblk, V, idx t, row]

theorem blkH (c : Dev nD) (t : Fin cfg0.N) (r : Fin 256) (k : Fin 1024) :
    (iblk m c 1 t : FVec Ideal S256x1024 .f32) (ix2 r k) = argH m c (ix2 (row t r) k) := by
  blk_ext [iblk, V, idx t, row]

theorem blkG (c : Dev nD) (t : Fin cfg0.N) (k : Fin 1024) :
    (iblk m c 2 t : FVec Ideal S1x1024 .f32) (ix2 0 k) = argG m c (ix1 k) := by
  blk_simp [iblk, idx t]
  entry_read
  pointwise
  blk_ext [idx t]

theorem blkGate (c : Dev nD) (t : Fin cfg0.N) (r : Fin 256) (i : Fin 2816) :
    (iblk m c 3 t : FVec Ideal S256x2816 .bf16) (ix2 r i) = hGate m c (ix2 (row t r) i) := by
  blk_simp [iblk, idx t]
  rw [V_gate]
  generalize hGate m c = X
  pointwise
  blk_ext [idx t, row]

theorem blkUp (c : Dev nD) (t : Fin cfg0.N) (r : Fin 256) (i : Fin 2816) :
    (iblk m c 4 t : FVec Ideal S256x2816 .bf16) (ix2 r i) = hUp m c (ix2 (row t r) i) := by
  blk_simp [iblk, idx t]
  rw [V_up]
  generalize hUp m c = X
  pointwise
  blk_ext [idx t, row]

/-- The weights stacked, the first two turned over. -/
def stack (wg wu : FVec Ideal S1024x2816 .f32) (wd : FVec Ideal S2816x1024 .f32) : FVec Ideal S3x2816x1024 .bf16 :=
  truncf .bf16 (concatenate S3x2816x1024 0 [⟨S1x2816x1024, broadcastInDim S1x2816x1024 ![1, 2] bcast_S2816x1024_S1x2816x1024_1_2 (transpose S2816x1024 [1, 0] wg transposes_S1024x2816_S2816x1024_1_0)⟩,
    ⟨S1x2816x1024, broadcastInDim S1x2816x1024 ![1, 2] bcast_S2816x1024_S1x2816x1024_1_2 (transpose S2816x1024 [1, 0] wu transposes_S1024x2816_S2816x1024_1_0)⟩,
    ⟨S1x2816x1024, broadcastInDim S1x2816x1024 ![1, 2] bcast_S2816x1024_S1x2816x1024_1_2 wd⟩] concatenates_S1x2816x1024_S1x2816x1024_S1x2816x1024_S3x2816x1024_d0 : FVec Ideal S3x2816x1024 .f32) bitsLt_bf16_f32

theorem stack_at (wg wu : FVec Ideal S1024x2816 .f32) (wd : FVec Ideal S2816x1024 .f32) (i : Fin 2816) (k : Fin 1024) :
    stack wg wu wd (ix3 0 i k) = wg (ix2 k i) ∧ stack wg wu wd (ix3 1 i k) = wu (ix2 k i) ∧ stack wg wu wd (ix3 2 i k) = wd (ix2 i k) := by
  refine ⟨?_, ?_, ?_⟩ <;> pointwise [stack]

theorem V_w (c : Dev nD) : (V m c main_v21 : FVec Ideal S3x2816x1024 .bf16) = stack (argWg m c) (argWu m c) (argWd m c) := by
  simp only [V, hostOps0]
  after_results_simp <;> (try dsimp only [Matrix.cons_val]) <;> (try after_results_simp) <;> rfl

theorem blkW (c : Dev nD) (t : Fin cfg0.N) (q : Fin 3) (i : Fin 2816) (k : Fin 1024) :
    (iblk m c 5 t : FVec Ideal S3x2816x1024 .bf16) (ix3 q i k) = stack (argWg m c) (argWu m c) (argWd m c) (ix3 q i k) := by
  blk_simp [iblk, idx t]
  rw [V_w]
  generalize stack (argWg m c) (argWu m c) (argWd m c) = X
  blk_ext [idx t]

end Cert.Kernel7Ideal.Ffn

end
-- ==== Proof.FfnPoint.lean ====
/- The gradient through a gated feed-forward layer: the six result arrays, block of rows by block of rows, and the norm
   weight's gradient as a sum over all rows gathered point by point. -/
module

public import proofs.«01_k».proof.Proof.FfnValue

@[expose] public section

set_option maxRecDepth 16384

noncomputable section

open Idealize.ShloMosaic Idealize.ShloMosaic.TcCoe Idealize.SL.Sem
open Idealize.ShloMosaic.Pipeline (Dat)

namespace Cert.Kernel7Ideal.Ffn

open Cert.Kernel7Ideal Cert.Kernel7Ideal.Gen Cert.Ffn Cert.Rms

variable (m : (ℓ : Loc nD τ sig) → Buf (Elt Ideal) ℓ)

/-- The arguments whose entries are real numbers. -/
structure Fine (c : Dev nD) : Prop where
  g : ∀ i, ∃ s : ℝ, argG m c i = (s : EReal)
  wu : ∀ i, ∃ s : ℝ, argWu m c i = (s : EReal)
  wd : ∀ i, ∃ s : ℝ, argWd m c i = (s : EReal)
  a : ∀ i, ∃ s : ℝ, argA m c i = (s : EReal)

variable {m}

theorem Fine.dact {c : Dev nD} (w : Fine m c) (r : Fin 16384) (i : Fin 2816) :
    ∃ s : ℝ, Cert.Reference7Ideal.Read.val_main_v25 (F := Ideal) (argWd m c) (argA m c) (ix2 r i) = (s : EReal) := by
  choose d hd using w.wd
  choose a ha using w.a
  rw [ref_dact]
  simp only [hd, ha]
  exact dact_real _ _ i

theorem Fine.up {c : Dev nD} (w : Fine m c) (r : Fin 16384) (i : Fin 2816) : ∃ s : ℝ, hUp m c (ix2 r i) = (s : EReal) := by
  choose g hg using w.g
  choose u hu using w.wu
  unfold hUp
  rw [ref_up]
  simp only [hg, hu]
  exact proj_real _ _ _

/-- The gradient by the gate, entry by entry. -/
theorem Fine.gate {c : Dev nD} (w : Fine m c) (r : Fin 16384) (i : Fin 2816) :
    Cert.Reference7Ideal.Read.val_main_v28 (F := Ideal) (argH m c) (argG m c) (argWg m c) (argWu m c) (argWd m c) (argA m c) (ix2 r i)
      = dgate (Cert.Reference7Ideal.Read.val_main_v25 (F := Ideal) (argWd m c) (argA m c) (ix2 r i)) (hUp m c (ix2 r i)) (hGate m c (ix2 r i)) := by
  obtain ⟨d, hd⟩ := w.dact r i
  obtain ⟨u, hu⟩ := w.up r i
  rw [ref_dgate _ _ _ _ _ _ r i d u hd hu, hd, hu]

variable (c : Dev nD) (t : Fin cfg0.N) (r : Fin 256)

/-- The gradient by the activation at a row of a point. -/
theorem dactL (i : Fin 1536) : (∑ k, ((1 / 2 : ℝ) : EReal) * (iblk m c 0 t : FVec Ideal S256x1024 .f32) (ix2 r k)
      * ((View.ld (Val := Elt Ideal) (e' := .bf16) (iblk m c 5 t) (Rect.unit (s := S3x2816x1024) ![2, 0, 0] ![1, 1536, 1024] inb_S3x2816x1024_S1x1536x1024_2_0_0)) : FVec Ideal S1x1536x1024 .bf16) (ix3 0 i k))
    = Cert.Reference7Ideal.Read.val_main_v25 (F := Ideal) (argWd m c) (argA m c) (ix2 (row t r) (lo i)) := by
  rw [ref_dact]
  exact Finset.sum_congr rfl fun k _ => by rw [ldL2, blkW, (stack_at _ _ _ _ _).2.2, blkA]
theorem dactR (i : Fin 1280) : (∑ k, ((1 / 2 : ℝ) : EReal) * (iblk m c 0 t : FVec Ideal S256x1024 .f32) (ix2 r k)
      * ((View.ld (Val := Elt Ideal) (e' := .bf16) (iblk m c 5 t) (Rect.unit (s := S3x2816x1024) ![2, 1536, 0] ![1, 1280, 1024] inb_S3x2816x1024_S1x1280x1024_2_1536_0)) : FVec Ideal S1x1280x1024 .bf16) (ix3 0 i k))
    = Cert.Reference7Ideal.Read.val_main_v25 (F := Ideal) (argWd m c) (argA m c) (ix2 (row t r) (hi i)) := by
  rw [ref_dact]
  exact Finset.sum_congr rfl fun k _ => by rw [ldR2, blkW, (stack_at _ _ _ _ _).2.2, blkA]

/- The four ranges that a point computes of the two gradients. -/
def upL : FVec Ideal S256x1536 .bf16 := k0_pay15 (F := Ideal) (k0_pay10 (F := Ideal) (iblk m c 0 t) (View.ld (Val := Elt Ideal) (e' := .bf16) (iblk m c 5 t) (Rect.unit (s := S3x2816x1024) ![2, 0, 0] ![1, 1536, 1024] inb_S3x2816x1024_S1x1536x1024_2_0_0))) (k0_pay11 (F := Ideal) (View.ld (Val := Elt Ideal) (e' := .bf16) (iblk m c 3 t) (Rect.unit (s := S256x2816) ![0, 0] ![256, 1536] inb_S256x2816_S256x1536_0_0))) (k0_pay12 (F := Ideal) (View.ld (Val := Elt Ideal) (e' := .bf16) (iblk m c 3 t) (Rect.unit (s := S256x2816) ![0, 0] ![256, 1536] inb_S256x2816_S256x1536_0_0))) (k0_pay13 (F := Ideal))
def gateL : FVec Ideal S256x1536 .bf16 := k0_pay16 (F := Ideal) (k0_pay10 (F := Ideal) (iblk m c 0 t) (View.ld (Val := Elt Ideal) (e' := .bf16) (iblk m c 5 t) (Rect.unit (s := S3x2816x1024) ![2, 0, 0] ![1, 1536, 1024] inb_S3x2816x1024_S1x1536x1024_2_0_0))) (k0_pay11 (F := Ideal) (View.ld (Val := Elt Ideal) (e' := .bf16) (iblk m c 3 t) (Rect.unit (s := S256x2816) ![0, 0] ![256, 1536] inb_S256x2816_S256x1536_0_0))) (k0_pay12 (F := Ideal) (View.ld (Val := Elt Ideal) (e' := .bf16) (iblk m c 3 t) (Rect.unit (s := S256x2816) ![0, 0] ![256, 1536] inb_S256x2816_S256x1536_0_0))) (k0_pay13 (F := Ideal)) (View.ld (Val := Elt Ideal) (e' := .bf16) (iblk m c 4 t) (Rect.unit (s := S256x2816) ![0, 0] ![256, 1536] inb_S256x2816_S256x1536_0_0))
def upR : FVec Ideal S256x1280 .bf16 := k0_pay22 (F := Ideal) (k0_pay18 (F := Ideal) (k0_pay7 (F := Ideal) (iblk m c 0 t)) (View.ld (Val := Elt Ideal) (e' := .bf16) (iblk m c 5 t) (Rect.unit (s := S3x2816x1024) ![2, 1536, 0] ![1, 1280, 1024] inb_S3x2816x1024_S1x1280x1024_2_1536_0))) (k0_pay19 (F := Ideal) (View.ld (Val := Elt Ideal) (e' := .bf16) (iblk m c 3 t) (Rect.unit (s := S256x2816) ![0, 1536] ![256, 1280] inb_S256x2816_S256x1280_0_1536))) (k0_pay20 (F := Ideal))
def gateR : FVec Ideal S256x1280 .bf16 := k0_pay23 (F := Ideal) (k0_pay18 (F := Ideal) (k0_pay7 (F := Ideal) (iblk m c 0 t)) (View.ld (Val := Elt Ideal) (e' := .bf16) (iblk m c 5 t) (Rect.unit (s := S3x2816x1024) ![2, 1536, 0] ![1, 1280, 1024] inb_S3x2816x1024_S1x1280x1024_2_1536_0))) (k0_pay19 (F := Ideal) (View.ld (Val := Elt Ideal) (e' := .bf16) (iblk m c 3 t) (Rect.unit (s := S256x2816) ![0, 1536] ![256, 1280] inb_S256x2816_S256x1280_0_1536))) (k0_pay20 (F := Ideal)) (View.ld (Val := Elt Ideal) (e' := .bf16) (iblk m c 4 t) (Rect.unit (s := S256x2816) ![0, 1536] ![256, 1280] inb_S256x2816_S256x1280_0_1536))

theorem upL_at (i : Fin 1536) : upL (m := m) c t (ix2 r i) = Cert.Reference7Ideal.Read.val_main_v26 (F := Ideal) (argH m c) (argG m c) (argWg m c) (argWd m c) (argA m c) (ix2 (row t r) (lo i)) := by
  refine (pay_upL _ _ _ r i).trans ?_
  rw [dactL, ldL, blkGate, ref_dup, ref_dact]
theorem upR_at (i : Fin 1280) : upR (m := m) c t (ix2 r i) = Cert.Reference7Ideal.Read.val_main_v26 (F := Ideal) (argH m c) (argG m c) (argWg m c) (argWd m c) (argA m c) (ix2 (row t r) (hi i)) := by
  refine (pay_upR _ _ _ r i).trans ?_
  rw [dactR, ldR, blkGate, ref_dup, ref_dact]
theorem Fine.gateL_at {c : Dev nD} (w : Fine m c) (t : Fin cfg0.N) (r : Fin 256) (i : Fin 1536) : gateL (m := m) c t (ix2 r i) = Cert.Reference7Ideal.Read.val_main_v28 (F := Ideal) (argH m c) (argG m c) (argWg m c) (argWu m c) (argWd m c) (argA m c) (ix2 (row t r) (lo i)) := by
  refine (pay_gateL _ _ _ _ r i).trans ?_
  rw [dactL, ldL, ldL, blkGate, blkUp, w.gate]
theorem Fine.gateR_at {c : Dev nD} (w : Fine m c) (t : Fin cfg0.N) (r : Fin 256) (i : Fin 1280) : gateR (m := m) c t (ix2 r i) = Cert.Reference7Ideal.Read.val_main_v28 (F := Ideal) (argH m c) (argG m c) (argWg m c) (argWu m c) (argWd m c) (argA m c) (ix2 (row t r) (hi i)) := by
  refine (pay_gateR _ _ _ _ r i).trans ?_
  rw [dactR, ldR, ldR, blkGate, blkUp, w.gate]

/-- The gradient by the norm's output that a point computes. -/
def atDu : FVec Ideal S256x1024 .f32 :=
  k0_pay24 (F := Ideal) (k0_pay17 (F := Ideal) (k0_pay10 (F := Ideal) (iblk m c 0 t) (View.ld (Val := Elt Ideal) (e' := .bf16) (iblk m c 5 t) (Rect.unit (s := S3x2816x1024) ![2, 0, 0] ![1, 1536, 1024] inb_S3x2816x1024_S1x1536x1024_2_0_0))) (k0_pay11 (F := Ideal) (View.ld (Val := Elt Ideal) (e' := .bf16) (iblk m c 3 t) (Rect.unit (s := S256x2816) ![0, 0] ![256, 1536] inb_S256x2816_S256x1536_0_0))) (k0_pay12 (F := Ideal) (View.ld (Val := Elt Ideal) (e' := .bf16) (iblk m c 3 t) (Rect.unit (s := S256x2816) ![0, 0] ![256, 1536] inb_S256x2816_S256x1536_0_0))) (k0_pay13 (F := Ideal)) (View.ld (Val := Elt Ideal) (e' := .bf16) (iblk m c 4 t) (Rect.unit (s := S256x2816) ![0, 0] ![256, 1536] inb_S256x2816_S256x1536_0_0)) (View.ld (Val := Elt Ideal) (e' := .bf16) (iblk m c 5 t) (Rect.unit (s := S3x2816x1024) ![0, 0, 0] ![1, 1536, 1024] inb_S3x2816x1024_S1x1536x1024_0_0_0)) (View.ld (Val := Elt Ideal) (e' := .bf16) (iblk m c 5 t) (Rect.unit (s := S3x2816x1024) ![1, 0, 0] ![1, 1536, 1024] inb_S3x2816x1024_S1x1536x1024_1_0_0)))
    (k0_pay18 (F := Ideal) (k0_pay7 (F := Ideal) (iblk m c 0 t)) (View.ld (Val := Elt Ideal) (e' := .bf16) (iblk m c 5 t) (Rect.unit (s := S3x2816x1024) ![2, 1536, 0] ![1, 1280, 1024] inb_S3x2816x1024_S1x1280x1024_2_1536_0))) (k0_pay19 (F := Ideal) (View.ld (Val := Elt Ideal) (e' := .bf16) (iblk m c 3 t) (Rect.unit (s := S256x2816) ![0, 1536] ![256, 1280] inb_S256x2816_S256x1280_0_1536))) (k0_pay20 (F := Ideal)) (View.ld (Val := Elt Ideal) (e' := .bf16) (iblk m c 4 t) (Rect.unit (s := S256x2816) ![0, 1536] ![256, 1280] inb_S256x2816_S256x1280_0_1536)) (View.ld (Val := Elt Ideal) (e' := .bf16) (iblk m c 5 t) (Rect.unit (s := S3x2816x1024) ![0, 1536, 0] ![1, 1280, 1024] inb_S3x2816x1024_S1x1280x1024_0_1536_0)) (View.ld (Val := Elt Ideal) (e' := .bf16) (iblk m c 5 t) (Rect.unit (s := S3x2816x1024) ![1, 1536, 0] ![1, 1280, 1024] inb_S3x2816x1024_S1x1280x1024_1_1536_0))

theorem Fine.du_at {c : Dev nD} (w : Fine m c) (t : Fin cfg0.N) (r : Fin 256) (k : Fin 1024) : atDu (m := m) c t (ix2 r k) = Cert.Reference7Ideal.Read.val_main_v31 (F := Ideal) (argH m c) (argG m c) (argWg m c) (argWu m c) (argWd m c) (argA m c) (ix2 (row t r) k) := by
  refine (pay_duR _ _ _ _ _ _ _ r k).trans ?_
  rw [pay_duL, ref_du, du, sum_cols, sum_cols, add_add_add_comm]
  have h1 (i) := w.gateL_at t r i
  have h2 (i) := w.gateR_at t r i
  have h3 (i) := upL_at (m := m) c t r i
  have h4 (i) := upR_at (m := m) c t r i
  simp only [gateL, gateR, upL, upR] at h1 h2 h3 h4
  refine (congrArg₂ (· + ·)
    (congrArg₂ (· + ·) (Finset.sum_congr rfl fun i _ => by rw [h1, ldL0, blkW, (stack_at _ _ _ _ _).1])
      (Finset.sum_congr rfl fun i _ => by rw [h2, ldR0, blkW, (stack_at _ _ _ _ _).1]))
    (congrArg₂ (· + ·) (Finset.sum_congr rfl fun i _ => by rw [h3, ldL1, blkW, (stack_at _ _ _ _ _).2.1])
      (Finset.sum_congr rfl fun i _ => by rw [h4, ldR1, blkW, (stack_at _ _ _ _ _).2.1]))).trans (add_comm _ _)

end Cert.Kernel7Ideal.Ffn

end
-- ==== Proof.FfnFinal.lean ====
/- The gradient through a gated feed-forward layer: the six result arrays of the blocks of rows. -/
module

public import proofs.«01_k».proof.Proof.FfnPoint

@[expose] public section

set_option maxRecDepth 16384

noncomputable section

open Idealize.ShloMosaic Idealize.ShloMosaic.TcCoe Idealize.SL.Sem
open Idealize.ShloMosaic.Pipeline (Dat)

namespace Cert.Kernel7Ideal.Ffn

open Cert.Kernel7Ideal Cert.Kernel7Ideal.Gen Cert.Ffn Cert.Rms

variable {m : (ℓ : Loc nD τ sig) → Buf (Elt Ideal) ℓ} {c : Dev nD}

/-- The gradient by the layer's input. -/
theorem Fine.final_dh (w : Fine m c) : (dats m 0 c).arrAt 6 cfg0.N = Cert.Reference7Ideal.Read.val_main_v52 (F := Ideal) (argH m c) (argG m c) (argWg m c) (argWu m c) (argWd m c) (argA m c) := by
  refine (dats m 0 c).arrAt_eq_of_covers 6 _ (by decide +kernel) fun t hf y => ?_
  blk_simp [idx t]
  rw [after0_6]
  idx_vars y
  have he : ((View.whole main_v25_0).slice (win0_6.rect t)).emb (ix2 y0 y1) = ix2 (row t y0) y1 := by blk_ext [idx t, row]
  have hv : (outsAt0 m c t.val t.isLt).1 = k0_pay3 (F := Ideal) (iblk m c 0 t) (iblk m c 1 t) (atDu (m := m) c t) (k0_pay25 (F := Ideal) (iblk m c 2 t)) (k0_pay26 (F := Ideal) (iblk m c 1 t)) (FloatOps.ofBits FTy.f32 1149239296#32) := by
    by_cases h : t.val % 64 = 0
    · rw [outsAt0_A m c t h]; frame_out; rfl
    · rw [outsAt0_B m c t h]; frame_out; rfl
  rw [hv, he, ref_dh]
  refine (pay_dh _ _ _ _ y0 y1).trans ?_
  simp only [blkA, blkH, blkG, w.du_at]

/-- The gradient by the gate's argument. -/
theorem Fine.final_gate (w : Fine m c) : (dats m 0 c).arrAt 7 cfg0.N = Cert.Reference7Ideal.Read.val_main_v53 (F := Ideal) (argH m c) (argG m c) (argWg m c) (argWu m c) (argWd m c) (argA m c) := by
  refine (dats m 0 c).arrAt_eq_of_covers 7 _ (by decide +kernel) fun t hf y => ?_
  blk_simp [idx t]
  rw [after0_7]
  have hv : (outsAt0 m c t.val t.isLt).2.1 y = Cert.Reference7Ideal.Read.val_main_v28 (F := Ideal) (argH m c) (argG m c) (argWg m c) (argWu m c) (argWd m c) (argA m c) (((View.whole main_v25_1).slice (win0_7.rect t)).emb y) := by
    have hb (e : S256x2816.Idx) : ((View.whole main_v25_1).slice (win0_7.rect t)).emb e = ix2 (row t (e 0)) (e 1) := by
      idx_vars e; blk_ext [idx t, row]
    by_cases h : t.val % 64 = 0
    · rw [outsAt0_A m c t h]; frame_out
      refine (cols _ _ _ (fun e => Cert.Reference7Ideal.Read.val_main_v28 (F := Ideal) (argH m c) (argG m c) (argWg m c) (argWu m c) (argWd m c) (argA m c) (((View.whole main_v25_1).slice (win0_7.rect t)).emb e)) (fun r i => ?_) (fun r i => ?_) y)
      · exact (w.gateR_at t r i).trans (by rw [hb]; rfl)
      · exact (w.gateL_at t r i).trans (by rw [hb]; rfl)
    · rw [outsAt0_B m c t h]; frame_out
      refine (cols _ _ _ (fun e => Cert.Reference7Ideal.Read.val_main_v28 (F := Ideal) (argH m c) (argG m c) (argWg m c) (argWu m c) (argWd m c) (argA m c) (((View.whole main_v25_1).slice (win0_7.rect t)).emb e)) (fun r i => ?_) (fun r i => ?_) y)
      · exact (w.gateR_at t r i).trans (by rw [hb]; rfl)
      · exact (w.gateL_at t r i).trans (by rw [hb]; rfl)
  exact hv

/-- The gradient by the other factor. -/
theorem final_dup : (dats m 0 c).arrAt 8 cfg0.N = Cert.Reference7Ideal.Read.val_main_v54 (F := Ideal) (argH m c) (argG m c) (argWg m c) (argWd m c) (argA m c) := by
  refine (dats m 0 c).arrAt_eq_of_covers 8 _ (by decide +kernel) fun t hf y => ?_
  blk_simp [idx t]
  rw [after0_8]
  have hv : (outsAt0 m c t.val t.isLt).2.2.1 y = Cert.Reference7Ideal.Read.val_main_v26 (F := Ideal) (argH m c) (argG m c) (argWg m c) (argWd m c) (argA m c) (((View.whole main_v25_2).slice (win0_8.rect t)).emb y) := by
    have hb (e : S256x2816.Idx) : ((View.whole main_v25_2).slice (win0_8.rect t)).emb e = ix2 (row t (e 0)) (e 1) := by
      idx_vars e; blk_ext [idx t, row]
    by_cases h : t.val % 64 = 0
    · rw [outsAt0_A m c t h]; frame_out
      refine (cols _ _ _ (fun e => Cert.Reference7Ideal.Read.val_main_v26 (F := Ideal) (argH m c) (argG m c) (argWg m c) (argWd m c) (argA m c) (((View.whole main_v25_2).slice (win0_8.rect t)).emb e)) (fun r i => ?_) (fun r i => ?_) y)
      · exact (upR_at c t r i).trans (by rw [hb]; rfl)
      · exact (upL_at c t r i).trans (by rw [hb]; rfl)
    · rw [outsAt0_B m c t h]; frame_out
      refine (cols _ _ _ (fun e => Cert.Reference7Ideal.Read.val_main_v26 (F := Ideal) (argH m c) (argG m c) (argWg m c) (argWd m c) (argA m c) (((View.whole main_v25_2).slice (win0_8.rect t)).emb e)) (fun r i => ?_) (fun r i => ?_) y)
      · exact (upR_at c t r i).trans (by rw [hb]; rfl)
      · exact (upL_at c t r i).trans (by rw [hb]; rfl)
  exact hv

/-- The norm's output, transposed. -/
theorem final_u : (dats m 0 c).arrAt 9 cfg0.N = Cert.Reference7Ideal.Read.val_main_v69 (F := Ideal) (argH m c) (argG m c) := by
  refine (dats m 0 c).arrAt_eq_of_covers 9 _ (by decide +kernel) fun t hf y => ?_
  blk_simp [idx t]
  rw [after0_9]
  idx_vars y
  have he : ((View.whole main_v25_3).slice (win0_9.rect t)).emb (ix2 y0 y1) = ix2 y0 (row t y1) := by blk_ext [idx t, row]
  have hv : (outsAt0 m c t.val t.isLt).2.2.2.1 = k0_pay9 (F := Ideal) (iblk m c 1 t) (iblk m c 2 t) := by
    by_cases h : t.val % 64 = 0
    · rw [outsAt0_A m c t h]; frame_out
    · rw [outsAt0_B m c t h]; frame_out
  rw [hv, he, ref_u]
  refine (pay_u _ _ y1 y0).trans ?_
  simp only [blkH, blkG]

/-- Half the layer's cotangent, transposed. -/
theorem final_dy : (dats m 0 c).arrAt 10 cfg0.N = Cert.Reference7Ideal.Read.val_main_v71 (F := Ideal) (argA m c) := by
  refine (dats m 0 c).arrAt_eq_of_covers 10 _ (by decide +kernel) fun t hf y => ?_
  blk_simp [idx t]
  rw [after0_10]
  idx_vars y
  have he : ((View.whole main_v25_4).slice (win0_10.rect t)).emb (ix2 y0 y1) = ix2 y0 (row t y1) := by blk_ext [idx t, row]
  have hv : (outsAt0 m c t.val t.isLt).2.2.2.2.1 = k0_pay8 (F := Ideal) (iblk m c 0 t) := by
    by_cases h : t.val % 64 = 0
    · rw [outsAt0_A m c t h]; frame_out
    · rw [outsAt0_B m c t h]; frame_out
  rw [hv, he, ref_dy]
  refine (pay_dy _ y1 y0).trans ?_
  simp only [blkA]

/-- The norm weight's gradient: the sum over all rows. -/
theorem Fine.final_dg (w : Fine m c) : (dats m 0 c).arrAt 11 cfg0.N = Cert.Reference7Ideal.Read.val_main_v72 (F := Ideal) (argH m c) (argG m c) (argWg m c) (argWu m c) (argWd m c) (argA m c) := by
  have hp (t : Fin cfg0.N) (o : FVec Ideal S1x1024 .f32) (j : Fin 1024) :
      k0_pay5 (F := Ideal) (iblk m c 1 t) (atDu (m := m) c t) (k0_pay26 (F := Ideal) (iblk m c 1 t)) (FloatOps.ofBits FTy.f32 1149239296#32) o (ix2 0 j)
      = o (ix2 0 j) + ∑ r : Fin 256, Cert.Reference7Ideal.Read.val_main_v31 (F := Ideal) (argH m c) (argG m c) (argWg m c) (argWu m c) (argWd m c) (argA m c) (ix2 (row t r) j) * unit 1024 (fun k => argH m c (ix2 (row t r) k)) j := by
    refine (pay_dg _ _ o j).trans ?_
    simp only [blkH, w.du_at]
  refine (dats m 0 c).arrAt_eq_of_covers 11 _ (by decide +kernel) fun t hf y => ?_
  blk_simp [idx t]
  rw [after0_11, Pipeline.eq_sum_fin_of_reset_step_apply_of_flush (fun n h => (outsAt0 m c n h).2.2.2.2.2) 64 (fun _ => 0)
    (fun t y => ∑ r : Fin 256, Cert.Reference7Ideal.Read.val_main_v31 (F := Ideal) (argH m c) (argG m c) (argWg m c) (argWu m c) (argWd m c) (argA m c) (ix2 (row t r) (y 1)) * unit 1024 (fun k => argH m c (ix2 (row t r) k)) (y 1))
    (fun t h y => by
      rw [outsAt0_A m c t h]; frame_out
      idx_vars y; obtain rfl : y0 = 0 := Subsingleton.elim _ _
      exact (hp t _ y1).trans (congrArg (· + _) (pay_zero y1)))
    (fun t h y => by
      rw [outsAt0_B m c t h]; frame_out
      idx_vars y; obtain rfl : y0 = 0 := Subsingleton.elim _ _
      exact hp t _ y1)
    t ((flush0_11 t).mp hf) _, zero_add]
  idx_vars y; obtain rfl : y0 = 0 := Subsingleton.elim _ _
  have he : (win0_11.blk t).view.emb (ix2 0 y1) = ix2 0 y1 := by blk_ext [idx t]
  rw [he, ref_dg]
  have hr (s : Fin 64) (r : Fin 256) (hp) (hl) : row ⟨64 * (t.val / 64) + s.val, hp⟩ r = ⟨s.val * 256 + r.val, hl⟩ := by
    have := t.isLt; have h64 : cfg0.N = 64 := N_0; have := (flush0_11 t).mp hf
    apply Fin.ext; simp only [row]; omega
  exact Fin.sum_mul_add_congr fun s r hl => by rw [hr s r _ hl]

end Cert.Kernel7Ideal.Ffn

end
-- ==== Proof.FlashOffs.lean ====
/- Where the program of the attention gradient reads and writes: every offset it computes, as a plain expression
in the key tile `i 1` and the trip `k` of its loop. -/
module

public import proofs.«01_k».proof.Kernel2Ideal
public import Idealize.ShloMosaic.Lib.Exec
public import Idealize.ShloMosaic.Lib.Decide

@[expose] public section

noncomputable section

namespace Cert.Kernel2Ideal.Flash

open Idealize.ShloMosaic Idealize.ShloMosaic.TcCoe Cert.Kernel2Ideal

theorem off1 : ∀ (i : grid0.Coords), k0_off1 i = ![512 * (2 * (i 1).val), 0] := by
  decide +kernel
theorem off2 : ∀ (i : grid0.Coords), k0_off2 i = ![512 * (2 * (i 1).val), 0] := by
  decide +kernel
theorem off10 : ∀ (i : grid0.Coords), k0_off10 i = ![2 * (i 1).val, 0, 0] := by
  decide +kernel
instance (i : grid0.Coords) : ClosedOff (k0_off10 i) := ⟨_, off10 i⟩
theorem off26 : ∀ (i : grid0.Coords), k0_off26 i = ![512 * 31, 0] := by
  decide +kernel
theorem off27 : ∀ (i : grid0.Coords), k0_off27 i = ![512 * 31, 0] := by
  decide +kernel
theorem off29 : ∀ (i : grid0.Coords), k0_off29 i = ![512 * 31, 0] := by
  decide +kernel
theorem off30 : ∀ (i : grid0.Coords), k0_off30 i = ![512 * 31, 0] := by
  decide +kernel
theorem off31 : ∀ (i : grid0.Coords), k0_off31 i = ![31, 0, 0] := by
  decide +kernel
instance (i : grid0.Coords) : ClosedOff (k0_off31 i) := ⟨_, off31 i⟩
theorem off32 : ∀ (i : grid0.Coords), k0_off32 i = ![2 * (i 1).val, 0, 0] := by
  decide +kernel
instance (i : grid0.Coords) : ClosedOff (k0_off32 i) := ⟨_, off32 i⟩
theorem off33 : ∀ (i : grid0.Coords), k0_off33 i = ![2 * (i 1).val + 1, 0, 0] := by
  decide +kernel
instance (i : grid0.Coords) : ClosedOff (k0_off33 i) := ⟨_, off33 i⟩
theorem off3_0 : ∀ (i : grid0.Coords), k0_off3 i 0#32 = ![512 * (2 * (i 1).val + 0), 0] := by
  decide +kernel
theorem off3_1 : ∀ (i : grid0.Coords), k0_off3 i 1#32 = ![512 * (2 * (i 1).val + 1), 0] := by
  decide +kernel
theorem off4_0 : ∀ (i : grid0.Coords), k0_off4 i 0#32 = ![512 * (2 * (i 1).val + 0), 0] := by
  decide +kernel
theorem off4_1 : ∀ (i : grid0.Coords), k0_off4 i 1#32 = ![512 * (2 * (i 1).val + 1), 0] := by
  decide +kernel
theorem off5_0 : ∀ (i : grid0.Coords), k0_off5 i 0#32 = ![0, 2 * (i 1).val + 0, 0, 0] := by
  decide +kernel
theorem off5_1 : ∀ (i : grid0.Coords), k0_off5 i 1#32 = ![0, 2 * (i 1).val + 1, 0, 0] := by
  decide +kernel
theorem off6_0 : ∀ (i : grid0.Coords), k0_off6 i 0#32 = ![2 * (i 1).val + 0, 0, 0] := by
  decide +kernel
instance (i : grid0.Coords) : ClosedOff (k0_off6 i 0#32) := ⟨_, off6_0 i⟩
theorem off6_1 : ∀ (i : grid0.Coords), k0_off6 i 1#32 = ![2 * (i 1).val + 1, 0, 0] := by
  decide +kernel
instance (i : grid0.Coords) : ClosedOff (k0_off6 i 1#32) := ⟨_, off6_1 i⟩
theorem off7_0 : ∀ (i : grid0.Coords), k0_off7 i 0#32 = ![512 * (2 * (i 1).val + 0), 0] := by
  decide +kernel
theorem off7_1 : ∀ (i : grid0.Coords), k0_off7 i 1#32 = ![512 * (2 * (i 1).val + 1), 0] := by
  decide +kernel
theorem off7_2 : ∀ (i : grid0.Coords), k0_off7 i 2#32 = ![512 * (2 * (i 1).val + 2), 0] := by
  decide +kernel
theorem off8_0 : ∀ (i : grid0.Coords), k0_off8 i 0#32 = ![512 * (2 * (i 1).val + 0), 0] := by
  decide +kernel
theorem off8_1 : ∀ (i : grid0.Coords), k0_off8 i 1#32 = ![512 * (2 * (i 1).val + 1), 0] := by
  decide +kernel
theorem off8_2 : ∀ (i : grid0.Coords), k0_off8 i 2#32 = ![512 * (2 * (i 1).val + 2), 0] := by
  decide +kernel
theorem off9_0 : ∀ (i : grid0.Coords), k0_off9 i 0#32 = ![0, 2 * (i 1).val + 0, 0, 0] := by
  decide +kernel
theorem off9_1 : ∀ (i : grid0.Coords), k0_off9 i 1#32 = ![0, 2 * (i 1).val + 1, 0, 0] := by
  decide +kernel
theorem off23_1 : ∀ (i : grid0.Coords), k0_off23 i 1#32 = ![512 * 30, 0] := by
  decide +kernel
theorem off23_2 : ∀ (i : grid0.Coords), k0_off23 i 2#32 = ![512 * 29, 0] := by
  decide +kernel
theorem off24_1 : ∀ (i : grid0.Coords), k0_off24 i 1#32 = ![512 * 30, 0] := by
  decide +kernel
theorem off24_2 : ∀ (i : grid0.Coords), k0_off24 i 2#32 = ![512 * 29, 0] := by
  decide +kernel
theorem off25_1 : ∀ (i : grid0.Coords), k0_off25 i 1#32 = ![30, 0, 0] := by
  decide +kernel
instance (i : grid0.Coords) : ClosedOff (k0_off25 i 1#32) := ⟨_, off25_1 i⟩
theorem off25_2 : ∀ (i : grid0.Coords), k0_off25 i 2#32 = ![29, 0, 0] := by
  decide +kernel
instance (i : grid0.Coords) : ClosedOff (k0_off25 i 2#32) := ⟨_, off25_2 i⟩
theorem off28_1 : ∀ (i : grid0.Coords), k0_off28 i 1#32 = ![0, 31, 0, 0] := by
  decide +kernel
theorem off28_2 : ∀ (i : grid0.Coords), k0_off28 i 2#32 = ![0, 30, 0, 0] := by
  decide +kernel
theorem off11_2 : ∀ (i : grid0.Coords) (k : Fin (k0_t1_loop i).trips), k0_off11 i k 2#32 = ![512 * (2 * (i 1).val + (1 + 2 * k.val)), 0] := by
  decide +kernel
theorem off11_3 : ∀ (i : grid0.Coords) (k : Fin (k0_t1_loop i).trips), k0_off11 i k 3#32 = ![512 * (2 * (i 1).val + (2 + 2 * k.val)), 0] := by
  decide +kernel
theorem off12_2 : ∀ (i : grid0.Coords) (k : Fin (k0_t1_loop i).trips), k0_off12 i k 2#32 = ![512 * (2 * (i 1).val + (1 + 2 * k.val)), 0] := by
  decide +kernel
theorem off12_3 : ∀ (i : grid0.Coords) (k : Fin (k0_t1_loop i).trips), k0_off12 i k 3#32 = ![512 * (2 * (i 1).val + (2 + 2 * k.val)), 0] := by
  decide +kernel
theorem off13_2 : ∀ (i : grid0.Coords) (k : Fin (k0_t1_loop i).trips), k0_off13 i k 2#32 = ![2 * (i 1).val + (1 + 2 * k.val), 0, 0] := by
  decide +kernel
instance (i : grid0.Coords) (k : Fin (k0_t1_loop i).trips) : ClosedOff (k0_off13 i k 2#32) := ⟨_, off13_2 i k⟩
theorem off13_3 : ∀ (i : grid0.Coords) (k : Fin (k0_t1_loop i).trips), k0_off13 i k 3#32 = ![2 * (i 1).val + (2 + 2 * k.val), 0, 0] := by
  decide +kernel
instance (i : grid0.Coords) (k : Fin (k0_t1_loop i).trips) : ClosedOff (k0_off13 i k 3#32) := ⟨_, off13_3 i k⟩
theorem off14_2 : ∀ (i : grid0.Coords) (k : Fin (k0_t1_loop i).trips), k0_off14 i k 2#32 = ![512 * (2 * (i 1).val + (3 + 2 * k.val)), 0] := by
  decide +kernel
theorem off14_3 : ∀ (i : grid0.Coords) (k : Fin (k0_t1_loop i).trips), k0_off14 i k 3#32 = ![512 * (2 * (i 1).val + (4 + 2 * k.val)), 0] := by
  decide +kernel
theorem off15_2 : ∀ (i : grid0.Coords) (k : Fin (k0_t1_loop i).trips), k0_off15 i k 2#32 = ![512 * (2 * (i 1).val + (3 + 2 * k.val)), 0] := by
  decide +kernel
theorem off15_3 : ∀ (i : grid0.Coords) (k : Fin (k0_t1_loop i).trips), k0_off15 i k 3#32 = ![512 * (2 * (i 1).val + (4 + 2 * k.val)), 0] := by
  decide +kernel
theorem off16_2 : ∀ (i : grid0.Coords) (k : Fin (k0_t1_loop i).trips), k0_off16 i k 2#32 = ![0, 2 * (i 1).val + (2 + 2 * k.val), 0, 0] := by
  decide +kernel
theorem off16_3 : ∀ (i : grid0.Coords) (k : Fin (k0_t1_loop i).trips), k0_off16 i k 3#32 = ![0, 2 * (i 1).val + (3 + 2 * k.val), 0, 0] := by
  decide +kernel

theorem trips : ∀ i : grid0.Coords, k0_cond3 i = 1#1 → (k0_t1_loop i).trips = 14 - (i 1).val := by
  decide +kernel
theorem cond2_iff : ∀ i : grid0.Coords, k0_cond2 i = 1#1 ↔ (i 1).val = 15 := by
  decide +kernel
theorem cond3_iff : ∀ i : grid0.Coords, k0_cond3 i = 1#1 ↔ (i 1).val < 15 := by
  decide +kernel

end Cert.Kernel2Ideal.Flash

end
-- ==== Proof.FlashStep.lean ====
/- What the attention gradient's program computes from one query tile, and what its buffers hold after the first `n`
   tiles, over any floating-point operations. -/
module

public import proofs.«01_k».proof.Proof.FlashOffs
public import proofs.«01_k».proof.Proof.Gen.Kernel2Ideal.Frame
public import proofs.«01_k».proof.Proof.Gen.Kernel2Ideal.Loops
public import Idealize.ShloMosaic.Lib.WholeRead
public import Idealize.ShloMosaic.Lib.WritesUnit
public import Idealize.ShloMosaic.Lib.Pointwise

@[expose] public section

noncomputable section

namespace Cert.Kernel2Ideal.Flash

open Idealize.ShloMosaic Idealize.ShloMosaic.TcCoe Cert.Kernel2Ideal Cert.Kernel2Ideal.Gen

section Reads

variable {sig : RefSig} {κ : Kind} {sp : Space} {s : Shape} {e : EltTy} {Val : EltTy → Type} {m : Memref sig κ sp s e}

/-- A whole buffer read whole. -/
theorem read_whole (h : m.IsWhole) (X : s.Idx → Val e) {off : Fin s.rank → ℕ} (inb : ∀ a, off a + s.size a ≤ s.size a) :
    m.view.readAt Val (Rect.unit (s := s) off s.size inb).toLoadRect (h.unread X) = X := by
  funext x
  rw [h.readAt_unread]
  refine congrArg X (funext fun a => Fin.ext ?_)
  have : off a = 0 := by have := inb a; omega
  show off a + 1 * (x a).val = (x a).val
  omega

/-- A buffer written whole holds what was written last. -/
theorem read_written (v : View sig κ sp s e) (f : v.ty.Contents Val) {off : Fin s.rank → ℕ}
    (inb : ∀ a, off a + s.size a ≤ s.size a) (w : s.Idx → Val e) (L : List (View.Piece Val s e)) :
    v.read Val (v.writes Val f ((⟨Rect.unit (s := s) off s.size inb, w⟩ : View.Piece Val s e) :: L)) = w := by
  funext y
  refine View.read_writes_cons_unit_of_mem v f inb w L y y rfl fun a => ?_
  have : off a = 0 := by have := inb a; omega
  omega

end Reads

variable {F : FTy → Type} [FloatOps F] [Named F]

/-! ## One query tile -/

section Tile

variable (K : Vec F S1024x256 .bf16) (V : Vec F S1024x128 .bf16) (Q : Vec F S16384x256 .bf16) (DO : Vec F S16384x128 .bf16)
  (LS : Vec F S1x32x1x512 .f32) (DL : Vec F S1x32x1x512 .f32) (q0 : ℕ)

/-- The queries of tile `c`. -/
def qRow (c : ℕ) : Vec F S512x256 .bf16 := fun x => Q (ix2 (Fin.ofNat 16384 (512 * c + (x 0).val)) (x 1))
/-- The cotangent's rows of tile `c`. -/
def oRow (c : ℕ) : Vec F S512x128 .bf16 := fun x => DO (ix2 (Fin.ofNat 16384 (512 * c + (x 0).val)) (x 1))
/-- A row statistic of tile `c`. -/
def stat (X : Vec F S1x32x1x512 .f32) (c : ℕ) : Vec F S1x1x1x512 .f32 := fun x => X (ix4 0 (Fin.ofNat 32 c) 0 (x 3))

/-- Scores and value products of the `c`-th tile past the diagonal, keys down the rows. -/
def s (c : ℕ) : FVec F S1024x512 .f32 := k0_pay2 K (qRow Q (q0 + c))
def dp (c : ℕ) : FVec F S1024x512 .f32 := k0_pay3 V (oRow DO (q0 + c))
/-- The probabilities: the two tiles on the diagonal are masked. -/
def pf : ℕ → FVec F S1024x512 .f32
  | 0 => k0_pay6 (k0_pay4 (s K Q q0 0) (stat LS (q0 + 0))) k0_pay5
  | 1 => k0_pay67 (s K Q q0 1) (stat LS (q0 + 1))
  | c + 2 => k0_pay25 (s K Q q0 (c + 2)) (stat LS (q0 + (c + 2)))
def p (c : ℕ) : FVec F S1024x512 .bf16 :=
  shapeCast S1024x512 (truncf .bf16 (pf K Q LS q0 c) bitsLt_bf16_f32) shapeCasts_S1024x512_S1024x512
def ds (c : ℕ) : FVec F S1024x512 .bf16 := k0_pay69 (pf K Q LS q0 c) (dp V DO q0 c) (stat DL (q0 + c))

/-- The three gradients after `n` tiles. -/
def dvS : ℕ → FVec F S1024x128 .f32
  | 0 => k0_pay95
  | n + 1 => k0_pay9 (dvS n) (p K Q LS q0 n) (oRow DO (q0 + n))
def dkS : ℕ → FVec F S1024x256 .f32
  | 0 => k0_pay94
  | n + 1 => k0_pay10 (ds K V Q DO LS DL q0 n) (dkS n) (qRow Q (q0 + n))
/-- A slab of the queries' gradient, and the one with tile `c` added. -/
def slab (D : Vec F S32x256x512 .f32) (c : ℕ) : Vec F S1x256x512 .f32 := fun x => D (ix3 (Fin.ofNat 32 c) (x 1) (x 2))
def dqT (D : Vec F S32x256x512 .f32) (c : ℕ) : FVec F S1x256x512 .f32 :=
  k0_pay11 (ds K V Q DO LS DL q0 c) (slab D (q0 + c)) (k0_pay93 K)
def dqS (D : Vec F S32x256x512 .f32) (n : ℕ) : Vec F S32x256x512 .f32 := fun y =>
  if q0 ≤ (y 0).val ∧ (y 0).val < q0 + n then dqT K V Q DO LS DL q0 D ((y 0).val - q0) (ix3 0 (y 1) (y 2)) else D y

theorem dqS_zero (D : Vec F S32x256x512 .f32) : dqS K V Q DO LS DL q0 D 0 = D := by
  funext y; exact if_neg (by omega)

/-- The next tile's slab is still the old one. -/
theorem slab_dqS (D : Vec F S32x256x512 .f32) (n : ℕ) (h : q0 + n < 32) :
    slab (dqS K V Q DO LS DL q0 D n) (q0 + n) = slab D (q0 + n) := by
  funext x
  refine if_neg ?_
  show ¬ (q0 ≤ (q0 + n) % 32 ∧ (q0 + n) % 32 < q0 + n)
  omega

end Tile

section Rows

variable {sig : RefSig} {κ : Kind} {sp : Space}

/-- Rows of a tile read from a whole buffer. -/
theorem read_q {m : Memref sig κ sp S16384x256 .bf16} (h : m.IsWhole) (Q : Vec F S16384x256 .bf16) {off : Fin 2 → ℕ}
    (inb : ∀ a, off a + S512x256.size a ≤ S16384x256.size a) (c : ℕ) (e : off = ![512 * c, 0]) :
    m.view.readAt (Elt F) (Rect.unit (s := S16384x256) off S512x256.size inb).toLoadRect (h.unread Q) = qRow Q c := by
  subst e
  funext x
  rw [h.readAt_unread]
  refine congrArg Q (funext fun a => ?_)
  have h0 : 512 * c + 512 ≤ 16384 := inb 0
  have hx : (x 0).val < 512 := (x 0).isLt
  match a with
  | ⟨0, _⟩ => refine Fin.ext ?_; show 512 * c + 1 * (x 0).val = (512 * c + (x 0).val) % 16384; omega
  | ⟨1, _⟩ => refine Fin.ext ?_; show 0 + 1 * (x 1).val = (x 1).val; omega
theorem read_o {m : Memref sig κ sp S16384x128 .bf16} (h : m.IsWhole) (Q : Vec F S16384x128 .bf16) {off : Fin 2 → ℕ}
    (inb : ∀ a, off a + S512x128.size a ≤ S16384x128.size a) (c : ℕ) (e : off = ![512 * c, 0]) :
    m.view.readAt (Elt F) (Rect.unit (s := S16384x128) off S512x128.size inb).toLoadRect (h.unread Q) = oRow Q c := by
  subst e
  funext x
  rw [h.readAt_unread]
  refine congrArg Q (funext fun a => ?_)
  have h0 : 512 * c + 512 ≤ 16384 := inb 0
  have hx : (x 0).val < 512 := (x 0).isLt
  match a with
  | ⟨0, _⟩ => refine Fin.ext ?_; show 512 * c + 1 * (x 0).val = (512 * c + (x 0).val) % 16384; omega
  | ⟨1, _⟩ => refine Fin.ext ?_; show 0 + 1 * (x 1).val = (x 1).val; omega
theorem read_stat {m : Memref sig κ sp S1x32x1x512 .f32} (h : m.IsWhole) (X : Vec F S1x32x1x512 .f32) {off : Fin 4 → ℕ}
    (inb : ∀ a, off a + S1x1x1x512.size a ≤ S1x32x1x512.size a) (c : ℕ) (e : off = ![0, c, 0, 0]) :
    m.view.readAt (Elt F) (Rect.unit (s := S1x32x1x512) off S1x1x1x512.size inb).toLoadRect (h.unread X) = stat X c := by
  subst e
  funext x
  rw [h.readAt_unread]
  refine congrArg X (funext fun a => ?_)
  have h0 : c + 1 ≤ 32 := inb 1
  have hx0 : (x 0).val < 1 := (x 0).isLt
  have hx1 : (x 1).val < 1 := (x 1).isLt
  have hx2 : (x 2).val < 1 := (x 2).isLt
  match a with
  | ⟨0, _⟩ => refine Fin.ext ?_; show 0 + 1 * (x 0).val = 0; omega
  | ⟨1, _⟩ => refine Fin.ext ?_; show c + 1 * (x 1).val = c % 32; omega
  | ⟨2, _⟩ => refine Fin.ext ?_; show 0 + 1 * (x 2).val = 0; omega
  | ⟨3, _⟩ => refine Fin.ext ?_; show 0 + 1 * (x 3).val = (x 3).val; omega
/-- A slab of the queries' gradient, read. -/
theorem read_slab {m : Memref sig κ sp S32x256x512 .f32} (h : m.IsWhole) (X : Vec F S32x256x512 .f32) {off : Fin 3 → ℕ}
    (inb : ∀ a, off a + S1x256x512.size a ≤ S32x256x512.size a) (c : ℕ) (e : off = ![c, 0, 0]) :
    m.view.readAt (Elt F) (Rect.unit (s := S32x256x512) off S1x256x512.size inb).toLoadRect (h.unread X) = slab X c := by
  subst e
  funext x
  rw [h.readAt_unread]
  refine congrArg X (funext fun a => ?_)
  have h0 : c + 1 ≤ 32 := inb 0
  have hx0 : (x 0).val < 1 := (x 0).isLt
  match a with
  | ⟨0, _⟩ => refine Fin.ext ?_; show c + 1 * (x 0).val = c % 32; omega
  | ⟨1, _⟩ => refine Fin.ext ?_; show 0 + 1 * (x 1).val = (x 1).val; omega
  | ⟨2, _⟩ => refine Fin.ext ?_; show 0 + 1 * (x 2).val = (x 2).val; omega

/-- Tile `n`'s slab written over the gradient after `n` tiles is the gradient after `n + 1`. -/
theorem slab_written (K : Vec F S1024x256 .bf16) (V : Vec F S1024x128 .bf16) (Q : Vec F S16384x256 .bf16) (DO : Vec F S16384x128 .bf16)
    (LS : Vec F S1x32x1x512 .f32) (DL : Vec F S1x32x1x512 .f32) (q0 : ℕ) (D : Vec F S32x256x512 .f32)
    (v : View sig κ sp S32x256x512 .f32) (f : v.ty.Contents (Elt F)) {off : Fin 3 → ℕ}
    (inb : ∀ a, off a + S1x256x512.size a ≤ S32x256x512.size a) (n : ℕ) (e : off = ![q0 + n, 0, 0])
    (w : S1x256x512.Idx → Elt F .f32) (L : List (View.Piece (Elt F) S32x256x512 .f32))
    (hw : w = dqT K V Q DO LS DL q0 D n)
    (hL : v.read (Elt F) (v.writes (Elt F) f L) = dqS K V Q DO LS DL q0 D n) :
    v.read (Elt F) (v.writes (Elt F) f ((⟨Rect.unit (s := S32x256x512) off S1x256x512.size inb, w⟩ : View.Piece (Elt F) S32x256x512 .f32) :: L))
      = dqS K V Q DO LS DL q0 D (n + 1) := by
  subst hw
  funext y
  by_cases hy : (y 0).val = q0 + n
  · have hx : ∀ a, (y a).val = (![q0 + n, 0, 0] : Fin 3 → ℕ) a + ((ix3 0 (y 1) (y 2) : S1x256x512.Idx) a).val := by
      intro a
      match a with
      | ⟨0, _⟩ => show (y 0).val = q0 + n + 0; omega
      | ⟨1, _⟩ => show (y 1).val = 0 + (y 1).val; omega
      | ⟨2, _⟩ => show (y 2).val = 0 + (y 2).val; omega
    refine (View.read_writes_cons_unit_of_mem v f inb _ L y (ix3 0 (y 1) (y 2) : S1x256x512.Idx) e hx).trans ?_
    have : dqS K V Q DO LS DL q0 D (n + 1) y = dqT K V Q DO LS DL q0 D ((y 0).val - q0) (ix3 0 (y 1) (y 2)) := if_pos (by omega)
    rw [this, show (y 0).val - q0 = n by omega]
  · refine (View.read_writes_cons_unit_of_not_mem v f inb _ L y e 0 (show (y 0).val < q0 + n ∨ q0 + n + 1 ≤ (y 0).val by omega)).trans ?_
    rw [hL]
    unfold dqS
    by_cases h1 : q0 ≤ (y 0).val ∧ (y 0).val < q0 + n
    · rw [if_pos h1, if_pos (by omega)]
    · rw [if_neg h1, if_neg (by omega)]

end Rows

end Cert.Kernel2Ideal.Flash

end
-- ==== Proof.FlashOps.lean ====
/- One memory operation at a time: what a load reads and a store leaves of a buffer owned whole. -/
module

public import proofs.«01_k».proof.Proof.FlashStep
public import Idealize.ShloMosaic.Lib.LoopRemainder

@[expose] public section

set_option maxRecDepth 16384

noncomputable section

namespace Cert.Kernel2Ideal.Flash

open Idealize.ShloMosaic Idealize.ShloMosaic.TcCoe Idealize.ShloMosaic.Tactic Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

section Ops

variable {sp : CoreSpace} {S : Shape} {e : EltTy} {β : Type}

/-- A load of a buffer owned whole gives what its rectangle reads. -/
theorem load_at (c : Dev nD) (m : Memref sig .tc sp S e) (h : m.IsWhole) (X : Vec F S e) {r : LoadRect S} {hl : m.view.LoadsAt r}
    (Y : r.shape.Idx → Elt F e) (hY : m.view.readAt (Elt F) r (h.unread X) = Y)
    {k : (r.shape.Idx → Elt F e) → Prog (TpuEff nD τ sig (Elt F) Λ₀ .tc) β} {E : Set ℕ} {Q : β → sProp 𝕄} :
    iprop(owns (c : Thread nD τ) m fullShare X ∗ (owns (c : Thread nD τ) m fullShare X -∗ wp frame (wpE (defs₀ (F := F)) Variants.none c none) E (k Y) Q))
      ⊢ wp frame (wpE (defs₀ (F := F)) Variants.none c none) E (Prog.lift (TpuEff.load m r hl) >>= k) Q := by
  subst hY
  unfold owns
  iintro ⟨⟨%f, %hf, H⟩, Hk⟩
  obtain rfl := h.eq_unread hf
  have step := wp_load (defs := defs₀ (F := F)) Variants.none (c : Thread nD τ) none (Γ := .empty) E (Q := Q) (m := m) (r := r) (hl := hl) (k := k) (q := fullShare)
    (f := h.unread X) (S := m.view.set) (View.setOn_subset_set _ _)
  iapply step $$ H
  iintro H
  iapply Hk
  iexists _; isplitr [H]
  · ipureintro; exact hf
  iexact H

/-- A store into a buffer owned whole leaves what is read behind its rectangle. -/
theorem store_at (c : Dev nD) (m : Memref sig .tc sp S e) (h : m.IsWhole) (X Y : Vec F S e) {r : Rect S} {w : r.shape.Idx → Elt F e}
    {hx : (m.access r).Stores Finset.univ} {hm : Finset.univ = Finset.univ ∨ ∀ a, r.stride a = 1}
    (hY : m.view.read (Elt F) (m.view.writes (Elt F) (h.unread X) [(⟨r, w⟩ : View.Piece (Elt F) S e)]) = Y)
    {k : PUnit → Prog (TpuEff nD τ sig (Elt F) Λ₀ .tc) β} {E : Set ℕ} {Q : β → sProp 𝕄} :
    iprop(owns (c : Thread nD τ) m fullShare X ∗ (owns (c : Thread nD τ) m fullShare Y -∗ wp frame (wpE (defs₀ (F := F)) Variants.none c none) E (k ⟨⟩) Q))
      ⊢ wp frame (wpE (defs₀ (F := F)) Variants.none c none) E (Prog.lift (TpuEff.store m r w Finset.univ hx hm) >>= k) Q := by
  unfold owns
  iintro ⟨⟨%f, %hf, H⟩, Hk⟩
  obtain rfl := h.eq_unread hf
  have step := wp_store_writes₀ (defs := defs₀ (F := F)) Variants.none (c : Thread nD τ) none E (Q := Q) (m := m) (r := r) (w := w) (hx := hx) (hm := hm) (k := k)
    (f := h.unread X) (S := m.view.set) (View.set_slice_subset _ _)
  iapply step $$ H
  iintro H
  iapply Hk
  iexists _; isplitr [H]
  · ipureintro; exact hY
  iexact H

end Ops

section Whole

variable {sp : CoreSpace} {S : Shape} {e : EltTy} {β : Type} (c : Dev nD)

theorem load_whole {m : Memref sig .tc sp S e} (h : m.IsWhole) {X : Vec F S e} {off : Fin S.rank → ℕ}
    {inb : ∀ a, off a + S.size a ≤ S.size a} {hl : m.view.LoadsAt (Rect.unit (s := S) off S.size inb).toLoadRect}
    {k : Vec F S e → Prog (TpuEff nD τ sig (Elt F) Λ₀ .tc) β} {E : Set ℕ} {Q : β → sProp 𝕄} :
    owns (c : Thread nD τ) m fullShare X ⊢ iprop((owns (c : Thread nD τ) m fullShare X -∗ wp frame (wpE (defs₀ (F := F)) Variants.none c none) E (k X) Q)
      -∗ wp frame (wpE (defs₀ (F := F)) Variants.none c none) E (Prog.lift (TpuEff.load m (Rect.unit (s := S) off S.size inb).toLoadRect hl) >>= k) Q) := by
  iintro H Hk
  iapply (load_at c m h X (r := (Rect.unit (s := S) off S.size inb).toLoadRect) (hl := hl) X (read_whole h X inb) (k := k))
  isplitl [H] <;> iassumption

theorem store_whole {m : Memref sig .tc sp S e} (h : m.IsWhole) {X : Vec F S e} {off : Fin S.rank → ℕ}
    {inb : ∀ a, off a + S.size a ≤ S.size a} {w : Vec F S e} {hx : (m.access (Rect.unit (s := S) off S.size inb)).Stores Finset.univ}
    {hm : Finset.univ = Finset.univ ∨ ∀ a, (Rect.unit (s := S) off S.size inb).stride a = 1}
    {k : PUnit → Prog (TpuEff nD τ sig (Elt F) Λ₀ .tc) β} {E : Set ℕ} {Q : β → sProp 𝕄} :
    owns (c : Thread nD τ) m fullShare X ⊢ iprop((owns (c : Thread nD τ) m fullShare w -∗ wp frame (wpE (defs₀ (F := F)) Variants.none c none) E (k ⟨⟩) Q)
      -∗ wp frame (wpE (defs₀ (F := F)) Variants.none c none) E (Prog.lift (TpuEff.store m (Rect.unit (s := S) off S.size inb) w Finset.univ hx hm) >>= k) Q) := by
  iintro H Hk
  iapply (store_at c m h X w (r := Rect.unit (s := S) off S.size inb) (w := w) (hx := hx) (hm := hm) (read_written _ _ inb w []) (k := k))
  isplitl [H] <;> iassumption

end Whole

section Rows

variable {β : Type} (c : Dev nD)

theorem load_q {m : Memref sig .tc (.core .vmem) S16384x256 .bf16} (h : m.IsWhole) {X : Vec F S16384x256 .bf16} (t : ℕ) {off : Fin 2 → ℕ} (ho : off = ![512 * t, 0])
    {inb : ∀ a, off a + S512x256.size a ≤ S16384x256.size a} {hl : m.view.LoadsAt (Rect.unit (s := S16384x256) off S512x256.size inb).toLoadRect}
    {k : Vec F S512x256 .bf16 → Prog (TpuEff nD τ sig (Elt F) Λ₀ .tc) β} {E : Set ℕ} {Q : β → sProp 𝕄} :
    owns (c : Thread nD τ) m fullShare X ⊢ iprop((owns (c : Thread nD τ) m fullShare X -∗ wp frame (wpE (defs₀ (F := F)) Variants.none c none) E (k (qRow X t)) Q)
      -∗ wp frame (wpE (defs₀ (F := F)) Variants.none c none) E (Prog.lift (TpuEff.load m (Rect.unit (s := S16384x256) off S512x256.size inb).toLoadRect hl) >>= k) Q) := by
  iintro H Hk
  iapply (load_at c m h X (r := (Rect.unit (s := S16384x256) off S512x256.size inb).toLoadRect) (hl := hl) (qRow X t) (read_q h X inb t ho) (k := k))
  isplitl [H] <;> iassumption

theorem load_o {m : Memref sig .tc (.core .vmem) S16384x128 .bf16} (h : m.IsWhole) {X : Vec F S16384x128 .bf16} (t : ℕ) {off : Fin 2 → ℕ} (ho : off = ![512 * t, 0])
    {inb : ∀ a, off a + S512x128.size a ≤ S16384x128.size a} {hl : m.view.LoadsAt (Rect.unit (s := S16384x128) off S512x128.size inb).toLoadRect}
    {k : Vec F S512x128 .bf16 → Prog (TpuEff nD τ sig (Elt F) Λ₀ .tc) β} {E : Set ℕ} {Q : β → sProp 𝕄} :
    owns (c : Thread nD τ) m fullShare X ⊢ iprop((owns (c : Thread nD τ) m fullShare X -∗ wp frame (wpE (defs₀ (F := F)) Variants.none c none) E (k (oRow X t)) Q)
      -∗ wp frame (wpE (defs₀ (F := F)) Variants.none c none) E (Prog.lift (TpuEff.load m (Rect.unit (s := S16384x128) off S512x128.size inb).toLoadRect hl) >>= k) Q) := by
  iintro H Hk
  iapply (load_at c m h X (r := (Rect.unit (s := S16384x128) off S512x128.size inb).toLoadRect) (hl := hl) (oRow X t) (read_o h X inb t ho) (k := k))
  isplitl [H] <;> iassumption

theorem load_stat {m : Memref sig .tc (.core .vmem) S1x32x1x512 .f32} (h : m.IsWhole) {X : Vec F S1x32x1x512 .f32} (t : ℕ) {off : Fin 4 → ℕ} (ho : off = ![0, t, 0, 0])
    {inb : ∀ a, off a + S1x1x1x512.size a ≤ S1x32x1x512.size a} {hl : m.view.LoadsAt (Rect.unit (s := S1x32x1x512) off S1x1x1x512.size inb).toLoadRect}
    {k : Vec F S1x1x1x512 .f32 → Prog (TpuEff nD τ sig (Elt F) Λ₀ .tc) β} {E : Set ℕ} {Q : β → sProp 𝕄} :
    owns (c : Thread nD τ) m fullShare X ⊢ iprop((owns (c : Thread nD τ) m fullShare X -∗ wp frame (wpE (defs₀ (F := F)) Variants.none c none) E (k (stat X t)) Q)
      -∗ wp frame (wpE (defs₀ (F := F)) Variants.none c none) E (Prog.lift (TpuEff.load m (Rect.unit (s := S1x32x1x512) off S1x1x1x512.size inb).toLoadRect hl) >>= k) Q) := by
  iintro H Hk
  iapply (load_at c m h X (r := (Rect.unit (s := S1x32x1x512) off S1x1x1x512.size inb).toLoadRect) (hl := hl) (stat X t) (read_stat h X inb t ho) (k := k))
  isplitl [H] <;> iassumption

theorem load_slab {m : Memref sig .tc (.core .vmem) S32x256x512 .f32} (h : m.IsWhole) {X : Vec F S32x256x512 .f32} (t : ℕ) {off : Fin 3 → ℕ} (ho : off = ![t, 0, 0])
    {inb : ∀ a, off a + S1x256x512.size a ≤ S32x256x512.size a} {hl : m.view.LoadsAt (Rect.unit (s := S32x256x512) off S1x256x512.size inb).toLoadRect}
    {k : Vec F S1x256x512 .f32 → Prog (TpuEff nD τ sig (Elt F) Λ₀ .tc) β} {E : Set ℕ} {Q : β → sProp 𝕄} :
    owns (c : Thread nD τ) m fullShare X ⊢ iprop((owns (c : Thread nD τ) m fullShare X -∗ wp frame (wpE (defs₀ (F := F)) Variants.none c none) E (k (slab X t)) Q)
      -∗ wp frame (wpE (defs₀ (F := F)) Variants.none c none) E (Prog.lift (TpuEff.load m (Rect.unit (s := S32x256x512) off S1x256x512.size inb).toLoadRect hl) >>= k) Q) := by
  iintro H Hk
  iapply (load_at c m h X (r := (Rect.unit (s := S32x256x512) off S1x256x512.size inb).toLoadRect) (hl := hl) (slab X t) (read_slab h X inb t ho) (k := k))
  isplitl [H] <;> iassumption

/-- The slab of tile `n` written with that tile's gradient added. -/
theorem store_slab {m : Memref sig .tc (.core .vmem) S32x256x512 .f32} (h : m.IsWhole) (K : Vec F S1024x256 .bf16) (V : Vec F S1024x128 .bf16)
    (Q : Vec F S16384x256 .bf16) (DO : Vec F S16384x128 .bf16) (LS DL : Vec F S1x32x1x512 .f32) (q0 : ℕ) (D : Vec F S32x256x512 .f32) (n : ℕ)
    {off : Fin 3 → ℕ} (ho : off = ![q0 + n, 0, 0]) {inb : ∀ a, off a + S1x256x512.size a ≤ S32x256x512.size a} {w : Vec F S1x256x512 .f32}
    {hx : (m.access (Rect.unit (s := S32x256x512) off S1x256x512.size inb)).Stores Finset.univ}
    {hm : Finset.univ = Finset.univ ∨ ∀ a, (Rect.unit (s := S32x256x512) off S1x256x512.size inb).stride a = 1}
    (hw : w = k0_pay11 (ds K V Q DO LS DL q0 n) (slab (dqS K V Q DO LS DL q0 D n) (q0 + n)) (k0_pay93 K))
    {k : PUnit → Prog (TpuEff nD τ sig (Elt F) Λ₀ .tc) β} {E : Set ℕ} {Q' : β → sProp 𝕄} :
    owns (c : Thread nD τ) m fullShare (dqS K V Q DO LS DL q0 D n) ⊢ iprop((owns (c : Thread nD τ) m fullShare (dqS K V Q DO LS DL q0 D (n + 1)) -∗ wp frame (wpE (defs₀ (F := F)) Variants.none c none) E (k ⟨⟩) Q')
      -∗ wp frame (wpE (defs₀ (F := F)) Variants.none c none) E (Prog.lift (TpuEff.store m (Rect.unit (s := S32x256x512) off S1x256x512.size inb) w Finset.univ hx hm) >>= k) Q') := by
  have hn : q0 + n < 32 := by
    have := inb 0
    subst ho
    exact this
  rw [slab_dqS _ _ _ _ _ _ _ _ _ hn] at hw
  iintro H Hk
  iapply (store_at c m h (dqS K V Q DO LS DL q0 D n) (dqS K V Q DO LS DL q0 D (n + 1)) (r := Rect.unit (s := S32x256x512) off S1x256x512.size inb) (w := w) (hx := hx) (hm := hm)
    (slab_written K V Q DO LS DL q0 D m.view _ inb n ho w [] hw (h.read_unread _)) (k := k))
  isplitl [H] <;> iassumption

end Rows

section Out

variable {β : Type} (c : Dev nD)

/-- A load whose value is not used. -/
theorem load_any {sp : CoreSpace} {S : Shape} {e : EltTy} (m : Memref sig .tc sp S e) (h : m.IsWhole) {X : Vec F S e} {r : LoadRect S} {hl : m.view.LoadsAt r}
    {k : (r.shape.Idx → Elt F e) → Prog (TpuEff nD τ sig (Elt F) Λ₀ .tc) β} {E : Set ℕ} {Q : β → sProp 𝕄} :
    owns (c : Thread nD τ) m fullShare X ⊢ iprop((owns (c : Thread nD τ) m fullShare X -∗ wp frame (wpE (defs₀ (F := F)) Variants.none c none) E (k (m.view.readAt (Elt F) r (h.unread X))) Q)
      -∗ wp frame (wpE (defs₀ (F := F)) Variants.none c none) E (Prog.lift (TpuEff.load m r hl) >>= k) Q) := by
  iintro H Hk
  iapply (load_at c m h X (r := r) (hl := hl) _ rfl (k := k))
  isplitl [H] <;> iassumption

/-- Two halves side by side. -/
def out8 (a b : Vec F S256x512 .f32) : Vec F S256x1024 .f32 := fun y =>
  if (y 1).val < 512 then a (ix2 (y 0) (Fin.ofNat 512 (y 1).val)) else b (ix2 (y 0) (Fin.ofNat 512 (y 1).val))

theorem store_left {m : Memref sig .tc (.core .vmem) S256x1024 .f32} (h : m.IsWhole) {X : Vec F S256x1024 .f32}
    {inb : ∀ a, (![0, 0] : Fin 2 → ℕ) a + S256x512.size a ≤ S256x1024.size a} {w : Vec F S256x512 .f32}
    {hx : (m.access (Rect.unit (s := S256x1024) ![0, 0] S256x512.size inb)).Stores Finset.univ}
    {hm : Finset.univ = Finset.univ ∨ ∀ a, (Rect.unit (s := S256x1024) ![0, 0] S256x512.size inb).stride a = 1}
    {k : PUnit → Prog (TpuEff nD τ sig (Elt F) Λ₀ .tc) β} {E : Set ℕ} {Q : β → sProp 𝕄} :
    owns (c : Thread nD τ) m fullShare X ⊢ iprop((owns (c : Thread nD τ) m fullShare (out8 w fun x => X (ix2 (x 0) (Fin.ofNat 1024 (512 + (x 1).val))))
        -∗ wp frame (wpE (defs₀ (F := F)) Variants.none c none) E (k ⟨⟩) Q)
      -∗ wp frame (wpE (defs₀ (F := F)) Variants.none c none) E (Prog.lift (TpuEff.store m (Rect.unit (s := S256x1024) ![0, 0] S256x512.size inb) w Finset.univ hx hm) >>= k) Q) := by
  iintro H Hk
  iapply (store_at c m h X (out8 w fun x => X (ix2 (x 0) (Fin.ofNat 1024 (512 + (x 1).val)))) (r := Rect.unit (s := S256x1024) ![0, 0] S256x512.size inb) (w := w) (hx := hx) (hm := hm) ?_ (k := k))
  swap
  · isplitl [H] <;> iassumption
  funext y
  have y1 : (y 1).val < 1024 := (y 1).isLt
  unfold out8
  split
  · rename_i hy
    refine View.read_writes_cons_unit_of_mem m.view _ inb w [] y (ix2 (y 0) (Fin.ofNat 512 (y 1).val) : S256x512.Idx) rfl fun a => ?_
    match a with
    | ⟨0, _⟩ => show (y 0).val = 0 + (y 0).val; omega
    | ⟨1, _⟩ => show (y 1).val = 0 + (y 1).val % 512; omega
  · rename_i hy
    refine (View.read_writes_cons_unit_of_not_mem m.view _ inb w [] y rfl 1 (show (y 1).val < 0 ∨ 0 + 512 ≤ (y 1).val by omega)).trans ?_
    refine (congrFun (h.read_unread X) y).trans (congrArg X (funext fun a => ?_))
    match a with
    | ⟨0, _⟩ => rfl
    | ⟨1, _⟩ => refine Fin.ext ?_; show (y 1).val = (512 + (y 1).val % 512) % 1024; omega

theorem store_right {m : Memref sig .tc (.core .vmem) S256x1024 .f32} (h : m.IsWhole) {a b : Vec F S256x512 .f32}
    {inb : ∀ a, (![0, 512] : Fin 2 → ℕ) a + S256x512.size a ≤ S256x1024.size a} {w : Vec F S256x512 .f32}
    {hx : (m.access (Rect.unit (s := S256x1024) ![0, 512] S256x512.size inb)).Stores Finset.univ}
    {hm : Finset.univ = Finset.univ ∨ ∀ a, (Rect.unit (s := S256x1024) ![0, 512] S256x512.size inb).stride a = 1}
    {k : PUnit → Prog (TpuEff nD τ sig (Elt F) Λ₀ .tc) β} {E : Set ℕ} {Q : β → sProp 𝕄} :
    owns (c : Thread nD τ) m fullShare (out8 a b) ⊢ iprop((owns (c : Thread nD τ) m fullShare (out8 a w) -∗ wp frame (wpE (defs₀ (F := F)) Variants.none c none) E (k ⟨⟩) Q)
      -∗ wp frame (wpE (defs₀ (F := F)) Variants.none c none) E (Prog.lift (TpuEff.store m (Rect.unit (s := S256x1024) ![0, 512] S256x512.size inb) w Finset.univ hx hm) >>= k) Q) := by
  iintro H Hk
  iapply (store_at c m h (out8 a b) (out8 a w) (r := Rect.unit (s := S256x1024) ![0, 512] S256x512.size inb) (w := w) (hx := hx) (hm := hm) ?_ (k := k))
  swap
  · isplitl [H] <;> iassumption
  funext y
  have y1 : (y 1).val < 1024 := (y 1).isLt
  by_cases hy : (y 1).val < 512
  · refine (View.read_writes_cons_unit_of_not_mem m.view _ inb w [] y rfl 1 (show (y 1).val < 512 ∨ 512 + 512 ≤ (y 1).val by omega)).trans ?_
    refine (congrFun (h.read_unread _) y).trans ?_
    unfold out8
    rw [if_pos hy, if_pos hy]
  · unfold out8
    rw [if_neg hy]
    refine View.read_writes_cons_unit_of_mem m.view _ inb w [] y (ix2 (y 0) (Fin.ofNat 512 (y 1).val) : S256x512.Idx) rfl fun a => ?_
    match a with
    | ⟨0, _⟩ => show (y 0).val = 0 + (y 0).val; omega
    | ⟨1, _⟩ => show (y 1).val = 512 + (y 1).val % 512; omega

end Out

end Cert.Kernel2Ideal.Flash

end
-- ==== Proof.FlashTrip.lean ====
/- One trip of the counted loop of the attention gradient's program: two query tiles further. -/
module

public import proofs.«01_k».proof.Proof.FlashOps

@[expose] public section

set_option maxRecDepth 16384

noncomputable section

namespace Cert.Kernel2Ideal.Flash

open Idealize.ShloMosaic Idealize.ShloMosaic.TcCoe Idealize.ShloMosaic.Tactic Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What the loop's buffers hold: the six operands as they came, the twelve buffers the body writes at `x9` to `x20`. -/
def St (c : Dev nD) (arg2 : Memref sig .tc .vmem S1024x256 .bf16) (arg3 : Memref sig .tc .vmem S1024x128 .bf16) (arg4 : Memref sig .tc .vmem S16384x256 .bf16) (arg5 : Memref sig .tc .vmem S16384x128 .bf16) (arg6 : Memref sig .tc .vmem S1x32x1x512 .f32) (arg7 : Memref sig .tc .vmem S1x32x1x512 .f32) (arg8 : Memref sig .tc .vmem S256x1024 .f32) (arg9 : Memref sig .tc .vmem S1024x256 .f32) (arg10 : Memref sig .tc .vmem S1024x128 .f32) (arg11 : Memref sig .tc .vmem S32x256x512 .f32) (arg12 : Memref sig .tc .vmem S256x1024 .bf16) (arg13 : Memref sig .tc .vmem S1024x512 .f32) (arg14 : Memref sig .tc .vmem S1024x512 .f32) (arg15 : Memref sig .tc .vmem S1024x512 .f32) (arg16 : Memref sig .tc .vmem S1024x512 .f32) (arg17 : Memref sig .tc .vmem S1024x512 .bf16) (arg18 : Memref sig .tc .vmem S1024x512 .bf16) (arg19 : Memref sig .tc .vmem S1024x512 .bf16) (arg20 : Memref sig .tc .vmem S1024x512 .bf16) (K : Vec F S1024x256 .bf16) (V : Vec F S1024x128 .bf16) (Q : Vec F S16384x256 .bf16) (DO : Vec F S16384x128 .bf16) (LS DL : Vec F S1x32x1x512 .f32) (x9 : Vec F S1024x256 .f32) (x10 : Vec F S1024x128 .f32) (x11 : Vec F S32x256x512 .f32) (x12 : Vec F S256x1024 .bf16) (x13 : Vec F S1024x512 .f32) (x14 : Vec F S1024x512 .f32) (x15 : Vec F S1024x512 .f32) (x16 : Vec F S1024x512 .f32) (x17 : Vec F S1024x512 .bf16) (x18 : Vec F S1024x512 .bf16) (x19 : Vec F S1024x512 .bf16) (x20 : Vec F S1024x512 .bf16) : sProp 𝕄 :=
  iprop(owns (c : Thread nD τ) arg2 fullShare K ∗ owns (c : Thread nD τ) arg3 fullShare V ∗ owns (c : Thread nD τ) arg4 fullShare Q ∗ owns (c : Thread nD τ) arg5 fullShare DO ∗ owns (c : Thread nD τ) arg6 fullShare LS ∗ owns (c : Thread nD τ) arg7 fullShare DL ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20)

/-- Before trip `k`: the gradients without the last tile fetched, that tile's probabilities and score gradients, and the
    next tile's products. -/
def Inv (c : Dev nD) (q0 : ℕ) (arg2 : Memref sig .tc .vmem S1024x256 .bf16) (arg3 : Memref sig .tc .vmem S1024x128 .bf16) (arg4 : Memref sig .tc .vmem S16384x256 .bf16) (arg5 : Memref sig .tc .vmem S16384x128 .bf16) (arg6 : Memref sig .tc .vmem S1x32x1x512 .f32) (arg7 : Memref sig .tc .vmem S1x32x1x512 .f32) (arg8 : Memref sig .tc .vmem S256x1024 .f32) (arg9 : Memref sig .tc .vmem S1024x256 .f32) (arg10 : Memref sig .tc .vmem S1024x128 .f32) (arg11 : Memref sig .tc .vmem S32x256x512 .f32) (arg12 : Memref sig .tc .vmem S256x1024 .bf16) (arg13 : Memref sig .tc .vmem S1024x512 .f32) (arg14 : Memref sig .tc .vmem S1024x512 .f32) (arg15 : Memref sig .tc .vmem S1024x512 .f32) (arg16 : Memref sig .tc .vmem S1024x512 .f32) (arg17 : Memref sig .tc .vmem S1024x512 .bf16) (arg18 : Memref sig .tc .vmem S1024x512 .bf16) (arg19 : Memref sig .tc .vmem S1024x512 .bf16) (arg20 : Memref sig .tc .vmem S1024x512 .bf16) (K : Vec F S1024x256 .bf16) (V : Vec F S1024x128 .bf16) (Q : Vec F S16384x256 .bf16) (DO : Vec F S16384x128 .bf16) (LS DL : Vec F S1x32x1x512 .f32) (D : Vec F S32x256x512 .f32) (k : ℕ) : sProp 𝕄 :=
  iprop(∃ d14 d16 d17 d19, St c arg2 arg3 arg4 arg5 arg6 arg7 arg8 arg9 arg10 arg11 arg12 arg13 arg14 arg15 arg16 arg17 arg18 arg19 arg20 K V Q DO LS DL (dkS K V Q DO LS DL q0 (1 + 2 * k)) (dvS K Q DO LS q0 (1 + 2 * k))
    (dqS K V Q DO LS DL q0 D (1 + 2 * k)) (k0_pay93 K) (s K Q q0 (2 + 2 * k)) d14 (dp V DO q0 (2 + 2 * k)) d16 d17
    (p K Q LS q0 (1 + 2 * k)) d19 (ds K V Q DO LS DL q0 (1 + 2 * k)))

set_option maxHeartbeats 4000000 in
theorem trip (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S16384x256 .bf16) (harg4 : arg4.IsWhole) (arg5 : Memref sig .tc .vmem S16384x128 .bf16) (harg5 : arg5.IsWhole) (arg6 : Memref sig .tc .vmem S1x32x1x512 .f32) (harg6 : arg6.IsWhole) (arg7 : Memref sig .tc .vmem S1x32x1x512 .f32) (harg7 : arg7.IsWhole) (arg8 : Memref sig .tc .vmem S256x1024 .f32) (harg8 : arg8.IsWhole) (arg9 : Memref sig .tc .vmem S1024x256 .f32) (harg9 : arg9.IsWhole) (arg10 : Memref sig .tc .vmem S1024x128 .f32) (harg10 : arg10.IsWhole) (arg11 : Memref sig .tc .vmem S32x256x512 .f32) (harg11 : arg11.IsWhole) (arg12 : Memref sig .tc .vmem S256x1024 .bf16) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .bf16) (harg17 : arg17.IsWhole) (arg18 : Memref sig .tc .vmem S1024x512 .bf16) (harg18 : arg18.IsWhole) (arg19 : Memref sig .tc .vmem S1024x512 .bf16) (harg19 : arg19.IsWhole) (arg20 : Memref sig .tc .vmem S1024x512 .bf16) (harg20 : arg20.IsWhole) (K : Vec F S1024x256 .bf16) (V : Vec F S1024x128 .bf16) (Q : Vec F S16384x256 .bf16) (DO : Vec F S16384x128 .bf16) (LS DL : Vec F S1x32x1x512 .f32) (D : Vec F S32x256x512 .f32)
    (v0 v1 : BitVec 32) (h3 : k0_cond3 i = 1#1) (v193 : FVec F S1024x512 .f32) (v198 : Vec F S1024x512 .f32) (t : Fin (k0_t1_loop i).trips) (E : Set ℕ) :
    Inv c (2 * (i 1).val) arg2 arg3 arg4 arg5 arg6 arg7 arg8 arg9 arg10 arg11 arg12 arg13 arg14 arg15 arg16 arg17 arg18 arg19 arg20 K V Q DO LS DL D t.val ⊢
      wp frame (wpE (defs₀ (F := F)) Variants.none c none) E (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 h3 v193 v198 t ⟨⟩)
        (fun _ => Inv c (2 * (i 1).val) arg2 arg3 arg4 arg5 arg6 arg7 arg8 arg9 arg10 arg11 arg12 arg13 arg14 arg15 arg16 arg17 arg18 arg19 arg20 K V Q DO LS DL D (t.val + 1)) := by
  unfold k0_t1_body Inv
  simp only [k0_part5_eq_skeleton, k0_part6_eq_skeleton, k0_part7_eq_skeleton, k0_part8_eq_skeleton, k0_part9_eq_skeleton]
  unfold k0_part5_skel k0_part6_skel k0_part7_skel k0_part8_skel k0_part9_skel
  simp only [bind_assoc, pure_bind]
  obtain ⟨m, hm⟩ : ∃ m, m = 2 * t.val := ⟨_, rfl⟩
  obtain ⟨q0, hq⟩ : ∃ q0, q0 = 2 * (i 1).val := ⟨_, rfl⟩
  have o11_2 : k0_off11 i t 2#32 = ![512 * (q0 + (m + 1)), 0] := by rw [off11_2, ← hm, ← hq, Nat.add_comm _ m]
  have o12_2 : k0_off12 i t 2#32 = ![512 * (q0 + (m + 1)), 0] := by rw [off12_2, ← hm, ← hq, Nat.add_comm _ m]
  have o13_2 : k0_off13 i t 2#32 = ![q0 + (m + 1), 0, 0] := by rw [off13_2, ← hm, ← hq, Nat.add_comm _ m]
  have o11_3 : k0_off11 i t 3#32 = ![512 * (q0 + (m + 2)), 0] := by rw [off11_3, ← hm, ← hq, Nat.add_comm _ m]
  have o12_3 : k0_off12 i t 3#32 = ![512 * (q0 + (m + 2)), 0] := by rw [off12_3, ← hm, ← hq, Nat.add_comm _ m]
  have o13_3 : k0_off13 i t 3#32 = ![q0 + (m + 2), 0, 0] := by rw [off13_3, ← hm, ← hq, Nat.add_comm _ m]
  have o14_2 : k0_off14 i t 2#32 = ![512 * (q0 + (m + 3)), 0] := by rw [off14_2, ← hm, ← hq, Nat.add_comm _ m]
  have o14_3 : k0_off14 i t 3#32 = ![512 * (q0 + (m + 4)), 0] := by rw [off14_3, ← hm, ← hq, Nat.add_comm _ m]
  have o15_2 : k0_off15 i t 2#32 = ![512 * (q0 + (m + 3)), 0] := by rw [off15_2, ← hm, ← hq, Nat.add_comm _ m]
  have o15_3 : k0_off15 i t 3#32 = ![512 * (q0 + (m + 4)), 0] := by rw [off15_3, ← hm, ← hq, Nat.add_comm _ m]
  have o16_2 : k0_off16 i t 2#32 = ![0, q0 + (m + 2), 0, 0] := by rw [off16_2, ← hm, ← hq, Nat.add_comm _ m]
  have o16_3 : k0_off16 i t 3#32 = ![0, q0 + (m + 3), 0, 0] := by rw [off16_3, ← hm, ← hq, Nat.add_comm _ m]
  rw [← hq, show 1 + 2 * t.val = m + 1 by omega, show 2 + 2 * t.val = m + 2 by omega]
  unfold St
  iintro ⟨%d14, %d16, %d17, %d19, H2, H3, H4, H5, H6, H7, H9, H10, H11, H12, H13, H14, H15, H16, H17, H18, H19, H20⟩
  iapply (load_whole c harg10) $$ H10; iintro H10
  iapply (load_whole c harg18) $$ H18; iintro H18
  iapply (load_o c harg5 (q0 + (m + 1)) o11_2) $$ H5; iintro H5
  iapply (load_whole c harg10) $$ H10; iintro H10
  iapply (store_whole c harg10) $$ H10; iintro H10
  iapply (load_whole c harg20) $$ H20; iintro H20
  iapply (load_whole c harg9) $$ H9; iintro H9
  iapply (load_q c harg4 (q0 + (m + 1)) o12_2) $$ H4; iintro H4
  iapply (load_whole c harg9) $$ H9; iintro H9
  iapply (store_whole c harg9) $$ H9; iintro H9
  iapply (load_slab c harg11 (q0 + (m + 1)) o13_2) $$ H11; iintro H11
  iapply (load_whole c harg12) $$ H12; iintro H12
  iapply (load_slab c harg11 (q0 + (m + 1)) o13_2) $$ H11; iintro H11
  iapply (store_slab c harg11 K V Q DO LS DL q0 D ((m + 1)) o13_2 (by rfl)) $$ H11; iintro H11
  iapply (load_whole c harg2) $$ H2; iintro H2
  iapply (load_q c harg4 (q0 + (m + 3)) o14_2) $$ H4; iintro H4
  iapply (load_whole c harg14) $$ H14; iintro H14
  iapply (store_whole c harg14) $$ H14; iintro H14
  iapply (load_whole c harg3) $$ H3; iintro H3
  iapply (load_o c harg5 (q0 + (m + 3)) o15_2) $$ H5; iintro H5
  iapply (load_whole c harg16) $$ H16; iintro H16
  iapply (store_whole c harg16) $$ H16; iintro H16
  iapply (load_whole c harg13) $$ H13; iintro H13
  iapply (load_stat c harg6 (q0 + (m + 2)) o16_2) $$ H6; iintro H6
  iapply (load_whole c harg17) $$ H17; iintro H17
  iapply (store_whole c harg17) $$ H17; iintro H17
  iapply (load_whole c harg15) $$ H15; iintro H15
  iapply (load_stat c harg7 (q0 + (m + 2)) o16_2) $$ H7; iintro H7
  iapply (load_whole c harg19) $$ H19; iintro H19
  iapply (store_whole c harg19) $$ H19; iintro H19
  iapply (load_whole c harg10) $$ H10; iintro H10
  iapply (load_whole c harg17) $$ H17; iintro H17
  iapply (load_o c harg5 (q0 + (m + 2)) o11_3) $$ H5; iintro H5
  iapply (load_whole c harg10) $$ H10; iintro H10
  iapply (store_whole c harg10) $$ H10; iintro H10
  iapply (load_whole c harg19) $$ H19; iintro H19
  iapply (load_whole c harg9) $$ H9; iintro H9
  iapply (load_q c harg4 (q0 + (m + 2)) o12_3) $$ H4; iintro H4
  iapply (load_whole c harg9) $$ H9; iintro H9
  iapply (store_whole c harg9) $$ H9; iintro H9
  iapply (load_slab c harg11 (q0 + (m + 2)) o13_3) $$ H11; iintro H11
  iapply (load_whole c harg12) $$ H12; iintro H12
  iapply (load_slab c harg11 (q0 + (m + 2)) o13_3) $$ H11; iintro H11
  iapply (store_slab c harg11 K V Q DO LS DL q0 D ((m + 2)) o13_3 (by rfl)) $$ H11; iintro H11
  iapply (load_whole c harg2) $$ H2; iintro H2
  iapply (load_q c harg4 (q0 + (m + 4)) o14_3) $$ H4; iintro H4
  iapply (load_whole c harg13) $$ H13; iintro H13
  iapply (store_whole c harg13) $$ H13; iintro H13
  iapply (load_whole c harg3) $$ H3; iintro H3
  iapply (load_o c harg5 (q0 + (m + 4)) o15_3) $$ H5; iintro H5
  iapply (load_whole c harg15) $$ H15; iintro H15
  iapply (store_whole c harg15) $$ H15; iintro H15
  iapply (load_whole c harg14) $$ H14; iintro H14
  iapply (load_stat c harg6 (q0 + (m + 3)) o16_3) $$ H6; iintro H6
  iapply (load_whole c harg18) $$ H18; iintro H18
  iapply (store_whole c harg18) $$ H18; iintro H18
  iapply (load_whole c harg16) $$ H16; iintro H16
  iapply (load_stat c harg7 (q0 + (m + 3)) o16_3) $$ H7; iintro H7
  iapply (load_whole c harg20) $$ H20; iintro H20
  iapply (store_whole c harg20) $$ H20; iintro H20
  sl_step
  rw [show 1 + 2 * (t.val + 1) = m + 3 by omega, show 2 + 2 * (t.val + 1) = m + 4 by omega]
  iexists _; iexists _; iexists _; iexists _
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

end Cert.Kernel2Ideal.Flash

end
-- ==== Proof.FlashBody.lean ====
/- The attention gradient's program at one block of keys. -/
module

public import proofs.«01_k».proof.Proof.FlashTrip

@[expose] public section

set_option maxRecDepth 16384

noncomputable section

namespace Cert.Kernel2Ideal.Flash

open Idealize.ShloMosaic Idealize.ShloMosaic.TcCoe Idealize.ShloMosaic.Tactic Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A claim of one value is a claim of an equal one. -/
theorem conv {Kc : Vec F S1024x256 .f32 → sProp 𝕄} {a b : Vec F S1024x256 .f32} (h : a = b) : Kc a ⊢ Kc b := h ▸ Entails.rfl

/-- The counter's first test. -/
theorem cond1_iff : ∀ i : grid0.Coords, Scalar.cmpi .ne (Scalar.extui (Scalar.cmpi .eq (BitVec.ofNat 32 (i 1).val) 0#32)) 0#32 = 1#1 ↔ (i 1).val = 0 := by
  decide +kernel

/-- The queries' gradient a point starts from: none at the first block of keys. -/
def start (i : grid0.Coords) (D : Vec F S32x256x512 .f32) : Vec F S32x256x512 .f32 := if (i 1).val = 0 then k0_pay96 else D

set_option maxHeartbeats 1000000 in
/-- A point's opening: the keys turned, the gradients cleared, the first tile's scores. -/
theorem opening (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S16384x256 .bf16) (harg4 : arg4.IsWhole) (arg5 : Memref sig .tc .vmem S16384x128 .bf16) (harg5 : arg5.IsWhole) (arg6 : Memref sig .tc .vmem S1x32x1x512 .f32) (harg6 : arg6.IsWhole) (arg7 : Memref sig .tc .vmem S1x32x1x512 .f32) (harg7 : arg7.IsWhole) (arg8 : Memref sig .tc .vmem S256x1024 .f32) (harg8 : arg8.IsWhole) (arg9 : Memref sig .tc .vmem S1024x256 .f32) (harg9 : arg9.IsWhole) (arg10 : Memref sig .tc .vmem S1024x128 .f32) (harg10 : arg10.IsWhole) (arg11 : Memref sig .tc .vmem S32x256x512 .f32) (harg11 : arg11.IsWhole) (arg12 : Memref sig .tc .vmem S256x1024 .bf16) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .bf16) (harg17 : arg17.IsWhole) (arg18 : Memref sig .tc .vmem S1024x512 .bf16) (harg18 : arg18.IsWhole) (arg19 : Memref sig .tc .vmem S1024x512 .bf16) (harg19 : arg19.IsWhole) (arg20 : Memref sig .tc .vmem S1024x512 .bf16) (harg20 : arg20.IsWhole) (K : Vec F S1024x256 .bf16) (V : Vec F S1024x128 .bf16) (Q : Vec F S16384x256 .bf16) (DO : Vec F S16384x128 .bf16) (LS DL : Vec F S1x32x1x512 .f32) (x9 : Vec F S1024x256 .f32) (x10 : Vec F S1024x128 .f32) (x11 : Vec F S32x256x512 .f32) (x12 : Vec F S256x1024 .bf16) (x13 : Vec F S1024x512 .f32) (x14 : Vec F S1024x512 .f32) (x15 : Vec F S1024x512 .f32) (x16 : Vec F S1024x512 .f32) (x17 : Vec F S1024x512 .bf16) (x18 : Vec F S1024x512 .bf16) (x19 : Vec F S1024x512 .bf16) (x20 : Vec F S1024x512 .bf16) (E : Set ℕ) Kc :
    iprop(St c arg2 arg3 arg4 arg5 arg6 arg7 arg8 arg9 arg10 arg11 arg12 arg13 arg14 arg15 arg16 arg17 arg18 arg19 arg20 K V Q DO LS DL x9 x10 x11 x12 x13 x14 x15 x16 x17 x18 x19 x20
      ∗ (∀ w0 w1, St c arg2 arg3 arg4 arg5 arg6 arg7 arg8 arg9 arg10 arg11 arg12 arg13 arg14 arg15 arg16 arg17 arg18 arg19 arg20 K V Q DO LS DL (dkS K V Q DO LS DL (2 * (i 1).val) 0) (dvS K Q DO LS (2 * (i 1).val) 0) (start i x11) (k0_pay93 K) (s K Q (2 * (i 1).val) 0) x14 x15 x16 x17 x18 x19 x20
        -∗ Kc ⟨w0, w1⟩)) ⊢
      wp frame (wpE (defs₀ (F := F)) Variants.none c none) E (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Kc := by
  simp only [k0_part25_eq_skeleton]
  unfold k0_part25_skel St
  iintro ⟨⟨H2, H3, H4, H5, H6, H7, H9, H10, H11, H12, H13, H14, H15, H16, H17, H18, H19, H20⟩, Hk⟩
  iapply (load_whole c harg2) $$ H2; iintro H2
  iapply (load_whole c harg12) $$ H12; iintro H12
  iapply (store_whole c harg12) $$ H12; iintro H12
  iapply (load_whole c harg9) $$ H9; iintro H9
  iapply (store_whole c harg9) $$ H9; iintro H9
  iapply (load_whole c harg10) $$ H10; iintro H10
  iapply (store_whole c harg10) $$ H10; iintro H10
  unfold start
  by_cases h : (i 1).val = 0
  · rw [dif_pos ((cond1_iff i).2 h), if_pos h]
    simp only [bind_assoc, pure_bind]
    iapply (load_whole c harg11) $$ H11; iintro H11
    iapply (store_whole c harg11) $$ H11; iintro H11
    iapply (load_whole c harg2) $$ H2; iintro H2
    iapply (load_q c harg4 (2 * (i 1).val + 0) (off1 i)) $$ H4; iintro H4
    iapply (load_whole c harg13) $$ H13; iintro H13
    iapply (store_whole c harg13) $$ H13; iintro H13
    sl_step
    iapply Hk
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  · rw [dif_neg (fun e => h ((cond1_iff i).1 e)), if_neg h]
    simp only [bind_assoc, pure_bind]
    iapply (load_whole c harg2) $$ H2; iintro H2
    iapply (load_q c harg4 (2 * (i 1).val + 0) (off1 i)) $$ H4; iintro H4
    iapply (load_whole c harg13) $$ H13; iintro H13
    iapply (store_whole c harg13) $$ H13; iintro H13
    sl_step
    iapply Hk
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

set_option maxHeartbeats 4000000 in
/-- The last block of keys: the two tiles on the diagonal. -/
theorem closing_last (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S16384x256 .bf16) (harg4 : arg4.IsWhole) (arg5 : Memref sig .tc .vmem S16384x128 .bf16) (harg5 : arg5.IsWhole) (arg6 : Memref sig .tc .vmem S1x32x1x512 .f32) (harg6 : arg6.IsWhole) (arg7 : Memref sig .tc .vmem S1x32x1x512 .f32) (harg7 : arg7.IsWhole) (arg8 : Memref sig .tc .vmem S256x1024 .f32) (harg8 : arg8.IsWhole) (arg9 : Memref sig .tc .vmem S1024x256 .f32) (harg9 : arg9.IsWhole) (arg10 : Memref sig .tc .vmem S1024x128 .f32) (harg10 : arg10.IsWhole) (arg11 : Memref sig .tc .vmem S32x256x512 .f32) (harg11 : arg11.IsWhole) (arg12 : Memref sig .tc .vmem S256x1024 .bf16) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .bf16) (harg17 : arg17.IsWhole) (arg18 : Memref sig .tc .vmem S1024x512 .bf16) (harg18 : arg18.IsWhole) (arg19 : Memref sig .tc .vmem S1024x512 .bf16) (harg19 : arg19.IsWhole) (arg20 : Memref sig .tc .vmem S1024x512 .bf16) (harg20 : arg20.IsWhole) (K : Vec F S1024x256 .bf16) (V : Vec F S1024x128 .bf16) (Q : Vec F S16384x256 .bf16) (DO : Vec F S16384x128 .bf16) (LS DL : Vec F S1x32x1x512 .f32) (x9 : Vec F S1024x256 .f32) (x10 : Vec F S1024x128 .f32) (x11 : Vec F S32x256x512 .f32) (x12 : Vec F S256x1024 .bf16) (x13 : Vec F S1024x512 .f32) (x14 : Vec F S1024x512 .f32) (x15 : Vec F S1024x512 .f32) (x16 : Vec F S1024x512 .f32) (x17 : Vec F S1024x512 .bf16) (x18 : Vec F S1024x512 .bf16) (x19 : Vec F S1024x512 .bf16) (x20 : Vec F S1024x512 .bf16) (x8 : Vec F S256x1024 .f32) (v0 v1 : BitVec 32) (ha : (i 1).val = 15) (E : Set ℕ) Kc :
    iprop(St c arg2 arg3 arg4 arg5 arg6 arg7 arg8 arg9 arg10 arg11 arg12 arg13 arg14 arg15 arg16 arg17 arg18 arg19 arg20 K V Q DO LS DL (dkS K V Q DO LS DL (2 * (i 1).val) 0) (dvS K Q DO LS (2 * (i 1).val) 0) x11 (k0_pay93 K) (s K Q (2 * (i 1).val) 0) x14 x15 x16 x17 x18 x19 x20 ∗ owns (c : Thread nD τ) arg8 fullShare x8
      ∗ ((∃ y13 y14 y15 y16 y17 y18 y19 y20, St c arg2 arg3 arg4 arg5 arg6 arg7 arg8 arg9 arg10 arg11 arg12 arg13 arg14 arg15 arg16 arg17 arg18 arg19 arg20 K V Q DO LS DL (dkS K V Q DO LS DL (2 * (i 1).val) (2)) (dvS K Q DO LS (2 * (i 1).val) (2)) (dqS K V Q DO LS DL (2 * (i 1).val) x11 (2)) (k0_pay93 K) y13 y14 y15 y16 y17 y18 y19 y20
        ∗ owns (c : Thread nD τ) arg8 fullShare (out8 (k0_pay102 (slab (dqS K V Q DO LS DL (2 * (i 1).val) x11 (2)) (2 * (i 1).val))) (k0_pay103 (slab (dqS K V Q DO LS DL (2 * (i 1).val) x11 (2)) (2 * (i 1).val + 1)))))
        -∗ Kc (dkS K V Q DO LS DL (2 * (i 1).val) (2)))) ⊢
      wp frame (wpE (defs₀ (F := F)) Variants.none c none) E (k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1) Kc := by
  have e0 : dqS K V Q DO LS DL (2 * (i 1).val) x11 0 = x11 := dqS_zero _ _ _ _ _ _ _ _
  simp only [k0_part26_eq_skeleton]
  unfold k0_part26_skel St
  rw [dif_pos ((cond2_iff i).2 ha), dif_neg (fun e => absurd ((cond3_iff i).1 e) (by omega))]
  simp only [k0_part1_eq_skeleton, k0_part2_eq_skeleton, k0_part3_eq_skeleton, k0_part4_eq_skeleton]
  unfold k0_part1_skel k0_part2_skel k0_part3_skel k0_part4_skel
  simp only [bind_assoc, pure_bind]
  nth_rewrite 1 [← e0]
  iintro ⟨⟨H2, H3, H4, H5, H6, H7, H9, H10, H11, H12, H13, H14, H15, H16, H17, H18, H19, H20⟩, H8, Hk⟩
  iapply (load_whole c harg3) $$ H3; iintro H3
  iapply (load_o c harg5 (2 * (i 1).val + 0) (off2 i)) $$ H5; iintro H5
  iapply (load_whole c harg15) $$ H15; iintro H15
  iapply (store_whole c harg15) $$ H15; iintro H15
  iapply (load_whole c harg2) $$ H2; iintro H2
  iapply (load_q c harg4 (2 * (i 1).val + 1) (off3_1 i)) $$ H4; iintro H4
  iapply (load_whole c harg14) $$ H14; iintro H14
  iapply (store_whole c harg14) $$ H14; iintro H14
  iapply (load_whole c harg3) $$ H3; iintro H3
  iapply (load_o c harg5 (2 * (i 1).val + 1) (off4_1 i)) $$ H5; iintro H5
  iapply (load_whole c harg16) $$ H16; iintro H16
  iapply (store_whole c harg16) $$ H16; iintro H16
  iapply (load_whole c harg13) $$ H13; iintro H13
  iapply (load_stat c harg6 (2 * (i 1).val + 0) (off5_0 i)) $$ H6; iintro H6
  iapply (load_whole c harg17) $$ H17; iintro H17
  iapply (store_whole c harg17) $$ H17; iintro H17
  iapply (load_whole c harg15) $$ H15; iintro H15
  iapply (load_stat c harg7 (2 * (i 1).val + 0) (off5_0 i)) $$ H7; iintro H7
  iapply (load_whole c harg19) $$ H19; iintro H19
  iapply (store_whole c harg19) $$ H19; iintro H19
  iapply (load_whole c harg10) $$ H10; iintro H10
  iapply (load_whole c harg17) $$ H17; iintro H17
  iapply (load_o c harg5 (2 * (i 1).val + 0) (off4_0 i)) $$ H5; iintro H5
  iapply (load_whole c harg10) $$ H10; iintro H10
  iapply (store_whole c harg10) $$ H10; iintro H10
  iapply (load_whole c harg19) $$ H19; iintro H19
  iapply (load_whole c harg9) $$ H9; iintro H9
  iapply (load_q c harg4 (2 * (i 1).val + 0) (off3_0 i)) $$ H4; iintro H4
  iapply (load_whole c harg9) $$ H9; iintro H9
  iapply (store_whole c harg9) $$ H9; iintro H9
  iapply (load_slab c harg11 (2 * (i 1).val + 0) (off6_0 i)) $$ H11; iintro H11
  iapply (load_whole c harg12) $$ H12; iintro H12
  iapply (load_slab c harg11 (2 * (i 1).val + 0) (off6_0 i)) $$ H11; iintro H11
  iapply (store_slab c harg11 K V Q DO LS DL (2 * (i 1).val) x11 (0) (off6_0 i) (by rfl)) $$ H11; iintro H11
  iapply (load_whole c harg14) $$ H14; iintro H14
  iapply (load_stat c harg6 (2 * (i 1).val + 1) (off5_1 i)) $$ H6; iintro H6
  iapply (load_whole c harg18) $$ H18; iintro H18
  iapply (store_whole c harg18) $$ H18; iintro H18
  iapply (load_whole c harg16) $$ H16; iintro H16
  iapply (load_stat c harg7 (2 * (i 1).val + 1) (off5_1 i)) $$ H7; iintro H7
  iapply (load_whole c harg20) $$ H20; iintro H20
  iapply (store_whole c harg20) $$ H20; iintro H20
  iapply (load_whole c harg10) $$ H10; iintro H10
  iapply (load_whole c harg18) $$ H18; iintro H18
  iapply (load_o c harg5 (2 * (i 1).val + 1) (off4_1 i)) $$ H5; iintro H5
  iapply (load_whole c harg10) $$ H10; iintro H10
  iapply (store_whole c harg10) $$ H10; iintro H10
  iapply (load_whole c harg20) $$ H20; iintro H20
  iapply (load_whole c harg9) $$ H9; iintro H9
  iapply (load_q c harg4 (2 * (i 1).val + 1) (off3_1 i)) $$ H4; iintro H4
  iapply (load_whole c harg9) $$ H9; iintro H9
  iapply (store_whole c harg9) $$ H9; iintro H9
  iapply (load_slab c harg11 (2 * (i 1).val + 1) (off6_1 i)) $$ H11; iintro H11
  iapply (load_whole c harg12) $$ H12; iintro H12
  iapply (load_slab c harg11 (2 * (i 1).val + 1) (off6_1 i)) $$ H11; iintro H11
  iapply (store_slab c harg11 K V Q DO LS DL (2 * (i 1).val) x11 (1) (off6_1 i) (by rfl)) $$ H11; iintro H11
  iapply (load_slab c harg11 (2 * (i 1).val) (off32 i)) $$ H11; iintro H11
  iapply (load_any c arg8 harg8) $$ H8; iintro H8
  iapply (store_left c harg8) $$ H8; iintro H8
  iapply (load_slab c harg11 (2 * (i 1).val + 1) (off33 i)) $$ H11; iintro H11
  iapply (load_any c arg8 harg8) $$ H8; iintro H8
  iapply (store_right c harg8) $$ H8; iintro H8
  iapply (load_whole c harg9) $$ H9; iintro H9
  sl_step
  iapply (conv (Kc := Kc) (a := dkS K V Q DO LS DL (2 * (i 1).val) (2)) ?_)
  · rfl
  iapply Hk
  iexists _; iexists _; iexists _; iexists _; iexists _; iexists _; iexists _; iexists _
  isplitr [H8]
  · isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  iexact H8

/-- The blocks' tiles are paired off by the first loop, and the second one has none left. -/
theorem trips2 : ∀ i, k0_cond3 i = 1#1 → (k0_t2_loop i).trips = 0 := by
  decide +kernel

set_option maxHeartbeats 4000000 in
/-- The other blocks: two tiles on the diagonal, pairs of tiles by the counted loop, three more. -/
theorem closing_main (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S16384x256 .bf16) (harg4 : arg4.IsWhole) (arg5 : Memref sig .tc .vmem S16384x128 .bf16) (harg5 : arg5.IsWhole) (arg6 : Memref sig .tc .vmem S1x32x1x512 .f32) (harg6 : arg6.IsWhole) (arg7 : Memref sig .tc .vmem S1x32x1x512 .f32) (harg7 : arg7.IsWhole) (arg8 : Memref sig .tc .vmem S256x1024 .f32) (harg8 : arg8.IsWhole) (arg9 : Memref sig .tc .vmem S1024x256 .f32) (harg9 : arg9.IsWhole) (arg10 : Memref sig .tc .vmem S1024x128 .f32) (harg10 : arg10.IsWhole) (arg11 : Memref sig .tc .vmem S32x256x512 .f32) (harg11 : arg11.IsWhole) (arg12 : Memref sig .tc .vmem S256x1024 .bf16) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .bf16) (harg17 : arg17.IsWhole) (arg18 : Memref sig .tc .vmem S1024x512 .bf16) (harg18 : arg18.IsWhole) (arg19 : Memref sig .tc .vmem S1024x512 .bf16) (harg19 : arg19.IsWhole) (arg20 : Memref sig .tc .vmem S1024x512 .bf16) (harg20 : arg20.IsWhole) (K : Vec F S1024x256 .bf16) (V : Vec F S1024x128 .bf16) (Q : Vec F S16384x256 .bf16) (DO : Vec F S16384x128 .bf16) (LS DL : Vec F S1x32x1x512 .f32) (x9 : Vec F S1024x256 .f32) (x10 : Vec F S1024x128 .f32) (x11 : Vec F S32x256x512 .f32) (x12 : Vec F S256x1024 .bf16) (x13 : Vec F S1024x512 .f32) (x14 : Vec F S1024x512 .f32) (x15 : Vec F S1024x512 .f32) (x16 : Vec F S1024x512 .f32) (x17 : Vec F S1024x512 .bf16) (x18 : Vec F S1024x512 .bf16) (x19 : Vec F S1024x512 .bf16) (x20 : Vec F S1024x512 .bf16) (x8 : Vec F S256x1024 .f32) (v0 v1 : BitVec 32) (ha : (i 1).val < 15) (E : Set ℕ) Kc :
    iprop(St c arg2 arg3 arg4 arg5 arg6 arg7 arg8 arg9 arg10 arg11 arg12 arg13 arg14 arg15 arg16 arg17 arg18 arg19 arg20 K V Q DO LS DL (dkS K V Q DO LS DL (2 * (i 1).val) 0) (dvS K Q DO LS (2 * (i 1).val) 0) x11 (k0_pay93 K) (s K Q (2 * (i 1).val) 0) x14 x15 x16 x17 x18 x19 x20 ∗ owns (c : Thread nD τ) arg8 fullShare x8
      ∗ ((∃ y13 y14 y15 y16 y17 y18 y19 y20, St c arg2 arg3 arg4 arg5 arg6 arg7 arg8 arg9 arg10 arg11 arg12 arg13 arg14 arg15 arg16 arg17 arg18 arg19 arg20 K V Q DO LS DL (dkS K V Q DO LS DL (2 * (i 1).val) (32 - 2 * (i 1).val)) (dvS K Q DO LS (2 * (i 1).val) (32 - 2 * (i 1).val)) (dqS K V Q DO LS DL (2 * (i 1).val) x11 (32 - 2 * (i 1).val)) (k0_pay93 K) y13 y14 y15 y16 y17 y18 y19 y20
        ∗ owns (c : Thread nD τ) arg8 fullShare (out8 (k0_pay102 (slab (dqS K V Q DO LS DL (2 * (i 1).val) x11 (32 - 2 * (i 1).val)) (2 * (i 1).val))) (k0_pay103 (slab (dqS K V Q DO LS DL (2 * (i 1).val) x11 (32 - 2 * (i 1).val)) (2 * (i 1).val + 1)))))
        -∗ Kc (dkS K V Q DO LS DL (2 * (i 1).val) (32 - 2 * (i 1).val)))) ⊢
      wp frame (wpE (defs₀ (F := F)) Variants.none c none) E (k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1) Kc := by
  have e0 : dqS K V Q DO LS DL (2 * (i 1).val) x11 0 = x11 := dqS_zero _ _ _ _ _ _ _ _
  simp only [k0_part26_eq_skeleton]
  unfold k0_part26_skel St
  have h3 := (cond3_iff i).2 ha
  rw [dif_neg (fun e => absurd ((cond2_iff i).1 e) (by omega)), dif_pos h3]
  simp only [k0_part15_eq_skeleton, k0_part16_eq_skeleton, k0_part17_eq_skeleton, k0_part18_eq_skeleton, k0_part19_eq_skeleton,
    k0_part20_eq_skeleton, k0_part21_eq_skeleton, k0_part22_eq_skeleton, k0_part23_eq_skeleton, k0_part24_eq_skeleton]
  unfold k0_part15_skel k0_part16_skel k0_part17_skel k0_part18_skel k0_part19_skel
  simp only [bind_assoc, pure_bind]
  nth_rewrite 1 [← e0]
  iintro ⟨⟨H2, H3, H4, H5, H6, H7, H9, H10, H11, H12, H13, H14, H15, H16, H17, H18, H19, H20⟩, H8, Hk⟩
  iapply (load_whole c harg3) $$ H3; iintro H3
  iapply (load_o c harg5 (2 * (i 1).val + 0) (off2 i)) $$ H5; iintro H5
  iapply (load_whole c harg15) $$ H15; iintro H15
  iapply (store_whole c harg15) $$ H15; iintro H15
  iapply (load_whole c harg2) $$ H2; iintro H2
  iapply (load_q c harg4 (2 * (i 1).val + 1) (off7_1 i)) $$ H4; iintro H4
  iapply (load_whole c harg14) $$ H14; iintro H14
  iapply (store_whole c harg14) $$ H14; iintro H14
  iapply (load_whole c harg3) $$ H3; iintro H3
  iapply (load_o c harg5 (2 * (i 1).val + 1) (off8_1 i)) $$ H5; iintro H5
  iapply (load_whole c harg16) $$ H16; iintro H16
  iapply (store_whole c harg16) $$ H16; iintro H16
  iapply (load_whole c harg13) $$ H13; iintro H13
  iapply (load_stat c harg6 (2 * (i 1).val + 0) (off9_0 i)) $$ H6; iintro H6
  iapply (load_whole c harg17) $$ H17; iintro H17
  iapply (store_whole c harg17) $$ H17; iintro H17
  iapply (load_whole c harg15) $$ H15; iintro H15
  iapply (load_stat c harg7 (2 * (i 1).val + 0) (off9_0 i)) $$ H7; iintro H7
  iapply (load_whole c harg19) $$ H19; iintro H19
  iapply (store_whole c harg19) $$ H19; iintro H19
  iapply (load_whole c harg10) $$ H10; iintro H10
  iapply (load_whole c harg17) $$ H17; iintro H17
  iapply (load_o c harg5 (2 * (i 1).val + 0) (off8_0 i)) $$ H5; iintro H5
  iapply (load_whole c harg10) $$ H10; iintro H10
  iapply (store_whole c harg10) $$ H10; iintro H10
  iapply (load_whole c harg19) $$ H19; iintro H19
  iapply (load_whole c harg9) $$ H9; iintro H9
  iapply (load_q c harg4 (2 * (i 1).val + 0) (off7_0 i)) $$ H4; iintro H4
  iapply (load_whole c harg9) $$ H9; iintro H9
  iapply (store_whole c harg9) $$ H9; iintro H9
  iapply (load_slab c harg11 (2 * (i 1).val + 0) (off10 i)) $$ H11; iintro H11
  iapply (load_whole c harg12) $$ H12; iintro H12
  iapply (load_slab c harg11 (2 * (i 1).val + 0) (off10 i)) $$ H11; iintro H11
  iapply (store_slab c harg11 K V Q DO LS DL (2 * (i 1).val) x11 (0) (off10 i) (by rfl)) $$ H11; iintro H11
  iapply (load_whole c harg2) $$ H2; iintro H2
  iapply (load_q c harg4 (2 * (i 1).val + 2) (off7_2 i)) $$ H4; iintro H4
  iapply (load_whole c harg13) $$ H13; iintro H13
  iapply (store_whole c harg13) $$ H13; iintro H13
  iapply (load_whole c harg3) $$ H3; iintro H3
  iapply (load_o c harg5 (2 * (i 1).val + 2) (off8_2 i)) $$ H5; iintro H5
  iapply (load_whole c harg15) $$ H15; iintro H15
  iapply (store_whole c harg15) $$ H15; iintro H15
  iapply (load_whole c harg14) $$ H14; iintro H14
  iapply (load_stat c harg6 (2 * (i 1).val + 1) (off9_1 i)) $$ H6; iintro H6
  iapply (load_whole c harg18) $$ H18; iintro H18
  iapply (store_whole c harg18) $$ H18; iintro H18
  iapply (load_whole c harg16) $$ H16; iintro H16
  iapply (load_stat c harg7 (2 * (i 1).val + 1) (off9_1 i)) $$ H7; iintro H7
  iapply (load_whole c harg20) $$ H20; iintro H20
  iapply (store_whole c harg20) $$ H20; iintro H20
  iapply (Scf.wp_for_bind frame (wpE (defs₀ (F := F)) Variants.none c none) E _ _ _ _ _ _ (fun k _ => Inv c (2 * (i 1).val) arg2 arg3 arg4 arg5 arg6 arg7 arg8 arg9 arg10 arg11 arg12 arg13 arg14 arg15 arg16 arg17 arg18 arg19 arg20 K V Q DO LS DL x11 k)
    (fun t _ => trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 K V Q DO LS DL x11 v0 v1 h3 _ _ t E)) $$ [H2 H3 H4 H5 H6 H7 H9 H10 H11 H12 H13 H14 H15 H16 H17 H18 H19 H20]
  · unfold Inv St
    iexists _; iexists _; iexists _; iexists _
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  rw [show Scf.trips (k0_t1_loop i).lb (k0_t1_loop i).ub (k0_t1_loop i).st = 14 - (i 1).val from trips i h3]
  obtain ⟨m, hm⟩ : ∃ m, m = 28 - 2 * (i 1).val := ⟨_, rfl⟩
  have o23_2 : k0_off23 i 2#32 = ![512 * (2 * (i 1).val + (m + 1)), 0] := by rw [off23_2, show 2 * (i 1).val + (m + 1) = 29 by omega]
  have o24_2 : k0_off24 i 2#32 = ![512 * (2 * (i 1).val + (m + 1)), 0] := by rw [off24_2, show 2 * (i 1).val + (m + 1) = 29 by omega]
  have o25_2 : k0_off25 i 2#32 = ![2 * (i 1).val + (m + 1), 0, 0] := by rw [off25_2, show 2 * (i 1).val + (m + 1) = 29 by omega]
  have o28_2 : k0_off28 i 2#32 = ![0, 2 * (i 1).val + (m + 2), 0, 0] := by rw [off28_2, show 2 * (i 1).val + (m + 2) = 30 by omega]
  have o23_1 : k0_off23 i 1#32 = ![512 * (2 * (i 1).val + (m + 2)), 0] := by rw [off23_1, show 2 * (i 1).val + (m + 2) = 30 by omega]
  have o24_1 : k0_off24 i 1#32 = ![512 * (2 * (i 1).val + (m + 2)), 0] := by rw [off24_1, show 2 * (i 1).val + (m + 2) = 30 by omega]
  have o25_1 : k0_off25 i 1#32 = ![2 * (i 1).val + (m + 2), 0, 0] := by rw [off25_1, show 2 * (i 1).val + (m + 2) = 30 by omega]
  have o28_1 : k0_off28 i 1#32 = ![0, 2 * (i 1).val + (m + 3), 0, 0] := by rw [off28_1, show 2 * (i 1).val + (m + 3) = 31 by omega]
  have o26 : k0_off26 i = ![512 * (2 * (i 1).val + (m + 3)), 0] := by rw [off26, show 2 * (i 1).val + (m + 3) = 31 by omega]
  have o27 : k0_off27 i = ![512 * (2 * (i 1).val + (m + 3)), 0] := by rw [off27, show 2 * (i 1).val + (m + 3) = 31 by omega]
  have o29 : k0_off29 i = ![512 * (2 * (i 1).val + (m + 3)), 0] := by rw [off29, show 2 * (i 1).val + (m + 3) = 31 by omega]
  have o30 : k0_off30 i = ![512 * (2 * (i 1).val + (m + 3)), 0] := by rw [off30, show 2 * (i 1).val + (m + 3) = 31 by omega]
  have o31 : k0_off31 i = ![2 * (i 1).val + (m + 3), 0, 0] := by rw [off31, show 2 * (i 1).val + (m + 3) = 31 by omega]
  unfold Inv St
  rw [show 1 + 2 * (14 - (i 1).val) = m + 1 by omega, show 2 + 2 * (14 - (i 1).val) = m + 2 by omega, show 32 - 2 * (i 1).val = m + 4 by omega]
  iintro %acc ⟨%y14, %y16, %y17, %y19, H2, H3, H4, H5, H6, H7, H9, H10, H11, H12, H13, H14, H15, H16, H17, H18, H19, H20⟩
  iapply (Scf.wp_for_bind frame (wpE (defs₀ (F := F)) Variants.none c none) E _ _ _ _ _ _ (fun _ _ => iprop(emp))
    (fun t _ => absurd t.isLt (by have := trips2 i h3; unfold Scf.Loop.trips at this; omega))) $$ []
  · iempintro
  iintro %acc2 _
  unfold k0_part20_skel k0_part21_skel k0_part22_skel k0_part23_skel k0_part24_skel
  simp only [bind_assoc, pure_bind]
  iapply (load_whole c harg10) $$ H10; iintro H10
  iapply (load_whole c harg18) $$ H18; iintro H18
  iapply (load_o c harg5 (2 * (i 1).val + (m + 1)) o23_2) $$ H5; iintro H5
  iapply (load_whole c harg10) $$ H10; iintro H10
  iapply (store_whole c harg10) $$ H10; iintro H10
  iapply (load_whole c harg20) $$ H20; iintro H20
  iapply (load_whole c harg9) $$ H9; iintro H9
  iapply (load_q c harg4 (2 * (i 1).val + (m + 1)) o24_2) $$ H4; iintro H4
  iapply (load_whole c harg9) $$ H9; iintro H9
  iapply (store_whole c harg9) $$ H9; iintro H9
  iapply (load_slab c harg11 (2 * (i 1).val + (m + 1)) o25_2) $$ H11; iintro H11
  iapply (load_whole c harg12) $$ H12; iintro H12
  iapply (load_slab c harg11 (2 * (i 1).val + (m + 1)) o25_2) $$ H11; iintro H11
  iapply (store_slab c harg11 K V Q DO LS DL (2 * (i 1).val) x11 ((m + 1)) o25_2 (by rfl)) $$ H11; iintro H11
  iapply (load_whole c harg2) $$ H2; iintro H2
  iapply (load_q c harg4 (2 * (i 1).val + (m + 3)) o26) $$ H4; iintro H4
  iapply (load_whole c harg14) $$ H14; iintro H14
  iapply (store_whole c harg14) $$ H14; iintro H14
  iapply (load_whole c harg3) $$ H3; iintro H3
  iapply (load_o c harg5 (2 * (i 1).val + (m + 3)) o27) $$ H5; iintro H5
  iapply (load_whole c harg16) $$ H16; iintro H16
  iapply (store_whole c harg16) $$ H16; iintro H16
  iapply (load_whole c harg13) $$ H13; iintro H13
  iapply (load_stat c harg6 (2 * (i 1).val + (m + 2)) o28_2) $$ H6; iintro H6
  iapply (load_whole c harg17) $$ H17; iintro H17
  iapply (store_whole c harg17) $$ H17; iintro H17
  iapply (load_whole c harg15) $$ H15; iintro H15
  iapply (load_stat c harg7 (2 * (i 1).val + (m + 2)) o28_2) $$ H7; iintro H7
  iapply (load_whole c harg19) $$ H19; iintro H19
  iapply (store_whole c harg19) $$ H19; iintro H19
  iapply (load_whole c harg10) $$ H10; iintro H10
  iapply (load_whole c harg17) $$ H17; iintro H17
  iapply (load_o c harg5 (2 * (i 1).val + (m + 2)) o23_1) $$ H5; iintro H5
  iapply (load_whole c harg10) $$ H10; iintro H10
  iapply (store_whole c harg10) $$ H10; iintro H10
  iapply (load_whole c harg19) $$ H19; iintro H19
  iapply (load_whole c harg9) $$ H9; iintro H9
  iapply (load_q c harg4 (2 * (i 1).val + (m + 2)) o24_1) $$ H4; iintro H4
  iapply (load_whole c harg9) $$ H9; iintro H9
  iapply (store_whole c harg9) $$ H9; iintro H9
  iapply (load_slab c harg11 (2 * (i 1).val + (m + 2)) o25_1) $$ H11; iintro H11
  iapply (load_whole c harg12) $$ H12; iintro H12
  iapply (load_slab c harg11 (2 * (i 1).val + (m + 2)) o25_1) $$ H11; iintro H11
  iapply (store_slab c harg11 K V Q DO LS DL (2 * (i 1).val) x11 ((m + 2)) o25_1 (by rfl)) $$ H11; iintro H11
  iapply (load_whole c harg14) $$ H14; iintro H14
  iapply (load_stat c harg6 (2 * (i 1).val + (m + 3)) o28_1) $$ H6; iintro H6
  iapply (load_whole c harg18) $$ H18; iintro H18
  iapply (store_whole c harg18) $$ H18; iintro H18
  iapply (load_whole c harg16) $$ H16; iintro H16
  iapply (load_stat c harg7 (2 * (i 1).val + (m + 3)) o28_1) $$ H7; iintro H7
  iapply (load_whole c harg20) $$ H20; iintro H20
  iapply (store_whole c harg20) $$ H20; iintro H20
  iapply (load_whole c harg10) $$ H10; iintro H10
  iapply (load_whole c harg18) $$ H18; iintro H18
  iapply (load_o c harg5 (2 * (i 1).val + (m + 3)) o29) $$ H5; iintro H5
  iapply (load_whole c harg10) $$ H10; iintro H10
  iapply (store_whole c harg10) $$ H10; iintro H10
  iapply (load_whole c harg20) $$ H20; iintro H20
  iapply (load_whole c harg9) $$ H9; iintro H9
  iapply (load_q c harg4 (2 * (i 1).val + (m + 3)) o30) $$ H4; iintro H4
  iapply (load_whole c harg9) $$ H9; iintro H9
  iapply (store_whole c harg9) $$ H9; iintro H9
  iapply (load_slab c harg11 (2 * (i 1).val + (m + 3)) o31) $$ H11; iintro H11
  iapply (load_whole c harg12) $$ H12; iintro H12
  iapply (load_slab c harg11 (2 * (i 1).val + (m + 3)) o31) $$ H11; iintro H11
  iapply (store_slab c harg11 K V Q DO LS DL (2 * (i 1).val) x11 ((m + 3)) o31 (by rfl)) $$ H11; iintro H11
  iapply (load_slab c harg11 (2 * (i 1).val) (off32 i)) $$ H11; iintro H11
  iapply (load_any c arg8 harg8) $$ H8; iintro H8
  iapply (store_left c harg8) $$ H8; iintro H8
  iapply (load_slab c harg11 (2 * (i 1).val + 1) (off33 i)) $$ H11; iintro H11
  iapply (load_any c arg8 harg8) $$ H8; iintro H8
  iapply (store_right c harg8) $$ H8; iintro H8
  iapply (load_whole c harg9) $$ H9; iintro H9
  sl_step
  iapply (conv (Kc := Kc) (a := dkS K V Q DO LS DL (2 * (i 1).val) (m + 4)) ?_)
  · rfl
  iapply Hk
  iexists _; iexists _; iexists _; iexists _; iexists _; iexists _; iexists _; iexists _
  isplitr [H8]
  · isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  iexact H8

end Cert.Kernel2Ideal.Flash

end
-- ==== Proof.FlashPoint.lean ====
/- One point of the attention gradient: its program from beginning to end. -/
module

public import proofs.«01_k».proof.Proof.FlashBody

@[expose] public section

set_option maxRecDepth 16384

noncomputable section

namespace Cert.Kernel2Ideal.Flash

open Idealize.ShloMosaic Idealize.ShloMosaic.TcCoe Idealize.ShloMosaic.Tactic Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A point's closing, whichever block of keys it is. -/
theorem closing (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S16384x256 .bf16) (harg4 : arg4.IsWhole) (arg5 : Memref sig .tc .vmem S16384x128 .bf16) (harg5 : arg5.IsWhole) (arg6 : Memref sig .tc .vmem S1x32x1x512 .f32) (harg6 : arg6.IsWhole) (arg7 : Memref sig .tc .vmem S1x32x1x512 .f32) (harg7 : arg7.IsWhole) (arg8 : Memref sig .tc .vmem S256x1024 .f32) (harg8 : arg8.IsWhole) (arg9 : Memref sig .tc .vmem S1024x256 .f32) (harg9 : arg9.IsWhole) (arg10 : Memref sig .tc .vmem S1024x128 .f32) (harg10 : arg10.IsWhole) (arg11 : Memref sig .tc .vmem S32x256x512 .f32) (harg11 : arg11.IsWhole) (arg12 : Memref sig .tc .vmem S256x1024 .bf16) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .bf16) (harg17 : arg17.IsWhole) (arg18 : Memref sig .tc .vmem S1024x512 .bf16) (harg18 : arg18.IsWhole) (arg19 : Memref sig .tc .vmem S1024x512 .bf16) (harg19 : arg19.IsWhole) (arg20 : Memref sig .tc .vmem S1024x512 .bf16) (harg20 : arg20.IsWhole) (K : Vec F S1024x256 .bf16) (V : Vec F S1024x128 .bf16) (Q : Vec F S16384x256 .bf16) (DO : Vec F S16384x128 .bf16) (LS DL : Vec F S1x32x1x512 .f32) (x9 : Vec F S1024x256 .f32) (x10 : Vec F S1024x128 .f32) (x11 : Vec F S32x256x512 .f32) (x12 : Vec F S256x1024 .bf16) (x13 : Vec F S1024x512 .f32) (x14 : Vec F S1024x512 .f32) (x15 : Vec F S1024x512 .f32) (x16 : Vec F S1024x512 .f32) (x17 : Vec F S1024x512 .bf16) (x18 : Vec F S1024x512 .bf16) (x19 : Vec F S1024x512 .bf16) (x20 : Vec F S1024x512 .bf16) (x8 : Vec F S256x1024 .f32) (v0 v1 : BitVec 32) (E : Set ℕ) Kc :
    iprop(St c arg2 arg3 arg4 arg5 arg6 arg7 arg8 arg9 arg10 arg11 arg12 arg13 arg14 arg15 arg16 arg17 arg18 arg19 arg20 K V Q DO LS DL (dkS K V Q DO LS DL (2 * (i 1).val) 0) (dvS K Q DO LS (2 * (i 1).val) 0) x11 (k0_pay93 K) (s K Q (2 * (i 1).val) 0) x14 x15 x16 x17 x18 x19 x20 ∗ owns (c : Thread nD τ) arg8 fullShare x8
      ∗ ((∃ y13 y14 y15 y16 y17 y18 y19 y20, St c arg2 arg3 arg4 arg5 arg6 arg7 arg8 arg9 arg10 arg11 arg12 arg13 arg14 arg15 arg16 arg17 arg18 arg19 arg20 K V Q DO LS DL (dkS K V Q DO LS DL (2 * (i 1).val) (32 - 2 * (i 1).val)) (dvS K Q DO LS (2 * (i 1).val) (32 - 2 * (i 1).val)) (dqS K V Q DO LS DL (2 * (i 1).val) x11 (32 - 2 * (i 1).val)) (k0_pay93 K) y13 y14 y15 y16 y17 y18 y19 y20
        ∗ owns (c : Thread nD τ) arg8 fullShare (out8 (k0_pay102 (slab (dqS K V Q DO LS DL (2 * (i 1).val) x11 (32 - 2 * (i 1).val)) (2 * (i 1).val))) (k0_pay103 (slab (dqS K V Q DO LS DL (2 * (i 1).val) x11 (32 - 2 * (i 1).val)) (2 * (i 1).val + 1)))))
        -∗ Kc (dkS K V Q DO LS DL (2 * (i 1).val) (32 - 2 * (i 1).val)))) ⊢
      wp frame (wpE (defs₀ (F := F)) Variants.none c none) E (k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1) Kc := by
  have hlt : (i 1).val < 16 := (i 1).isLt
  by_cases ha : (i 1).val = 15
  · rw [show 32 - 2 * (i 1).val = 2 by omega]
    exact closing_last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 K V Q DO LS DL x9 x10 x11 x12 x13 x14 x15 x16 x17 x18 x19 x20 x8 v0 v1 ha E Kc
  · exact closing_main c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 K V Q DO LS DL x9 x10 x11 x12 x13 x14 x15 x16 x17 x18 x19 x20 x8 v0 v1 (by omega) E Kc

/-- What a point leaves of the queries' gradient in its rows: the two tiles of queries no later block meets. -/
def dqOut (K : Vec F S1024x256 .bf16) (V : Vec F S1024x128 .bf16) (Q : Vec F S16384x256 .bf16) (DO : Vec F S16384x128 .bf16)
    (LS DL : Vec F S1x32x1x512 .f32) (a : ℕ) (D : Vec F S32x256x512 .f32) : Vec F S256x1024 .f32 :=
  out8 (k0_pay102 (slab (dqS K V Q DO LS DL (2 * a) D (32 - 2 * a)) (2 * a))) (k0_pay103 (slab (dqS K V Q DO LS DL (2 * a) D (32 - 2 * a)) (2 * a + 1)))

/-- The whole program at a point. -/
theorem body (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S16384x256 .bf16) (harg4 : arg4.IsWhole) (arg5 : Memref sig .tc .vmem S16384x128 .bf16) (harg5 : arg5.IsWhole) (arg6 : Memref sig .tc .vmem S1x32x1x512 .f32) (harg6 : arg6.IsWhole) (arg7 : Memref sig .tc .vmem S1x32x1x512 .f32) (harg7 : arg7.IsWhole) (arg8 : Memref sig .tc .vmem S256x1024 .f32) (harg8 : arg8.IsWhole) (arg9 : Memref sig .tc .vmem S1024x256 .f32) (harg9 : arg9.IsWhole) (arg10 : Memref sig .tc .vmem S1024x128 .f32) (harg10 : arg10.IsWhole) (arg11 : Memref sig .tc .vmem S32x256x512 .f32) (harg11 : arg11.IsWhole) (arg12 : Memref sig .tc .vmem S256x1024 .bf16) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .bf16) (harg17 : arg17.IsWhole) (arg18 : Memref sig .tc .vmem S1024x512 .bf16) (harg18 : arg18.IsWhole) (arg19 : Memref sig .tc .vmem S1024x512 .bf16) (harg19 : arg19.IsWhole) (arg20 : Memref sig .tc .vmem S1024x512 .bf16) (harg20 : arg20.IsWhole) (K : Vec F S1024x256 .bf16) (V : Vec F S1024x128 .bf16) (Q : Vec F S16384x256 .bf16) (DO : Vec F S16384x128 .bf16) (LS DL : Vec F S1x32x1x512 .f32) (x9 : Vec F S1024x256 .f32) (x10 : Vec F S1024x128 .f32) (x11 : Vec F S32x256x512 .f32) (x12 : Vec F S256x1024 .bf16) (x13 : Vec F S1024x512 .f32) (x14 : Vec F S1024x512 .f32) (x15 : Vec F S1024x512 .f32) (x16 : Vec F S1024x512 .f32) (x17 : Vec F S1024x512 .bf16) (x18 : Vec F S1024x512 .bf16) (x19 : Vec F S1024x512 .bf16) (x20 : Vec F S1024x512 .bf16) (x8 : Vec F S256x1024 .f32) (E : Set ℕ) (Kc : PUnit → sProp 𝕄) :
    iprop(St c arg2 arg3 arg4 arg5 arg6 arg7 arg8 arg9 arg10 arg11 arg12 arg13 arg14 arg15 arg16 arg17 arg18 arg19 arg20 K V Q DO LS DL x9 x10 x11 x12 x13 x14 x15 x16 x17 x18 x19 x20 ∗ owns (c : Thread nD τ) arg8 fullShare x8
      ∗ ((∃ y13 y14 y15 y16 y17 y18 y19 y20, St c arg2 arg3 arg4 arg5 arg6 arg7 arg8 arg9 arg10 arg11 arg12 arg13 arg14 arg15 arg16 arg17 arg18 arg19 arg20 K V Q DO LS DL (k0_pay1 (dkS K V Q DO LS DL (2 * (i 1).val) (32 - 2 * (i 1).val))) (dvS K Q DO LS (2 * (i 1).val) (32 - 2 * (i 1).val)) (dqS K V Q DO LS DL (2 * (i 1).val) (start i x11) (32 - 2 * (i 1).val)) (k0_pay93 K) y13 y14 y15 y16 y17 y18 y19 y20
        ∗ owns (c : Thread nD τ) arg8 fullShare (dqOut K V Q DO LS DL (i 1).val (start i x11)))
        -∗ Kc ⟨⟩)) ⊢
      wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Kc := by
  simp only [cc0_flash_bwd_eq_skeleton]
  unfold cc0_flash_bwd_skel
  rw [wp_bind]
  iintro ⟨HS, H8, Hk⟩
  iapply (opening c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 K V Q DO LS DL x9 x10 x11 x12 x13 x14 x15 x16 x17 x18 x19 x20 E _)
  isplitl [HS]; · iexact HS
  iintro %w0 %w1 HS
  dsimp only
  rw [wp_bind]
  iapply (closing c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 K V Q DO LS DL x9 x10 (start i x11) x12 x13 x14 x15 x16 x17 x18 x19 x20 x8 w0 w1 E _)
  isplitl [HS]; · iexact HS
  isplitl [H8]; · iexact H8
  unfold St dqOut
  iintro ⟨%y13, %y14, %y15, %y16, %y17, %y18, %y19, %y20, ⟨H2, H3, H4, H5, H6, H7, H9, H10, H11, H12, H13, H14, H15, H16, H17, H18, H19, H20⟩, H8⟩
  iapply (load_whole c harg9) $$ H9; iintro H9
  iapply (store_whole c harg9) $$ H9; iintro H9
  sl_step
  iapply Hk
  iexists _; iexists _; iexists _; iexists _; iexists _; iexists _; iexists _; iexists _
  isplitr [H8]
  · isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  iexact H8

end Cert.Kernel2Ideal.Flash

end
-- ==== Proof.FlashHost.lean ====
/- The arrays the attention gradient's kernel is given, as terms of the call's arguments: the host lines before the call. -/
module

public import Idealize.ShloMosaic.Lib.Pipeline.ValueKit
public import proofs.«01_k».proof.Proof.FlashPoint
public import proofs.«01_k».proof.Proof.Gen.Reference2Ideal.Read

@[expose] public section

set_option maxRecDepth 16384

noncomputable section

namespace Cert.Kernel2Ideal.Flash

open Idealize.ShloMosaic Idealize.ShloMosaic.TcCoe Idealize.ShloMosaic.Tactic Cert.Kernel2Ideal Cert.Kernel2Ideal.Gen

variable (x0 : FVec Ideal S16384x16x128 .f32) (x1 : FVec Ideal S16384x16x64 .f32) (x2 : FVec Ideal S16384x16x128 .f32)
  (x3 : FVec Ideal S16384x64 .f32) (x4 x5 : FVec Ideal S16384x16x128 .f32)

/-- The scores with the keys after the query left out, by head, query, key. -/
def hS : FVec Ideal S16x16384x16384 .f32 := Cert.Reference2Ideal.Read.val_main_v14_0 (F := Ideal) x0 x1 x2 x3

/-- The largest score of each query. -/
def hM : FVec Ideal S16x16384 .f32 :=
  Host.reduce FloatOps.maximumf (hS x0 x1 x2 x3) (constant S_ .f32 0xFF800000#32) reducesTo_S16x16384x16384_S16x16384_d2 h_S_

def hM1 : FVec Ideal S16x16384x1 .f32 := broadcastInDim S16x16384x1 ![0, 1] bcast_S16x16384_S16x16384x1_0_1 (hM x0 x1 x2 x3)

/-- The exponentials of the scores less the largest. -/
def hE : FVec Ideal S16x16384x16384 .f32 :=
  Host.exp (subf (hS x0 x1 x2 x3) (broadcastInDim S16x16384x16384 ![0, 1, 2] bcast_S16x16384x1_S16x16384x16384_0_1_2 (hM1 x0 x1 x2 x3)))

/-- Their sum over the keys. -/
def hL : FVec Ideal S16x16384 .f32 :=
  Host.reduceAdd (hE x0 x1 x2 x3) (constant S_ .f32 0x00000000#32) reducesTo_S16x16384x16384_S16x16384_d2 h_S_

def hL1 : FVec Ideal S16x16384x1 .f32 := broadcastInDim S16x16384x1 ![0, 1] bcast_S16x16384_S16x16384x1_0_1 (hL x0 x1 x2 x3)

def hLn2 : FVec Ideal S_ .f32 := Host.log (constant S_ .f32 0x40000000#32)

/-- The row log-sums to the base two. -/
def hLse : FVec Ideal S16x16384x1 .f32 :=
  Host.divf (addf (hM1 x0 x1 x2 x3) (Host.log (hL1 x0 x1 x2 x3))) (broadcastInDim S16x16384x1 ![] bcast_S_S16x16384x1 hLn2)

/-- The weights, by head, query, key. -/
def hP : FVec Ideal S16x16384x16384 .f32 :=
  Host.divf (hE x0 x1 x2 x3) (broadcastInDim S16x16384x16384 ![0, 1, 2] bcast_S16x16384x1_S16x16384x16384_0_1_2 (hL1 x0 x1 x2 x3))

/-- The attention's output, by query, head, coordinate. -/
def hO : FVec Ideal S16384x16x128 .f32 :=
  transpose S16384x16x128 [2, 0, 1] (Host.dotGeneral dot_S16384x16x128_S16x16384x16384_S16x128x16384_0_2_2_1_1_0 none x4 (hP x0 x1 x2 x3))
    transposes_S16x128x16384_S16384x16x128_2_0_1

/-- The cotangent times the output, summed over the coordinates. -/
def hDel : FVec Ideal S16384x16 .f32 :=
  Host.reduceAdd (mulf x5 (hO x0 x1 x2 x3 x4)) (constant S_ .f32 0x00000000#32) reducesTo_S16384x16x128_S16384x16_d2 h_S_

/-- The scale of the scores over log two. -/
def hC : FVec Ideal S_ .f32 := Host.divf (constant S_ .f32 0x3D93CD3A#32) hLn2

def hZ : FVec Ideal S16384x16x64 .f32 := broadcastInDim S16384x16x64 ![] bcast_S_S16384x16x64 (constant S_ .f32 0x00000000#32)

/-- The scaled queries, both parts and the padding side by side. -/
def hQ : FVec Ideal S16384x16x256 .f32 :=
  concatenate S16384x16x256 2
    [⟨S16384x16x128, mulf x0 (broadcastInDim S16384x16x128 ![] bcast_S_S16384x16x128 hC)⟩,
      ⟨S16384x16x64, mulf x1 (broadcastInDim S16384x16x64 ![] bcast_S_S16384x16x64 hC)⟩, ⟨S16384x16x64, hZ⟩]
    concatenates_S16384x16x128_S16384x16x64_S16384x16x64_S16384x16x256_d2

/-- The keys likewise, the second part the same for every head. -/
def hK : FVec Ideal S16384x16x256 .f32 :=
  concatenate S16384x16x256 2
    [⟨S16384x16x128, x2⟩,
      ⟨S16384x16x64, broadcastInDim S16384x16x64 ![0, 1, 2] bcast_S16384x1x64_S16384x16x64_0_1_2
        (broadcastInDim S16384x1x64 ![0, 2] bcast_S16384x64_S16384x1x64_0_2 x3)⟩, ⟨S16384x16x64, hZ⟩]
    concatenates_S16384x16x128_S16384x16x64_S16384x16x64_S16384x16x256_d2

variable (m : (ℓ : Loc nD τ sig) → Buf (Elt Ideal) ℓ) (c : Dev nD)

abbrev a0 : FVec Ideal S16384x16x128 .f32 := m ((c : Thread nD τ).loc main_arg0)
abbrev a1 : FVec Ideal S16384x16x64 .f32 := m ((c : Thread nD τ).loc main_arg1)
abbrev a2 : FVec Ideal S16384x16x128 .f32 := m ((c : Thread nD τ).loc main_arg2)
abbrev a3 : FVec Ideal S16384x64 .f32 := m ((c : Thread nD τ).loc main_arg3)
abbrev a4 : FVec Ideal S16384x16x128 .f32 := m ((c : Thread nD τ).loc main_arg4)
abbrev a5 : FVec Ideal S16384x16x128 .f32 := m ((c : Thread nD τ).loc main_arg5)

theorem V_v : (V m c main_v50 : FVec Ideal S16384x2048 .bf16) = truncf .bf16 (shapeCast S16384x2048 (a4 m c) shapeCasts_S16384x16x128_S16384x2048) bitsLt_bf16_f32 := by
  simp only [V, hostOps0, hostOps0_1, hostOps0_2, List.flatten_cons, List.flatten_nil, List.cons_append, List.nil_append, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

theorem V_q : (V m c main_v47 : FVec Ideal S16384x4096 .bf16) = truncf .bf16 (shapeCast S16384x4096 (hQ (a0 m c) (a1 m c)) shapeCasts_S16384x16x256_S16384x4096) bitsLt_bf16_f32 := by
  simp only [V, hostOps0, hostOps0_1, hostOps0_2, List.flatten_cons, List.flatten_nil, List.cons_append, List.nil_append, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

theorem V_lse : (V m c main_v53 : FVec Ideal S16x32x1x512 .f32) = shapeCast S16x32x1x512 (hLse (a0 m c) (a1 m c) (a2 m c) (a3 m c)) shapeCasts_S16x16384x1_S16x32x1x512 := by
  simp only [V, hostOps0, hostOps0_1, hostOps0_2, List.flatten_cons, List.flatten_nil, List.cons_append, List.nil_append, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

theorem V_do : (V m c main_v52 : FVec Ideal S16384x2048 .bf16) = truncf .bf16 (shapeCast S16384x2048 (a5 m c) shapeCasts_S16384x16x128_S16384x2048) bitsLt_bf16_f32 := by
  simp only [V, hostOps0, hostOps0_1, hostOps0_2, List.flatten_cons, List.flatten_nil, List.cons_append, List.nil_append, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

theorem V_k : (V m c main_v48 : FVec Ideal S16384x4096 .bf16) = truncf .bf16 (shapeCast S16384x4096 (hK (a2 m c) (a3 m c)) shapeCasts_S16384x16x256_S16384x4096) bitsLt_bf16_f32 := by
  simp only [V, hostOps0, hostOps0_1, hostOps0_2, List.flatten_cons, List.flatten_nil, List.cons_append, List.nil_append, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

theorem V_delta : (V m c main_v55 : FVec Ideal S16x32x1x512 .f32) = shapeCast S16x32x1x512 (transpose S16x16384 [1, 0] (hDel (a0 m c) (a1 m c) (a2 m c) (a3 m c) (a4 m c) (a5 m c)) transposes_S16384x16_S16x16384_1_0) shapeCasts_S16x16384_S16x32x1x512 := by
  simp only [V, hostOps0, hostOps0_1, hostOps0_2, List.flatten_cons, List.flatten_nil, List.cons_append, List.nil_append, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

end Cert.Kernel2Ideal.Flash
-- ==== Proof.FlashTile.lean ====
/- The attention gradient's tile operations, entry by entry. -/
module

public import Idealize.ShloMosaic.Lib.Pointwise
public import Idealize.ShloMosaic.Lib.WordCmp
public import proofs.«01_k».proof.Proof.FlashStep

@[expose] public section

set_option maxRecDepth 16384

noncomputable section

namespace Cert.Kernel2Ideal.Flash

open Idealize.ShloMosaic Idealize.ShloMosaic.TcCoe Idealize.ShloMosaic.Tactic Cert.Kernel2Ideal Cert.Kernel2Ideal.Gen

theorem select_le {α : Type} {r x : ℕ} (k : ℕ) (hr : r < 2 ^ 31) (hx : x + k < 2 ^ 31) (p q : α) :
    Scalar.select (IntOp.cmpi .sle (BitVec.ofNat 32 r) (IntOp.addi (BitVec.ofNat 32 x) (BitVec.ofNat 32 k))) p q = if r ≤ x + k then p else q := by
  have e : IntOp.addi (BitVec.ofNat 32 x) (BitVec.ofNat 32 k) = BitVec.ofNat 32 (x + k) := (BitVec.ofNat_add x k).symm
  rw [e, WordCmp.cmpi_sle_ofNat hr hx]
  unfold Scalar.select
  by_cases h : r ≤ x + k
  · rw [if_pos (by simp [h]), if_pos h]
  · rw [if_neg (by simp [h]), if_neg h]

theorem pay2_at (K : Vec Ideal S1024x256 .bf16) (Q : Vec Ideal S512x256 .bf16) (r : Fin 1024) (x : Fin 512) :
    k0_pay2 K Q (ix2 r x) = ∑ d : Fin 256, K (ix2 r d) * Q (ix2 x d) := by
  pointwise [k0_pay2]

theorem pay3_at (K : Vec Ideal S1024x128 .bf16) (Q : Vec Ideal S512x128 .bf16) (r : Fin 1024) (x : Fin 512) :
    k0_pay3 K Q (ix2 r x) = ∑ d : Fin 128, K (ix2 r d) * Q (ix2 x d) := by
  pointwise [k0_pay3]

theorem pay4_at (s : Vec Ideal S1024x512 .f32) (l : Vec Ideal S1x1x1x512 .f32) (r : Fin 1024) (x : Fin 512) :
    k0_pay4 s l (ix2 r x) = FloatOps.exp2 (s (ix2 r x) - l (ix4 0 0 0 x) : Ideal .f32) := by
  pointwise [k0_pay4]

theorem pay25_at (s : Vec Ideal S1024x512 .f32) (l : Vec Ideal S1x1x1x512 .f32) (r : Fin 1024) (x : Fin 512) :
    k0_pay25 s l (ix2 r x) = FloatOps.exp2 (s (ix2 r x) - l (ix4 0 0 0 x) : Ideal .f32) := by
  pointwise [k0_pay25]

theorem pay6_at (s : FVec Ideal S1024x512 .f32) (r : Fin 1024) (x : Fin 512) :
    k0_pay6 s k0_pay5 (ix2 r x) = if r.val ≤ x.val then s (ix2 r x) else 0 := by
  pointwise [k0_pay6, k0_pay5]
  rw [select_le 0 (by omega) (by omega)]
  rfl

theorem pay67_at (s : Vec Ideal S1024x512 .f32) (l : Vec Ideal S1x1x1x512 .f32) (r : Fin 1024) (x : Fin 512) :
    k0_pay67 s l (ix2 r x) = if r.val ≤ x.val + 512 then (FloatOps.exp2 (s (ix2 r x) - l (ix4 0 0 0 x) : Ideal .f32) : Ideal .f32) else 0 := by
  pointwise [k0_pay67]
  exact select_le 512 (by omega) (by omega) _ _

theorem pay69_at (p : FVec Ideal S1024x512 .f32) (d : Vec Ideal S1024x512 .f32) (l : Vec Ideal S1x1x1x512 .f32) (r : Fin 1024) (x : Fin 512) :
    k0_pay69 p d l (ix2 r x) = (p (ix2 r x) * (d (ix2 r x) - l (ix4 0 0 0 x)) : Ideal .f32) := by
  pointwise [k0_pay69]

theorem pay9_at (a : Vec Ideal S1024x128 .f32) (p : Vec Ideal S1024x512 .bf16) (o : Vec Ideal S512x128 .bf16) (r : Fin 1024) (d : Fin 128) :
    k0_pay9 a p o (ix2 r d) = a (ix2 r d) + ∑ x : Fin 512, p (ix2 r x) * o (ix2 x d) := by
  pointwise [k0_pay9]

theorem pay10_at (p : Vec Ideal S1024x512 .bf16) (a : Vec Ideal S1024x256 .f32) (o : Vec Ideal S512x256 .bf16) (r : Fin 1024) (d : Fin 256) :
    k0_pay10 p a o (ix2 r d) = a (ix2 r d) + ∑ x : Fin 512, p (ix2 r x) * o (ix2 x d) := by
  pointwise [k0_pay10]

theorem pay11_at (p : Vec Ideal S1024x512 .bf16) (a : Vec Ideal S1x256x512 .f32) (K : Vec Ideal S1024x256 .bf16) (d : Fin 256) (x : Fin 512) :
    k0_pay11 p a (k0_pay93 K) (ix3 0 d x) = a (ix3 0 d x) + ∑ r : Fin 1024, K (ix2 r d) * p (ix2 r x) := by
  pointwise [k0_pay11, k0_pay93]

/-! ## The tiles over real arrays -/

theorem coe_sum {ι : Type*} (t : Finset ι) (f : ι → ℝ) : ((∑ i ∈ t, f i : ℝ) : EReal) = ∑ i ∈ t, (f i : EReal) := by
  classical
  induction t using Finset.induction_on with
  | empty => simp
  | insert a t h ih => rw [Finset.sum_insert h, Finset.sum_insert h, EReal.coe_add, ih]

theorem sum_coe_mul {n : ℕ} (f g : Fin n → ℝ) : (∑ i, (f i : EReal) * (g i : EReal)) = ((∑ i, f i * g i : ℝ) : EReal) := by
  rw [coe_sum]
  exact Finset.sum_congr rfl fun i _ => (EReal.coe_mul _ _).symm

theorem exp2_at (u w : ℝ) : (FloatOps.exp2 ((u : EReal) - (w : EReal) : Ideal .f32) : Ideal .f32) = (((2 : ℝ) ^ (u - w) : ℝ) : EReal) := by
  rw [← EReal.coe_sub]
  rfl

section Model

variable (kk qq : ℕ → Fin 256 → ℝ) (vv oo : ℕ → Fin 128 → ℝ) (ls dl : ℕ → ℝ)

/-- The score of key `k` and query `q`, its weight, the value product and the score's gradient. -/
def sR (k q : ℕ) : ℝ := ∑ d, kk k d * qq q d
def pR (k q : ℕ) : ℝ := if k ≤ q then (2 : ℝ) ^ (sR kk qq k q - ls q) else 0
def dpR (k q : ℕ) : ℝ := ∑ d, vv k d * oo q d
def dsR (k q : ℕ) : ℝ := pR kk qq ls k q * (dpR vv oo k q - dl q)

/-- The six blocks of key block `a` are these arrays. -/
structure Blocks (K : Vec Ideal S1024x256 .bf16) (V : Vec Ideal S1024x128 .bf16) (Q : Vec Ideal S16384x256 .bf16)
    (DO : Vec Ideal S16384x128 .bf16) (LS DL : Vec Ideal S1x32x1x512 .f32) (a : ℕ) : Prop where
  k : ∀ (r : Fin 1024) d, K (ix2 r d) = ((kk (1024 * a + r.val) d : ℝ) : EReal)
  v : ∀ (r : Fin 1024) d, V (ix2 r d) = ((vv (1024 * a + r.val) d : ℝ) : EReal)
  q : ∀ (q : Fin 16384) d, Q (ix2 q d) = ((qq q.val d : ℝ) : EReal)
  o : ∀ (q : Fin 16384) d, DO (ix2 q d) = ((oo q.val d : ℝ) : EReal)
  ls : ∀ (i : Fin 32) (x : Fin 512), LS (ix4 0 i 0 x) = ((ls (512 * i.val + x.val) : ℝ) : EReal)
  dl : ∀ (i : Fin 32) (x : Fin 512), DL (ix4 0 i 0 x) = ((dl (512 * i.val + x.val) : ℝ) : EReal)

variable {kk qq vv oo ls dl} {K : Vec Ideal S1024x256 .bf16} {V : Vec Ideal S1024x128 .bf16} {Q : Vec Ideal S16384x256 .bf16}
    {DO : Vec Ideal S16384x128 .bf16} {LS DL : Vec Ideal S1x32x1x512 .f32} {a : ℕ}

theorem Blocks.qRow (b : Blocks kk qq vv oo ls dl K V Q DO LS DL a) {c : ℕ} (h : c < 32) (x : Fin 512) (d : Fin 256) :
    Flash.qRow Q c (ix2 x d) = ((qq (512 * c + x.val) d : ℝ) : EReal) := by
  have e : (Fin.ofNat 16384 (512 * c + x.val)).val = 512 * c + x.val := by
    show (512 * c + x.val) % 16384 = _
    omega
  exact (b.q _ d).trans (congrArg (fun n => ((qq n d : ℝ) : EReal)) e)

theorem Blocks.oRow (b : Blocks kk qq vv oo ls dl K V Q DO LS DL a) {c : ℕ} (h : c < 32) (x : Fin 512) (d : Fin 128) :
    Flash.oRow DO c (ix2 x d) = ((oo (512 * c + x.val) d : ℝ) : EReal) := by
  have e : (Fin.ofNat 16384 (512 * c + x.val)).val = 512 * c + x.val := by
    show (512 * c + x.val) % 16384 = _
    omega
  exact (b.o _ d).trans (congrArg (fun n => ((oo n d : ℝ) : EReal)) e)

theorem Blocks.statL (b : Blocks kk qq vv oo ls dl K V Q DO LS DL a) {c : ℕ} (h : c < 32) (x : Fin 512) :
    stat LS c (ix4 0 0 0 x) = ((ls (512 * c + x.val) : ℝ) : EReal) := by
  have e : (Fin.ofNat 32 c).val = c := Nat.mod_eq_of_lt h
  exact (b.ls _ x).trans (by rw [e])

theorem Blocks.statD (b : Blocks kk qq vv oo ls dl K V Q DO LS DL a) {c : ℕ} (h : c < 32) (x : Fin 512) :
    stat DL c (ix4 0 0 0 x) = ((dl (512 * c + x.val) : ℝ) : EReal) := by
  have e : (Fin.ofNat 32 c).val = c := Nat.mod_eq_of_lt h
  exact (b.dl _ x).trans (by rw [e])

theorem Blocks.s (b : Blocks kk qq vv oo ls dl K V Q DO LS DL a) {c : ℕ} (h : 2 * a + c < 32) (r : Fin 1024) (x : Fin 512) :
    Flash.s K Q (2 * a) c (ix2 r x) = ((sR kk qq (1024 * a + r.val) (512 * (2 * a + c) + x.val) : ℝ) : EReal) := by
  rw [Flash.s, pay2_at, sR, ← sum_coe_mul]
  exact Finset.sum_congr rfl fun d _ => by rw [b.k, b.qRow h]

theorem Blocks.dp (b : Blocks kk qq vv oo ls dl K V Q DO LS DL a) {c : ℕ} (h : 2 * a + c < 32) (r : Fin 1024) (x : Fin 512) :
    Flash.dp V DO (2 * a) c (ix2 r x) = ((dpR vv oo (1024 * a + r.val) (512 * (2 * a + c) + x.val) : ℝ) : EReal) := by
  rw [Flash.dp, pay3_at, dpR, ← sum_coe_mul]
  exact Finset.sum_congr rfl fun d _ => by rw [b.v, b.oRow h]

theorem coe_ite (h : Prop) [Decidable h] (u : ℝ) : (if h then (u : EReal) else 0) = ((if h then u else 0 : ℝ) : EReal) := by
  split <;> simp

theorem Blocks.pf (b : Blocks kk qq vv oo ls dl K V Q DO LS DL a) {c : ℕ} (h : 2 * a + c < 32) (r : Fin 1024) (x : Fin 512) :
    Flash.pf K Q LS (2 * a) c (ix2 r x) = ((pR kk qq ls (1024 * a + r.val) (512 * (2 * a + c) + x.val) : ℝ) : EReal) := by
  have hr := r.isLt
  match c, h with
  | 0, h =>
    rw [Flash.pf, pay6_at, pay4_at, b.s h, b.statL h, exp2_at, pR, ← coe_ite]
    exact if_congr (by omega) rfl rfl
  | 1, h =>
    rw [Flash.pf, pay67_at, b.s h, b.statL h, exp2_at, pR, ← coe_ite]
    exact if_congr (by omega) rfl rfl
  | c + 2, h =>
    rw [Flash.pf, pay25_at, b.s h, b.statL h, exp2_at, pR, if_pos (by omega)]

theorem Blocks.p (b : Blocks kk qq vv oo ls dl K V Q DO LS DL a) {c : ℕ} (h : 2 * a + c < 32) (r : Fin 1024) (x : Fin 512) :
    Flash.p K Q LS (2 * a) c (ix2 r x) = ((pR kk qq ls (1024 * a + r.val) (512 * (2 * a + c) + x.val) : ℝ) : EReal) := by
  refine Eq.trans ?_ (b.pf h r x)
  pointwise [Flash.p]

theorem Blocks.ds (b : Blocks kk qq vv oo ls dl K V Q DO LS DL a) {c : ℕ} (h : 2 * a + c < 32) (r : Fin 1024) (x : Fin 512) :
    Flash.ds K V Q DO LS DL (2 * a) c (ix2 r x) = ((dsR kk qq vv oo ls dl (1024 * a + r.val) (512 * (2 * a + c) + x.val) : ℝ) : EReal) := by
  rw [Flash.ds, pay69_at, b.pf h, b.dp h, b.statD h, dsR, EReal.coe_mul, EReal.coe_sub]

theorem pay95_at (i : S1024x128.Idx) : k0_pay95 (F := Ideal) i = 0 := by pointwise [k0_pay95]
theorem pay94_at (i : S1024x256.Idx) : k0_pay94 (F := Ideal) i = 0 := by pointwise [k0_pay94]

/-- The values' gradient after `n` tiles. -/
theorem Blocks.dvS (b : Blocks kk qq vv oo ls dl K V Q DO LS DL a) (n : ℕ) (h : 2 * a + n ≤ 32) (r : Fin 1024) (d : Fin 128) :
    Flash.dvS K Q DO LS (2 * a) n (ix2 r d)
      = ((∑ c ∈ Finset.range n, ∑ x : Fin 512, pR kk qq ls (1024 * a + r.val) (512 * (2 * a + c) + x.val) * oo (512 * (2 * a + c) + x.val) d : ℝ) : EReal) := by
  induction n with
  | zero => rw [Flash.dvS, pay95_at]; simp
  | succ n ih =>
    rw [Flash.dvS, pay9_at, ih (by omega), Finset.sum_range_succ, EReal.coe_add, ← sum_coe_mul]
    refine congrArg (_ + ·) (Finset.sum_congr rfl fun x _ => ?_)
    rw [b.p (by omega), b.oRow (by omega)]

/-- The keys' gradient after `n` tiles. -/
theorem Blocks.dkS (b : Blocks kk qq vv oo ls dl K V Q DO LS DL a) (n : ℕ) (h : 2 * a + n ≤ 32) (r : Fin 1024) (d : Fin 256) :
    Flash.dkS K V Q DO LS DL (2 * a) n (ix2 r d)
      = ((∑ c ∈ Finset.range n, ∑ x : Fin 512, dsR kk qq vv oo ls dl (1024 * a + r.val) (512 * (2 * a + c) + x.val) * qq (512 * (2 * a + c) + x.val) d : ℝ) : EReal) := by
  induction n with
  | zero => rw [Flash.dkS, pay94_at]; simp
  | succ n ih =>
    rw [Flash.dkS, pay10_at, ih (by omega), Finset.sum_range_succ, EReal.coe_add, ← sum_coe_mul]
    refine congrArg (_ + ·) (Finset.sum_congr rfl fun x _ => ?_)
    rw [b.ds (by omega), b.qRow (by omega)]

/-- A tile of the queries' gradient: its slab and this key block's part. -/
theorem Blocks.dqT (b : Blocks kk qq vv oo ls dl K V Q DO LS DL a) (D : Vec Ideal S32x256x512 .f32) {c : ℕ} (h : 2 * a + c < 32) (d : Fin 256) (x : Fin 512) :
    Flash.dqT K V Q DO LS DL (2 * a) D c (ix3 0 d x)
      = D (ix3 (Fin.ofNat 32 (2 * a + c)) d x)
        + ((∑ r : Fin 1024, kk (1024 * a + r.val) d * dsR kk qq vv oo ls dl (1024 * a + r.val) (512 * (2 * a + c) + x.val) : ℝ) : EReal) := by
  rw [Flash.dqT, pay11_at, ← sum_coe_mul]
  refine congrArg₂ (· + ·) rfl (Finset.sum_congr rfl fun r _ => ?_)
  rw [b.ds h, b.k]

/-- Every tile of the queries' gradient after a key block: what a block past a tile adds to it is zero. -/
theorem Blocks.dqS (b : Blocks kk qq vv oo ls dl K V Q DO LS DL a) (ha : a < 16) (D : Vec Ideal S32x256x512 .f32) (i : Fin 32) (d : Fin 256) (x : Fin 512) :
    Flash.dqS K V Q DO LS DL (2 * a) D (32 - 2 * a) (ix3 i d x)
      = D (ix3 i d x)
        + ((∑ r : Fin 1024, kk (1024 * a + r.val) d * dsR kk qq vv oo ls dl (1024 * a + r.val) (512 * i.val + x.val) : ℝ) : EReal) := by
  have hi := i.isLt
  by_cases h : 2 * a ≤ i.val
  · refine (if_pos ⟨h, by show i.val < _; omega⟩).trans ((b.dqT D (c := i.val - 2 * a) (by omega) d x).trans ?_)
    rw [show 2 * a + (i.val - 2 * a) = i.val by omega, show Fin.ofNat 32 i.val = i from Fin.ext (Nat.mod_eq_of_lt hi)]
  · refine (if_neg fun h' => h h'.1).trans ?_
    rw [Finset.sum_eq_zero fun r _ => ?_]
    · simp
    · rw [dsR, pR, if_neg (by omega), zero_mul, mul_zero]

end Model

end Cert.Kernel2Ideal.Flash
-- ==== Proof.FlashReal.lean ====
/- The host lines of the attention gradient, entry by entry, over real arguments. -/
module

public import Idealize.ShloMosaic.Lib.Pointwise
public import Idealize.ShloMosaic.Lib.WordCmp
public import Idealize.ShloMosaic.Lib.IdealHost
public import Idealize.ShloMosaic.Lib.KernelVsHost
public import proofs.«01_k».proof.Proof.FlashHost
public import proofs.«01_k».proof.Proof.FlashTile

@[expose] public section

set_option maxRecDepth 16384

noncomputable section

namespace Cert.Kernel2Ideal.Flash

open Idealize.ShloMosaic Idealize.ShloMosaic.TcCoe Idealize.ShloMosaic.Tactic Cert.Kernel2Ideal Cert.Kernel2Ideal.Gen

variable (x0 : FVec Ideal S16384x16x128 .f32) (x1 : FVec Ideal S16384x16x64 .f32) (x2 : FVec Ideal S16384x16x128 .f32)
  (x3 : FVec Ideal S16384x64 .f32) (x4 x5 : FVec Ideal S16384x16x128 .f32)

theorem lit_bot : Ideal.ofBits .f32 4286578688#32 = (⊥ : EReal) := by
  simp [Ideal.ofBits, Ideal.ieee, -EReal.coe_mul, -EReal.coe_neg]

/-- The scale of the scores. -/
def cR : ℝ := 9686330 / 134217728

theorem lit_c : Ideal.ofBits .f32 1033096506#32 = ((cR : ℝ) : EReal) := by
  simp [Ideal.ofBits, Ideal.ieee, -EReal.coe_mul, -EReal.coe_neg]
  norm_num [cR]

theorem lit_two : Ideal.ofBits .f32 1073741824#32 = ((2 : ℝ) : EReal) := by
  simp [Ideal.ofBits, Ideal.ieee, -EReal.coe_mul, -EReal.coe_neg]
  norm_num

/-! ## The host arrays' entries -/

open Cert.Reference2Ideal.Read in
theorem hS_at (h : Fin 16) (q k : Fin 16384) : hS x0 x1 x2 x3 (ix3 h q k)
    = if k.val ≤ q.val then (((∑ d, x0 (ix3 q h d) * x2 (ix3 k h d)) + ∑ d, x1 (ix3 q h d) * x3 (ix2 k d)) * ((cR : ℝ) : EReal) : EReal) else ⊥ := by
  have hk := k.isLt
  have hq := q.isLt
  pointwise [hS, val_main_v14_0, val_main_v14_1, val_main_v6, val_main_call0_v2, val_main_call0_v0, val_main_cst_0, val_main_v13, val_main_v12, val_main_v11, val_main_v10, val_main_v9, val_main_v8, val_main_v7, val_main_v5, val_main_cst, val_main_v4, val_main_v3, val_main_v2, val_main_v1, val_main_v0]
  rw [lit_c, WordCmp.cmpi_sle_ofNat (by omega) (by omega)]
  unfold Scalar.select
  by_cases h : k.val ≤ q.val
  · rw [if_pos (by simp [h]), if_pos h]
  · rw [if_neg (by simp [h]), if_neg h]
    exact lit_bot

theorem hM_at (h : Fin 16) (q : Fin 16384) : hM x0 x1 x2 x3 (ix2 h q)
    = Finset.fold max (⊥ : EReal) (fun k => hS x0 x1 x2 x3 (ix3 h q k)) Finset.univ := by
  pointwise [hM]
  rw [lit_bot]

theorem hE_at (h : Fin 16) (q k : Fin 16384) : hE x0 x1 x2 x3 (ix3 h q k)
    = Ideal.exp (hS x0 x1 x2 x3 (ix3 h q k) - hM x0 x1 x2 x3 (ix2 h q)) := by
  pointwise [hE, hM1]

theorem hL_at (h : Fin 16) (q : Fin 16384) : hL x0 x1 x2 x3 (ix2 h q) = ∑ k, hE x0 x1 x2 x3 (ix3 h q k) := by
  pointwise [hL]

theorem hM1_at (h : Fin 16) (q : Fin 16384) (z : Fin 1) : hM1 x0 x1 x2 x3 (ix3 h q z) = hM x0 x1 x2 x3 (ix2 h q) := by
  pointwise [hM1]

theorem hL1_at (h : Fin 16) (q : Fin 16384) (z : Fin 1) : hL1 x0 x1 x2 x3 (ix3 h q z) = hL x0 x1 x2 x3 (ix2 h q) := by
  pointwise [hL1]

theorem hLn2_at (i : S_.Idx) : hLn2 i = ((Real.log 2 : ℝ) : EReal) := by
  pointwise [hLn2]
  rw [lit_two]
  exact if_neg (by norm_num)

theorem quotient_at {s : Shape} (M L B : FVec Ideal s .f32) (i : s.Idx) :
    Host.divf (addf M (Host.log L)) B i = Ideal.div (M i + Ideal.log (L i) : EReal) (B i) := by
  pointwise

theorem hLse_at (h : Fin 16) (q : Fin 16384) : hLse x0 x1 x2 x3 (ix3 h q 0)
    = Ideal.div (hM x0 x1 x2 x3 (ix2 h q) + Ideal.log (hL x0 x1 x2 x3 (ix2 h q))) ((Real.log 2 : ℝ) : EReal) := by
  rw [hLse, quotient_at, hM1_at, hL1_at]
  exact congrArg (Ideal.div _) (hLn2_at _)

theorem hP_at (h : Fin 16) (q k : Fin 16384) : hP x0 x1 x2 x3 (ix3 h q k)
    = Ideal.div (hE x0 x1 x2 x3 (ix3 h q k)) (hL x0 x1 x2 x3 (ix2 h q)) := by
  pointwise [hP, hL1]

theorem hO_at (h : Fin 16) (q : Fin 16384) (d : Fin 128) : hO x0 x1 x2 x3 x4 (ix3 q h d)
    = ∑ k, x4 (ix3 k h d) * hP x0 x1 x2 x3 (ix3 h q k) := by
  pointwise [hO]

theorem hDel_at (h : Fin 16) (q : Fin 16384) : hDel x0 x1 x2 x3 x4 x5 (ix2 q h)
    = ∑ d, x5 (ix3 q h d) * hO x0 x1 x2 x3 x4 (ix3 q h d) := by
  pointwise [hDel]

theorem hQ_at (h : Fin 16) (q : Fin 16384) (d : Fin 256) : hQ x0 x1 (ix3 q h d)
    = if h1 : d.val < 128 then x0 (ix3 q h ⟨d.val, h1⟩) * Ideal.div ((cR : ℝ) : EReal) ((Real.log 2 : ℝ) : EReal)
      else if h2 : d.val - 128 < 64 then x1 (ix3 q h ⟨d.val - 128, h2⟩) * Ideal.div ((cR : ℝ) : EReal) ((Real.log 2 : ℝ) : EReal) else 0 := by
  pointwise [hQ, hZ, hC]
  rw [hLn2_at, lit_c]

theorem hK_at (h : Fin 16) (k : Fin 16384) (d : Fin 256) : hK x2 x3 (ix3 k h d)
    = if h1 : d.val < 128 then x2 (ix3 k h ⟨d.val, h1⟩)
      else if h2 : d.val - 128 < 64 then x3 (ix2 k ⟨d.val - 128, h2⟩) else 0 := by
  pointwise [hK, hZ]

end Cert.Kernel2Ideal.Flash
-- ==== Proof.FlashModel.lean ====
/- The host arrays of the attention gradient over real arguments, and the tile model over them: its weights are the softmax's and its
   score gradients the derivative's. -/
module

public import proofs.«01_k».proof.Proof.FlashReal
public import Mathlib.Analysis.SpecialFunctions.Pow.Real

@[expose] public section

set_option maxRecDepth 16384

noncomputable section

namespace Cert.Kernel2Ideal.Flash

open Idealize.ShloMosaic Idealize.ShloMosaic.TcCoe Idealize.ShloMosaic.Tactic Cert.Kernel2Ideal Cert.Kernel2Ideal.Gen

/-! ## Sums by tiles -/

theorem sum_split (n w : ℕ) (f : ℕ → ℝ) : ∑ q ∈ Finset.range (w * n), f q = ∑ c ∈ Finset.range n, ∑ x : Fin w, f (w * c + x.val) := by
  induction n with
  | zero => simp
  | succ n ih =>
    rw [Nat.mul_succ, Finset.sum_range_add, ih, Finset.sum_range_succ, Finset.sum_range fun x => f (w * n + x)]

/-- The tiles from the diagonal on carry the whole sum of a function that is zero before them. -/
theorem sum_tiles (f : ℕ → ℝ) {a : ℕ} (ha : a < 16) (hz : ∀ q, q < 1024 * a → f q = 0) :
    ∑ c ∈ Finset.range (32 - 2 * a), ∑ x : Fin 512, f (512 * (2 * a + c) + x.val) = ∑ q : Fin 16384, f q.val := by
  rw [← Finset.sum_range f, show (16384 : ℕ) = 512 * (2 * a + (32 - 2 * a)) by omega, sum_split, Finset.sum_range_add, right_eq_add]
  exact Finset.sum_eq_zero fun c hc => Finset.sum_eq_zero fun x _ => hz _ (by have := Finset.mem_range.mp hc; omega)

/-- The key blocks up to the diagonal carry the whole sum of a function that is zero after them. -/
theorem sum_blocks (f : ℕ → ℝ) {n : ℕ} (hn : n ≤ 16) (hz : ∀ k, 1024 * n ≤ k → f k = 0) :
    ∑ c ∈ Finset.range n, ∑ r : Fin 1024, f (1024 * c + r.val) = ∑ k : Fin 16384, f k.val := by
  rw [← Finset.sum_range f, ← sum_split, show (16384 : ℕ) = 1024 * n + (16384 - 1024 * n) by omega, Finset.sum_range_add, left_eq_add]
  · exact Finset.sum_eq_zero fun k _ => hz _ (by omega)

theorem div_coe_coe {x y : ℝ} (h : y ≠ 0) : Ideal.div ((x : ℝ) : EReal) ((y : ℝ) : EReal) = ((x / y : ℝ) : EReal) := by
  rw [Ideal.div_coe h, ← EReal.coe_mul, mul_one_div]

theorem sum_parts (f : Fin 256 → ℝ) : ∑ d, f d = (∑ d : Fin 128, f ⟨d.val, by omega⟩) + ((∑ d : Fin 64, f ⟨128 + d.val, by omega⟩) + ∑ d : Fin 64, f ⟨192 + d.val, by omega⟩) := by
  have e1 := Fin.sum_univ_add (a := 128) (b := 128) f
  have e2 := Fin.sum_univ_add (a := 64) (b := 64) fun d : Fin 128 => f (Fin.natAdd 128 d)
  rw [e1, e2]
  refine congrArg₂ (· + ·) rfl (congrArg₂ (· + ·) rfl (Finset.sum_congr rfl fun d _ => congrArg f (Fin.ext ?_)))
  show 128 + (64 + d.val) = 192 + d.val
  omega

/-! ## Real arguments -/

/-- The arguments are these real arrays. -/
structure Reals (x0 : FVec Ideal S16384x16x128 .f32) (x1 : FVec Ideal S16384x16x64 .f32) (x2 : FVec Ideal S16384x16x128 .f32)
    (x3 : FVec Ideal S16384x64 .f32) (x4 x5 : FVec Ideal S16384x16x128 .f32)
    (y0 : Fin 16384 → Fin 16 → Fin 128 → ℝ) (y1 : Fin 16384 → Fin 16 → Fin 64 → ℝ) (y2 : Fin 16384 → Fin 16 → Fin 128 → ℝ)
    (y3 : Fin 16384 → Fin 64 → ℝ) (y4 y5 : Fin 16384 → Fin 16 → Fin 128 → ℝ) : Prop where
  e0 : ∀ q h d, x0 (ix3 q h d) = ((y0 q h d : ℝ) : EReal)
  e1 : ∀ q h d, x1 (ix3 q h d) = ((y1 q h d : ℝ) : EReal)
  e2 : ∀ k h d, x2 (ix3 k h d) = ((y2 k h d : ℝ) : EReal)
  e3 : ∀ k d, x3 (ix2 k d) = ((y3 k d : ℝ) : EReal)
  e4 : ∀ k h d, x4 (ix3 k h d) = ((y4 k h d : ℝ) : EReal)
  e5 : ∀ q h d, x5 (ix3 q h d) = ((y5 q h d : ℝ) : EReal)

section Defs

variable (y0 : Fin 16384 → Fin 16 → Fin 128 → ℝ) (y1 : Fin 16384 → Fin 16 → Fin 64 → ℝ) (y2 : Fin 16384 → Fin 16 → Fin 128 → ℝ)
    (y3 : Fin 16384 → Fin 64 → ℝ) (y4 y5 : Fin 16384 → Fin 16 → Fin 128 → ℝ) (M : Fin 16 → Fin 16384 → ℝ) (h : Fin 16)

/-- The score of query `q` and key `k`, its exponential, their sum over the keys, the weight. -/
def σR (q k : Fin 16384) : ℝ := ((∑ d, y0 q h d * y2 k h d) + ∑ d, y1 q h d * y3 k d) * cR
def eR (q k : Fin 16384) : ℝ := if k.val ≤ q.val then Real.exp (σR y0 y1 y2 y3 h q k - M h q) else 0
def lR (q : Fin 16384) : ℝ := ∑ k, eR y0 y1 y2 y3 M h q k
def wR (q k : Fin 16384) : ℝ := eR y0 y1 y2 y3 M h q k / lR y0 y1 y2 y3 M h q
/-- The cotangent's product with a value row, its mean under the weights, the gradient of a score. -/
def cR' (q k : Fin 16384) : ℝ := ∑ d, y4 k h d * y5 q h d
def δR (q : Fin 16384) : ℝ := ∑ d, y5 q h d * ∑ k, y4 k h d * wR y0 y1 y2 y3 M h q k
def gR (q k : Fin 16384) : ℝ := wR y0 y1 y2 y3 M h q k * (cR' y4 y5 h q k - δR y0 y1 y2 y3 y4 y5 M h q)

/-- The queries and the keys, both parts and the padding side by side. -/
def xQ (q : Fin 16384) (d : Fin 256) : ℝ :=
  if h1 : d.val < 128 then y0 q h ⟨d.val, h1⟩ else if h2 : d.val - 128 < 64 then y1 q h ⟨d.val - 128, h2⟩ else 0
def xK (k : Fin 16384) (d : Fin 256) : ℝ :=
  if h1 : d.val < 128 then y2 k h ⟨d.val, h1⟩ else if h2 : d.val - 128 < 64 then y3 k ⟨d.val - 128, h2⟩ else 0

theorem sum_xK_xQ (q k : Fin 16384) : (∑ d, xK y2 y3 h k d * xQ y0 y1 h q d) * cR = σR y0 y1 y2 y3 h q k := by
  rw [sum_parts, σR]
  congr 1
  rw [Finset.sum_eq_zero (s := Finset.univ) (f := fun d : Fin 64 => xK y2 y3 h k ⟨192 + d.val, _⟩ * xQ y0 y1 h q ⟨192 + d.val, _⟩) fun d _ => ?_, add_zero]
  · refine congrArg₂ (· + ·) (Finset.sum_congr rfl fun d _ => ?_) (Finset.sum_congr rfl fun d _ => ?_)
    · rw [xK, xQ, dif_pos d.isLt, dif_pos d.isLt, mul_comm]
    · rw [xK, xQ, dif_neg (by show ¬ 128 + d.val < 128; omega), dif_pos (by show 128 + d.val - 128 < 64; omega),
        dif_neg (by show ¬ 128 + d.val < 128; omega), dif_pos (by show 128 + d.val - 128 < 64; omega), mul_comm]
      simp only [Nat.add_sub_cancel_left]
  · rw [xK, dif_neg (by show ¬ 192 + d.val < 128; omega), dif_neg (by show ¬ 192 + d.val - 128 < 64; omega), zero_mul]

theorem lR_pos (q : Fin 16384) : 0 < lR y0 y1 y2 y3 M h q := by
  refine Finset.sum_pos' (fun k _ => ?_) ⟨q, Finset.mem_univ q, ?_⟩
  · rw [eR]; split
    · exact (Real.exp_pos _).le
    · exact le_rfl
  · rw [eR, if_pos le_rfl]; exact Real.exp_pos _

/-- The cotangent times the output is the weights' mean of its products with the values. -/
theorem δR_eq (q : Fin 16384) : δR y0 y1 y2 y3 y4 y5 M h q = ∑ k, wR y0 y1 y2 y3 M h q k * cR' y4 y5 h q k := by
  unfold δR cR'
  simp only [Finset.mul_sum]
  rw [Finset.sum_comm]
  exact Finset.sum_congr rfl fun k _ => Finset.sum_congr rfl fun d _ => by ring

/-- The tile model's arrays of head `h`. -/
def kkM (k : ℕ) (d : Fin 256) : ℝ := xK y2 y3 h (Fin.ofNat 16384 k) d
def qqM (q : ℕ) (d : Fin 256) : ℝ := xQ y0 y1 h (Fin.ofNat 16384 q) d * (cR / Real.log 2)
def vvM (k : ℕ) (d : Fin 128) : ℝ := y4 (Fin.ofNat 16384 k) h d
def lsM (q : ℕ) : ℝ := (M h (Fin.ofNat 16384 q) + Real.log (lR y0 y1 y2 y3 M h (Fin.ofNat 16384 q))) / Real.log 2
def dlM (q : ℕ) : ℝ := δR y0 y1 y2 y3 y4 y5 M h (Fin.ofNat 16384 q)

theorem ofNat_val (q : Fin 16384) : Fin.ofNat 16384 q.val = q := Fin.ext (Nat.mod_eq_of_lt q.isLt)

/-- A power of two of a score over log two less the row's log-sum is its softmax weight. -/
theorem pow_weight (s M l : ℝ) (hl : 0 < l) : (2 : ℝ) ^ (s / Real.log 2 - (M + Real.log l) / Real.log 2) = Real.exp (s - M) / l := by
  have h2 : Real.log 2 ≠ 0 := (Real.log_pos (by norm_num)).ne'
  rw [Real.rpow_def_of_pos (by norm_num), ← sub_div, mul_div_cancel₀ _ h2, show s - (M + Real.log l) = (s - M) - Real.log l by ring,
    Real.exp_sub, Real.exp_log hl]

theorem pR_eq (q k : Fin 16384) :
    pR (kkM y2 y3 h) (qqM y0 y1 h) (lsM y0 y1 y2 y3 M h) k.val q.val = wR y0 y1 y2 y3 M h q k := by
  have e : sR (kkM y2 y3 h) (qqM y0 y1 h) k.val q.val = σR y0 y1 y2 y3 h q k / Real.log 2 := by
    rw [← sum_xK_xQ, sR]
    simp only [kkM, qqM, ofNat_val]
    rw [mul_div_assoc, Finset.sum_mul]
    exact Finset.sum_congr rfl fun d _ => (mul_assoc _ _ _).symm
  rw [pR, wR, eR, e, lsM, ofNat_val]
  by_cases hk : k.val ≤ q.val
  · rw [if_pos hk, if_pos hk, pow_weight _ _ _ (lR_pos ..)]
  · rw [if_neg hk, if_neg hk, zero_div]

theorem dsR_eq (q k : Fin 16384) :
    dsR (kkM y2 y3 h) (qqM y0 y1 h) (vvM y4 h) (vvM y5 h) (lsM y0 y1 y2 y3 M h) (dlM y0 y1 y2 y3 y4 y5 M h) k.val q.val
      = gR y0 y1 y2 y3 y4 y5 M h q k := by
  rw [dsR, pR_eq, gR, dpR, cR', dlM, ofNat_val]
  simp only [vvM, ofNat_val]

end Defs

section Host

variable {x0 : FVec Ideal S16384x16x128 .f32} {x1 : FVec Ideal S16384x16x64 .f32} {x2 : FVec Ideal S16384x16x128 .f32}
    {x3 : FVec Ideal S16384x64 .f32} {x4 x5 : FVec Ideal S16384x16x128 .f32}
    {y0 : Fin 16384 → Fin 16 → Fin 128 → ℝ} {y1 : Fin 16384 → Fin 16 → Fin 64 → ℝ} {y2 : Fin 16384 → Fin 16 → Fin 128 → ℝ}
    {y3 : Fin 16384 → Fin 64 → ℝ} {y4 y5 : Fin 16384 → Fin 16 → Fin 128 → ℝ}

theorem Reals.s (w : Reals x0 x1 x2 x3 x4 x5 y0 y1 y2 y3 y4 y5) (h : Fin 16) (q k : Fin 16384) :
    hS x0 x1 x2 x3 (ix3 h q k) = if k.val ≤ q.val then ((σR y0 y1 y2 y3 h q k : ℝ) : EReal) else ⊥ := by
  rw [hS_at, σR, EReal.coe_mul, EReal.coe_add, ← sum_coe_mul, ← sum_coe_mul]
  simp only [w.e0, w.e1, w.e2, w.e3]

variable (x0 x1 x2 x3) in
/-- The largest score of a query, as a real number. -/
def mR (h : Fin 16) (q : Fin 16384) : ℝ := (hM x0 x1 x2 x3 (ix2 h q)).toReal

theorem Reals.m (w : Reals x0 x1 x2 x3 x4 x5 y0 y1 y2 y3 y4 y5) (h : Fin 16) (q : Fin 16384) :
    hM x0 x1 x2 x3 (ix2 h q) = ((mR x0 x1 x2 x3 h q : ℝ) : EReal) := by
  refine (EReal.coe_toReal ?_ ?_).symm
  · rw [hM_at]
    refine ne_of_lt ((Finset.fold_max_lt _).mpr ⟨bot_lt_top, fun k _ => ?_⟩)
    rw [w.s]
    split
    · exact EReal.coe_lt_top _
    · exact bot_lt_top
  · rw [hM_at]
    refine ne_of_gt ((Finset.lt_fold_max _).mpr (Or.inr ⟨q, Finset.mem_univ q, ?_⟩))
    rw [w.s, if_pos le_rfl]
    exact EReal.bot_lt_coe _

theorem Reals.e (w : Reals x0 x1 x2 x3 x4 x5 y0 y1 y2 y3 y4 y5) (h : Fin 16) (q k : Fin 16384) :
    hE x0 x1 x2 x3 (ix3 h q k) = ((eR y0 y1 y2 y3 (mR x0 x1 x2 x3) h q k : ℝ) : EReal) := by
  rw [hE_at, w.s, w.m, eR]
  split
  · rw [← EReal.coe_sub]; rfl
  · rw [EReal.bot_sub]; rfl

theorem Reals.l (w : Reals x0 x1 x2 x3 x4 x5 y0 y1 y2 y3 y4 y5) (h : Fin 16) (q : Fin 16384) :
    hL x0 x1 x2 x3 (ix2 h q) = ((lR y0 y1 y2 y3 (mR x0 x1 x2 x3) h q : ℝ) : EReal) := by
  rw [hL_at, lR, coe_sum]
  exact Finset.sum_congr rfl fun k _ => w.e h q k

theorem Reals.lse (w : Reals x0 x1 x2 x3 x4 x5 y0 y1 y2 y3 y4 y5) (h : Fin 16) (q : Fin 16384) :
    hLse x0 x1 x2 x3 (ix3 h q 0)
      = (((mR x0 x1 x2 x3 h q + Real.log (lR y0 y1 y2 y3 (mR x0 x1 x2 x3) h q)) / Real.log 2 : ℝ) : EReal) := by
  have h2 : Real.log 2 ≠ 0 := (Real.log_pos (by norm_num)).ne'
  rw [hLse_at, w.m, w.l]
  rw [show Ideal.log ((lR y0 y1 y2 y3 (mR x0 x1 x2 x3) h q : ℝ) : EReal) = ((Real.log (lR y0 y1 y2 y3 (mR x0 x1 x2 x3) h q) : ℝ) : EReal)
    from if_neg (not_le.mpr (lR_pos ..)), ← EReal.coe_add, div_coe_coe h2]

theorem Reals.p (w : Reals x0 x1 x2 x3 x4 x5 y0 y1 y2 y3 y4 y5) (h : Fin 16) (q k : Fin 16384) :
    hP x0 x1 x2 x3 (ix3 h q k) = ((wR y0 y1 y2 y3 (mR x0 x1 x2 x3) h q k : ℝ) : EReal) := by
  rw [hP_at, w.e, w.l, div_coe_coe (lR_pos ..).ne', wR]

theorem Reals.o (w : Reals x0 x1 x2 x3 x4 x5 y0 y1 y2 y3 y4 y5) (h : Fin 16) (q : Fin 16384) (d : Fin 128) :
    hO x0 x1 x2 x3 x4 (ix3 q h d) = ((∑ k, y4 k h d * wR y0 y1 y2 y3 (mR x0 x1 x2 x3) h q k : ℝ) : EReal) := by
  rw [hO_at, ← sum_coe_mul]
  simp only [w.e4, w.p]

theorem Reals.del (w : Reals x0 x1 x2 x3 x4 x5 y0 y1 y2 y3 y4 y5) (h : Fin 16) (q : Fin 16384) :
    hDel x0 x1 x2 x3 x4 x5 (ix2 q h) = ((δR y0 y1 y2 y3 y4 y5 (mR x0 x1 x2 x3) h q : ℝ) : EReal) := by
  rw [hDel_at, δR, ← sum_coe_mul]
  simp only [w.e5, w.o]

theorem Reals.q (w : Reals x0 x1 x2 x3 x4 x5 y0 y1 y2 y3 y4 y5) (h : Fin 16) (q : Fin 16384) (d : Fin 256) :
    hQ x0 x1 (ix3 q h d) = ((xQ y0 y1 h q d * (cR / Real.log 2) : ℝ) : EReal) := by
  have h2 : Real.log 2 ≠ 0 := (Real.log_pos (by norm_num)).ne'
  rw [hQ_at, xQ, div_coe_coe h2]
  split
  · rw [w.e0, ← EReal.coe_mul]
  · split
    · rw [w.e1, ← EReal.coe_mul]
    · rw [zero_mul]; rfl

theorem Reals.k (w : Reals x0 x1 x2 x3 x4 x5 y0 y1 y2 y3 y4 y5) (h : Fin 16) (k : Fin 16384) (d : Fin 256) :
    hK x2 x3 (ix3 k h d) = ((xK y2 y3 h k d : ℝ) : EReal) := by
  rw [hK_at, xK]
  split
  · rw [w.e2]
  · split
    · rw [w.e3]
    · rfl

end Host

end Cert.Kernel2Ideal.Flash
-- ==== Proof.FlashRun.lean ====
/- The attention gradient's region from its first point to its last, and the run. -/
module

public import Idealize.ShloMosaic.Lib.Claim
public import proofs.«01_k».proof.Proof.FlashPoint

@[expose] public section

set_option maxRecDepth 16384

noncomputable section

namespace Cert.Kernel2Ideal.Flash

open Idealize.ShloMosaic Idealize.ShloMosaic.TcCoe Idealize.ShloMosaic.Tactic Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

open Idealize.ShloMosaic.Pipeline (Dat Cfg Window BodyObligation cellOf)

variable (m : (ℓ : Loc nD τ sig) → Buf (Elt F) ℓ) (ρ : Dev nD → PrngReg)

/-- A point's blocks. -/
def blk0 (c : Dev nD) (t : Fin cfg0.N) : Vec F S1024x256 .bf16 := iblk m c 0 t
def blk1 (c : Dev nD) (t : Fin cfg0.N) : Vec F S1024x128 .bf16 := iblk m c 1 t
def blk2 (c : Dev nD) (t : Fin cfg0.N) : Vec F S16384x256 .bf16 := iblk m c 2 t
def blk3 (c : Dev nD) (t : Fin cfg0.N) : Vec F S16384x128 .bf16 := iblk m c 3 t
def blk4 (c : Dev nD) (t : Fin cfg0.N) : Vec F S1x32x1x512 .f32 := iblk m c 4 t
def blk5 (c : Dev nD) (t : Fin cfg0.N) : Vec F S1x32x1x512 .f32 := iblk m c 5 t

/-- A point's staging buffers. -/
abbrev ms0 (t : Fin cfg0.N) : Memref sig .tc .vmem S1024x256 .bf16 := win0_0.stage (cfg0.slots t 0)
abbrev ms1 (t : Fin cfg0.N) : Memref sig .tc .vmem S1024x128 .bf16 := win0_1.stage (cfg0.slots t 1)
abbrev ms2 (t : Fin cfg0.N) : Memref sig .tc .vmem S16384x256 .bf16 := win0_2.stage (cfg0.slots t 2)
abbrev ms3 (t : Fin cfg0.N) : Memref sig .tc .vmem S16384x128 .bf16 := win0_3.stage (cfg0.slots t 3)
abbrev ms4 (t : Fin cfg0.N) : Memref sig .tc .vmem S1x32x1x512 .f32 := win0_4.stage (cfg0.slots t 4)
abbrev ms5 (t : Fin cfg0.N) : Memref sig .tc .vmem S1x32x1x512 .f32 := win0_5.stage (cfg0.slots t 5)
abbrev ms6 (t : Fin cfg0.N) : Memref sig .tc .vmem S256x1024 .f32 := win0_6.stage (cfg0.slots t 6)
abbrev ms7 (t : Fin cfg0.N) : Memref sig .tc .vmem S1024x256 .f32 := win0_7.stage (cfg0.slots t 7)
abbrev ms8 (t : Fin cfg0.N) : Memref sig .tc .vmem S1024x128 .f32 := win0_8.stage (cfg0.slots t 8)

/-- A point's block of keys. -/
theorem key_eq : ∀ t : Fin grid0.N, (grid0.coords t 1).val = t.val % 16 := by decide +kernel

/-- The point at a position. -/
def pt (n : ℕ) : Fin cfg0.N := ⟨n % 256, by rw [show cfg0.N = 256 from N_0]; exact Nat.mod_lt _ (by decide)⟩

theorem pt_val (t : Fin cfg0.N) : pt t.val = t :=
  Fin.ext (Nat.mod_eq_of_lt (lt_of_lt_of_eq t.isLt (show cfg0.N = 256 from N_0)))

/-- The queries' gradient after a point, from what the point found. -/
def next (c : Dev nD) (t : Fin cfg0.N) (D : Vec F S32x256x512 .f32) : Vec F S32x256x512 .f32 :=
  dqS (blk0 m c t) (blk1 m c t) (blk2 m c t) (blk3 m c t) (blk4 m c t) (blk5 m c t) (2 * (grid0.coords t 1).val) (start (grid0.coords t) D) (32 - 2 * (grid0.coords t 1).val)

/-- The queries' gradient gathered before a position. -/
def acc (c : Dev nD) : ℕ → Vec F S32x256x512 .f32
  | 0 => k0_pay96
  | n + 1 => next m c (pt n) (acc c n)

theorem acc_succ (c : Dev nD) (t : Fin cfg0.N) : acc m c (t.val + 1) = next m c t (acc m c t.val) := by
  rw [acc, pt_val]

/-- A point's three results. -/
def out6 (c : Dev nD) (t : Fin cfg0.N) : Vec F S256x1024 .f32 :=
  dqOut (blk0 m c t) (blk1 m c t) (blk2 m c t) (blk3 m c t) (blk4 m c t) (blk5 m c t) (grid0.coords t 1).val (start (grid0.coords t) (acc m c t.val))
def out7 (c : Dev nD) (t : Fin cfg0.N) : Vec F S1024x256 .f32 :=
  k0_pay1 (dkS (blk0 m c t) (blk1 m c t) (blk2 m c t) (blk3 m c t) (blk4 m c t) (blk5 m c t) (2 * (grid0.coords t 1).val) (32 - 2 * (grid0.coords t 1).val))
def out8' (c : Dev nD) (t : Fin cfg0.N) : Vec F S1024x128 .f32 :=
  dvS (blk0 m c t) (blk2 m c t) (blk3 m c t) (blk4 m c t) (2 * (grid0.coords t 1).val) (32 - 2 * (grid0.coords t 1).val)

/-- What is held besides the windows before position `n`: the queries' gradient, the other buffers at anything. -/
def Phi (c : Dev nD) (n : ℕ) : sProp 𝕄 :=
  iprop(((∃ D, ⌜n ≠ 0 → D = acc m c n⌝ ∗ owns (c : Thread nD τ) (Memref.whole cc0_scratch0) fullShare D)
      ∗ (∃ d, owns (c : Thread nD τ) (Memref.whole cc0_scratch1) fullShare d)
      ∗ (∃ d, owns (c : Thread nD τ) (Memref.whole cc0_scratch2) fullShare d)
      ∗ (∃ d, owns (c : Thread nD τ) (Memref.whole cc0_scratch3) fullShare d)
      ∗ (∃ d, owns (c : Thread nD τ) (Memref.whole cc0_scratch4) fullShare d)
      ∗ (∃ d, owns (c : Thread nD τ) (Memref.whole cc0_scratch5) fullShare d)
      ∗ (∃ d, owns (c : Thread nD τ) (Memref.whole cc0_scratch6) fullShare d)
      ∗ (∃ d, owns (c : Thread nD τ) (Memref.whole cc0_scratch7) fullShare d)
      ∗ (∃ d, owns (c : Thread nD τ) (Memref.whole cc0_scratch8) fullShare d)
      ∗ (∃ d, owns (c : Thread nD τ) (Memref.whole cc0_scratch9) fullShare d)) ∗ (∃ r, prngReg c r))

theorem PhiA_eq (c : Dev nD) : (Pipeline.ΦA spec0 c : sProp 𝕄) =
    iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d)) ∗ (∃ r, prngReg c r)) := by
  unfold Pipeline.ΦA; rw [scopedRest0_eq]; simp only [owns_whole]; try rfl

/-- The proof data of the region. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
    | ⟨7, _⟩ => out7 m c t
    | ⟨8, _⟩ => out8' m c t
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = out6 m c t := by dsimp only [dats]
theorem after7 (c : Dev nD) (t : Fin cfg0.N) : (dats m 0 c).after 7 t = out7 m c t := by dsimp only [dats]
theorem after8 (c : Dev nD) (t : Fin cfg0.N) : (dats m 0 c).after 8 t = out8' m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- What the body is called with at a point, and what it leaves. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

/-- A row of heads starts anew, so what the first point finds does not matter. -/
theorem start_eq (c : Dev nD) (t : Fin cfg0.N) (D : Vec F S32x256x512 .f32) (h : t.val ≠ 0 → D = acc m c t.val) :
    start (grid0.coords t) D = start (grid0.coords t) (acc m c t.val) := by
  by_cases h0 : t.val = 0
  · have : (grid0.coords t 1).val = 0 := by rw [key_eq, h0]
    unfold start; rw [if_pos this, if_pos this]
  · rw [h h0]

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = Phi m c (t.val + 1) from rfl, show (dats m 0 c).Φ t.castSucc = Phi m c t.val from rfl,
    show (dats m 0 c).owesAt () t.succ = (dats m 0 c).owesAt () t.castSucc from rfl,
    after0, after1, after2, after3, after4, after5, after6, after7, after8]
  unfold Phi
  rw [acc_succ]
  iintro ⟨⟨⟨⟨%D, %hD, H11⟩, ⟨%x12, H12⟩, ⟨%x13, H13⟩, ⟨%x14, H14⟩, ⟨%x15, H15⟩, ⟨%x16, H16⟩, ⟨%x17, H17⟩, ⟨%x18, H18⟩, ⟨%x19, H19⟩, ⟨%x20, H20⟩⟩, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩⟩
  have hs := start_eq m c t D hD
  iapply (body c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)
    (blk0 m c t) (blk1 m c t) (blk2 m c t) (blk3 m c t) (blk4 m c t) (blk5 m c t) _ _ D x12 x13 x14 x15 x16 x17 x18 x19 x20 _ Set.univ _)
  isplitl [H2 H3 H4 H5 H6 H7 H9 H10 H11 H12 H13 H14 H15 H16 H17 H18 H19 H20]
  · unfold St
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  isplitl [H8]; · iexact H8
  unfold St
  rw [hs]
  iintro ⟨%y13, %y14, %y15, %y16, %y17, %y18, %y19, %y20, ⟨H2, H3, H4, H5, H6, H7, H9, H10, H11, H12, H13, H14, H15, H16, H17, H18, H19, H20⟩, H8⟩
  isplitl [H11 H12 H13 H14 H15 H16 H17 H18 H19 H20 Hg]
  · isplitr [Hg]
    · isplitl [H11]
      · iexists _; isplitr
        swap; · iexact H11
        ipureintro; intro _; rfl
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      iexists _; iexact H20
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, PhiA_eq]
  unfold Phi
  iintro ⟨⟨⟨%D, H0⟩, H⟩, Hg⟩
  isplitr [Hg]
  · isplitl [H0]
    · iexists _; isplitr
      swap; · iexact H0
      ipureintro; intro h; exact absurd rfl h
    iexact H
  iexact Hg

theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨⟨⟨%D, %hD, H0⟩, H⟩, Hg⟩
  isplitr [Hg]
  · isplitl [H0]; · iexists _; iexact H0
    iexact H
  iexact Hg

set_option backward.isDefEq.respectTransparency.types false in
/-- The launch, with every counter at zero at every end. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.Kernel2Ideal.Flash

end
-- ==== Proof.FlashBlocks.lean ====
/- The attention gradient's blocks, grid point by grid point, are the tile model's arrays. -/
module

public import Idealize.ShloMosaic.Lib.Pipeline.ValueKit
public import proofs.«01_k».proof.Proof.FlashModel
public import proofs.«01_k».proof.Proof.FlashRun

@[expose] public section

set_option maxRecDepth 16384

noncomputable section

namespace Cert.Kernel2Ideal.Flash

open Idealize.ShloMosaic Idealize.ShloMosaic.TcCoe Idealize.ShloMosaic.Tactic Cert.Kernel2Ideal Cert.Kernel2Ideal.Gen

/-! ## Reading a head's columns -/

theorem cast_cols (X : FVec Ideal S16384x16x256 .f32) (k : Fin 16384) (h : Fin 16) (d : Fin 256) (j : Fin 4096) (hj : j.val = 256 * h.val + d.val) :
    shapeCast S16384x4096 X shapeCasts_S16384x16x256_S16384x4096 (ix2 k j) = X (ix3 k h d) := by
  pointwise
  exact congrArg₂ (fun a b => X (ix3 k a b)) (Fin.ext (by show j.val / 256 = h.val; omega)) (Fin.ext (by show j.val % 256 = d.val; omega))

theorem cast_cols' (X : FVec Ideal S16384x16x128 .f32) (k : Fin 16384) (h : Fin 16) (d : Fin 128) (j : Fin 2048) (hj : j.val = 128 * h.val + d.val) :
    shapeCast S16384x2048 X shapeCasts_S16384x16x128_S16384x2048 (ix2 k j) = X (ix3 k h d) := by
  pointwise
  exact congrArg₂ (fun a b => X (ix3 k a b)) (Fin.ext (by show j.val / 128 = h.val; omega)) (Fin.ext (by show j.val % 128 = d.val; omega))

theorem cast_stat (X : FVec Ideal S16x16384x1 .f32) (h : Fin 16) (i : Fin 32) (x : Fin 512) (q : Fin 16384) (hq : q.val = 512 * i.val + x.val) :
    shapeCast S16x32x1x512 X shapeCasts_S16x16384x1_S16x32x1x512 (ix4 h i 0 x) = X (ix3 h q 0) := by
  pointwise
  exact congrArg (fun a => X (ix3 h a 0)) (Fin.ext (by show i.val * 512 + x.val = q.val; omega))

theorem cast_stat' (X : FVec Ideal S16384x16 .f32) (h : Fin 16) (i : Fin 32) (x : Fin 512) (q : Fin 16384) (hq : q.val = 512 * i.val + x.val) :
    shapeCast S16x32x1x512 (transpose S16x16384 [1, 0] X transposes_S16384x16_S16x16384_1_0) shapeCasts_S16x16384_S16x32x1x512 (ix4 h i 0 x) = X (ix2 q h) := by
  pointwise
  exact congrArg (fun a => X (ix2 a h)) (Fin.ext (by show i.val * 512 + x.val = q.val; omega))

variable (m : (ℓ : Loc nD τ sig) → Buf (Elt Ideal) ℓ) (c : Dev nD)

theorem idx : ∀ t : Fin cfg0.N, win0_0.index t = ![t.val % 16, t.val / 16] ∧ win0_1.index t = ![t.val % 16, t.val / 16]
    ∧ win0_2.index t = ![0, t.val / 16] ∧ win0_3.index t = ![0, t.val / 16]
    ∧ win0_4.index t = ![t.val / 16, 0, 0, 0] ∧ win0_5.index t = ![t.val / 16, 0, 0, 0]
    ∧ win0_6.index t = ![t.val / 16, t.val % 16] ∧ win0_7.index t = ![t.val % 16, t.val / 16] ∧ win0_8.index t = ![t.val % 16, t.val / 16] :=
  (by decide +kernel : ∀ t : Fin grid0.N, _)

theorem val_lt (t : Fin cfg0.N) : t.val < 256 := lt_of_lt_of_eq t.isLt (show cfg0.N = 256 from N_0)

/-- A point's head, and the rows and columns of the arrays its blocks hold. -/
def hd (t : Fin cfg0.N) : Fin 16 := ⟨t.val / 16, by have := val_lt t; omega⟩
def row (t : Fin cfg0.N) (r : Fin 1024) : Fin 16384 := ⟨t.val % 16 * 1024 + r.val, by omega⟩
def col (t : Fin cfg0.N) (d : Fin 256) : Fin 4096 := ⟨t.val / 16 * 256 + d.val, by have := val_lt t; omega⟩
def col' (t : Fin cfg0.N) (d : Fin 128) : Fin 2048 := ⟨t.val / 16 * 128 + d.val, by have := val_lt t; omega⟩

theorem blk0_at (t : Fin cfg0.N) (r : Fin 1024) (d : Fin 256) : blk0 m c t (ix2 r d) = (V m c main_v48 : FVec Ideal S16384x4096 .bf16) (ix2 (row t r) (col t d)) := by
  unfold blk0 iblk
  generalize V m c = X
  blk_ext [idx t, row, col]
theorem blk1_at (t : Fin cfg0.N) (r : Fin 1024) (d : Fin 128) : blk1 m c t (ix2 r d) = (V m c main_v50 : FVec Ideal S16384x2048 .bf16) (ix2 (row t r) (col' t d)) := by
  unfold blk1 iblk
  generalize V m c = X
  blk_ext [idx t, row, col']
theorem blk2_at (t : Fin cfg0.N) (r : Fin 16384) (d : Fin 256) : blk2 m c t (ix2 r d) = (V m c main_v47 : FVec Ideal S16384x4096 .bf16) (ix2 r (col t d)) := by
  unfold blk2 iblk
  generalize V m c = X
  blk_ext [idx t, col]
theorem blk3_at (t : Fin cfg0.N) (r : Fin 16384) (d : Fin 128) : blk3 m c t (ix2 r d) = (V m c main_v52 : FVec Ideal S16384x2048 .bf16) (ix2 r (col' t d)) := by
  unfold blk3 iblk
  generalize V m c = X
  blk_ext [idx t, col']
theorem blk4_at (t : Fin cfg0.N) (i : Fin 32) (x : Fin 512) : blk4 m c t (ix4 0 i 0 x) = (V m c main_v53 : FVec Ideal S16x32x1x512 .f32) (ix4 (hd t) i 0 x) := by
  unfold blk4 iblk
  generalize V m c = X
  blk_ext [idx t, hd]
theorem blk5_at (t : Fin cfg0.N) (i : Fin 32) (x : Fin 512) : blk5 m c t (ix4 0 i 0 x) = (V m c main_v55 : FVec Ideal S16x32x1x512 .f32) (ix4 (hd t) i 0 x) := by
  unfold blk5 iblk
  generalize V m c = X
  blk_ext [idx t, hd]

/-! ## The blocks over real arguments -/

/-- The real arrays of the arguments. -/
abbrev r0 (q : Fin 16384) (h : Fin 16) (d : Fin 128) : ℝ := (a0 m c (ix3 q h d)).toReal
abbrev r1 (q : Fin 16384) (h : Fin 16) (d : Fin 64) : ℝ := (a1 m c (ix3 q h d)).toReal
abbrev r2 (q : Fin 16384) (h : Fin 16) (d : Fin 128) : ℝ := (a2 m c (ix3 q h d)).toReal
abbrev r3 (q : Fin 16384) (d : Fin 64) : ℝ := (a3 m c (ix2 q d)).toReal
abbrev r4 (q : Fin 16384) (h : Fin 16) (d : Fin 128) : ℝ := (a4 m c (ix3 q h d)).toReal
abbrev r5 (q : Fin 16384) (h : Fin 16) (d : Fin 128) : ℝ := (a5 m c (ix3 q h d)).toReal
/-- The rows' largest scores. -/
abbrev rM : Fin 16 → Fin 16384 → ℝ := mR (a0 m c) (a1 m c) (a2 m c) (a3 m c)

/-- The arguments are real. -/
abbrev Fine : Prop := Reals (a0 m c) (a1 m c) (a2 m c) (a3 m c) (a4 m c) (a5 m c) (r0 m c) (r1 m c) (r2 m c) (r3 m c) (r4 m c) (r5 m c)

variable {m c}

theorem Fine.blocks (w : Fine m c) (t : Fin cfg0.N) :
    Blocks (kkM (r2 m c) (r3 m c) (hd t)) (qqM (r0 m c) (r1 m c) (hd t)) (vvM (r4 m c) (hd t)) (vvM (r5 m c) (hd t))
      (lsM (r0 m c) (r1 m c) (r2 m c) (r3 m c) (rM m c) (hd t)) (dlM (r0 m c) (r1 m c) (r2 m c) (r3 m c) (r4 m c) (r5 m c) (rM m c) (hd t))
      (blk0 m c t) (blk1 m c t) (blk2 m c t) (blk3 m c t) (blk4 m c t) (blk5 m c t) (t.val % 16) := by
  have hr (r : Fin 1024) : Fin.ofNat 16384 (1024 * (t.val % 16) + r.val) = row t r :=
    Fin.ext (by show (1024 * (t.val % 16) + r.val) % 16384 = t.val % 16 * 1024 + r.val; omega)
  have hx (i : Fin 32) (x : Fin 512) : (Fin.ofNat 16384 (512 * i.val + x.val)).val = 512 * i.val + x.val := by
    show (512 * i.val + x.val) % 16384 = _; omega
  have hc (d : Fin 256) : (col t d).val = 256 * (hd t).val + d.val := by show t.val / 16 * 256 + d.val = 256 * (t.val / 16) + d.val; omega
  have hc' (d : Fin 128) : (col' t d).val = 128 * (hd t).val + d.val := by show t.val / 16 * 128 + d.val = 128 * (t.val / 16) + d.val; omega
  refine ⟨fun r d => ?_, fun r d => ?_, fun q d => ?_, fun q d => ?_, fun i x => ?_, fun i x => ?_⟩
  · rw [blk0_at, V_k, kkM, hr]
    exact (cast_cols _ _ (hd t) d _ (hc d)).trans (w.k _ _ _)
  · rw [blk1_at, V_v, vvM, hr]
    exact (cast_cols' _ _ (hd t) d _ (hc' d)).trans (w.e4 _ _ _)
  · rw [blk2_at, V_q, qqM, ofNat_val]
    exact (cast_cols _ _ (hd t) d _ (hc d)).trans (w.q _ _ _)
  · rw [blk3_at, V_do, vvM, ofNat_val]
    exact (cast_cols' _ _ (hd t) d _ (hc' d)).trans (w.e5 _ _ _)
  · rw [blk4_at, V_lse, lsM]
    exact (cast_stat _ _ _ _ _ (hx i x)).trans (w.lse _ _)
  · rw [blk5_at, V_delta, dlM]
    exact (cast_stat' _ _ _ _ _ (hx i x)).trans (w.del _ _)

end Cert.Kernel2Ideal.Flash
-- ==== Proof.FlashOut.lean ====
/- The attention gradient's results at each grid point, over real arguments. -/
module

public import proofs.«01_k».proof.Proof.FlashBlocks

@[expose] public section

set_option maxRecDepth 16384

noncomputable section

namespace Cert.Kernel2Ideal.Flash

open Idealize.ShloMosaic Idealize.ShloMosaic.TcCoe Idealize.ShloMosaic.Tactic Cert.Kernel2Ideal Cert.Kernel2Ideal.Gen

theorem pay96_at (i : S32x256x512.Idx) : k0_pay96 (F := Ideal) i = 0 := by pointwise [k0_pay96]

theorem pay1_at (x : Vec Ideal S1024x256 .f32) (r : Fin 1024) (d : Fin 256) : k0_pay1 x (ix2 r d) = x (ix2 r d) * ((Real.log 2 : ℝ) : EReal) := by
  pointwise [k0_pay1]
  rfl

theorem pay102_at (x : Vec Ideal S1x256x512 .f32) (d : Fin 256) (j : Fin 512) : k0_pay102 x (ix2 d j) = x (ix3 0 d j) * ((cR : ℝ) : EReal) := by
  pointwise [k0_pay102]
  rw [lit_c]

theorem pay103_at (x : Vec Ideal S1x256x512 .f32) (d : Fin 256) (j : Fin 512) : k0_pay103 x (ix2 d j) = x (ix3 0 d j) * ((cR : ℝ) : EReal) := by
  pointwise [k0_pay103]
  rw [lit_c]

variable {m : (ℓ : Loc nD τ sig) → Buf (Elt Ideal) ℓ} {c : Dev nD}

variable (m c) in
/-- The weights and the scores' gradients of the arguments. -/
abbrev wt (h : Fin 16) (q k : Fin 16384) : ℝ := wR (r0 m c) (r1 m c) (r2 m c) (r3 m c) (rM m c) h q k
variable (m c) in
abbrev gr (h : Fin 16) (q k : Fin 16384) : ℝ := gR (r0 m c) (r1 m c) (r2 m c) (r3 m c) (r4 m c) (r5 m c) (rM m c) h q k
variable (m c) in
/-- The same in the tile model. -/
abbrev pM (h : Fin 16) : ℕ → ℕ → ℝ := pR (kkM (r2 m c) (r3 m c) h) (qqM (r0 m c) (r1 m c) h) (lsM (r0 m c) (r1 m c) (r2 m c) (r3 m c) (rM m c) h)
variable (m c) in
abbrev dM (h : Fin 16) : ℕ → ℕ → ℝ :=
  dsR (kkM (r2 m c) (r3 m c) h) (qqM (r0 m c) (r1 m c) h) (vvM (r4 m c) h) (vvM (r5 m c) h)
    (lsM (r0 m c) (r1 m c) (r2 m c) (r3 m c) (rM m c) h) (dlM (r0 m c) (r1 m c) (r2 m c) (r3 m c) (r4 m c) (r5 m c) (rM m c) h)

theorem pM_eq (h : Fin 16) (q k : Fin 16384) : pM m c h k.val q.val = wt m c h q k := pR_eq ..
theorem dM_eq (h : Fin 16) (q k : Fin 16384) : dM m c h k.val q.val = gr m c h q k := dsR_eq ..
theorem pM_zero (h : Fin 16) {k q : ℕ} (hk : q < k) : pM m c h k q = 0 := if_neg (by omega)
theorem dM_zero (h : Fin 16) {k q : ℕ} (hk : q < k) : dM m c h k q = 0 := by
  show pM m c h k q * _ = 0
  rw [pM_zero h hk, zero_mul]

theorem key_eq' (t : Fin cfg0.N) : (grid0.coords t 1).val = t.val % 16 := key_eq t

/-- The values' gradient of a block of keys. -/
theorem Fine.out8 (w : Fine m c) (t : Fin cfg0.N) (r : Fin 1024) (d : Fin 128) :
    out8' m c t (ix2 r d) = ((∑ q, wt m c (hd t) q (row t r) * r5 m c q (hd t) d : ℝ) : EReal) := by
  rw [out8', key_eq', (w.blocks t).dvS _ (by omega)]
  refine congrArg _ ((sum_tiles (fun q => pM m c (hd t) (1024 * (t.val % 16) + r.val) q * vvM (r5 m c) (hd t) q d) (by omega)
    fun q hq => by rw [pM_zero _ (by omega), zero_mul]).trans (Finset.sum_congr rfl fun q _ => ?_))
  rw [show 1024 * (t.val % 16) + r.val = (row t r).val by show _ = t.val % 16 * 1024 + r.val; omega, pM_eq, vvM, ofNat_val]

/-- The keys' gradient of a block of keys. -/
theorem Fine.out7 (w : Fine m c) (t : Fin cfg0.N) (r : Fin 1024) (d : Fin 256) :
    out7 m c t (ix2 r d) = ((∑ q, gr m c (hd t) q (row t r) * cR * xQ (r0 m c) (r1 m c) (hd t) q d : ℝ) : EReal) := by
  have h2 : Real.log 2 ≠ 0 := (Real.log_pos (by norm_num)).ne'
  rw [Flash.out7, key_eq', pay1_at, (w.blocks t).dkS _ (by omega), ← EReal.coe_mul]
  refine congrArg _ ((congrArg (· * _) (sum_tiles (fun q => dM m c (hd t) (1024 * (t.val % 16) + r.val) q * qqM (r0 m c) (r1 m c) (hd t) q d) (by omega)
    fun q hq => by rw [dM_zero _ (by omega), zero_mul])).trans ?_)
  rw [Finset.sum_mul]
  refine Finset.sum_congr rfl fun q _ => ?_
  rw [show 1024 * (t.val % 16) + r.val = (row t r).val by show _ = t.val % 16 * 1024 + r.val; omega, dM_eq, qqM, ofNat_val]
  field_simp

/-- What key block `a` of head `h` adds to the queries' gradient. -/
def part (m : (ℓ : Loc nD τ sig) → Buf (Elt Ideal) ℓ) (c : Dev nD) (h : Fin 16) (d : Fin 256) (q a : ℕ) : ℝ :=
  ∑ r : Fin 1024, kkM (r2 m c) (r3 m c) h (1024 * a + r.val) d * dM m c h (1024 * a + r.val) q

/-- One point's step of the queries' gradient. -/
theorem Fine.next (w : Fine m c) (t : Fin cfg0.N) (D : Vec Ideal S32x256x512 .f32) (i : Fin 32) (d : Fin 256) (x : Fin 512) :
    Flash.next m c t D (ix3 i d x) = start (grid0.coords t) D (ix3 i d x) + ((part m c (hd t) d (512 * i.val + x.val) (t.val % 16) : ℝ) : EReal) := by
  rw [Flash.next, key_eq']
  exact (w.blocks t).dqS (by omega) _ i d x

/-- The queries' gradient a point starts with: what the earlier key blocks of its head added. -/
theorem Fine.acc (w : Fine m c) (h : Fin 16) (n : ℕ) (hn : n < 16) (i : Fin 32) (d : Fin 256) (x : Fin 512) :
    start (grid0.coords (pt (16 * h.val + n))) (Flash.acc m c (16 * h.val + n)) (ix3 i d x)
      = ((∑ a ∈ Finset.range n, part m c h d (512 * i.val + x.val) a : ℝ) : EReal) := by
  have hv (n : ℕ) (hn : n < 16) : (pt (16 * h.val + n)).val = 16 * h.val + n := by
    show (16 * h.val + n) % 256 = _; omega
  have hk (n : ℕ) (hn : n < 16) : (grid0.coords (pt (16 * h.val + n)) 1).val = n := by
    rw [key_eq', hv n hn]; omega
  induction n with
  | zero =>
    unfold start
    rw [if_pos (hk 0 hn), pay96_at]
    simp
  | succ n ih =>
    have e : Flash.acc m c (16 * h.val + (n + 1)) = Flash.next m c (pt (16 * h.val + n)) (Flash.acc m c (16 * h.val + n)) := rfl
    have eh : hd (pt (16 * h.val + n)) = h := Fin.ext (by show (pt (16 * h.val + n)).val / 16 = _; rw [hv n (by omega)]; omega)
    rw [show start (grid0.coords (pt (16 * h.val + (n + 1)))) (Flash.acc m c (16 * h.val + (n + 1))) = Flash.acc m c (16 * h.val + (n + 1)) from
      if_neg (by rw [hk _ hn]; omega), e, w.next, ih (by omega), eh, Finset.sum_range_succ, EReal.coe_add, hv n (by omega),
      show (16 * h.val + n) % 16 = n by omega]

/-- The queries' gradient of a block of queries. -/
theorem Fine.out6 (w : Fine m c) (t : Fin cfg0.N) (d : Fin 256) (j : Fin 1024) :
    out6 m c t (ix2 d j) = ((∑ k, gr m c (hd t) (row t j) k * cR * xK (r2 m c) (r3 m c) (hd t) k d : ℝ) : EReal) := by
  have ht := val_lt t
  have e : t = pt (16 * (hd t).val + t.val % 16) := Fin.ext (by show t.val = (16 * (t.val / 16) + t.val % 16) % 256; omega)
  have ea : Flash.acc m c t.val = Flash.acc m c (16 * (hd t).val + t.val % 16) := congrArg _ (by show t.val = 16 * (t.val / 16) + t.val % 16; omega)
  -- a tile's entry, the key blocks up to the diagonal gathered
  have hs (i : Fin 32) (x : Fin 512) (hq : 512 * i.val + x.val = 1024 * (t.val % 16) + j.val) :
      Flash.dqS (blk0 m c t) (blk1 m c t) (blk2 m c t) (blk3 m c t) (blk4 m c t) (blk5 m c t) (2 * (t.val % 16)) (start (grid0.coords t) (Flash.acc m c t.val))
          (32 - 2 * (t.val % 16)) (ix3 i d x) * ((cR : ℝ) : EReal)
        = ((∑ k, gr m c (hd t) (row t j) k * cR * xK (r2 m c) (r3 m c) (hd t) k d : ℝ) : EReal) := by
    rw [(w.blocks t).dqS (by omega)]
    have hacc := w.acc (hd t) (t.val % 16) (by omega) i d x
    rw [← e, ← ea] at hacc
    rw [hacc, ← EReal.coe_add, ← EReal.coe_mul]
    refine congrArg _ ?_
    have hb := sum_blocks (fun k => kkM (r2 m c) (r3 m c) (hd t) k d * dM m c (hd t) k (512 * i.val + x.val)) (n := t.val % 16 + 1) (by omega)
      fun k hk => by rw [dM_zero _ (by omega), mul_zero]
    rw [Finset.sum_range_succ] at hb
    refine (congrArg (· * cR) hb).trans ?_
    rw [Finset.sum_mul]
    refine Finset.sum_congr rfl fun k _ => ?_
    rw [hq, show 1024 * (t.val % 16) + j.val = (row t j).val by show _ = t.val % 16 * 1024 + j.val; omega, dM_eq, kkM, ofNat_val]
    ring
  rw [Flash.out6, key_eq', dqOut, Flash.out8]
  have hj := j.isLt
  by_cases h : j.val < 512
  · refine (if_pos h).trans ((pay102_at _ _ _).trans ?_)
    refine hs _ _ ?_
    show 512 * (2 * (t.val % 16) % 32) + j.val % 512 = _
    omega
  · refine (if_neg h).trans ((pay103_at _ _ _).trans ?_)
    refine hs _ _ ?_
    show 512 * ((2 * (t.val % 16) + 1) % 32) + j.val % 512 = _
    omega

end Cert.Kernel2Ideal.Flash
-- ==== Proof.FlashRef.lean ====
/- The attention gradient's reference, entry by entry, over real arguments. -/
module

public import proofs.«01_k».proof.Proof.FlashModel

@[expose] public section

set_option maxRecDepth 16384

noncomputable section

namespace Cert.Kernel2Ideal.Flash

open Idealize.ShloMosaic Idealize.ShloMosaic.TcCoe Idealize.ShloMosaic.Tactic Cert.Kernel2Ideal Cert.Kernel2Ideal.Gen
open Cert.Reference2Ideal.Read

section Entries

variable (x0 : FVec Ideal S16384x16x128 .f32) (x1 : FVec Ideal S16384x16x64 .f32) (x2 : FVec Ideal S16384x16x128 .f32)
  (x3 : FVec Ideal S16384x64 .f32) (x4 x5 : FVec Ideal S16384x16x128 .f32)

theorem soft_at (s : FVec Ideal S16x16384x16384 .f32) (b : FVec Ideal S16x16384 .f32) (h : Fin 16) (q k : Fin 16384) :
    Host.exp (subf s (broadcastInDim S16x16384x16384 ![0, 1, 2] bcast_S16x16384x1_S16x16384x16384_0_1_2
      (broadcastInDim S16x16384x1 ![0, 1] bcast_S16x16384_S16x16384x1_0_1 (maximumf (val_main_v21 (F := Ideal)) b)))) (ix3 h q k)
      = Ideal.exp (s (ix3 h q k) - b (ix2 h q)) := by
  pointwise [val_main_v21, val_main_cst_3]
  first | done | rw [lit_bot, max_eq_right bot_le]

theorem v35_at (h : Fin 16) (q k : Fin 16384) : val_main_v35 (F := Ideal) x0 x1 x2 x3 (ix3 h q k) = hE x0 x1 x2 x3 (ix3 h q k) := by
  rw [hE_at]
  exact soft_at (val_main_v14_0 (F := Ideal) x0 x1 x2 x3) (val_main_v15 (F := Ideal) x0 x1 x2 x3) h q k

theorem v36_at (h : Fin 16) (q : Fin 16384) : val_main_v36 (F := Ideal) x0 x1 x2 x3 (ix2 h q) = hL x0 x1 x2 x3 (ix2 h q) := by
  rw [hL_at]
  pointwise [val_main_v36, val_main_cst_9]
  simp only [v35_at]

theorem v37_at (h : Fin 16) (q : Fin 16384) (z : Fin 1) : val_main_v37 (F := Ideal) x0 x1 x2 x3 (ix3 h q z) = hL x0 x1 x2 x3 (ix2 h q) := by
  rw [← v36_at]
  pointwise [val_main_v37]

theorem v39_at (h : Fin 16) (q k : Fin 16384) : val_main_v39 (F := Ideal) x0 x1 x2 x3 (ix3 h q k) = hP x0 x1 x2 x3 (ix3 h q k) := by
  rw [hP_at, ← v35_at, ← v36_at]
  pointwise [val_main_v39, val_main_v38, val_main_v37]

theorem v49_at (h : Fin 16) (q k : Fin 16384) : val_main_v49 (F := Ideal) x0 x1 x2 x3 (ix3 h q k)
    = Ideal.div ((1 : ℝ) : EReal) (hL x0 x1 x2 x3 (ix2 h q) * hL x0 x1 x2 x3 (ix2 h q) : EReal) := by
  rw [← v36_at]
  pointwise [val_main_v49, val_main_v42, val_main_v41, val_main_cst_10, val_main_v40, val_main_v37]
  rw [EReal.coe_one]

theorem v46_at (h : Fin 16) (q k : Fin 16384) : val_main_v46 (F := Ideal) x4 x5 (ix3 h q k) = ∑ d, x5 (ix3 q h d) * x4 (ix3 k h d) := by
  pointwise [val_main_v46, val_main_v45]

theorem v48_at (h : Fin 16) (k : Fin 16384) (d : Fin 128) : val_main_v48 (F := Ideal) x0 x1 x2 x3 x5 (ix3 k h d)
    = ∑ q, x5 (ix3 q h d) * hP x0 x1 x2 x3 (ix3 h q k) := by
  pointwise [val_main_v48, val_main_v47, val_main_v45]
  simp only [v39_at]

theorem v52_at (h : Fin 16) (q : Fin 16384) : val_main_v52 (F := Ideal) x0 x1 x2 x3 x4 x5 (ix2 h q)
    = ∑ k, (val_main_v46 (F := Ideal) x4 x5 (ix3 h q k) * val_main_v49 (F := Ideal) x0 x1 x2 x3 (ix3 h q k)) * hE x0 x1 x2 x3 (ix3 h q k) := by
  pointwise [val_main_v52, val_main_v51, val_main_v50, val_main_cst_11]
  simp only [v35_at]

theorem v53_at (h : Fin 16) (q : Fin 16384) (z : Fin 1) : val_main_v53 (F := Ideal) x0 x1 x2 x3 x4 x5 (ix3 h q z) = val_main_v52 (F := Ideal) x0 x1 x2 x3 x4 x5 (ix2 h q) := by
  pointwise [val_main_v53]

theorem v57_at (h : Fin 16) (q : Fin 16384) : val_main_v57 (F := Ideal) x0 x1 x2 x3 x4 x5 (ix2 h q) = -(val_main_v52 (F := Ideal) x0 x1 x2 x3 x4 x5 (ix2 h q) : EReal) := by
  pointwise [val_main_v57, val_main_v54, val_main_cst_12]
  simp only [Finset.univ_unique, Finset.sum_singleton, v53_at]

theorem v63_at (h : Fin 16) (q k : Fin 16384) : val_main_v63 (F := Ideal) x0 x1 x2 x3 x4 x5 (ix3 h q k)
    = (if k.val ≤ q.val then (Ideal.div (val_main_v46 (F := Ideal) x4 x5 (ix3 h q k)) (hL x0 x1 x2 x3 (ix2 h q))
        + val_main_v57 (F := Ideal) x0 x1 x2 x3 x4 x5 (ix2 h q)) * hE x0 x1 x2 x3 (ix3 h q k) else 0) * ((cR : ℝ) : EReal) := by
  have hk := k.isLt
  have hq := q.isLt
  pointwise [val_main_v63, val_main_v62, val_main_cst_13, val_main_v61, val_main_call1_v0, val_main_call1_cst, val_main_v60, val_main_v59, val_main_v58, val_main_v56, val_main_v55, val_main_v37,
    val_main_v14_1, val_main_v13, val_main_v12, val_main_v11, val_main_v10, val_main_v9, val_main_v8, val_main_v7]
  rw [lit_c, WordCmp.cmpi_sle_ofNat (by omega) (by omega), v35_at, v36_at]
  unfold Scalar.select
  by_cases h : k.val ≤ q.val
  · rw [if_pos (by simp [h]), if_pos h]
  · rw [if_neg (by simp [h]), if_neg h]
    simp

/-- The queries' gradient, by column and query. -/
theorem v75_at (h : Fin 16) (q : Fin 16384) (d : Fin 256) (j : Fin 4096) (hj : j.val = 256 * h.val + d.val) :
    val_main_v75 (F := Ideal) x0 x1 x2 x3 x4 x5 (ix2 j q) = val_main_v73 (F := Ideal) x0 x1 x2 x3 x4 x5 (ix3 q h d) := by
  pointwise [val_main_v75, val_main_v74]
  exact congrArg₂ (fun a b => val_main_v73 (F := Ideal) x0 x1 x2 x3 x4 x5 (ix3 q a b)) (Fin.ext (by show j.val / 256 = h.val; omega)) (Fin.ext (by show j.val % 256 = d.val; omega))

theorem v78_at (h : Fin 16) (k : Fin 16384) (d : Fin 256) (j : Fin 4096) (hj : j.val = 256 * h.val + d.val) :
    val_main_v78 (F := Ideal) x0 x1 x2 x3 x4 x5 (ix2 k j) = val_main_v77 (F := Ideal) x0 x1 x2 x3 x4 x5 (ix3 k h d) := by
  pointwise [val_main_v78]
  exact congrArg₂ (fun a b => val_main_v77 (F := Ideal) x0 x1 x2 x3 x4 x5 (ix3 k a b)) (Fin.ext (by show j.val / 256 = h.val; omega)) (Fin.ext (by show j.val % 256 = d.val; omega))

theorem v79_at (h : Fin 16) (k : Fin 16384) (d : Fin 128) (j : Fin 2048) (hj : j.val = 128 * h.val + d.val) :
    val_main_v79 (F := Ideal) x0 x1 x2 x3 x5 (ix2 k j) = val_main_v48 (F := Ideal) x0 x1 x2 x3 x5 (ix3 k h d) := by
  pointwise [val_main_v79]
  exact congrArg₂ (fun a b => val_main_v48 (F := Ideal) x0 x1 x2 x3 x5 (ix3 k a b)) (Fin.ext (by show j.val / 128 = h.val; omega)) (Fin.ext (by show j.val % 128 = d.val; omega))

theorem v73_at (h : Fin 16) (q : Fin 16384) (d : Fin 256) : val_main_v73 (F := Ideal) x0 x1 x2 x3 x4 x5 (ix3 q h d)
    = if h1 : d.val < 128 then ∑ k, val_main_v63 (F := Ideal) x0 x1 x2 x3 x4 x5 (ix3 h q k) * x2 (ix3 k h ⟨d.val, h1⟩)
      else if h2 : d.val - 128 < 64 then ∑ k, val_main_v63 (F := Ideal) x0 x1 x2 x3 x4 x5 (ix3 h q k) * x3 (ix2 k ⟨d.val - 128, h2⟩) else 0 := by
  pointwise [val_main_v73, val_main_v71, val_main_v70, val_main_v67, val_main_v66, val_main_v72, val_main_cst_14, val_main_v1, val_main_v0]

theorem v77_at (h : Fin 16) (k : Fin 16384) (d : Fin 256) : val_main_v77 (F := Ideal) x0 x1 x2 x3 x4 x5 (ix3 k h d)
    = if h1 : d.val < 128 then ∑ q, val_main_v63 (F := Ideal) x0 x1 x2 x3 x4 x5 (ix3 h q k) * x0 (ix3 q h ⟨d.val, h1⟩)
      else if h2 : d.val - 128 < 64 then ∑ q, val_main_v63 (F := Ideal) x0 x1 x2 x3 x4 x5 (ix3 h q k) * x1 (ix3 q h ⟨d.val - 128, h2⟩) else 0 := by
  pointwise [val_main_v77, val_main_v69, val_main_v68, val_main_v65, val_main_v64, val_main_v76, val_main_cst_15]

end Entries

section Host

variable {x0 : FVec Ideal S16384x16x128 .f32} {x1 : FVec Ideal S16384x16x64 .f32} {x2 : FVec Ideal S16384x16x128 .f32}
    {x3 : FVec Ideal S16384x64 .f32} {x4 x5 : FVec Ideal S16384x16x128 .f32}
    {y0 : Fin 16384 → Fin 16 → Fin 128 → ℝ} {y1 : Fin 16384 → Fin 16 → Fin 64 → ℝ} {y2 : Fin 16384 → Fin 16 → Fin 128 → ℝ}
    {y3 : Fin 16384 → Fin 64 → ℝ} {y4 y5 : Fin 16384 → Fin 16 → Fin 128 → ℝ}

theorem Reals.ct (w : Reals x0 x1 x2 x3 x4 x5 y0 y1 y2 y3 y4 y5) (h : Fin 16) (q k : Fin 16384) :
    val_main_v46 (F := Ideal) x4 x5 (ix3 h q k) = ((cR' y4 y5 h q k : ℝ) : EReal) := by
  rw [v46_at, cR', ← sum_coe_mul]
  exact Finset.sum_congr rfl fun d _ => by rw [w.e4, w.e5, mul_comm]

/-- The mean of the cotangent's products, as the derivative of a quotient has it. -/
theorem Reals.mean (w : Reals x0 x1 x2 x3 x4 x5 y0 y1 y2 y3 y4 y5) (h : Fin 16) (q : Fin 16384) :
    val_main_v57 (F := Ideal) x0 x1 x2 x3 x4 x5 (ix2 h q)
      = ((-(δR y0 y1 y2 y3 y4 y5 (mR x0 x1 x2 x3) h q / lR y0 y1 y2 y3 (mR x0 x1 x2 x3) h q) : ℝ) : EReal) := by
  have hl := (lR_pos y0 y1 y2 y3 (mR x0 x1 x2 x3) h q).ne'
  rw [v57_at, v52_at, EReal.coe_neg]
  refine congrArg _ ?_
  rw [δR_eq, Finset.sum_div, coe_sum]
  refine Finset.sum_congr rfl fun k _ => ?_
  rw [v49_at, w.ct, w.l, w.e, ← EReal.coe_mul, div_coe_coe (mul_ne_zero hl hl), ← EReal.coe_mul, ← EReal.coe_mul, wR]
  refine congrArg _ ?_
  field_simp

/-- A score's gradient, scaled. -/
theorem Reals.g (w : Reals x0 x1 x2 x3 x4 x5 y0 y1 y2 y3 y4 y5) (h : Fin 16) (q k : Fin 16384) :
    val_main_v63 (F := Ideal) x0 x1 x2 x3 x4 x5 (ix3 h q k) = ((gR y0 y1 y2 y3 y4 y5 (mR x0 x1 x2 x3) h q k * cR : ℝ) : EReal) := by
  have hl := (lR_pos y0 y1 y2 y3 (mR x0 x1 x2 x3) h q).ne'
  rw [v63_at, w.ct, w.l, w.e, w.mean, div_coe_coe hl, ← EReal.coe_add, ← EReal.coe_mul, EReal.coe_mul (gR ..)]
  refine congrArg (· * _) ?_
  by_cases hk : k.val ≤ q.val
  · rw [if_pos hk]
    refine congrArg _ ?_
    rw [gR, wR]
    field_simp
    ring
  · rw [if_neg hk, gR, wR, eR, if_neg hk]
    simp

theorem Reals.dv (w : Reals x0 x1 x2 x3 x4 x5 y0 y1 y2 y3 y4 y5) (h : Fin 16) (k : Fin 16384) (d : Fin 128) :
    val_main_v48 (F := Ideal) x0 x1 x2 x3 x5 (ix3 k h d)
      = ((∑ q, wR y0 y1 y2 y3 (mR x0 x1 x2 x3) h q k * y5 q h d : ℝ) : EReal) := by
  rw [v48_at, ← sum_coe_mul]
  exact Finset.sum_congr rfl fun q _ => by rw [w.e5, w.p, mul_comm]

theorem Reals.dq (w : Reals x0 x1 x2 x3 x4 x5 y0 y1 y2 y3 y4 y5) (h : Fin 16) (q : Fin 16384) (d : Fin 256) :
    val_main_v73 (F := Ideal) x0 x1 x2 x3 x4 x5 (ix3 q h d)
      = ((∑ k, gR y0 y1 y2 y3 y4 y5 (mR x0 x1 x2 x3) h q k * cR * xK y2 y3 h k d : ℝ) : EReal) := by
  rw [v73_at]
  simp only [w.g, w.e2, w.e3, sum_coe_mul, xK]
  split
  · rfl
  · split
    · rfl
    · simp

theorem Reals.dk (w : Reals x0 x1 x2 x3 x4 x5 y0 y1 y2 y3 y4 y5) (h : Fin 16) (k : Fin 16384) (d : Fin 256) :
    val_main_v77 (F := Ideal) x0 x1 x2 x3 x4 x5 (ix3 k h d)
      = ((∑ q, gR y0 y1 y2 y3 y4 y5 (mR x0 x1 x2 x3) h q k * cR * xQ y0 y1 h q d : ℝ) : EReal) := by
  rw [v77_at]
  simp only [w.g, w.e0, w.e1, sum_coe_mul, xQ]
  split
  · rfl
  · split
    · rfl
    · simp

end Host

end Cert.Kernel2Ideal.Flash
-- ==== Proof.FlashFinal.lean ====
/- The attention gradient's three result arrays, block by block the reference's; and the precondition read as: the
   arguments are real numbers. -/
module

public import proofs.«01_k».proof.Proof.FlashOut
public import proofs.«01_k».proof.Proof.FlashRef
public import proofs.«01_k».proof.Pre_finite
public import Idealize.ShloMosaic.Lib.Pipeline.ValueKit

@[expose] public section

set_option maxRecDepth 16384

noncomputable section

namespace Cert.Kernel2Ideal.Flash

open Idealize.ShloMosaic Idealize.ShloMosaic.TcCoe Idealize.ShloMosaic.Tactic Cert.Kernel2Ideal Cert.Kernel2Ideal.Gen
open Idealize.ShloMosaic.Pipeline (Dat)

variable {m : (ℓ : Loc nD τ sig) → Buf (Elt Ideal) ℓ} {c : Dev nD}

/-- The queries' gradient. -/
theorem Fine.final6 (w : Fine m c) : (dats m 0 c).arrAt 6 cfg0.N = Cert.Reference2Ideal.Read.val_main_v75 (F := Ideal) (a0 m c) (a1 m c) (a2 m c) (a3 m c) (a4 m c) (a5 m c) := by
  refine (dats m 0 c).arrAt_eq_of_covers 6 _ (by decide +kernel) fun t hf y => ?_
  blk_simp [idx t]
  rw [after6]
  idx_vars y
  have he : ((View.whole main_v56_0).slice (win0_6.rect t)).emb (ix2 y0 y1) = ix2 (col t y0) (row t y1) := by blk_ext [idx t, row, col]
  rw [he, w.out6, v75_at _ _ _ _ _ _ (hd t) (row t y1) y0 (col t y0) (by show t.val / 16 * 256 + y0.val = 256 * (t.val / 16) + y0.val; omega), Reals.dq w]

/-- The keys' gradient. -/
theorem Fine.final7 (w : Fine m c) : (dats m 0 c).arrAt 7 cfg0.N = Cert.Reference2Ideal.Read.val_main_v78 (F := Ideal) (a0 m c) (a1 m c) (a2 m c) (a3 m c) (a4 m c) (a5 m c) := by
  refine (dats m 0 c).arrAt_eq_of_covers 7 _ (by decide +kernel) fun t hf y => ?_
  blk_simp [idx t]
  rw [after7]
  idx_vars y
  have he : ((View.whole main_v56_1).slice (win0_7.rect t)).emb (ix2 y0 y1) = ix2 (row t y0) (col t y1) := by blk_ext [idx t, row, col]
  rw [he, w.out7, v78_at _ _ _ _ _ _ (hd t) (row t y0) y1 (col t y1) (by show t.val / 16 * 256 + y1.val = 256 * (t.val / 16) + y1.val; omega), Reals.dk w]

/-- The values' gradient. -/
theorem Fine.final8 (w : Fine m c) : (dats m 0 c).arrAt 8 cfg0.N = Cert.Reference2Ideal.Read.val_main_v79 (F := Ideal) (a0 m c) (a1 m c) (a2 m c) (a3 m c) (a5 m c) := by
  refine (dats m 0 c).arrAt_eq_of_covers 8 _ (by decide +kernel) fun t hf y => ?_
  blk_simp [idx t]
  rw [after8]
  idx_vars y
  have he : ((View.whole main_v56_2).slice (win0_8.rect t)).emb (ix2 y0 y1) = ix2 (row t y0) (col' t y1) := by blk_ext [idx t, row, col']
  rw [he, w.out8, v79_at _ _ _ _ _ (hd t) (row t y0) y1 (col' t y1) (by show t.val / 16 * 128 + y1.val = 128 * (t.val / 16) + y1.val; omega), Reals.dv w]

/-- An entry whose size is under infinity is a real number. -/
theorem real_of {s : Shape} {x b : FVec Ideal s .f32} (hb : ∀ i, b i = Ideal.ofBits .f32 0x7F800000#32)
    (h : cmpf .olt (Host.absf x) b = fun _ => 1#1) (i : s.Idx) : x i = ((EReal.toReal (x i) : ℝ) : EReal) := by
  have htop : Ideal.ofBits .f32 0x7F800000#32 = ⊤ := by simp [Ideal.ofBits, Ideal.ieee]
  have e : Ideal.cmp .olt (max (x i : EReal) (-(x i : EReal))) (b i) = 1#1 := congrFun h i
  rw [hb, htop] at e
  unfold Ideal.cmp at e
  have hlt : max (x i : EReal) (-(x i : EReal)) < ⊤ := by
    by_contra hn
    simp [hn] at e
  rw [max_lt_iff] at hlt
  exact (EReal.coe_toReal hlt.1.ne fun hbot => by rw [hbot] at hlt; simp at hlt).symm

theorem facts_finite : Cert.Pre_finite.Facts where
  bcast_S_S16384x16x128 := by decide
  bcast_S_S16384x16x64 := by decide
  bcast_S_S16384x64 := by decide

/-- The precondition, read. -/
theorem fine (x0 x2 x4 x5 : FVec Ideal S16384x16x128 .f32) (x1 : FVec Ideal S16384x16x64 .f32) (x3 : FVec Ideal S16384x64 .f32)
    [Cert.Pre_finite.Facts]
    (h : (Cert.Pre_finite.fn (F := Ideal) x0 x1 x2 x3 x4 x5).1 = (fun _ => 1#1)
      ∧ (Cert.Pre_finite.fn (F := Ideal) x0 x1 x2 x3 x4 x5).2.1 = (fun _ => 1#1)
      ∧ (Cert.Pre_finite.fn (F := Ideal) x0 x1 x2 x3 x4 x5).2.2.1 = (fun _ => 1#1)
      ∧ (Cert.Pre_finite.fn (F := Ideal) x0 x1 x2 x3 x4 x5).2.2.2.1 = (fun _ => 1#1)
      ∧ (Cert.Pre_finite.fn (F := Ideal) x0 x1 x2 x3 x4 x5).2.2.2.2.1 = (fun _ => 1#1)
      ∧ (Cert.Pre_finite.fn (F := Ideal) x0 x1 x2 x3 x4 x5).2.2.2.2.2 = (fun _ => 1#1)) :
    Reals x0 x1 x2 x3 x4 x5 (fun q h d => EReal.toReal (x0 (ix3 q h d))) (fun q h d => EReal.toReal (x1 (ix3 q h d))) (fun q h d => EReal.toReal (x2 (ix3 q h d)))
      (fun k d => EReal.toReal (x3 (ix2 k d))) (fun q h d => EReal.toReal (x4 (ix3 q h d))) (fun q h d => EReal.toReal (x5 (ix3 q h d))) := by
  obtain ⟨h0, h1, h2, h3, h4, h5⟩ := h
  exact ⟨fun q h d => real_of (fun _ => rfl) h0 _, fun q h d => real_of (fun _ => rfl) h1 _, fun q h d => real_of (fun _ => rfl) h2 _,
    fun k d => real_of (fun _ => rfl) h3 _, fun q h d => real_of (fun _ => rfl) h4 _, fun q h d => real_of (fun _ => rfl) h5 _⟩

end Cert.Kernel2Ideal.Flash

end
-- ==== Proof.FfnPre.lean ====
/- The precondition of the feed-forward layer's gradient, read: the entries of four arguments are real numbers. -/
module

public import proofs.«01_k».proof.Pre_finite7
public import proofs.«01_k».proof.Proof.FfnPoint
public import proofs.«01_k».proof.Proof.FlashFinal

@[expose] public section

noncomputable section

open Idealize.ShloMosaic Idealize.ShloMosaic.TcCoe Idealize.SL.Sem
open Cert.Kernel2Ideal.Flash (real_of)

namespace Cert.Kernel7Ideal.Ffn

open Cert.Kernel7Ideal Cert.Kernel7Ideal.Gen

theorem facts_finite : Cert.Pre_finite7.Facts where
  bcast_S_S1024 := by decide
  bcast_S_S1024x2816 := by decide
  bcast_S_S2816x1024 := by decide
  bcast_S_S16384x1024 := by decide

theorem reals (x0 x5 : FVec Ideal S16384x1024 .f32) (x1 : FVec Ideal S1024 .f32) (x2 x3 : FVec Ideal S1024x2816 .f32) (x4 : FVec Ideal S2816x1024 .f32)
    [Cert.Pre_finite7.Facts]
    (h : (Cert.Pre_finite7.fn (F := Ideal) x0 x1 x2 x3 x4 x5).1 = (fun _ => 1#1) ∧ (Cert.Pre_finite7.fn (F := Ideal) x0 x1 x2 x3 x4 x5).2.1 = (fun _ => 1#1) ∧ (Cert.Pre_finite7.fn (F := Ideal) x0 x1 x2 x3 x4 x5).2.2.1 = (fun _ => 1#1) ∧ (Cert.Pre_finite7.fn (F := Ideal) x0 x1 x2 x3 x4 x5).2.2.2 = (fun _ => 1#1)) :
    (∀ i, ∃ s : ℝ, x1 i = (s : EReal)) ∧ (∀ i, ∃ s : ℝ, x3 i = (s : EReal)) ∧ (∀ i, ∃ s : ℝ, x4 i = (s : EReal)) ∧ (∀ i, ∃ s : ℝ, x5 i = (s : EReal)) :=
  ⟨fun i => ⟨_, real_of (fun _ => rfl) h.1 i⟩, fun i => ⟨_, real_of (fun _ => rfl) h.2.1 i⟩,
    fun i => ⟨_, real_of (fun _ => rfl) h.2.2.1 i⟩, fun i => ⟨_, real_of (fun _ => rfl) h.2.2.2 i⟩⟩

theorem fine (m : (ℓ : Loc nD τ sig) → Buf (Elt Ideal) ℓ) (c : Dev nD) [Cert.Pre_finite7.Facts]
    (h : let f := Cert.Pre_finite7.fn (F := Ideal) (argH m c) (argG m c) (argWg m c) (argWu m c) (argWd m c) (argA m c)
      f.1 = (fun _ => 1#1) ∧ f.2.1 = (fun _ => 1#1) ∧ f.2.2.1 = (fun _ => 1#1) ∧ f.2.2.2 = (fun _ => 1#1)) : Fine m c := by
  obtain ⟨h1, h3, h4, h5⟩ := reals _ _ _ _ _ _ h
  exact ⟨h1, h3, h4, h5⟩

end Cert.Kernel7Ideal.Ffn

end
-- ==== Proof.QRows.lean ====
/- The gradient through the queries' projection, entry by entry: the rotation's transpose on the cotangent, and what the
   reference computes of a row. -/
module

public import proofs.«01_k».proof.Proof.Rms
public import proofs.«01_k».proof.Proof.Gen.Reference4Ideal.Read
public import Idealize.ShloMosaic.Lib.Pointwise

@[expose] public section

set_option maxRecDepth 16384

noncomputable section

open Idealize.ShloMosaic Idealize.ShloMosaic.TcCoe Idealize.SL.Sem

namespace Cert.Qproj

open Cert.Rms
open Cert.Reference4Ideal Cert.Reference4Ideal.Gen Cert.Reference4Ideal.Read

/-- The columns of a head: the ones left alone, and the two halves that are rotated. -/
def nope (j : Fin 128) : Fin 192 := ⟨j.val, by omega⟩
def lo (j : Fin 32) : Fin 192 := ⟨128 + j.val, by omega⟩
def hi (j : Fin 32) : Fin 192 := ⟨128 + (32 + j.val), by omega⟩
/-- The same halves within the rotated columns. -/
def rlo (j : Fin 32) : Fin 64 := ⟨j.val, by omega⟩
def rhi (j : Fin 32) : Fin 64 := ⟨32 + j.val, by omega⟩

/-- The rotation's angles' cosines and sines. -/
abbrev cs : FVec Ideal S16384x32 .f32 := val_main_v16 (F := Ideal)
abbrev sn : FVec Ideal S16384x32 .f32 := val_main_v17 (F := Ideal)

theorem lit_64 : Ideal.ofBits .f32 0x42800000#32 = ((64 : ℝ) : EReal) := by
  simp [Ideal.ofBits, Ideal.ieee, -EReal.coe_mul, -EReal.coe_neg]; norm_num
theorem lit_10000 : Ideal.ofBits .f32 0x461C4000#32 = ((10000 : ℝ) : EReal) := by
  simp [Ideal.ofBits, Ideal.ieee, -EReal.coe_mul, -EReal.coe_neg]; norm_num

theorem angle (s : Fin 16384) (j : Fin 32) : ∃ x : ℝ, val_main_v15 (F := Ideal) (ix2 s j) = (x : EReal) := by
  pointwise [val_main_v0, val_main_v11, val_main_v13, val_main_cst_2, val_main_v9, val_main_cst_0, val_main_v4, val_main_cst, val_main_v2, val_main_v1, val_main_v3, val_main_v5, val_main_v6, val_main_cst_1, val_main_v7, val_main_v8, val_main_v10, val_main_v12, val_main_v14, val_main_v15, lit_64, lit_10000, lit_two]
  have e (b : BitVec 32) : (FloatOps.sitofp (F := Ideal) .f32 b : EReal) = ((b.toInt : ℝ) : EReal) := rfl
  rw [e, e, ← EReal.coe_mul, ← EReal.coe_neg, Ideal.div_coe (by norm_num), ← EReal.coe_mul, Ideal.pow_coe_coe, ← EReal.coe_mul]
  exact ⟨_, rfl⟩

theorem cs_real (s : Fin 16384) (j : Fin 32) : ∃ x : ℝ, cs (ix2 s j) = (x : EReal) := by
  obtain ⟨x, h⟩ := angle s j
  exact ⟨Real.cos x, (congrArg Ideal.cos h).trans rfl⟩
theorem sn_real (s : Fin 16384) (j : Fin 32) : ∃ x : ℝ, sn (ix2 s j) = (x : EReal) := by
  obtain ⟨x, h⟩ := angle s j
  exact ⟨Real.sin x, (congrArg Ideal.sin h).trans rfl⟩

section
variable (x : FVec Ideal S16384x256 .f32) (g : FVec Ideal S256 .f32) (w : FVec Ideal S256x16x192 .f32)
  (n : FVec Ideal S16384x16x128 .f32) (q : FVec Ideal S16384x16x64 .f32)

/-- The rotation's transpose on the two halves. -/
theorem rot_lo (s : Fin 16384) (h : Fin 16) (j : Fin 32) : val_main_v67 (F := Ideal) q (ix3 s h (rlo j))
    = q (ix3 s h (rhi j)) * sn (ix2 s j) + q (ix3 s h (rlo j)) * cs (ix2 s j) := by
  pointwise [val_main_v53, val_main_v37, val_main_v54, val_main_v55, val_main_v52, val_main_v58, val_main_v38, val_main_v59, val_main_v60, val_main_v61, val_main_cst_7, val_main_v65, val_main_v56, val_main_v57, val_main_v62, val_main_v63, val_main_v64, val_main_cst_8, val_main_v66, val_main_v67, rlo]
  rw [dif_neg (fun h => h.1), zero_add]
  rfl
theorem rot_hi (s : Fin 16384) (h : Fin 16) (j : Fin 32) : val_main_v67 (F := Ideal) q (ix3 s h (rhi j))
    = q (ix3 s h (rhi j)) * cs (ix2 s j) + -q (ix3 s h (rlo j)) * sn (ix2 s j) := by
  pointwise [val_main_v53, val_main_v37, val_main_v54, val_main_v55, val_main_v52, val_main_v58, val_main_v38, val_main_v59, val_main_v60, val_main_v61, val_main_cst_7, val_main_v65, val_main_v56, val_main_v57, val_main_v62, val_main_v63, val_main_v64, val_main_cst_8, val_main_v66, val_main_v67, rhi]
  rfl

/-- The cotangent before the rotation. -/
theorem ref_nope (s : Fin 16384) (h : Fin 16) (j : Fin 128) : val_main_v70 (F := Ideal) n q (ix3 s h (nope j)) = n (ix3 s h j) := by
  pointwise [val_main_cst_9, val_main_v68, val_main_cst_10, val_main_v69, val_main_v70, nope]
  rw [dif_neg (fun h => h.1), zero_add]
theorem ref_lo (s : Fin 16384) (h : Fin 16) (j : Fin 32) : val_main_v70 (F := Ideal) n q (ix3 s h (lo j))
    = q (ix3 s h (rhi j)) * sn (ix2 s j) + q (ix3 s h (rlo j)) * cs (ix2 s j) := by
  rw [← rot_lo]
  pointwise [val_main_cst_9, val_main_v68, val_main_cst_10, val_main_v69, val_main_v70, lo]
  rw [dif_pos (show j.val < 64 by omega)]
  rfl
theorem ref_hi (s : Fin 16384) (h : Fin 16) (j : Fin 32) : val_main_v70 (F := Ideal) n q (ix3 s h (hi j))
    = q (ix3 s h (rhi j)) * cs (ix2 s j) + -q (ix3 s h (rlo j)) * sn (ix2 s j) := by
  rw [← rot_hi]
  pointwise [val_main_cst_9, val_main_v68, val_main_cst_10, val_main_v69, val_main_v70, hi]
  rw [dif_pos (show 32 + j.val < 64 by omega)]
  rfl

theorem ref_u (s : Fin 16384) (r : Fin 256) : val_main_v33 (F := Ideal) x g (ix2 s r) = unit 256 (fun k => x (ix2 s k)) r * g (ix1 r) := by
  pointwise [val_main_v18, val_main_cst_3, val_main_v19, val_main_v20, val_main_cst_4, val_main_v21, val_main_v22, val_main_cst_5, val_main_v23, val_main_v24, val_main_v25, val_main_v29, val_main_v30, val_main_v31, val_main_v32, val_main_v33, lit_256, lit_eps]
  rfl

theorem ref_dw (r : Fin 256) (h : Fin 16) (k : Fin 192) : val_main_v72 (F := Ideal) x g n q (ix3 r h k)
    = ∑ s, val_main_v70 (F := Ideal) n q (ix3 s h k) * val_main_v33 (F := Ideal) x g (ix2 s r) := by
  pointwise [val_main_v71, val_main_v72]

theorem ref_du (s : Fin 16384) (r : Fin 256) : val_main_v73 (F := Ideal) w n q (ix2 s r)
    = ∑ h, ∑ k, val_main_v70 (F := Ideal) n q (ix3 s h k) * w (ix3 r h k) := by
  pointwise [val_main_v73]

theorem ref_dx (s : Fin 16384) (r : Fin 256) : val_main_v93 (F := Ideal) x g w n q (ix2 s r)
    = back 256 (fun k => x (ix2 s k)) (fun k => val_main_v73 (F := Ideal) w n q (ix2 s k) * g (ix1 k)) r := by
  rw [back_eq (by norm_num)]
  pointwise [val_main_v31, val_main_v77, val_main_v78, val_main_v18, val_main_cst_3, val_main_v19, val_main_v20, val_main_cst_4, val_main_v21, val_main_v22, val_main_cst_5, val_main_v23, val_main_v24, val_main_v25, val_main_v83, val_main_v84, val_main_v80, val_main_cst_13, val_main_v81, val_main_v82, val_main_cst_6, val_main_v27, val_main_v26, val_main_v28, val_main_v85, val_main_cst_14, val_main_v86, val_main_v87, val_main_cst_15, val_main_v88, val_main_v89, val_main_v90, val_main_v91, val_main_v92, val_main_v93, lit_256, lit_eps, lit_neg_half]
  simp only [Finset.univ_unique, Finset.sum_singleton]
  rfl

theorem ref_dg (r : Fin 256) : val_main_v94 (F := Ideal) x w n q (ix2 0 r)
    = ∑ s : Fin 16384, val_main_v73 (F := Ideal) w n q (ix2 s r) * unit 256 (fun k => x (ix2 s k)) r := by
  pointwise [val_main_v18, val_main_cst_3, val_main_v19, val_main_v20, val_main_cst_4, val_main_v21, val_main_v22, val_main_cst_5, val_main_v23, val_main_v24, val_main_v25, val_main_v29, val_main_v30, val_main_v74, val_main_cst_11, val_main_v75, val_main_v76, val_main_cst_12, val_main_v79, val_main_v94, lit_256, lit_eps]
  simp only [Finset.univ_unique, Finset.sum_singleton]
  exact Finset.sum_congr rfl fun s _ => mul_comm _ _

end

end Cert.Qproj

end
-- ==== Proof.QBody.lean ====
/- The gradient through the queries' projection: what the kernel's payloads compute, entry by entry. -/
module

public import proofs.«01_k».proof.Proof.QRows
public import proofs.«01_k».proof.Proof.Gen.Kernel4Ideal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Qp

open Cert.Kernel4Ideal Cert.Kernel4Ideal.Gen Cert.Qproj Cert.Rms

/-- The place within its head of a column of a group of four heads. -/
def ph (j : Fin 1024) : Fin 256 := ⟨j.val % 256, by omega⟩

variable (X S : FVec Ideal S512x256 .f32) (d : FVec Ideal S1024x512 .f32) (u : FVec Ideal S512x256 .bf16) (o : FVec Ideal S256x1024 .f32)
  (e : FVec Ideal S512x1024 .bf16) (v : FVec Ideal S512x1024 .f32) (r : Fin 512) (i : Fin 256) (j : Fin 1024)

theorem tile7 : k0_pay7 (F := Ideal) X (ix2 r j) = X (ix2 r (ph j)) := by
  pointwise [k0_pay7]
  split_ifs <;> exact congrArg (fun z => X (ix2 r z)) (Fin.ext (by simp only [ph]; omega))
theorem tile8 : k0_pay8 (F := Ideal) X (ix2 r j) = X (ix2 r (ph j)) := tile7 X r j

theorem cot10 : k0_pay10 (F := Ideal) X d (ix2 r j) = d (ix2 j r) * X (ix2 r (ph j)) := by
  rw [← tile7 X r j]; pointwise [k0_pay10, k0_pay9]
theorem cot17 : k0_pay17 (F := Ideal) v d (ix2 r j) = d (ix2 j r) * v (ix2 r j) := by pointwise [k0_pay17, k0_pay16]

theorem pay14 : k0_pay14 (F := Ideal) u e o (ix2 i j) = o (ix2 i j) + ∑ r, u (ix2 r i) * e (ix2 r j) := by
  pointwise [k0_pay14]
theorem pay20 : k0_pay20 (F := Ideal) u v d o (ix2 i j) = o (ix2 i j) + ∑ r, u (ix2 r i) * (d (ix2 j r) * v (ix2 r j)) := by
  pointwise [k0_pay20, k0_pay17, k0_pay16]
theorem pay33 : k0_pay33 (F := Ideal) u (k0_pay29 (F := Ideal) v d) o (ix2 i j) = o (ix2 i j) + ∑ r, u (ix2 r i) * (d (ix2 j r) * v (ix2 r j)) := by
  pointwise [k0_pay33, k0_pay30, k0_pay29, k0_pay28]
theorem pay34 : k0_pay34 (F := Ideal) u v (k0_pay28 (F := Ideal) d) o (ix2 i j) = o (ix2 i j) + ∑ r, u (ix2 r i) * (d (ix2 j r) * v (ix2 r j)) := by
  pointwise [k0_pay34, k0_pay31, k0_pay28]

theorem pay6 (x : FVec Ideal S512x256 .f32) (g : FVec Ideal S1x256 .f32) :
    k0_pay6 (F := Ideal) x g (ix2 r i) = unit 256 (fun k => x (ix2 r k)) i * g (ix2 0 i) := by
  pointwise [k0_pay6, lit_256, lit_eps]
  rfl
theorem pay4 (y : S256x4096.Idx) : k0_pay4 (F := Ideal) y = 0 := by idx_vars y; pointwise [k0_pay4]
theorem pay5 (y : S256x4096.Idx) : k0_pay5 (F := Ideal) y = 0 := by idx_vars y; pointwise [k0_pay5]
theorem pay3 (y : S1x256.Idx) : k0_pay3 (F := Ideal) y = 0 := by idx_vars y; pointwise [k0_pay3]

/-- The four groups' products by both weights, as the payloads add them. -/
theorem pay12 (w : FVec Ideal S256x1024 .bf16) : k0_pay12 (F := Ideal) X d w (ix2 r i) = ∑ j, (d (ix2 j r) * X (ix2 r (ph j))) * w (ix2 i j) := by
  refine Eq.trans ?_ (Finset.sum_congr rfl fun j _ => congrArg (· * w (ix2 i j)) (cot10 X d r j))
  pointwise [k0_pay12]
theorem pay19 (v v' : FVec Ideal S512x1024 .f32) (b : FVec Ideal S512x256 .f32) (w w' wb : FVec Ideal S256x1024 .bf16) :
    k0_pay19 (F := Ideal) v v' e b (k0_pay13 (F := Ideal) wb) (constant S512x256 .f32 0x00000000#32) d w w' (ix2 r i)
      = b (ix2 r i) + ∑ j, e (ix2 r j) * wb (ix2 i j) + (∑ j, (d (ix2 j r) * v (ix2 r j)) * w (ix2 i j) + ∑ j, (d (ix2 j r) * v' (ix2 r j)) * w' (ix2 i j)) := by
  pointwise [k0_pay19, k0_pay13, k0_pay17, k0_pay18, k0_pay16]
theorem pay25 (v v' : FVec Ideal S512x1024 .f32) (b : FVec Ideal S512x256 .f32) (w w' : FVec Ideal S256x1024 .bf16) :
    k0_pay25 (F := Ideal) v v' b d w w' (ix2 r i)
      = b (ix2 r i) + (∑ j, (d (ix2 j r) * v (ix2 r j)) * w (ix2 i j) + ∑ j, (d (ix2 j r) * v' (ix2 r j)) * w' (ix2 i j)) := by
  pointwise [k0_pay25, k0_pay23, k0_pay24, k0_pay22]
theorem pay32 (v v' : FVec Ideal S512x1024 .f32) (b : FVec Ideal S512x256 .f32) (w w' : FVec Ideal S256x1024 .bf16) :
    k0_pay32 (F := Ideal) v' b (k0_pay28 (F := Ideal) d) (k0_pay29 (F := Ideal) v d) w w' (ix2 r i)
      = b (ix2 r i) + (∑ j, (d (ix2 j r) * v (ix2 r j)) * w (ix2 i j) + ∑ j, (d (ix2 j r) * v' (ix2 r j)) * w' (ix2 i j)) := by
  pointwise [k0_pay32, k0_pay30, k0_pay31, k0_pay29, k0_pay28]

theorem pay1 (x a : FVec Ideal S512x256 .f32) (g : FVec Ideal S1x256 .f32) :
    k0_pay1 (F := Ideal) a (k0_pay35 (F := Ideal) g) (k0_pay36 (F := Ideal) x) (k0_pay37 (F := Ideal) x) (ix2 r i)
      = back 256 (fun k => x (ix2 r k)) (fun k => a (ix2 r k) * g (ix2 0 k)) i := by
  pointwise [k0_pay1, k0_pay35, k0_pay36, k0_pay37, lit_256, lit_eps]
  rfl
theorem pay2 (p : FVec Ideal S1x256 .f32) (q : FVec Ideal S1x256 .f32) : k0_pay2 (F := Ideal) p q (ix2 0 i) = q (ix2 0 i) + p (ix2 0 i) := by
  pointwise [k0_pay2]
theorem pay38 (x b : FVec Ideal S512x256 .f32) (v : FVec Ideal S512x1024 .f32) (k l : FVec Ideal S512x1024 .f32) (w w' : FVec Ideal S256x1024 .bf16) :
    k0_pay38 (F := Ideal) x v b k l w w' (ix2 0 i)
      = ∑ r, k0_pay32 (F := Ideal) v b k l w w' (ix2 r i) * unit 256 (fun k => x (ix2 r k)) i := by
  generalize h : k0_pay32 (F := Ideal) v b k l w w' = Y
  pointwise [k0_pay38, k0_pay36, k0_pay37, lit_256, lit_eps]
  rw [h]
  rfl

end Cert.Kernel4Ideal.Qp

end
-- ==== Proof.QHost.lean ====
/- The gradient through the queries' projection: the arrays that the host hands to the kernel, entry by entry. -/
module

public import proofs.«01_k».proof.Proof.QBody

@[expose] public section

set_option maxRecDepth 16384

noncomputable section

open Idealize.ShloMosaic Idealize.ShloMosaic.TcCoe Idealize.SL.Sem
open Idealize.ShloMosaic.Pipeline (Dat)

namespace Cert.Kernel4Ideal.Qp

open Cert.Kernel4Ideal Cert.Kernel4Ideal.Gen Cert.Qproj Cert.Rms

/-- The columns of a head after padding: the ones left alone, the two halves that are rotated, the padding. -/
def cn (k : Fin 128) : Fin 256 := ⟨k.val, by omega⟩
def cl (k : Fin 32) : Fin 256 := ⟨128 + k.val, by omega⟩
def ch (k : Fin 32) : Fin 256 := ⟨128 + (32 + k.val), by omega⟩
def cp (k : Fin 64) : Fin 256 := ⟨128 + (64 + k.val), by omega⟩

/-- A table by row and column of a head. -/
def tab (o : FVec Ideal S16384x128 .f32) (x : FVec Ideal S16384x32 .f32) : FVec Ideal S16384x256 .f32 :=
  concatenate S16384x256 1 [⟨S16384x128, o⟩,
    ⟨S16384x64, shapeCast S16384x64 (broadcastInDim S1x16384x2x32 ![0, 1, 2, 3] bcast_S1x16384x1x32_S1x16384x2x32_0_1_2_3 (shapeCast S1x16384x1x32 x shapeCasts_S16384x32_S1x16384x1x32)) shapeCasts_S1x16384x2x32_S16384x64⟩,
    ⟨S16384x64, broadcastInDim S16384x64 ![] bcast_S_S16384x64 (constant S_ .f32 0x00000000#32)⟩] concatenates_S16384x128_S16384x64_S16384x64_S16384x256_d1

section
variable (o : FVec Ideal S16384x128 .f32) (x : FVec Ideal S16384x32 .f32) (s : Fin 16384)

theorem tab_cn (k : Fin 128) : tab o x (ix2 s (cn k)) = o (ix2 s k) := by pointwise [tab, cn]
theorem tab_cl (k : Fin 32) : tab o x (ix2 s (cl k)) = x (ix2 s k) := by
  pointwise [tab, cl]
  rw [dif_pos (show k.val < 64 by omega)]
  exact congrArg (fun z => x (ix2 s z)) (Fin.ext (Nat.mod_eq_of_lt k.isLt))
theorem tab_ch (k : Fin 32) : tab o x (ix2 s (ch k)) = x (ix2 s k) := by
  pointwise [tab, ch]
  rw [dif_pos (show 32 + k.val < 64 by omega)]
theorem tab_cp (k : Fin 64) : tab o x (ix2 s (cp k)) = 0 := by
  pointwise [tab, cp]
end

/-- The cotangent, its parts and the padding side by side. -/
def hD (n : FVec Ideal S16384x16x128 .f32) (q : FVec Ideal S16384x16x64 .f32) : FVec Ideal S16384x16x256 .f32 :=
  concatenate S16384x16x256 2 [⟨S16384x16x128, n⟩, ⟨S16384x16x64, q⟩,
    ⟨S16384x16x64, broadcastInDim S16384x16x64 ![] bcast_S_S16384x16x64 (constant S_ .f32 0x00000000#32)⟩] concatenates_S16384x16x128_S16384x16x64_S16384x16x64_S16384x16x256_d2

section
variable (n : FVec Ideal S16384x16x128 .f32) (q : FVec Ideal S16384x16x64 .f32) (s : Fin 16384) (h : Fin 16)
theorem hD_cn (k : Fin 128) : hD n q (ix3 s h (cn k)) = n (ix3 s h k) := by pointwise [hD, cn]
theorem hD_cl (k : Fin 32) : hD n q (ix3 s h (cl k)) = q (ix3 s h (rlo k)) := by
  pointwise [hD, cl]
  rw [dif_pos (show k.val < 64 by omega)]; rfl
theorem hD_ch (k : Fin 32) : hD n q (ix3 s h (ch k)) = q (ix3 s h (rhi k)) := by
  pointwise [hD, ch]
  rw [dif_pos (show 32 + k.val < 64 by omega)]; rfl
theorem hD_cp (k : Fin 64) : hD n q (ix3 s h (cp k)) = 0 := by pointwise [hD, cp]
end

/-- The weights side by side with the padding, and the ones that the rotation pairs with them. -/
def hWa (w : FVec Ideal S256x16x192 .bf16) : FVec Ideal S256x16x256 .bf16 :=
  concatenate S256x16x256 2 [⟨S256x16x192, w⟩, ⟨S256x16x64, broadcastInDim S256x16x64 ![] bcast_S_S256x16x64 (constant S_ .bf16 0x0000#16)⟩] concatenates_S256x16x192_S256x16x64_S256x16x256_d2
def hWb (w : FVec Ideal S256x16x192 .bf16) : FVec Ideal S256x16x256 .bf16 :=
  concatenate S256x16x256 2 [⟨S256x16x128, broadcastInDim S256x16x128 ![] bcast_S_S256x16x128 (constant S_ .bf16 0x0000#16)⟩,
    ⟨S256x16x32, Host.negf (extractStridedSlice S256x16x32 ![0, 0, 160] w slices_S256x16x192_S256x16x32_0_0_160)⟩,
    ⟨S256x16x32, extractStridedSlice S256x16x32 ![0, 0, 128] w slices_S256x16x192_S256x16x32_0_0_128⟩,
    ⟨S256x16x64, broadcastInDim S256x16x64 ![] bcast_S_S256x16x64 (constant S_ .bf16 0x0000#16)⟩] concatenates_S256x16x128_S256x16x32_S256x16x32_S256x16x64_S256x16x256_d2

section
variable (w : FVec Ideal S256x16x192 .bf16) (i : Fin 256) (h : Fin 16)
theorem hWa_cn (k : Fin 128) : hWa w (ix3 i h (cn k)) = w (ix3 i h (nope k)) := by
  pointwise [hWa, cn]
  rw [dif_pos (show k.val < 192 by omega)]; rfl
theorem hWa_cl (k : Fin 32) : hWa w (ix3 i h (cl k)) = w (ix3 i h (lo k)) := by
  pointwise [hWa, cl]
  rw [dif_pos (show 128 + k.val < 192 by omega)]; rfl
theorem hWa_ch (k : Fin 32) : hWa w (ix3 i h (ch k)) = w (ix3 i h (hi k)) := by
  pointwise [hWa, ch]
  rw [dif_pos (show 128 + (32 + k.val) < 192 by omega)]; rfl
theorem hWb_cl (k : Fin 32) : hWb w (ix3 i h (cl k)) = -w (ix3 i h (hi k)) := by
  pointwise [hWb, cl]
  exact congrArg (fun z => -w (ix3 i h z)) (Fin.ext (by show 160 + k.val = 128 + (32 + k.val); omega))
theorem hWb_ch (k : Fin 32) : hWb w (ix3 i h (ch k)) = w (ix3 i h (lo k)) := by
  pointwise [hWb, ch]
  rfl
end

variable (m : (ℓ : Loc nD τ sig) → Buf (Elt Ideal) ℓ)

abbrev argX (c : Dev nD) : FVec Ideal S16384x256 .f32 := m ((c : Thread nD τ).loc main_arg0)
abbrev argG (c : Dev nD) : FVec Ideal S256 .f32 := m ((c : Thread nD τ).loc main_arg1)
abbrev argW (c : Dev nD) : FVec Ideal S256x16x192 .f32 := m ((c : Thread nD τ).loc main_arg2)
abbrev argN (c : Dev nD) : FVec Ideal S16384x16x128 .f32 := m ((c : Thread nD τ).loc main_arg3)
abbrev argQ (c : Dev nD) : FVec Ideal S16384x16x64 .f32 := m ((c : Thread nD τ).loc main_arg4)
abbrev hCa : FVec Ideal S16384x256 .f32 := tab (broadcastInDim S16384x128 ![] bcast_S_S16384x128 (constant S_ .f32 0x3F800000#32)) cs
abbrev hSb : FVec Ideal S16384x256 .f32 := tab (broadcastInDim S16384x128 ![] bcast_S_S16384x128 (constant S_ .f32 0x00000000#32)) sn

theorem V_ca (c : Dev nD) : (V m c main_v34 : FVec Ideal S16384x256 .f32) = hCa := by
  simp only [V, V0, hostOps0, List.flatten_cons, List.flatten_nil, List.cons_append, List.nil_append, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl
theorem V_sb (c : Dev nD) : (V m c main_v38 : FVec Ideal S16384x256 .f32) = hSb := by
  simp only [V, V0, hostOps0, List.flatten_cons, List.flatten_nil, List.cons_append, List.nil_append, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl
theorem V_g (c : Dev nD) : (V m c main_v43 : FVec Ideal S1x256 .f32) = shapeCast S1x256 (argG m c) shapeCasts_S256_S1x256 := by
  simp only [V, V0, hostOps0, List.flatten_cons, List.flatten_nil, List.cons_append, List.nil_append, StableHlo.TRef.nullary, StableHlo.TRef.ternary, StableHlo.TRef.unary, StableHlo.TRef.toBuf, StableHlo.TRef.ofBuf, cast_eq]
  after_results_simp <;> rfl
theorem V_d (c : Dev nD) : (V m c main_v42 : FVec Ideal S4096x16384 .f32) = transpose S4096x16384 [1, 0] (shapeCast S16384x4096 (hD (argN m c) (argQ m c)) shapeCasts_S16384x16x256_S16384x4096) transposes_S16384x4096_S4096x16384_1_0 := by
  simp only [V, V0, hostOps0, List.flatten_cons, List.flatten_nil, List.cons_append, List.nil_append, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl
theorem V_wa (c : Dev nD) : (V m c main_v44 : FVec Ideal S256x4096 .bf16) = shapeCast S256x4096 (hWa (truncf .bf16 (argW m c) bitsLt_bf16_f32)) shapeCasts_S256x16x256_S256x4096 := by
  simp only [V, V0, hostOps0, List.flatten_cons, List.flatten_nil, List.cons_append, List.nil_append, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl
theorem V_wb (c : Dev nD) : (V m c main_v45 : FVec Ideal S256x4096 .bf16) = shapeCast S256x4096 (hWb (truncf .bf16 (argW m c) bitsLt_bf16_f32)) shapeCasts_S256x16x256_S256x4096 := by
  simp only [V, V0, hostOps0, List.flatten_cons, List.flatten_nil, List.cons_append, List.nil_append, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

end Cert.Kernel4Ideal.Qp

end
-- ==== Proof.QCols.lean ====
/- The gradient through the queries' projection: the columns of the padded arrays by group and by head, the sums over them,
   and the accumulated slabs stored group by group. -/
module

public import proofs.«01_k».proof.Proof.QHost

@[expose] public section

set_option maxRecDepth 16384

noncomputable section

open Idealize.ShloMosaic Idealize.ShloMosaic.TcCoe Idealize.SL.Sem
open Idealize.ShloMosaic.Pipeline (Dat)

namespace Cert.Kernel4Ideal.Qp

open Cert.Kernel4Ideal Cert.Kernel4Ideal.Gen Cert.Qproj Cert.Rms

/-- The columns of the four groups. -/
def g0 (j : Fin 1024) : Fin 4096 := ⟨j.val, by omega⟩
def g1 (j : Fin 1024) : Fin 4096 := ⟨1024 + j.val, by omega⟩
def g2 (j : Fin 1024) : Fin 4096 := ⟨2048 + j.val, by omega⟩
def g3 (j : Fin 1024) : Fin 4096 := ⟨3072 + j.val, by omega⟩
/-- A column's head and its place there, and the column of a head and a place. -/
def head (x : Fin 4096) : Fin 16 := ⟨x.val / 256, by omega⟩
def place (x : Fin 4096) : Fin 256 := ⟨x.val % 256, by omega⟩
def at' (h : Fin 16) (k : Fin 256) : Fin 4096 := ⟨h.val * 256 + k.val, by omega⟩

theorem head_at (h : Fin 16) (k : Fin 256) : head (at' h k) = h := Fin.ext (by simp only [head, at']; omega)
theorem place_at (h : Fin 16) (k : Fin 256) : place (at' h k) = k := Fin.ext (by simp only [place, at']; omega)
theorem place0 (j : Fin 1024) : ph j = place (g0 j) := rfl
theorem place1 (j : Fin 1024) : ph j = place (g1 j) := Fin.ext (by simp only [ph, place, g1]; omega)
theorem place2 (j : Fin 1024) : ph j = place (g2 j) := Fin.ext (by simp only [ph, place, g2]; omega)
theorem place3 (j : Fin 1024) : ph j = place (g3 j) := Fin.ext (by simp only [ph, place, g3]; omega)

theorem sum_groups (f : Fin 4096 → EReal) : ∑ x, f x = ∑ j, f (g0 j) + ∑ j, f (g1 j) + ∑ j, f (g2 j) + ∑ j, f (g3 j) := by
  rw [Fin.sum_univ_add (a := 3072) (b := 1024) f, Fin.sum_univ_add (a := 2048) (b := 1024), Fin.sum_univ_add (a := 1024) (b := 1024)]
  rfl
theorem sum_heads (f : Fin 4096 → EReal) : ∑ x, f x = ∑ h, ∑ k, f (at' h k) :=
  (Fin.sum_mul_add_congr fun s k hl => rfl).symm
theorem sum_padded (f : Fin 256 → EReal) : ∑ k, f k = ∑ k, f (cn k) + (∑ k, f (cl k) + ∑ k, f (ch k) + ∑ k, f (cp k)) := by
  exact (Fin.sum_univ_add (a := 128) (b := 128) f).trans (congrArg (∑ k, f (cn k) + ·) ((Fin.sum_univ_add (a := 64) (b := 64) _).trans
    (congrArg (· + ∑ k, f (cp k)) (Fin.sum_univ_add (a := 32) (b := 32) _))))
theorem sum_head (f : Fin 192 → EReal) : ∑ k, f k = ∑ k, f (nope k) + (∑ k, f (lo k) + ∑ k, f (hi k)) := by
  rw [Fin.sum_univ_add (a := 128) (b := 64) f, Fin.sum_univ_add (a := 32) (b := 32)]
  rfl

section
variable (D : FVec Ideal S4096x512 .f32) (j : Fin 1024) (r : Fin 512)
abbrev ldD0 : FVec Ideal S1024x512 .f32 := View.ld (Val := Elt Ideal) (e' := .f32) D (Rect.unit (s := S4096x512) ![0, 0] ![1024, 512] inb_S4096x512_S1024x512_0_0)
abbrev ldD1 : FVec Ideal S1024x512 .f32 := View.ld (Val := Elt Ideal) (e' := .f32) D (Rect.unit (s := S4096x512) ![1024, 0] ![1024, 512] inb_S4096x512_S1024x512_1024_0)
abbrev ldD2 : FVec Ideal S1024x512 .f32 := View.ld (Val := Elt Ideal) (e' := .f32) D (Rect.unit (s := S4096x512) ![2048, 0] ![1024, 512] inb_S4096x512_S1024x512_2048_0)
abbrev ldD3 : FVec Ideal S1024x512 .f32 := View.ld (Val := Elt Ideal) (e' := .f32) D (Rect.unit (s := S4096x512) ![3072, 0] ![1024, 512] inb_S4096x512_S1024x512_3072_0)
theorem ldD0_at : ldD0 D (ix2 j r) = D (ix2 (g0 j) r) := by unfold ldD0; pointwise; try blk_ext [g0]
theorem ldD1_at : ldD1 D (ix2 j r) = D (ix2 (g1 j) r) := by unfold ldD1; pointwise; try blk_ext [g1]
theorem ldD2_at : ldD2 D (ix2 j r) = D (ix2 (g2 j) r) := by unfold ldD2; pointwise; try blk_ext [g2]
theorem ldD3_at : ldD3 D (ix2 j r) = D (ix2 (g3 j) r) := by unfold ldD3; pointwise; try blk_ext [g3]
end
section
variable (W : FVec Ideal S256x4096 .f32) (i : Fin 256) (j : Fin 1024)
abbrev ldW0 : FVec Ideal S256x1024 .f32 := View.ld (Val := Elt Ideal) (e' := .f32) W (Rect.unit (s := S256x4096) ![0, 0] ![256, 1024] inb_S256x4096_S256x1024_0_0)
abbrev ldW1 : FVec Ideal S256x1024 .f32 := View.ld (Val := Elt Ideal) (e' := .f32) W (Rect.unit (s := S256x4096) ![0, 1024] ![256, 1024] inb_S256x4096_S256x1024_0_1024)
abbrev ldW2 : FVec Ideal S256x1024 .f32 := View.ld (Val := Elt Ideal) (e' := .f32) W (Rect.unit (s := S256x4096) ![0, 2048] ![256, 1024] inb_S256x4096_S256x1024_0_2048)
abbrev ldW3 : FVec Ideal S256x1024 .f32 := View.ld (Val := Elt Ideal) (e' := .f32) W (Rect.unit (s := S256x4096) ![0, 3072] ![256, 1024] inb_S256x4096_S256x1024_0_3072)
theorem ldW0_at : ldW0 W (ix2 i j) = W (ix2 i (g0 j)) := by unfold ldW0; pointwise; try blk_ext [g0]
theorem ldW1_at : ldW1 W (ix2 i j) = W (ix2 i (g1 j)) := by unfold ldW1; pointwise; try blk_ext [g1]
theorem ldW2_at : ldW2 W (ix2 i j) = W (ix2 i (g2 j)) := by unfold ldW2; pointwise; try blk_ext [g2]
theorem ldW3_at : ldW3 W (ix2 i j) = W (ix2 i (g3 j)) := by unfold ldW3; pointwise; try blk_ext [g3]
end
section
variable (W : FVec Ideal S256x4096 .bf16) (i : Fin 256) (j : Fin 1024)
abbrev ldV0 : FVec Ideal S256x1024 .bf16 := View.ld (Val := Elt Ideal) (e' := .bf16) W (Rect.unit (s := S256x4096) ![0, 0] ![256, 1024] inb_S256x4096_S256x1024_0_0)
abbrev ldV1 : FVec Ideal S256x1024 .bf16 := View.ld (Val := Elt Ideal) (e' := .bf16) W (Rect.unit (s := S256x4096) ![0, 1024] ![256, 1024] inb_S256x4096_S256x1024_0_1024)
abbrev ldV2 : FVec Ideal S256x1024 .bf16 := View.ld (Val := Elt Ideal) (e' := .bf16) W (Rect.unit (s := S256x4096) ![0, 2048] ![256, 1024] inb_S256x4096_S256x1024_0_2048)
abbrev ldV3 : FVec Ideal S256x1024 .bf16 := View.ld (Val := Elt Ideal) (e' := .bf16) W (Rect.unit (s := S256x4096) ![0, 3072] ![256, 1024] inb_S256x4096_S256x1024_0_3072)
theorem ldV0_at : ldV0 W (ix2 i j) = W (ix2 i (g0 j)) := by unfold ldV0; pointwise; try blk_ext [g0]
theorem ldV1_at : ldV1 W (ix2 i j) = W (ix2 i (g1 j)) := by unfold ldV1; pointwise; try blk_ext [g1]
theorem ldV2_at : ldV2 W (ix2 i j) = W (ix2 i (g2 j)) := by unfold ldV2; pointwise; try blk_ext [g2]
theorem ldV3_at : ldV3 W (ix2 i j) = W (ix2 i (g3 j)) := by unfold ldV3; pointwise; try blk_ext [g3]
end

/-- Four ranges of columns make up the array. -/
theorem cols (P3 P2 P1 P0 : FVec Ideal S256x1024 .f32) (L : List (View.Piece (Elt Ideal) S256x4096 .f32)) (G : FVec Ideal S256x4096 .f32)
    (h3 : ∀ i j, P3 (ix2 i j) = G (ix2 i (g3 j))) (h2 : ∀ i j, P2 (ix2 i j) = G (ix2 i (g2 j)))
    (h1 : ∀ i j, P1 (ix2 i j) = G (ix2 i (g1 j))) (h0 : ∀ i j, P0 (ix2 i j) = G (ix2 i (g0 j))) (y : S256x4096.Idx) :
    View.canon (⟨Rect.unit ![0, 3072] ![256, 1024] inb_S256x4096_S256x1024_0_3072, P3⟩
      :: ⟨Rect.unit ![0, 2048] ![256, 1024] inb_S256x4096_S256x1024_0_2048, P2⟩
      :: ⟨Rect.unit ![0, 1024] ![256, 1024] inb_S256x4096_S256x1024_0_1024, P1⟩
      :: ⟨Rect.unit ![0, 0] ![256, 1024] inb_S256x4096_S256x1024_0_0, P0⟩ :: L) y = G y := by
  refine View.canon_append_of_piecesOf G L
    [⟨Rect.unit ![0, 3072] ![256, 1024] inb_S256x4096_S256x1024_0_3072, P3⟩,
      ⟨Rect.unit ![0, 2048] ![256, 1024] inb_S256x4096_S256x1024_0_2048, P2⟩,
      ⟨Rect.unit ![0, 1024] ![256, 1024] inb_S256x4096_S256x1024_0_1024, P1⟩,
      ⟨Rect.unit ![0, 0] ![256, 1024] inb_S256x4096_S256x1024_0_0, P0⟩] ⟨?_, ?_, ?_, ?_, trivial⟩ y ?_
  · intro x
    idx_vars x
    have e : (Rect.unit ![0, 3072] ![256, 1024] inb_S256x4096_S256x1024_0_3072).emb (ix2 x0 x1) = (ix2 x0 (g3 x1) : S256x4096.Idx) := by blk_ext [g3]
    rw [e]; exact h3 x0 x1
  · intro x
    idx_vars x
    have e : (Rect.unit ![0, 2048] ![256, 1024] inb_S256x4096_S256x1024_0_2048).emb (ix2 x0 x1) = (ix2 x0 (g2 x1) : S256x4096.Idx) := by blk_ext [g2]
    rw [e]; exact h2 x0 x1
  · intro x
    idx_vars x
    have e : (Rect.unit ![0, 1024] ![256, 1024] inb_S256x4096_S256x1024_0_1024).emb (ix2 x0 x1) = (ix2 x0 (g1 x1) : S256x4096.Idx) := by blk_ext [g1]
    rw [e]; exact h1 x0 x1
  · intro x
    idx_vars x
    have e : (Rect.unit ![0, 0] ![256, 1024] inb_S256x4096_S256x1024_0_0).emb (ix2 x0 x1) = (ix2 x0 (g0 x1) : S256x4096.Idx) := by blk_ext [g0]
    rw [e]; exact h0 x0 x1
  · idx_vars y
    have hlt := y1.isLt
    obtain h | h := lt_or_ge y1.val 2048
    · obtain h' | h' := lt_or_ge y1.val 1024
      · refine ⟨⟨Rect.unit ![0, 0] ![256, 1024] inb_S256x4096_S256x1024_0_0, P0⟩, .tail _ (.tail _ (.tail _ (.head _))), (Rect.mem_set_unit (inb := inb_S256x4096_S256x1024_0_0)).2 fun a => ?_⟩
        fin_cases a
        · exact ⟨Nat.zero_le _, y0.isLt⟩
        · exact ⟨Nat.zero_le _, h'⟩
      · refine ⟨⟨Rect.unit ![0, 1024] ![256, 1024] inb_S256x4096_S256x1024_0_1024, P1⟩, .tail _ (.tail _ (.head _)), (Rect.mem_set_unit (inb := inb_S256x4096_S256x1024_0_1024)).2 fun a => ?_⟩
        fin_cases a
        · exact ⟨Nat.zero_le _, y0.isLt⟩
        · exact ⟨h', h⟩
    · obtain h' | h' := lt_or_ge y1.val 3072
      · refine ⟨⟨Rect.unit ![0, 2048] ![256, 1024] inb_S256x4096_S256x1024_0_2048, P2⟩, .tail _ (.head _), (Rect.mem_set_unit (inb := inb_S256x4096_S256x1024_0_2048)).2 fun a => ?_⟩
        fin_cases a
        · exact ⟨Nat.zero_le _, y0.isLt⟩
        · exact ⟨h, h'⟩
      · refine ⟨⟨Rect.unit ![0, 3072] ![256, 1024] inb_S256x4096_S256x1024_0_3072, P3⟩, .head _, (Rect.mem_set_unit (inb := inb_S256x4096_S256x1024_0_3072)).2 fun a => ?_⟩
        fin_cases a
        · exact ⟨Nat.zero_le _, y0.isLt⟩
        · exact ⟨h', hlt⟩

/- The loads of the accumulator at the first point read the zeros stored there, past the ranges stored since. -/
section
variable {κ : Kind} {sp : Space} (v : View sig κ sp S256x4096 .f32) (Z : FVec Ideal S256x4096 .f32) (p0 p1 p2 : FVec Ideal S256x1024 .f32)
abbrev pz : View.Piece (Elt Ideal) S256x4096 .f32 := ⟨Rect.unit (s := S256x4096) ![0, 0] ![256, 4096] inb_S256x4096_S256x4096_0_0, Z⟩
abbrev pp0 : View.Piece (Elt Ideal) S256x4096 .f32 := ⟨Rect.unit (s := S256x4096) ![0, 0] ![256, 1024] inb_S256x4096_S256x1024_0_0, p0⟩
abbrev pp1 : View.Piece (Elt Ideal) S256x4096 .f32 := ⟨Rect.unit (s := S256x4096) ![0, 1024] ![256, 1024] inb_S256x4096_S256x1024_0_1024, p1⟩
abbrev pp2 : View.Piece (Elt Ideal) S256x4096 .f32 := ⟨Rect.unit (s := S256x4096) ![0, 2048] ![256, 1024] inb_S256x4096_S256x1024_0_2048, p2⟩
theorem load0 : View.readCov (Val := Elt Ideal) v [pz Z] (Rect.unit (s := S256x4096) ![0, 0] ![256, 1024] inb_S256x4096_S256x1024_0_0).toLoadRect = ldW0 Z :=
  View.readCov_fill (s := S256x4096) (e := .f32) (Val := Elt Ideal) v inb_S256x4096_S256x4096_0_0 Z [] _ (by decide)
theorem load1 : View.readCov (Val := Elt Ideal) v [pp0 p0, pz Z] (Rect.unit (s := S256x4096) ![0, 1024] ![256, 1024] inb_S256x4096_S256x1024_0_1024).toLoadRect = ldW1 Z :=
  (View.readCov_skip v _ _ _ _ rfl).trans (View.readCov_fill (s := S256x4096) (e := .f32) (Val := Elt Ideal) v inb_S256x4096_S256x4096_0_0 Z [] _ (by decide))
theorem load2 : View.readCov (Val := Elt Ideal) v [pp1 p1, pp0 p0, pz Z] (Rect.unit (s := S256x4096) ![0, 2048] ![256, 1024] inb_S256x4096_S256x1024_0_2048).toLoadRect = ldW2 Z :=
  (View.readCov_skip v _ _ _ _ rfl).trans ((View.readCov_skip v _ _ _ _ rfl).trans (View.readCov_fill (s := S256x4096) (e := .f32) (Val := Elt Ideal) v inb_S256x4096_S256x4096_0_0 Z [] _ (by decide)))
theorem load3 : View.readCov (Val := Elt Ideal) v [pp2 p2, pp1 p1, pp0 p0, pz Z] (Rect.unit (s := S256x4096) ![0, 3072] ![256, 1024] inb_S256x4096_S256x1024_0_3072).toLoadRect = ldW3 Z :=
  (View.readCov_skip v _ _ _ _ rfl).trans ((View.readCov_skip v _ _ _ _ rfl).trans ((View.readCov_skip v _ _ _ _ rfl).trans (View.readCov_fill (s := S256x4096) (e := .f32) (Val := Elt Ideal) v inb_S256x4096_S256x4096_0_0 Z [] _ (by decide))))
end

/-- What a point stores in a slab: the old entry and the point's sum over its rows. -/
theorem slab (P3 P2 P1 P0 O3 O2 O1 O0 : FVec Ideal S256x1024 .f32) (L : List (View.Piece (Elt Ideal) S256x4096 .f32)) (old : FVec Ideal S256x4096 .f32)
    (u : FVec Ideal S512x256 .bf16) (S : FVec Ideal S512x256 .f32) (D : FVec Ideal S4096x512 .f32)
    (h3 : ∀ i j, P3 (ix2 i j) = O3 (ix2 i j) + ∑ r, u (ix2 r i) * (ldD3 D (ix2 j r) * S (ix2 r (ph j)))) (e3 : O3 = ldW3 old)
    (h2 : ∀ i j, P2 (ix2 i j) = O2 (ix2 i j) + ∑ r, u (ix2 r i) * (ldD2 D (ix2 j r) * S (ix2 r (ph j)))) (e2 : O2 = ldW2 old)
    (h1 : ∀ i j, P1 (ix2 i j) = O1 (ix2 i j) + ∑ r, u (ix2 r i) * (ldD1 D (ix2 j r) * S (ix2 r (ph j)))) (e1 : O1 = ldW1 old)
    (h0 : ∀ i j, P0 (ix2 i j) = O0 (ix2 i j) + ∑ r, u (ix2 r i) * (ldD0 D (ix2 j r) * S (ix2 r (ph j)))) (e0 : O0 = ldW0 old) (y : S256x4096.Idx) :
    View.canon (⟨Rect.unit ![0, 3072] ![256, 1024] inb_S256x4096_S256x1024_0_3072, P3⟩
      :: ⟨Rect.unit ![0, 2048] ![256, 1024] inb_S256x4096_S256x1024_0_2048, P2⟩
      :: ⟨Rect.unit ![0, 1024] ![256, 1024] inb_S256x4096_S256x1024_0_1024, P1⟩
      :: ⟨Rect.unit ![0, 0] ![256, 1024] inb_S256x4096_S256x1024_0_0, P0⟩ :: L) y
      = old y + ∑ r : Fin 512, u (ix2 r (y 0)) * (D (ix2 (y 1) r) * S (ix2 r (place (y 1)))) := by
  refine cols P3 P2 P1 P0 L (fun y => old y + ∑ r : Fin 512, u (ix2 r (y 0)) * (D (ix2 (y 1) r) * S (ix2 r (place (y 1))))) ?_ ?_ ?_ ?_ y
  · intro i j
    rw [h3, e3, ldW3_at]
    exact congrArg _ (Finset.sum_congr rfl fun r _ => by rw [ldD3_at, place3]; rfl)
  · intro i j
    rw [h2, e2, ldW2_at]
    exact congrArg _ (Finset.sum_congr rfl fun r _ => by rw [ldD2_at, place2]; rfl)
  · intro i j
    rw [h1, e1, ldW1_at]
    exact congrArg _ (Finset.sum_congr rfl fun r _ => by rw [ldD1_at, place1]; rfl)
  · intro i j
    rw [h0, e0, ldW0_at]
    exact congrArg _ (Finset.sum_congr rfl fun r _ => by rw [ldD0_at, place0]; rfl)

end Cert.Kernel4Ideal.Qp

end
-- ==== Proof.QValue.lean ====
/- The gradient through the queries' projection: the blocks of a point. -/
module

public import proofs.«01_k».proof.Proof.QCols

@[expose] public section

set_option maxRecDepth 16384

noncomputable section

open Idealize.ShloMosaic Idealize.ShloMosaic.TcCoe Idealize.SL.Sem
open Idealize.ShloMosaic.Pipeline (Dat)

namespace Cert.Kernel4Ideal.Qp

open Cert.Kernel4Ideal Cert.Kernel4Ideal.Gen Cert.Qproj Cert.Rms

variable (m : (ℓ : Loc nD τ sig) → Buf (Elt Ideal) ℓ) (c : Dev nD)

theorem idx : ∀ t : Fin cfg0.N, win0_0.index t = ![0, t.val] ∧ win0_1.index t = ![t.val, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0]
    ∧ win0_8.index t = ![0, 0] ∧ win0_9.index t = ![0, 0] ∧ win0_10.index t = ![0, 0] :=
  (by decide +kernel : ∀ t : Fin grid0.N, _)

/-- The row of the arrays that row `r` of point `t`'s blocks is. -/
def row (t : Fin cfg0.N) (r : Fin 512) : Fin 16384 := ⟨t.val * 512 + r.val, by have := t.isLt; have : cfg0.N = 32 := N_0; omega⟩

theorem blkD (t : Fin cfg0.N) (x : Fin 4096) (r : Fin 512) :
    (iblk m c 0 t : FVec Ideal S4096x512 .f32) (ix2 x r) = hD (argN m c) (argQ m c) (ix3 (row t r) (head x) (place x)) := by
  blk_simp [iblk, idx t]
  rw [V_d]
  generalize hD (argN m c) (argQ m c) = X
  pointwise
  blk_ext [idx t, row, head, place]
theorem blkX (t : Fin cfg0.N) (r : Fin 512) (k : Fin 256) :
    (iblk m c 1 t : FVec Ideal S512x256 .f32) (ix2 r k) = argX m c (ix2 (row t r) k) := by
  blk_simp [iblk, idx t]
  entry_read
  pointwise
  blk_ext [idx t, row]
theorem blkG (t : Fin cfg0.N) (k : Fin 256) :
    (iblk m c 2 t : FVec Ideal S1x256 .f32) (ix2 0 k) = argG m c (ix1 k) := by
  blk_simp [iblk, idx t]
  rw [V_g]
  generalize argG m c = X
  have he : (win0_2.blk t).view.emb (ix2 0 k) = ix2 0 k := by blk_ext [idx t]
  rw [he]
  pointwise
theorem blkWa (t : Fin cfg0.N) (i : Fin 256) (x : Fin 4096) :
    (iblk m c 3 t : FVec Ideal S256x4096 .bf16) (ix2 i x) = hWa (argW m c) (ix3 i (head x) (place x)) := by
  blk_simp [iblk, idx t]
  rw [V_wa]
  generalize he : hWa (truncf .bf16 (argW m c) bitsLt_bf16_f32) = X
  obtain rfl : hWa (argW m c) = X := he
  generalize hWa (argW m c) = X
  pointwise
  blk_ext [idx t, head, place]
theorem blkWb (t : Fin cfg0.N) (i : Fin 256) (x : Fin 4096) :
    (iblk m c 4 t : FVec Ideal S256x4096 .bf16) (ix2 i x) = hWb (argW m c) (ix3 i (head x) (place x)) := by
  blk_simp [iblk, idx t]
  rw [V_wb]
  generalize he : hWb (truncf .bf16 (argW m c) bitsLt_bf16_f32) = X
  obtain rfl : hWb (argW m c) = X := he
  generalize hWb (argW m c) = X
  pointwise
  blk_ext [idx t, head, place]
theorem blkCa (t : Fin cfg0.N) (r : Fin 512) (k : Fin 256) :
    (iblk m c 5 t : FVec Ideal S512x256 .f32) (ix2 r k) = hCa (ix2 (row t r) k) := by
  blk_simp [iblk, idx t]
  rw [V_ca]
  generalize hCa = X
  blk_ext [idx t, row]
theorem blkSb (t : Fin cfg0.N) (r : Fin 512) (k : Fin 256) :
    (iblk m c 6 t : FVec Ideal S512x256 .f32) (ix2 r k) = hSb (ix2 (row t r) k) := by
  blk_simp [iblk, idx t]
  rw [V_sb]
  generalize hSb = X
  blk_ext [idx t, row]

/-- The cotangent times each table, by row and padded column. -/
def hA (s : Fin 16384) (x : Fin 4096) : EReal := hD (argN m c) (argQ m c) (ix3 s (head x) (place x)) * hCa (ix2 s (place x))
def hB (s : Fin 16384) (x : Fin 4096) : EReal := hD (argN m c) (argQ m c) (ix3 s (head x) (place x)) * hSb (ix2 s (place x))
/-- The normalised row. -/
def hU (s : Fin 16384) (i : Fin 256) : EReal := Cert.Reference4Ideal.Read.val_main_v33 (F := Ideal) (argX m c) (argG m c) (ix2 s i)

theorem uAt (t : Fin cfg0.N) (r : Fin 512) (i : Fin 256) : k0_pay6 (F := Ideal) (iblk m c 1 t) (iblk m c 2 t) (ix2 r i) = hU m c (row t r) i := by
  refine (pay6 r i _ _).trans ?_
  unfold hU
  rw [ref_u, blkG]
  simp only [blkX]

abbrev bD (t : Fin cfg0.N) : FVec Ideal S4096x512 .f32 := iblk m c 0 t
abbrev bX (t : Fin cfg0.N) : FVec Ideal S512x256 .f32 := iblk m c 1 t
abbrev bG (t : Fin cfg0.N) : FVec Ideal S1x256 .f32 := iblk m c 2 t
abbrev bWa (t : Fin cfg0.N) : FVec Ideal S256x4096 .bf16 := iblk m c 3 t
abbrev bWb (t : Fin cfg0.N) : FVec Ideal S256x4096 .bf16 := iblk m c 4 t
abbrev bCa (t : Fin cfg0.N) : FVec Ideal S512x256 .f32 := iblk m c 5 t
abbrev bSb (t : Fin cfg0.N) : FVec Ideal S512x256 .f32 := iblk m c 6 t

/-- What a point adds to each slab. -/
def termA (t : Fin cfg0.N) (i : Fin 256) (x : Fin 4096) : EReal := ∑ r, hU m c (row t r) i * hA m c (row t r) x
def termB (t : Fin cfg0.N) (i : Fin 256) (x : Fin 4096) : EReal := ∑ r, hU m c (row t r) i * hB m c (row t r) x

theorem termA_eq (t : Fin cfg0.N) (i : Fin 256) (x : Fin 4096) : ∑ r : Fin 512, k0_pay6 (F := Ideal) (iblk m c 1 t) (iblk m c 2 t) (ix2 r i)
    * (bD m c t (ix2 x r) * bCa m c t (ix2 r (place x))) = termA m c t i x :=
  Finset.sum_congr rfl fun r _ => congrArg₂ (· * ·) (uAt m c t r i) (congrArg₂ (· * ·) (blkD m c t x r) (blkCa m c t r _))
theorem termB_eq (t : Fin cfg0.N) (i : Fin 256) (x : Fin 4096) : ∑ r : Fin 512, k0_pay6 (F := Ideal) (iblk m c 1 t) (iblk m c 2 t) (ix2 r i)
    * (bD m c t (ix2 x r) * bSb m c t (ix2 r (place x))) = termB m c t i x :=
  Finset.sum_congr rfl fun r _ => congrArg₂ (· * ·) (uAt m c t r i) (congrArg₂ (· * ·) (blkD m c t x r) (blkSb m c t r _))

section
variable (X : FVec Ideal S512x256 .f32) (d : FVec Ideal S1024x512 .f32) (u : FVec Ideal S512x256 .bf16) (o : FVec Ideal S256x1024 .f32) (i : Fin 256) (j : Fin 1024)
theorem pa0 : k0_pay14 (F := Ideal) u (k0_pay10 (F := Ideal) X d) o (ix2 i j) = o (ix2 i j) + ∑ r, u (ix2 r i) * (d (ix2 j r) * X (ix2 r (ph j))) := by
  rw [pay14]; simp only [cot10]
theorem pa1 : k0_pay20 (F := Ideal) u (k0_pay7 (F := Ideal) X) d o (ix2 i j) = o (ix2 i j) + ∑ r, u (ix2 r i) * (d (ix2 j r) * X (ix2 r (ph j))) := by
  rw [pay20]; simp only [tile7]
theorem pa3 : k0_pay33 (F := Ideal) u (k0_pay29 (F := Ideal) (k0_pay7 (F := Ideal) X) d) o (ix2 i j) = o (ix2 i j) + ∑ r, u (ix2 r i) * (d (ix2 j r) * X (ix2 r (ph j))) := by
  rw [pay33]; simp only [tile7]
theorem pb3 : k0_pay34 (F := Ideal) u (k0_pay8 (F := Ideal) X) (k0_pay28 (F := Ideal) d) o (ix2 i j) = o (ix2 i j) + ∑ r, u (ix2 r i) * (d (ix2 j r) * X (ix2 r (ph j))) := by
  rw [pay34]; simp only [tile8]
end

end Cert.Kernel4Ideal.Qp

end
-- ==== Proof.QHead.lean ====
/- The gradient through the queries' projection, head by head: the kernel's products with the two padded weights are the
   reference's product with the rotated cotangent, and the kernel's two slabs combine to its weights' gradient. -/
module

public import proofs.«01_k».proof.Proof.QValue

@[expose] public section

set_option maxRecDepth 16384

noncomputable section

open Idealize.ShloMosaic Idealize.ShloMosaic.TcCoe Idealize.SL.Sem

namespace Cert.Kernel4Ideal.Qp

open Cert.Kernel4Ideal Cert.Kernel4Ideal.Gen Cert.Qproj Cert.Rms

theorem lit_one : Ideal.ofBits .f32 0x3F800000#32 = 1 := by
  simp [Ideal.ofBits, Ideal.ieee, -EReal.coe_mul, -EReal.coe_neg]; try norm_num

section
variable (s : Fin 16384)
theorem ca_cn (k : Fin 128) : hCa (ix2 s (cn k)) = 1 := by
  simp only [tab_cn]; pointwise [lit_one]
theorem sb_cn (k : Fin 128) : hSb (ix2 s (cn k)) = 0 := by
  simp only [tab_cn]; pointwise
end

/-- Two sums of real terms, rotated. -/
theorem turn_lo (a b c s w : ℝ) : ((a : EReal) * c) * w + ((b : EReal) * s) * w = ((b : EReal) * s + a * c) * w := by
  simp only [← EReal.coe_mul, ← EReal.coe_add]; exact congrArg _ (by ring)
theorem turn_hi (a b c s w : ℝ) : ((a : EReal) * s) * -(w : EReal) + ((b : EReal) * c) * w = ((b : EReal) * c + -(a : EReal) * s) * w := by
  simp only [← EReal.coe_neg, ← EReal.coe_mul, ← EReal.coe_add]; exact congrArg _ (by ring)
theorem slab_lo (a b c s u : ℝ) : (u : EReal) * ((a : EReal) * c) + (u : EReal) * ((b : EReal) * s) = ((b : EReal) * s + a * c) * u := by
  simp only [← EReal.coe_mul, ← EReal.coe_add]; exact congrArg _ (by ring)
theorem slab_hi (a b c s u : ℝ) : (u : EReal) * ((b : EReal) * c) - (u : EReal) * ((a : EReal) * s) = ((b : EReal) * c + -(a : EReal) * s) * u := by
  simp only [← EReal.coe_neg, ← EReal.coe_mul, ← EReal.coe_add, ← EReal.coe_sub]; exact congrArg _ (by ring)

theorem sum_sub_real {ι : Type} [Fintype ι] (f g : ι → EReal) (hf : ∀ i, ∃ x : ℝ, f i = (x : EReal)) (hg : ∀ i, ∃ x : ℝ, g i = (x : EReal)) :
    ∑ i, f i - ∑ i, g i = ∑ i, (f i - g i) := by
  choose f' hf using hf
  choose g' hg using hg
  simp only [hf, hg, ← EReal.coe_sub]
  rw [← coe_sum, ← coe_sum, ← coe_sum, ← EReal.coe_sub, Finset.sum_sub_distrib]

variable (n : FVec Ideal S16384x16x128 .f32) (q : FVec Ideal S16384x16x64 .f32) (w : FVec Ideal S256x16x192 .f32)

theorem head_sum (hq : ∀ i, ∃ x : ℝ, q i = (x : EReal)) (hw : ∀ i, ∃ x : ℝ, w i = (x : EReal)) (s : Fin 16384) (i : Fin 256) (h : Fin 16) :
    ∑ k, hD n q (ix3 s h k) * hCa (ix2 s k) * hWa w (ix3 i h k) + ∑ k, hD n q (ix3 s h k) * hSb (ix2 s k) * hWb w (ix3 i h k)
      = ∑ k, Cert.Reference4Ideal.Read.val_main_v70 (F := Ideal) n q (ix3 s h k) * w (ix3 i h k) := by
  rw [sum_padded, sum_padded, sum_head]
  simp only [hD_cn, hD_cl, hD_ch, hD_cp, hWa_cn, hWa_cl, hWa_ch, hWb_cl, hWb_ch, ca_cn, sb_cn, tab_cl, tab_ch, ref_nope, ref_lo, ref_hi,
    mul_one, mul_zero, zero_mul, Finset.sum_const_zero, add_zero, zero_add]
  rw [add_assoc]
  refine congrArg (_ + ·) ?_
  rw [add_comm (∑ k, _ * _ * -_), add_add_add_comm, ← Finset.sum_add_distrib, ← Finset.sum_add_distrib]
  choose q' hq using hq
  choose w' hw using hw
  refine congrArg₂ (· + ·) (Finset.sum_congr rfl fun k _ => ?_) (Finset.sum_congr rfl fun k _ => ?_)
  all_goals
    obtain ⟨x, hx⟩ := cs_real s k
    obtain ⟨y, hy⟩ := sn_real s k
    simp only [hq, hw, hx, hy]
  · exact turn_lo _ _ _ _ _
  · rw [add_comm]; exact turn_hi _ _ _ _ _

theorem slab_sum_nope (u : Fin 16384 → EReal) (h : Fin 16) (k : Fin 128) :
    ∑ s, u s * (hD n q (ix3 s h (cn k)) * hCa (ix2 s (cn k))) = ∑ s, Cert.Reference4Ideal.Read.val_main_v70 (F := Ideal) n q (ix3 s h (nope k)) * u s :=
  Finset.sum_congr rfl fun s _ => by rw [hD_cn, ca_cn, mul_one, ref_nope, mul_comm]

theorem slab_sum_lo (hq : ∀ i, ∃ x : ℝ, q i = (x : EReal)) (u : Fin 16384 → EReal) (hu : ∀ s, ∃ x : ℝ, u s = (x : EReal)) (h : Fin 16) (k : Fin 32) :
    ∑ s, u s * (hD n q (ix3 s h (cl k)) * hCa (ix2 s (cl k))) + ∑ s, u s * (hD n q (ix3 s h (ch k)) * hSb (ix2 s (ch k)))
      = ∑ s, Cert.Reference4Ideal.Read.val_main_v70 (F := Ideal) n q (ix3 s h (lo k)) * u s := by
  rw [← Finset.sum_add_distrib]
  refine Finset.sum_congr rfl fun s _ => ?_
  simp only [hD_cl, hD_ch, tab_cl, tab_ch, ref_lo]
  obtain ⟨x, hx⟩ := cs_real s k
  obtain ⟨y, hy⟩ := sn_real s k
  obtain ⟨a, ha⟩ := hq (ix3 s h (rlo k))
  obtain ⟨b, hb⟩ := hq (ix3 s h (rhi k))
  obtain ⟨v, hv⟩ := hu s
  rw [hx, hy, ha, hb, hv]
  exact slab_lo _ _ _ _ _
theorem slab_sum_hi (hq : ∀ i, ∃ x : ℝ, q i = (x : EReal)) (u : Fin 16384 → EReal) (hu : ∀ s, ∃ x : ℝ, u s = (x : EReal)) (h : Fin 16) (k : Fin 32) :
    ∑ s, u s * (hD n q (ix3 s h (ch k)) * hCa (ix2 s (ch k))) - ∑ s, u s * (hD n q (ix3 s h (cl k)) * hSb (ix2 s (cl k)))
      = ∑ s, Cert.Reference4Ideal.Read.val_main_v70 (F := Ideal) n q (ix3 s h (hi k)) * u s := by
  simp only [hD_cl, hD_ch, tab_cl, tab_ch, ref_hi]
  choose q' hq using hq
  choose u' hu using hu
  choose c' hc using fun s => cs_real s k
  choose s' hs using fun s => sn_real s k
  simp only [hq, hu, hc, hs]
  rw [sum_sub_real _ _ (fun i => ⟨_, by rw [← EReal.coe_mul, ← EReal.coe_mul]⟩) (fun i => ⟨_, by rw [← EReal.coe_mul, ← EReal.coe_mul]⟩)]
  exact Finset.sum_congr rfl fun s _ => slab_hi _ _ _ _ _

theorem u_real (x : FVec Ideal S16384x256 .f32) (g : FVec Ideal S256 .f32) (hg : ∀ i, ∃ y : ℝ, g i = (y : EReal)) (s : Fin 16384) (i : Fin 256) :
    ∃ y : ℝ, Cert.Reference4Ideal.Read.val_main_v33 (F := Ideal) x g (ix2 s i) = (y : EReal) := by
  rw [ref_u]
  obtain ⟨a, ha⟩ := hg (ix1 i)
  have h : ∃ z : ℝ, unit 256 (fun k => x (ix2 s k)) i = (z : EReal) := by
    unfold unit
    rcases var_cases (by norm_num : (0 : ℝ) < 256) eps_pos (fun k : Fin 256 => x (ix2 s k)) with h | ⟨y, v, hx, hv, h⟩
    · exact ⟨0, by rw [h, Ideal.rsqrt_top, mul_zero]; rfl⟩
    · obtain ⟨r, hr, h1, h2⟩ := rsqrt_pos hv
      exact ⟨y i * r, by rw [h, h1]; show x (ix2 s i) * _ = _; rw [hx, EReal.coe_mul]⟩
  obtain ⟨z, hz⟩ := h
  exact ⟨z * a, by rw [hz, ha, EReal.coe_mul]⟩

end Cert.Kernel4Ideal.Qp

end
-- ==== Proof.QFinal.lean ====
/- The gradient through the queries' projection: the normalised rows' cotangent, and the two results through the norm. -/
module

public import proofs.«01_k».proof.Proof.QHead

@[expose] public section

set_option maxRecDepth 16384

noncomputable section

open Idealize.ShloMosaic Idealize.ShloMosaic.TcCoe Idealize.SL.Sem
open Idealize.ShloMosaic.Pipeline (Dat)

namespace Cert.Kernel4Ideal.Qp

open Cert.Kernel4Ideal Cert.Kernel4Ideal.Gen Cert.Qproj Cert.Rms

variable (m : (ℓ : Loc nD τ sig) → Buf (Elt Ideal) ℓ) (c : Dev nD)

/-- The arguments hold reals. -/
structure Fine : Prop where
  g : ∀ i, ∃ x : ℝ, argG m c i = (x : EReal)
  w : ∀ i, ∃ x : ℝ, argW m c i = (x : EReal)
  q : ∀ i, ∃ x : ℝ, argQ m c i = (x : EReal)

/-- The payload's chain over the four groups, over arbitrary blocks. -/
abbrev accOf (D : FVec Ideal S4096x512 .f32) (Wa Wb : FVec Ideal S256x4096 .bf16) (A B : FVec Ideal S512x256 .f32) : FVec Ideal S512x256 .f32 :=
  k0_pay32 (k0_pay8 B) (k0_pay25 (k0_pay7 A) (k0_pay8 B) (k0_pay19 (k0_pay7 A) (k0_pay8 B) (k0_pay11 B (ldD0 D)) (k0_pay12 A (ldD0 D) (ldV0 Wa))
    (k0_pay13 (ldV0 Wb)) (constant S512x256 .f32 0x00000000#32) (ldD1 D) (ldV1 Wa) (ldV1 Wb)) (ldD2 D) (ldV2 Wa) (ldV2 Wb))
    (k0_pay28 (ldD3 D)) (k0_pay29 (k0_pay7 A) (ldD3 D)) (ldV3 Wa) (ldV3 Wb)

theorem cot11 (X : FVec Ideal S512x256 .f32) (d : FVec Ideal S1024x512 .f32) (r : Fin 512) (j : Fin 1024) :
    k0_pay11 (F := Ideal) X d (ix2 r j) = d (ix2 j r) * X (ix2 r (ph j)) := cot10 X d r j

/-- A group's sum, by columns. -/
theorem grp0 (D : FVec Ideal S4096x512 .f32) (W : FVec Ideal S256x4096 .bf16) (A : FVec Ideal S512x256 .f32) (r : Fin 512) (i : Fin 256) :
    ∑ j, ldD0 D (ix2 j r) * A (ix2 r (ph j)) * ldV0 W (ix2 i j) = ∑ j, D (ix2 (g0 j) r) * A (ix2 r (place (g0 j))) * W (ix2 i (g0 j)) :=
  Finset.sum_congr rfl fun j _ => congrArg₂ (· * ·) (congrArg₂ (· * ·) (ldD0_at D j r) (congrArg (fun z => A (ix2 r z)) (place0 j))) (ldV0_at W i j)
theorem grp1 (D : FVec Ideal S4096x512 .f32) (W : FVec Ideal S256x4096 .bf16) (A : FVec Ideal S512x256 .f32) (r : Fin 512) (i : Fin 256) :
    ∑ j, ldD1 D (ix2 j r) * A (ix2 r (ph j)) * ldV1 W (ix2 i j) = ∑ j, D (ix2 (g1 j) r) * A (ix2 r (place (g1 j))) * W (ix2 i (g1 j)) :=
  Finset.sum_congr rfl fun j _ => congrArg₂ (· * ·) (congrArg₂ (· * ·) (ldD1_at D j r) (congrArg (fun z => A (ix2 r z)) (place1 j))) (ldV1_at W i j)
theorem grp2 (D : FVec Ideal S4096x512 .f32) (W : FVec Ideal S256x4096 .bf16) (A : FVec Ideal S512x256 .f32) (r : Fin 512) (i : Fin 256) :
    ∑ j, ldD2 D (ix2 j r) * A (ix2 r (ph j)) * ldV2 W (ix2 i j) = ∑ j, D (ix2 (g2 j) r) * A (ix2 r (place (g2 j))) * W (ix2 i (g2 j)) :=
  Finset.sum_congr rfl fun j _ => congrArg₂ (· * ·) (congrArg₂ (· * ·) (ldD2_at D j r) (congrArg (fun z => A (ix2 r z)) (place2 j))) (ldV2_at W i j)
theorem grp3 (D : FVec Ideal S4096x512 .f32) (W : FVec Ideal S256x4096 .bf16) (A : FVec Ideal S512x256 .f32) (r : Fin 512) (i : Fin 256) :
    ∑ j, ldD3 D (ix2 j r) * A (ix2 r (ph j)) * ldV3 W (ix2 i j) = ∑ j, D (ix2 (g3 j) r) * A (ix2 r (place (g3 j))) * W (ix2 i (g3 j)) :=
  Finset.sum_congr rfl fun j _ => congrArg₂ (· * ·) (congrArg₂ (· * ·) (ldD3_at D j r) (congrArg (fun z => A (ix2 r z)) (place3 j))) (ldV3_at W i j)

theorem accOf_at (D : FVec Ideal S4096x512 .f32) (Wa Wb : FVec Ideal S256x4096 .bf16) (A B : FVec Ideal S512x256 .f32) (r : Fin 512) (i : Fin 256) :
    accOf D Wa Wb A B (ix2 r i) = ∑ x, D (ix2 x r) * A (ix2 r (place x)) * Wa (ix2 i x) + ∑ x, D (ix2 x r) * B (ix2 r (place x)) * Wb (ix2 i x) := by
  refine (pay32 _ _ _ _ _ _ _ _).trans ?_
  rw [pay25, pay19, pay12, sum_groups, sum_groups]
  simp only [cot11, tile7, tile8]
  rw [grp0 D Wa A, grp1 D Wa A, grp2 D Wa A, grp3 D Wa A, grp0 D Wb B, grp1 D Wb B, grp2 D Wb B, grp3 D Wb B]
  abel

theorem Fine.acc {m} {c} (hf : Fine m c) (t : Fin cfg0.N) (r : Fin 512) (i : Fin 256) :
    accOf (bD m c t) (bWa m c t) (bWb m c t) (bCa m c t) (bSb m c t) (ix2 r i)
      = Cert.Reference4Ideal.Read.val_main_v73 (F := Ideal) (argW m c) (argN m c) (argQ m c) (ix2 (row t r) i) := by
  rw [accOf_at, ref_du]
  have ha : ∑ x, bD m c t (ix2 x r) * bCa m c t (ix2 r (place x)) * bWa m c t (ix2 i x)
      = ∑ x, hD (argN m c) (argQ m c) (ix3 (row t r) (head x) (place x)) * hCa (ix2 (row t r) (place x)) * hWa (argW m c) (ix3 i (head x) (place x)) :=
    Finset.sum_congr rfl fun x _ => congrArg₂ (· * ·) (congrArg₂ (· * ·) (blkD m c t x r) (blkCa m c t r _)) (blkWa m c t i x)
  have hb : ∑ x, bD m c t (ix2 x r) * bSb m c t (ix2 r (place x)) * bWb m c t (ix2 i x)
      = ∑ x, hD (argN m c) (argQ m c) (ix3 (row t r) (head x) (place x)) * hSb (ix2 (row t r) (place x)) * hWb (argW m c) (ix3 i (head x) (place x)) :=
    Finset.sum_congr rfl fun x _ => congrArg₂ (· * ·) (congrArg₂ (· * ·) (blkD m c t x r) (blkSb m c t r _)) (blkWb m c t i x)
  rw [ha, hb, sum_heads, sum_heads, ← Finset.sum_add_distrib]
  refine Finset.sum_congr rfl fun h _ => ?_
  simp only [head_at, place_at]
  exact head_sum _ _ _ hf.q hf.w _ _ _

/-- What a point stores for its rows. -/
theorem Fine.dcq {m} {c} (hf : Fine m c) (t : Fin cfg0.N) (r : Fin 512) (i : Fin 256) :
    k0_pay1 (F := Ideal) (accOf (bD m c t) (bWa m c t) (bWb m c t) (bCa m c t) (bSb m c t)) (k0_pay35 (F := Ideal) (bG m c t)) (k0_pay36 (F := Ideal) (bX m c t)) (k0_pay37 (F := Ideal) (bX m c t)) (ix2 r i)
      = Cert.Reference4Ideal.Read.val_main_v93 (F := Ideal) (argX m c) (argG m c) (argW m c) (argN m c) (argQ m c) (ix2 (row t r) i) := by
  refine (pay1 _ _ _ _ _).trans ?_
  rw [ref_dx]
  have hx : (fun k => bX m c t (ix2 r k)) = fun k => argX m c (ix2 (row t r) k) := funext fun k => blkX m c t r k
  have hg (k : Fin 256) : bG m c t (ix2 0 k) = argG m c (ix1 k) := blkG m c t k
  rw [hx]
  exact congrArg (fun z => back 256 _ z i) (funext fun k => congrArg₂ (· * ·) (hf.acc t r k) (hg k))

theorem Fine.final_dcq {m} {c} (hf : Fine m c) :
    (dats m 0 c).arrAt 7 cfg0.N = Cert.Reference4Ideal.Read.val_main_v93 (F := Ideal) (argX m c) (argG m c) (argW m c) (argN m c) (argQ m c) := by
  refine (dats m 0 c).arrAt_eq_of_covers 7 _ (by decide +kernel) fun t hf' y => ?_
  blk_simp [idx t]
  rw [after0_7]
  idx_vars y
  have he : (win0_7.blk t).view.emb (ix2 y0 y1) = ix2 (row t y0) y1 := by blk_ext [idx t, row]
  have hv : (outsAt0 m c t.val t.isLt).1 = k0_pay1 (F := Ideal) (accOf (bD m c t) (bWa m c t) (bWb m c t) (bCa m c t) (bSb m c t)) (k0_pay35 (F := Ideal) (bG m c t)) (k0_pay36 (F := Ideal) (bX m c t)) (k0_pay37 (F := Ideal) (bX m c t)) := by
    by_cases h : t.val % 32 = 0
    · rw [outsAt0_A m c t h]; frame_out
    · rw [outsAt0_B m c t h]; frame_out
  refine Eq.trans ?_ (congrArg _ he).symm
  refine Eq.trans ?_ (hf.dcq t y0 y1)
  exact congrFun hv _

theorem Fine.final_dg {m} {c} (hf : Fine m c) :
    (dats m 0 c).arrAt 8 cfg0.N = Cert.Reference4Ideal.Read.val_main_v94 (F := Ideal) (argX m c) (argW m c) (argN m c) (argQ m c) := by
  have hp (t : Fin cfg0.N) (o : FVec Ideal S1x256 .f32) (j : Fin 256) :
      k0_pay2 (F := Ideal) (k0_pay38 (F := Ideal) (bX m c t) (k0_pay8 (bSb m c t)) (k0_pay25 (k0_pay7 (bCa m c t)) (k0_pay8 (bSb m c t)) (k0_pay19 (k0_pay7 (bCa m c t)) (k0_pay8 (bSb m c t)) (k0_pay11 (bSb m c t) (ldD0 (bD m c t))) (k0_pay12 (bCa m c t) (ldD0 (bD m c t)) (ldV0 (bWa m c t)))
    (k0_pay13 (ldV0 (bWb m c t))) (constant S512x256 .f32 0x00000000#32) (ldD1 (bD m c t)) (ldV1 (bWa m c t)) (ldV1 (bWb m c t))) (ldD2 (bD m c t)) (ldV2 (bWa m c t)) (ldV2 (bWb m c t)))
    (k0_pay28 (ldD3 (bD m c t))) (k0_pay29 (k0_pay7 (bCa m c t)) (ldD3 (bD m c t))) (ldV3 (bWa m c t)) (ldV3 (bWb m c t))) o (ix2 0 j)
      = o (ix2 0 j) + ∑ r : Fin 512, Cert.Reference4Ideal.Read.val_main_v73 (F := Ideal) (argW m c) (argN m c) (argQ m c) (ix2 (row t r) j) * unit 256 (fun k => argX m c (ix2 (row t r) k)) j := by
    rw [pay2, pay38]
    have hx (r : Fin 512) : (fun k => bX m c t (ix2 r k)) = fun k => argX m c (ix2 (row t r) k) := funext fun k => blkX m c t r k
    simp only [hx]
    exact congrArg _ (Finset.sum_congr rfl fun r _ => congrArg (· * _) (hf.acc t r j))
  refine (dats m 0 c).arrAt_eq_of_covers 8 _ (by decide +kernel) fun t hf' y => ?_
  blk_simp [idx t]
  rw [after0_8, Pipeline.eq_sum_fin_of_reset_step_apply_of_flush (fun n h => (outsAt0 m c n h).2.1) 32 (fun _ => 0)
    (fun t y => ∑ r : Fin 512, Cert.Reference4Ideal.Read.val_main_v73 (F := Ideal) (argW m c) (argN m c) (argQ m c) (ix2 (row t r) (y 1)) * unit 256 (fun k => argX m c (ix2 (row t r) k)) (y 1))
    (fun t h y => by
      rw [outsAt0_A m c t h]; frame_out
      idx_vars y; obtain rfl : y0 = 0 := Subsingleton.elim _ _
      refine (hp t _ y1).trans ?_
      exact congrArg (· + _) (pay3 _))
    (fun t h y => by
      rw [outsAt0_B m c t h]; frame_out
      idx_vars y; obtain rfl : y0 = 0 := Subsingleton.elim _ _
      exact hp t _ y1)
    t ((flush0_8 t).mp hf') _, zero_add]
  idx_vars y; obtain rfl : y0 = 0 := Subsingleton.elim _ _
  have he : (win0_8.blk t).view.emb (ix2 0 y1) = ix2 0 y1 := by blk_ext [idx t]
  rw [he, ref_dg]
  have hr (s : Fin 32) (r : Fin 512) (hp) (hl) : row ⟨32 * (t.val / 32) + s.val, hp⟩ r = ⟨s.val * 512 + r.val, hl⟩ := by
    have := t.isLt; have h32 : cfg0.N = 32 := N_0; have := (flush0_8 t).mp hf'
    apply Fin.ext; simp only [row]; omega
  exact Fin.sum_mul_add_congr fun s r hl => by rw [hr s r _ hl]

end Cert.Kernel4Ideal.Qp

end
-- ==== Proof.QSlab.lean ====
/- The gradient through the queries' projection: the two slabs gathered point by point. -/
module

public import proofs.«01_k».proof.Proof.QValue

@[expose] public section

set_option maxRecDepth 16384

noncomputable section

open Idealize.ShloMosaic Idealize.ShloMosaic.TcCoe Idealize.SL.Sem
open Idealize.ShloMosaic.Pipeline (Dat)

namespace Cert.Kernel4Ideal.Qp

open Cert.Kernel4Ideal Cert.Kernel4Ideal.Gen Cert.Qproj Cert.Rms

variable (m : (ℓ : Loc nD τ sig) → Buf (Elt Ideal) ℓ) (c : Dev nD)

theorem firstA (t : Fin cfg0.N) (h : t.val % 32 = 0) (y : S256x4096.Idx) : (outsAt0 m c t.val t.isLt).2.2.1 y = 0 + termA m c t (y 0) (y 1) := by
  rw [outsAt0_A m c t h]; frame_out
  refine (slab _ _ _ _ _ _ _ _ _ (k0_pay4 (F := Ideal)) (k0_pay6 (F := Ideal) (iblk m c 1 t) (iblk m c 2 t)) (iblk m c 5 t) (iblk m c 0 t)
    (pa3 _ _ _ _) (load3 _ _ _ _ _) (pa1 _ _ _ _) (load2 _ _ _ _) (pa1 _ _ _ _) (load1 _ _ _) (pa0 _ _ _ _) (load0 _ _) y).trans ?_
  rw [pay4]; exact congrArg _ (termA_eq m c t _ _)
theorem nextA (t : Fin cfg0.N) (h : ¬t.val % 32 = 0) (y : S256x4096.Idx) :
    (outsAt0 m c t.val t.isLt).2.2.1 y = (outsAt0 m c (t.val - 1) (Nat.lt_of_le_of_lt (Nat.sub_le _ _) t.isLt)).2.2.1 y + termA m c t (y 0) (y 1) := by
  rw [outsAt0_B m c t h]; frame_out
  refine (slab _ _ _ _ _ _ _ _ _ _ (k0_pay6 (F := Ideal) (iblk m c 1 t) (iblk m c 2 t)) (iblk m c 5 t) (iblk m c 0 t)
    (pa3 _ _ _ _) rfl (pa1 _ _ _ _) rfl (pa1 _ _ _ _) rfl (pa0 _ _ _ _) rfl y).trans ?_
  exact congrArg _ (termA_eq m c t _ _)
theorem firstB (t : Fin cfg0.N) (h : t.val % 32 = 0) (y : S256x4096.Idx) : (outsAt0 m c t.val t.isLt).2.2.2 y = 0 + termB m c t (y 0) (y 1) := by
  rw [outsAt0_A m c t h]; frame_out
  refine (slab _ _ _ _ _ _ _ _ _ (k0_pay5 (F := Ideal)) (k0_pay6 (F := Ideal) (iblk m c 1 t) (iblk m c 2 t)) (iblk m c 6 t) (iblk m c 0 t)
    (pb3 _ _ _ _) (load3 _ _ _ _ _) (pa1 _ _ _ _) (load2 _ _ _ _) (pa1 _ _ _ _) (load1 _ _ _) (pa0 _ _ _ _) (load0 _ _) y).trans ?_
  rw [pay5]; exact congrArg _ (termB_eq m c t _ _)
theorem nextB (t : Fin cfg0.N) (h : ¬t.val % 32 = 0) (y : S256x4096.Idx) :
    (outsAt0 m c t.val t.isLt).2.2.2 y = (outsAt0 m c (t.val - 1) (Nat.lt_of_le_of_lt (Nat.sub_le _ _) t.isLt)).2.2.2 y + termB m c t (y 0) (y 1) := by
  rw [outsAt0_B m c t h]; frame_out
  refine (slab _ _ _ _ _ _ _ _ _ _ (k0_pay6 (F := Ideal) (iblk m c 1 t) (iblk m c 2 t)) (iblk m c 6 t) (iblk m c 0 t)
    (pb3 _ _ _ _) rfl (pa1 _ _ _ _) rfl (pa1 _ _ _ _) rfl (pa0 _ _ _ _) rfl y).trans ?_
  exact congrArg _ (termB_eq m c t _ _)

theorem row_sum (t : Fin cfg0.N) (hf : t.val % 32 = 31) (s : Fin 32) (r : Fin 512) (hp) (hl) : row ⟨32 * (t.val / 32) + s.val, hp⟩ r = ⟨s.val * 512 + r.val, hl⟩ := by
  have := t.isLt; have h32 : cfg0.N = 32 := N_0
  apply Fin.ext; simp only [row]; omega

/-- The two slabs after the last point: sums over all rows. -/
theorem final_a : (dats m 0 c).arrAt 9 cfg0.N = (fun y => ∑ s, hU m c s (y 0) * hA m c s (y 1) : FVec Ideal S256x4096 .f32) := by
  refine (dats m 0 c).arrAt_eq_of_covers 9 _ (by decide +kernel) fun t hf y => ?_
  blk_simp [idx t]
  rw [after0_9, Pipeline.eq_sum_fin_of_reset_step_apply_of_flush (fun n h => (outsAt0 m c n h).2.2.1) 32 (fun _ => 0)
    (fun t y => termA m c t (y 0) (y 1)) (firstA m c) (nextA m c) t ((flush0_9 t).mp hf) _, zero_add]
  idx_vars y
  have he : (win0_9.blk t).view.emb (ix2 y0 y1) = ix2 y0 y1 := by blk_ext [idx t]
  rw [he]
  exact Fin.sum_mul_add_congr fun s r hl => by rw [row_sum t ((flush0_9 t).mp hf) s r _ hl]; rfl
theorem final_b : (dats m 0 c).arrAt 10 cfg0.N = (fun y => ∑ s, hU m c s (y 0) * hB m c s (y 1) : FVec Ideal S256x4096 .f32) := by
  refine (dats m 0 c).arrAt_eq_of_covers 10 _ (by decide +kernel) fun t hf y => ?_
  blk_simp [idx t]
  rw [after0_10, Pipeline.eq_sum_fin_of_reset_step_apply_of_flush (fun n h => (outsAt0 m c n h).2.2.2) 32 (fun _ => 0)
    (fun t y => termB m c t (y 0) (y 1)) (firstB m c) (nextB m c) t ((flush0_10 t).mp hf) _, zero_add]
  idx_vars y
  have he : (win0_10.blk t).view.emb (ix2 y0 y1) = ix2 y0 y1 := by blk_ext [idx t]
  rw [he]
  exact Fin.sum_mul_add_congr fun s r hl => by rw [row_sum t ((flush0_10 t).mp hf) s r _ hl]; rfl

end Cert.Kernel4Ideal.Qp

end
-- ==== Proof.QTail.lean ====
/- The gradient through the queries' projection: the host's lines that combine the two slabs into the weights' gradient. -/
module

public import proofs.«01_k».proof.Proof.QFinal
public import proofs.«01_k».proof.Proof.QSlab

@[expose] public section

set_option maxRecDepth 16384

noncomputable section

open Idealize.ShloMosaic Idealize.ShloMosaic.TcCoe Idealize.SL.Sem
open Idealize.ShloMosaic.Pipeline (Dat)

namespace Cert.Kernel4Ideal.Qp

open Cert.Kernel4Ideal Cert.Kernel4Ideal.Gen Cert.Qproj Cert.Rms

section
variable (P Q : FVec Ideal S256x4096 .f32)

/-- A slab, by heads and padded columns. -/
def heads : FVec Ideal S256x16x256 .f32 := shapeCast S256x16x256 P shapeCasts_S256x4096_S256x16x256
theorem heads_at (i : Fin 256) (h : Fin 16) (k : Fin 256) : heads P (ix3 i h k) = P (ix2 i (at' h k)) := by
  pointwise [heads]
  try blk_ext [at']

/-- The host's lines after the call, over arbitrary slabs. -/
def tailOf (A B : FVec Ideal S256x16x256 .f32) : FVec Ideal S256x16x192 .f32 :=
  concatenate S256x16x192 2 [⟨S256x16x128, extractStridedSlice S256x16x128 ![0, 0, 0] A slices_S256x16x256_S256x16x128_0_0_0⟩,
    ⟨S256x16x32, addf (extractStridedSlice S256x16x32 ![0, 0, 128] A slices_S256x16x256_S256x16x32_0_0_128) (extractStridedSlice S256x16x32 ![0, 0, 160] B slices_S256x16x256_S256x16x32_0_0_160)⟩,
    ⟨S256x16x32, subf (extractStridedSlice S256x16x32 ![0, 0, 160] A slices_S256x16x256_S256x16x32_0_0_160) (extractStridedSlice S256x16x32 ![0, 0, 128] B slices_S256x16x256_S256x16x32_0_0_128)⟩]
    concatenates_S256x16x128_S256x16x32_S256x16x32_S256x16x192_d2

end
section
variable (A B : FVec Ideal S256x16x256 .f32) (i : Fin 256) (h : Fin 16)
theorem tail_nope (k : Fin 128) : tailOf A B (ix3 i h (nope k)) = A (ix3 i h (cn k)) := by
  pointwise [tailOf, nope]
  rfl
theorem tail_lo (k : Fin 32) : tailOf A B (ix3 i h (lo k)) = A (ix3 i h (cl k)) + B (ix3 i h (ch k)) := by
  pointwise [tailOf, lo]
  exact congrArg₂ (· + ·) (congrArg (fun z => A (ix3 i h z)) (Fin.ext (by simp only [cl]))) (congrArg (fun z => B (ix3 i h z)) (Fin.ext (by simp only [ch]; omega)))
theorem tail_hi (k : Fin 32) : tailOf A B (ix3 i h (hi k)) = A (ix3 i h (ch k)) - B (ix3 i h (cl k)) := by
  pointwise [tailOf, hi]
  exact congrArg₂ (· - ·) (congrArg (fun z => A (ix3 i h z)) (Fin.ext (by simp only [ch]; omega))) (congrArg (fun z => B (ix3 i h z)) (Fin.ext (by simp only [cl])))
end

theorem tail_eq (W : Valuation τ sig (Elt Ideal)) : (StableHlo.after (hostOps1 (F := Ideal)) W (Proc.devRef .tc main_v56) : FVec Ideal S256x16x192 .f32)
    = tailOf (heads (W (Proc.devRef .tc main_v46_2))) (heads (W (Proc.devRef .tc main_v46_3))) := by
  simp only [hostOps1, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

variable (m : (ℓ : Loc nD τ sig) → Buf (Elt Ideal) ℓ) (c : Dev nD)

theorem result_eq : (Pipeline.afterTail₀ cfgs (dats m) 0 (V0 m) [hostOps1] c main_v56 : FVec Ideal S256x16x192 .f32)
    = tailOf (heads ((dats m 0 c).arrAt 9 cfg0.N)) (heads ((dats m 0 c).arrAt 10 cfg0.N)) :=
  (tail_eq _).trans (congrArg₂ (fun a b => tailOf (heads a) (heads b)) (Pipeline.withArrays_arr spec0 launch0.win.arr_inj c _ _ 9)
    (Pipeline.withArrays_arr spec0 launch0.win.arr_inj c _ _ 10))

/-- The two slabs, by heads. -/
theorem slab_a (i : Fin 256) (h : Fin 16) (k : Fin 256) : heads ((dats m 0 c).arrAt 9 cfg0.N) (ix3 i h k)
    = ∑ s, hU m c s i * (hD (argN m c) (argQ m c) (ix3 s h k) * hCa (ix2 s k)) := by
  rw [final_a]
  refine (heads_at _ i h k).trans (Finset.sum_congr rfl fun s _ => congrArg (hU m c s i * ·) ?_)
  show hA m c s (at' h k) = _
  unfold hA
  rw [head_at, place_at]
theorem slab_b (i : Fin 256) (h : Fin 16) (k : Fin 256) : heads ((dats m 0 c).arrAt 10 cfg0.N) (ix3 i h k)
    = ∑ s, hU m c s i * (hD (argN m c) (argQ m c) (ix3 s h k) * hSb (ix2 s k)) := by
  rw [final_b]
  refine (heads_at _ i h k).trans (Finset.sum_congr rfl fun s _ => congrArg (hU m c s i * ·) ?_)
  show hB m c s (at' h k) = _
  unfold hB
  rw [head_at, place_at]

/-- The host's lines over two slabs with these entries give the reference's gradient. -/
theorem tail_sum (A B : FVec Ideal S256x16x256 .f32) (x : FVec Ideal S16384x256 .f32) (g : FVec Ideal S256 .f32) (n : FVec Ideal S16384x16x128 .f32)
    (q : FVec Ideal S16384x16x64 .f32) (hq : ∀ i, ∃ x : ℝ, q i = (x : EReal)) (hg : ∀ i, ∃ x : ℝ, g i = (x : EReal))
    (ha : ∀ i h k, A (ix3 i h k) = ∑ s, Cert.Reference4Ideal.Read.val_main_v33 (F := Ideal) x g (ix2 s i) * (hD n q (ix3 s h k) * hCa (ix2 s k)))
    (hb : ∀ i h k, B (ix3 i h k) = ∑ s, Cert.Reference4Ideal.Read.val_main_v33 (F := Ideal) x g (ix2 s i) * (hD n q (ix3 s h k) * hSb (ix2 s k)))
    (i : Fin 256) (h : Fin 16) (y : Fin 192) : tailOf A B (ix3 i h y) = Cert.Reference4Ideal.Read.val_main_v72 (F := Ideal) x g n q (ix3 i h y) := by
  have hu := fun s => u_real x g hg s i
  refine Eq.trans ?_ (ref_dw _ _ _ _ _ _ _).symm
  by_cases h1 : y.val < 128
  · obtain ⟨k, rfl⟩ : ∃ k : Fin 128, y = nope k := ⟨⟨y.val, h1⟩, rfl⟩
    exact (tail_nope A B i h k).trans ((ha i h (cn k)).trans (slab_sum_nope n q (fun s => Cert.Reference4Ideal.Read.val_main_v33 (F := Ideal) x g (ix2 s i)) h k))
  · by_cases h2 : y.val < 160
    · obtain ⟨k, rfl⟩ : ∃ k : Fin 32, y = lo k := ⟨⟨y.val - 128, by omega⟩, Fin.ext (by simp only [lo]; omega)⟩
      exact (tail_lo A B i h k).trans ((congrArg₂ (· + ·) (ha i h (cl k)) (hb i h (ch k))).trans
        (slab_sum_lo n q hq (fun s => Cert.Reference4Ideal.Read.val_main_v33 (F := Ideal) x g (ix2 s i)) hu h k))
    · obtain ⟨k, rfl⟩ : ∃ k : Fin 32, y = hi k := ⟨⟨y.val - 160, by omega⟩, Fin.ext (by simp only [hi]; omega)⟩
      exact (tail_hi A B i h k).trans ((congrArg₂ (· - ·) (ha i h (ch k)) (hb i h (cl k))).trans
        (slab_sum_hi n q hq (fun s => Cert.Reference4Ideal.Read.val_main_v33 (F := Ideal) x g (ix2 s i)) hu h k))

/-- The weights' gradient is the reference's. -/
theorem Fine.final_dw {m} {c} (hf : Fine m c) : (Pipeline.afterTail₀ cfgs (dats m) 0 (V0 m) [hostOps1] c main_v56 : FVec Ideal S256x16x192 .f32)
    = Cert.Reference4Ideal.Read.val_main_v72 (F := Ideal) (argX m c) (argG m c) (argN m c) (argQ m c) := by
  rw [result_eq]
  generalize hA' : heads ((dats m 0 c).arrAt 9 cfg0.N) = A
  generalize hB' : heads ((dats m 0 c).arrAt 10 cfg0.N) = B
  funext y
  idx_vars y
  exact tail_sum A B _ _ _ _ hf.q hf.g (fun i h k => hA' ▸ slab_a m c i h k) (fun i h k => hB' ▸ slab_b m c i h k) y0 y1 y2

end Cert.Kernel4Ideal.Qp

end
-- ==== Proof.QPre.lean ====
/- The precondition of the gradient through the queries' projection, read: the entries of three arguments are real numbers. -/
module

public import proofs.«01_k».proof.Pre_finite4
public import proofs.«01_k».proof.Proof.QTail
public import proofs.«01_k».proof.Proof.FlashFinal

@[expose] public section

noncomputable section

open Idealize.ShloMosaic Idealize.ShloMosaic.TcCoe Idealize.SL.Sem
open Cert.Kernel2Ideal.Flash (real_of)

namespace Cert.Kernel4Ideal.Qp

open Cert.Kernel4Ideal Cert.Kernel4Ideal.Gen

/-- The weights' gradient as the run leaves it. -/
abbrev dwOut (m : (ℓ : Loc nD τ sig) → Buf (Elt Ideal) ℓ) (c : Dev nD) : Buf (Elt Ideal) ((c.tc : Thread nD τ).loc main_v56) :=
  Pipeline.afterTail₀ cfgs (dats m) 0 (V0 m) [hostOps1] c main_v56

theorem facts_finite : Cert.Pre_finite4.Facts where
  bcast_S_S256 := by decide
  bcast_S_S256x16x192 := by decide
  bcast_S_S16384x16x64 := by decide

theorem reals (x0 : FVec Ideal S16384x256 .f32) (x1 : FVec Ideal S256 .f32) (x2 : FVec Ideal S256x16x192 .f32) (x3 : FVec Ideal S16384x16x128 .f32)
    (x4 : FVec Ideal S16384x16x64 .f32) [Cert.Pre_finite4.Facts]
    (h : let f := Cert.Pre_finite4.fn (F := Ideal) x0 x1 x2 x3 x4; f.1 = (fun _ => 1#1) ∧ f.2.1 = (fun _ => 1#1) ∧ f.2.2 = (fun _ => 1#1)) :
    (∀ i, ∃ s : ℝ, x1 i = (s : EReal)) ∧ (∀ i, ∃ s : ℝ, x2 i = (s : EReal)) ∧ (∀ i, ∃ s : ℝ, x4 i = (s : EReal)) :=
  ⟨fun i => ⟨_, real_of (fun _ => rfl) h.1 i⟩, fun i => ⟨_, real_of (fun _ => rfl) h.2.1 i⟩, fun i => ⟨_, real_of (fun _ => rfl) h.2.2 i⟩⟩

theorem fine (m : (ℓ : Loc nD τ sig) → Buf (Elt Ideal) ℓ) (c : Dev nD) [Cert.Pre_finite4.Facts]
    (h : let f := Cert.Pre_finite4.fn (F := Ideal) (argX m c) (argG m c) (argW m c) (argN m c) (argQ m c)
      f.1 = (fun _ => 1#1) ∧ f.2.1 = (fun _ => 1#1) ∧ f.2.2 = (fun _ => 1#1)) : Fine m c := by
  obtain ⟨h1, h2, h4⟩ := reals _ _ _ _ _ h
  exact ⟨h1, h2, h4⟩

end Cert.Kernel4Ideal.Qp

end
-- ==== Proof.FlashFrames.lean ====
/- The frame of the attention's backward call, for the program with a name for ln 2 and for the program without. -/
module

public import proofs.«01_k».proof.Proof.FlashRun
public import proofs.«01_k».proof.Proof.Gen.Kernel2.Launch
public import proofs.«01_k».proof.Defs

@[expose] public section
noncomputable section
namespace Cert.Kernel2Ideal.Flash
open Idealize.ShloMosaic Idealize.ShloMosaic.TcCoe Idealize.ShloMosaic.Tactic
open Idealize.SL Idealize.SL.RA Idealize.SL.BI Idealize.SL.Sem

/-- Every name standing for its rounded bits. -/
@[reducible] def rounded (F : FTy → Type) [FloatOps F] : Named F := ⟨fun _ _ _ bits => FloatOps.ofBits _ bits⟩

/-- The claim's run of the program with no names. -/
def Run2 (F : FTy → Type) [FloatOps F] : Prop :=
  ∀ (m : (ℓ : Loc Cert.Kernel2.nD Cert.Kernel2.τ Cert.Kernel2.sig) → Buf (Elt F) ℓ) (g : Dev Cert.Kernel2.nD → PrngReg),
    θ_run (Cert.Kernel2.defs (F := F)) (onTc (τ := Cert.Kernel2.τ) (Cert.Kernel2.main (F := F))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

/-- The same of the program with names, for any reading of the names. -/
def Run2Ideal (F : FTy → Type) [FloatOps F] (N : Named F) : Prop :=
  ∀ (m : (ℓ : Loc Cert.Kernel2Ideal.nD Cert.Kernel2Ideal.τ Cert.Kernel2Ideal.sig) → Buf (Elt F) ℓ) (g : Dev Cert.Kernel2Ideal.nD → PrngReg),
    θ_run (Cert.Kernel2Ideal.defs (F := F)) (onTc (τ := Cert.Kernel2Ideal.τ) (Cert.Kernel2Ideal.main (F := F))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

theorem run2Ideal (F : FTy → Type) [FloatOps F] (N : Named F) : Run2Ideal F N := fun m g => frame_run m g

theorem same (F : FTy → Type) [FloatOps F] : Run2Ideal F (rounded F) = Run2 F := by
  sl_kernel_rfl

theorem run2 (F : FTy → Type) [FloatOps F] : Run2 F := same F ▸ run2Ideal F (rounded F)
end Cert.Kernel2Ideal.Flash
end
-- ==== Proof.lean ====
/- The claims assembled: the frames are the runs', the values are those of the modules of each call. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.LossValue
public import proofs.«01_k».proof.Proof.LossRun
public import proofs.«01_k».proof.Proof.ProjValue
public import proofs.«01_k».proof.Proof.DwValue
public import proofs.«01_k».proof.Proof.FfnFinal
public import proofs.«01_k».proof.Proof.FfnPre
public import proofs.«01_k».proof.Proof.QPre
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Loops
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Loops
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.FlashFrames
public import proofs.«01_k».proof.Proof.FlashFinal
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

theorem frame_reference : Cert.quiescent_ReferenceIdeal := by
  intro m g _
  exact (θ_run _ _ _).mono (fun r h => ⟨fun c => (h c).2.2.2, sem_eq_zero_of_no_sems (by decide) _⟩) (Cert.ReferenceIdeal.run_vals m g)

theorem algebraic : Cert.algebraic_KernelIdeal_ReferenceIdeal := by
  pair_intro
  · run_from Cert.KernelIdeal.Gen.run_main m g
  · refine (θ_run _ _ _).mono (fun r h c => ?_) (Cert.ReferenceIdeal.run_vals m' g')
    obtain ⟨h0, h1, h2, h3⟩ := h c
    obtain ⟨a0, a1, a2⟩ := hagree c
    rw [a0, a1, a2] at h0 h1 h2
    exact ⟨h0.trans (Cert.KernelIdeal.LossHead.final_dh m c).symm, h1.trans (Cert.KernelIdeal.LossHead.final_loss m c).symm,
      h2.trans (Cert.KernelIdeal.LossHead.final_dg m c).symm, h3⟩

theorem frame_reference2 : Cert.quiescent_Reference2Ideal := by
  intro m g _
  exact (θ_run _ _ _).mono (fun r h => ⟨fun c => (h c).2.2.2, sem_eq_zero_of_no_sems (by decide) _⟩) (Cert.Reference2Ideal.Value.run m g)

theorem preserves2 : Cert.preserves_Kernel2_Kernel2Ideal :=
  IdealRules.named_const.statement Cert.Kernel2Ideal.κ "ln2" .f32 0x3F317218#32 ((Real.log 2 : ℝ) : EReal) rfl

theorem algebraic2 : @Cert.algebraic_Kernel2Ideal_Reference2Ideal_pre_finite Cert.Kernel2Ideal.Gen.facts Cert.Reference2Ideal.Gen.facts Cert.Kernel2Ideal.Flash.facts_finite := by
  letI := Cert.Kernel2Ideal.Flash.facts_finite
  intro m g m' g' hpre hagree
  have w (c) : Cert.Kernel2Ideal.Flash.Fine m c := Cert.Kernel2Ideal.Flash.fine _ _ _ _ _ _ (hpre c)
  refine ⟨fun c => Cert.Reference2Ideal.Read.val_main_v75 (F := Ideal) (Cert.Kernel2Ideal.Flash.a0 m c) (Cert.Kernel2Ideal.Flash.a1 m c) (Cert.Kernel2Ideal.Flash.a2 m c) (Cert.Kernel2Ideal.Flash.a3 m c) (Cert.Kernel2Ideal.Flash.a4 m c) (Cert.Kernel2Ideal.Flash.a5 m c),
    fun c => Cert.Reference2Ideal.Read.val_main_v78 (F := Ideal) (Cert.Kernel2Ideal.Flash.a0 m c) (Cert.Kernel2Ideal.Flash.a1 m c) (Cert.Kernel2Ideal.Flash.a2 m c) (Cert.Kernel2Ideal.Flash.a3 m c) (Cert.Kernel2Ideal.Flash.a4 m c) (Cert.Kernel2Ideal.Flash.a5 m c),
    fun c => Cert.Reference2Ideal.Read.val_main_v79 (F := Ideal) (Cert.Kernel2Ideal.Flash.a0 m c) (Cert.Kernel2Ideal.Flash.a1 m c) (Cert.Kernel2Ideal.Flash.a2 m c) (Cert.Kernel2Ideal.Flash.a3 m c) (Cert.Kernel2Ideal.Flash.a5 m c), (θ_run _ _ _).mono (fun r h c => ?_)
    (θ_run_and (Cert.Kernel2Ideal.Flash.run_main (F := Ideal) m g) (Cert.Kernel2Ideal.Flash.frame_run (F := Ideal) m g)),
    (θ_run _ _ _).mono (fun r h c => ?_) (Cert.Reference2Ideal.Value.run (F := Ideal) m' g')⟩
  · exact ⟨((h.1 c).1 6).trans (w c).final6, ((h.1 c).1 7).trans (w c).final7, ((h.1 c).1 8).trans (w c).final8, h.2.1 c⟩
  · obtain ⟨h0, h1, h2, h3⟩ := h c
    obtain ⟨a0, a1, a2, a3, a4, a5⟩ := hagree c
    replace h0 := h0.trans (Cert.Reference2Ideal.Read.val_main_v75_eq m' c)
    replace h1 := h1.trans (Cert.Reference2Ideal.Read.val_main_v78_eq m' c)
    replace h2 := h2.trans (Cert.Reference2Ideal.Read.val_main_v79_eq m' c)
    rw [a0, a1, a2, a3, a5] at h0 h1 h2
    rw [a4] at h0 h1
    exact ⟨h0, h1, h2, h3⟩

theorem frame_reference3 : Cert.quiescent_Reference3Ideal := by
  intro m g _
  exact (θ_run _ _ _).mono (fun r h => ⟨fun c => (h c).2.2, sem_eq_zero_of_no_sems (by decide) _⟩) (Cert.Reference3Ideal.Value.run m g)

theorem frame_reference6 : Cert.quiescent_Reference6Ideal := by
  intro m g _
  exact (θ_run _ _ _).mono (fun r h => ⟨fun c => (h c).2, sem_eq_zero_of_no_sems (by decide) _⟩) (Cert.Reference6Ideal.Value.run m g)

theorem frame_reference7 : Cert.quiescent_Reference7Ideal := by
  intro m g _
  exact (θ_run _ _ _).mono (fun r h => ⟨fun c => (h c).2.2.2.2.2.2, sem_eq_zero_of_no_sems (by decide) _⟩) (Cert.Reference7Ideal.Value.run m g)

theorem algebraic3 : Cert.algebraic_Kernel3Ideal_Reference3Ideal := by
  intro m g m' g' hpre hagree
  refine ⟨fun c => (Cert.Kernel3Ideal.Gen.dats (F := Ideal) m 0 c).arrAt 5 Cert.Kernel3Ideal.cfg0.N, fun c => (Cert.Kernel3Ideal.Gen.dats (F := Ideal) m 0 c).arrAt 6 Cert.Kernel3Ideal.cfg0.N,
    (θ_run _ _ _).mono (fun r h c => ?_) (Cert.Kernel3Ideal.Value.run_blocks (F := Ideal) m g), (θ_run _ _ _).mono (fun r h c => ?_) (Cert.Reference3Ideal.Value.run (F := Ideal) m' g')⟩
  · exact h c
  · obtain ⟨h0, h1, h2⟩ := h c
    obtain ⟨a0, a1, a2, a3, a4⟩ := hagree c
    replace h0 := h0.trans (Cert.Reference3Ideal.Read.val_main_v38_eq m' c)
    replace h1 := h1.trans (Cert.Reference3Ideal.Read.val_main_v39_eq _ _ _)
    rw [a0, a2, a3] at h0 h1
    rw [a1, a4] at h0
    exact ⟨h0.trans (Cert.Kernel3Ideal.Proj.final_dh m c).symm, h1.trans (Cert.Kernel3Ideal.Proj.final_dg m c).symm, h2⟩

theorem algebraic6 : Cert.algebraic_Kernel6Ideal_Reference6Ideal := by
  intro m g m' g' hpre hagree
  refine ⟨fun c => (Cert.Kernel6Ideal.Gen.dats (F := Ideal) m 0 c).arrAt 6 Cert.Kernel6Ideal.cfg0.N,
    (θ_run _ _ _).mono (fun r h c => ?_) (Cert.Kernel6Ideal.Value.run_blocks (F := Ideal) m g), (θ_run _ _ _).mono (fun r h c => ?_) (Cert.Reference6Ideal.Value.run (F := Ideal) m' g')⟩
  · exact h c
  · obtain ⟨h0, h1⟩ := h c
    obtain ⟨a0, a1, a2, a3, a4, a5, a6, a7⟩ := hagree c
    replace h0 := h0.trans (Cert.Reference6Ideal.Read.val_main_v30_eq m' c)
    rw [a0, a1, a2, a3, a5, a6, a7] at h0
    exact ⟨h0.trans (Cert.Kernel6Ideal.Dw.final m c).symm, h1⟩

theorem algebraic7 : @Cert.algebraic_Kernel7Ideal_Reference7Ideal_pre_finite7 Cert.Kernel7Ideal.Gen.facts Cert.Reference7Ideal.Gen.facts Cert.Kernel7Ideal.Ffn.facts_finite := by
  letI := Cert.Kernel7Ideal.Ffn.facts_finite
  intro m g m' g' hpre hagree
  have w (c) : Cert.Kernel7Ideal.Ffn.Fine m c := Cert.Kernel7Ideal.Ffn.fine m c (hpre c)
  refine ⟨fun c => (Cert.Kernel7Ideal.Gen.dats (F := Ideal) m 0 c).arrAt 6 Cert.Kernel7Ideal.cfg0.N,
    fun c => (Cert.Kernel7Ideal.Gen.dats (F := Ideal) m 0 c).arrAt 7 Cert.Kernel7Ideal.cfg0.N,
    fun c => (Cert.Kernel7Ideal.Gen.dats (F := Ideal) m 0 c).arrAt 8 Cert.Kernel7Ideal.cfg0.N,
    fun c => (Cert.Kernel7Ideal.Gen.dats (F := Ideal) m 0 c).arrAt 9 Cert.Kernel7Ideal.cfg0.N,
    fun c => (Cert.Kernel7Ideal.Gen.dats (F := Ideal) m 0 c).arrAt 10 Cert.Kernel7Ideal.cfg0.N,
    fun c => (Cert.Kernel7Ideal.Gen.dats (F := Ideal) m 0 c).arrAt 11 Cert.Kernel7Ideal.cfg0.N,
    (θ_run _ _ _).mono (fun r h c => ?_) (Cert.Kernel7Ideal.Value.run_blocks (F := Ideal) m g), (θ_run _ _ _).mono (fun r h c => ?_) (Cert.Reference7Ideal.Value.run (F := Ideal) m' g')⟩
  · exact h c
  · obtain ⟨h0, h1, h2, h3, h4, h5, h6⟩ := h c
    obtain ⟨a0, a1, a2, a3, a4, a5⟩ := hagree c
    replace h0 := h0.trans (Cert.Reference7Ideal.Read.val_main_v52_eq m' c)
    replace h1 := h1.trans (Cert.Reference7Ideal.Read.val_main_v53_eq m' c)
    replace h2 := h2.trans (Cert.Reference7Ideal.Read.val_main_v54_eq _ _ _ _ _)
    replace h3 := h3.trans (Cert.Reference7Ideal.Read.val_main_v69_eq _ _)
    replace h4 := h4.trans (Cert.Reference7Ideal.Read.val_main_v71_eq _)
    replace h5 := h5.trans (Cert.Reference7Ideal.Read.val_main_v72_eq m' c)
    rw [a0, a1, a2, a3, a4, a5] at h0 h1 h5
    rw [a0, a1, a2, a4, a5] at h2
    rw [a0, a1] at h3
    rw [a5] at h4
    exact ⟨h0.trans (w c).final_dh.symm, h1.trans (w c).final_gate.symm, h2.trans Cert.Kernel7Ideal.Ffn.final_dup.symm,
      h3.trans Cert.Kernel7Ideal.Ffn.final_u.symm, h4.trans Cert.Kernel7Ideal.Ffn.final_dy.symm, h5.trans (w c).final_dg.symm, h6⟩

theorem frame_reference4 : Cert.quiescent_Reference4Ideal := by
  intro m g _
  exact (θ_run _ _ _).mono (fun r h => ⟨fun c => (h c).2.2.2, sem_eq_zero_of_no_sems (by decide) _⟩) (Cert.Reference4Ideal.Value.run m g)

/-- The gradient through the queries' projection: the three results are the reference's. -/
theorem algebraic4 : @Cert.algebraic_Kernel4Ideal_Reference4Ideal_pre_finite4 Cert.Kernel4Ideal.Gen.facts Cert.Reference4Ideal.Gen.facts Cert.Kernel4Ideal.Qp.facts_finite := by
  letI := Cert.Kernel4Ideal.Qp.facts_finite
  intro m g m' g' hpre hagree
  have w (c) : Cert.Kernel4Ideal.Qp.Fine m c := Cert.Kernel4Ideal.Qp.fine m c (hpre c)
  refine ⟨fun c => (Cert.Kernel4Ideal.Gen.dats (F := Ideal) m 0 c).arrAt 7 Cert.Kernel4Ideal.cfg0.N,
    fun c => (Cert.Kernel4Ideal.Gen.dats (F := Ideal) m 0 c).arrAt 8 Cert.Kernel4Ideal.cfg0.N,
    fun c => Cert.Kernel4Ideal.Qp.dwOut m c,
    (θ_run _ _ _).mono (fun r h c => ?_) (θ_run_and (Cert.Kernel4Ideal.Gen.run_main (F := Ideal) m g) (Cert.Kernel4Ideal.Gen.unchanged (F := Ideal) m g)),
    (θ_run _ _ _).mono (fun r h c => ?_) (Cert.Reference4Ideal.Value.run (F := Ideal) m' g')⟩
  · obtain ⟨hr, hu⟩ := h
    exact ⟨(hr c).1 7, (hr c).1 8, (hr c).2 Cert.Kernel4Ideal.main_v56 (Pipeline.mem_restRefs_of Cert.Kernel4Ideal.main_v56 (by decide) (by decide)), hu c⟩
  · obtain ⟨h0, h1, h2, h3⟩ := h c
    obtain ⟨a0, a1, a2, a3, a4⟩ := hagree c
    replace h0 := h0.trans (Cert.Reference4Ideal.Read.val_main_v93_eq m' c)
    replace h1 := h1.trans (Cert.Reference4Ideal.Read.val_main_v94_eq m' c)
    replace h2 := h2.trans (Cert.Reference4Ideal.Read.val_main_v72_eq m' c)
    rw [a0, a1, a2, a3, a4] at h0
    rw [a0, a2, a3, a4] at h1
    rw [a0, a1, a3, a4] at h2
    exact ⟨h0.trans (w c).final_dcq.symm, h1.trans (w c).final_dg.symm, h2.trans (w c).final_dw.symm, h3⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel4.Gen.facts, Cert.Kernel4Ideal.Gen.facts, Cert.Reference4Ideal.Gen.facts,
  Cert.Kernel2Ideal.Flash.facts_finite, Cert.Kernel7Ideal.Ffn.facts_finite, Cert.Kernel4Ideal.Qp.facts_finite,
  fun m ρ _ => Cert.Kernel.Gen.frame m ρ, fun m ρ _ => Cert.KernelIdeal.Gen.frame m ρ, frame_reference,
  fun m ρ _ => Cert.Kernel2Ideal.Flash.run2 Bits m ρ, fun m ρ _ => Cert.Kernel2Ideal.Flash.run2Ideal Ideal inferInstance m ρ,
  fun m ρ _ => Cert.Kernel2Ideal.Flash.run2Ideal Ideal inferInstance m ρ, frame_reference2, fun m ρ _ => frame_reference2 m ρ trivial,
  fun m ρ _ => Cert.Kernel3.Gen.frame m ρ, fun m ρ _ => Cert.Kernel3Ideal.Gen.frame m ρ, frame_reference3,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ,
  fun m ρ _ => Cert.Kernel7Ideal.Gen.frame m ρ, frame_reference7, fun m ρ _ => frame_reference7 m ρ trivial,
  fun m ρ _ => Cert.Kernel4.Gen.frame m ρ, fun m ρ _ => Cert.Kernel4Ideal.Gen.frame m ρ,
  fun m ρ _ => Cert.Kernel4Ideal.Gen.frame m ρ, frame_reference4, fun m ρ _ => frame_reference4 m ρ trivial,
  trivial, algebraic, preserves2, algebraic2, trivial, algebraic3, trivial, algebraic6, trivial, algebraic7, trivial, algebraic4⟩

end Cert.Proof

end
